-- ==== Defs.lean ====
def Pre_AttnLat (m : (ℓ : Loc Cert.AttnLat.nD Cert.AttnLat.τ Cert.AttnLat.sig) → Buf (Elt Bits) ℓ) : Prop :=
  True

def Pre_AttnLatIdeal (m : (ℓ : Loc Cert.AttnLatIdeal.nD Cert.AttnLatIdeal.τ Cert.AttnLatIdeal.sig) → Buf (Elt Ideal) ℓ) : Prop :=
  True

def Pre_AttnLatRefIdeal (m : (ℓ : Loc Cert.AttnLatRefIdeal.nD Cert.AttnLatRefIdeal.τ Cert.AttnLatRefIdeal.sig) → Buf (Elt Ideal) ℓ) : Prop :=
  True

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxRefIdeal (m : (ℓ : Loc Cert.AttnCtxRefIdeal.nD Cert.AttnCtxRefIdeal.τ Cert.AttnCtxRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_scores_finite [hPre_scores_finite : Cert.Pre_scores_finite.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_scores_finite.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2))) = (fun _ => 1#1)

def Pre_ScoresRefIdeal (m : (ℓ : Loc Cert.ScoresRefIdeal.nD Cert.ScoresRefIdeal.τ Cert.ScoresRefIdeal.sig) → Buf (Elt Ideal) ℓ) : Prop :=
  True

def Pre_ScoresRefIdeal_scores_finite [hPre_scores_finite : Cert.Pre_scores_finite.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_scores_finite.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_RetState (m : (ℓ : Loc Cert.RetState.nD Cert.RetState.τ Cert.RetState.sig) → Buf (Elt Bits) ℓ) : Prop :=
  True

def Pre_RetStateIdeal (m : (ℓ : Loc Cert.RetStateIdeal.nD Cert.RetStateIdeal.τ Cert.RetStateIdeal.sig) → Buf (Elt Ideal) ℓ) : Prop :=
  True

def Pre_RetStateRefIdeal (m : (ℓ : Loc Cert.RetStateRefIdeal.nD Cert.RetStateRefIdeal.τ Cert.RetStateRefIdeal.sig) → Buf (Elt Ideal) ℓ) : Prop :=
  True

def quiescent_AttnLat [hAttnLat : Cert.AttnLat.Facts] : Prop :=
  ∀ (m : (ℓ : Loc Cert.AttnLat.nD Cert.AttnLat.τ Cert.AttnLat.sig) → Buf (Elt Bits) ℓ) (g : Dev Cert.AttnLat.nD → PrngReg), Pre_AttnLat m →
    θ_run (Cert.AttnLat.defs (F := Bits)) (onTc (τ := Cert.AttnLat.τ) (Cert.AttnLat.main (F := Bits))) ⟨m, fun _ => 0, g⟩ (fun r => (∀ c : Dev Cert.AttnLat.nD,
      r.2.mem ((c.tc : Thread Cert.AttnLat.nD Cert.AttnLat.τ).loc Cert.AttnLat.main_arg0) = m ((c.tc : Thread Cert.AttnLat.nD Cert.AttnLat.τ).loc Cert.AttnLat.main_arg0)
      ∧ r.2.mem ((c.tc : Thread Cert.AttnLat.nD Cert.AttnLat.τ).loc Cert.AttnLat.main_arg1) = m ((c.tc : Thread Cert.AttnLat.nD Cert.AttnLat.τ).loc Cert.AttnLat.main_arg1)
      ∧ r.2.mem ((c.tc : Thread Cert.AttnLat.nD Cert.AttnLat.τ).loc Cert.AttnLat.main_arg2) = m ((c.tc : Thread Cert.AttnLat.nD Cert.AttnLat.τ).loc Cert.AttnLat.main_arg2)
      ∧ r.2.mem ((c.tc : Thread Cert.AttnLat.nD Cert.AttnLat.τ).loc Cert.AttnLat.main_arg3) = m ((c.tc : Thread Cert.AttnLat.nD Cert.AttnLat.τ).loc Cert.AttnLat.main_arg3)
      ∧ r.2.mem ((c.tc : Thread Cert.AttnLat.nD Cert.AttnLat.τ).loc Cert.AttnLat.main_arg4) = m ((c.tc : Thread Cert.AttnLat.nD Cert.AttnLat.τ).loc Cert.AttnLat.main_arg4))
      ∧ r.2.sem = fun _ => 0)

def quiescent_AttnLatIdeal [hAttnLatIdeal : Cert.AttnLatIdeal.Facts] : Prop :=
  ∀ (m : (ℓ : Loc Cert.AttnLatIdeal.nD Cert.AttnLatIdeal.τ Cert.AttnLatIdeal.sig) → Buf (Elt Ideal) ℓ) (g : Dev Cert.AttnLatIdeal.nD → PrngReg), Pre_AttnLatIdeal m →
    θ_run (Cert.AttnLatIdeal.defs (F := Ideal)) (onTc (τ := Cert.AttnLatIdeal.τ) (Cert.AttnLatIdeal.main (F := Ideal))) ⟨m, fun _ => 0, g⟩ (fun r => (∀ c : Dev Cert.AttnLatIdeal.nD,
      r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
      ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
      ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2)
      ∧ r.2.mem ((c.tc : Thread Cert.AttnLatIdeal.nD Cert.AttnLatIdeal.τ).loc Cert.AttnLatIdeal.main_arg3) = m ((c.tc : Thread Cert.AttnLatIdeal.nD Cert.AttnLatIdeal.τ).loc Cert.AttnLatIdeal.main_arg3)
      ∧ r.2.mem ((c.tc : Thread Cert.AttnLatIdeal.nD Cert.AttnLatIdeal.τ).loc Cert.AttnLatIdeal.main_arg4) = m ((c.tc : Thread Cert.AttnLatIdeal.nD Cert.AttnLatIdeal.τ).loc Cert.AttnLatIdeal.main_arg4))
      ∧ r.2.sem = fun _ => 0)

def quiescent_AttnLatRefIdeal [hAttnLatRefIdeal : Cert.AttnLatRefIdeal.Facts] : Prop :=
  ∀ (m : (ℓ : Loc Cert.AttnLatRefIdeal.nD Cert.AttnLatRefIdeal.τ Cert.AttnLatRefIdeal.sig) → Buf (Elt Ideal) ℓ) (g : Dev Cert.AttnLatRefIdeal.nD → PrngReg), Pre_AttnLatRefIdeal m →
    θ_run (Cert.AttnLatRefIdeal.defs (F := Ideal)) (onTc (τ := Cert.AttnLatRefIdeal.τ) (Cert.AttnLatRefIdeal.main (F := Ideal))) ⟨m, fun _ => 0, g⟩ (fun r => (∀ c : Dev Cert.AttnLatRefIdeal.nD,
      r.2.mem ((c.tc : Thread Cert.AttnLatRefIdeal.nD Cert.AttnLatRefIdeal.τ).loc Cert.AttnLatRefIdeal.main_arg0) = m ((c.tc : Thread Cert.AttnLatRefIdeal.nD Cert.AttnLatRefIdeal.τ).loc Cert.AttnLatRefIdeal.main_arg0)
      ∧ r.2.mem ((c.tc : Thread Cert.AttnLatRefIdeal.nD Cert.AttnLatRefIdeal.τ).loc Cert.AttnLatRefIdeal.main_arg1) = m ((c.tc : Thread Cert.AttnLatRefIdeal.nD Cert.AttnLatRefIdeal.τ).loc Cert.AttnLatRefIdeal.main_arg1)
      ∧ r.2.mem ((c.tc : Thread Cert.AttnLatRefIdeal.nD Cert.AttnLatRefIdeal.τ).loc Cert.AttnLatRefIdeal.main_arg2) = m ((c.tc : Thread Cert.AttnLatRefIdeal.nD Cert.AttnLatRefIdeal.τ).loc Cert.AttnLatRefIdeal.main_arg2)
      ∧ r.2.mem ((c.tc : Thread Cert.AttnLatRefIdeal.nD Cert.AttnLatRefIdeal.τ).loc Cert.AttnLatRefIdeal.main_arg3) = m ((c.tc : Thread Cert.AttnLatRefIdeal.nD Cert.AttnLatRefIdeal.τ).loc Cert.AttnLatRefIdeal.main_arg3)
      ∧ r.2.mem ((c.tc : Thread Cert.AttnLatRefIdeal.nD Cert.AttnLatRefIdeal.τ).loc Cert.AttnLatRefIdeal.main_arg4) = m ((c.tc : Thread Cert.AttnLatRefIdeal.nD Cert.AttnLatRefIdeal.τ).loc Cert.AttnLatRefIdeal.main_arg4))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxRefIdeal [hAttnCtxRefIdeal : Cert.AttnCtxRefIdeal.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4)
      ∧ r.2.mem ((c.tc : Thread Cert.InEven.nD Cert.InEven.τ).loc Cert.InEven.main_arg5) = m ((c.tc : Thread Cert.InEven.nD Cert.InEven.τ).loc Cert.InEven.main_arg5)
      ∧ r.2.mem ((c.tc : Thread Cert.InEven.nD Cert.InEven.τ).loc Cert.InEven.main_arg6) = m ((c.tc : Thread Cert.InEven.nD Cert.InEven.τ).loc Cert.InEven.main_arg6))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
      ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
      ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4)
      ∧ r.2.mem ((c.tc : Thread Cert.InEvenRefIdeal.nD Cert.InEvenRefIdeal.τ).loc Cert.InEvenRefIdeal.main_arg5) = m ((c.tc : Thread Cert.InEvenRefIdeal.nD Cert.InEvenRefIdeal.τ).loc Cert.InEvenRefIdeal.main_arg5)
      ∧ r.2.mem ((c.tc : Thread Cert.InEvenRefIdeal.nD Cert.InEvenRefIdeal.τ).loc Cert.InEvenRefIdeal.main_arg6) = m ((c.tc : Thread Cert.InEvenRefIdeal.nD Cert.InEvenRefIdeal.τ).loc Cert.InEvenRefIdeal.main_arg6))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresIdeal_pre_scores_finite [hScoresIdeal : Cert.ScoresIdeal.Facts] [hPre_scores_finite : Cert.Pre_scores_finite.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_scores_finite m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_ScoresRefIdeal_pre_scores_finite [hScoresRefIdeal : Cert.ScoresRefIdeal.Facts] [hPre_scores_finite : Cert.Pre_scores_finite.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal_scores_finite m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_RetState [hRetState : Cert.RetState.Facts] : Prop :=
  ∀ (m : (ℓ : Loc Cert.RetState.nD Cert.RetState.τ Cert.RetState.sig) → Buf (Elt Bits) ℓ) (g : Dev Cert.RetState.nD → PrngReg), Pre_RetState m →
    θ_run (Cert.RetState.defs (F := Bits)) (onTc (τ := Cert.RetState.τ) (Cert.RetState.main (F := Bits))) ⟨m, fun _ => 0, g⟩ (fun r => (∀ c : Dev Cert.RetState.nD,
      r.2.mem ((c.tc : Thread Cert.RetState.nD Cert.RetState.τ).loc Cert.RetState.main_arg0) = m ((c.tc : Thread Cert.RetState.nD Cert.RetState.τ).loc Cert.RetState.main_arg0)
      ∧ r.2.mem ((c.tc : Thread Cert.RetState.nD Cert.RetState.τ).loc Cert.RetState.main_arg1) = m ((c.tc : Thread Cert.RetState.nD Cert.RetState.τ).loc Cert.RetState.main_arg1)
      ∧ r.2.mem ((c.tc : Thread Cert.RetState.nD Cert.RetState.τ).loc Cert.RetState.main_arg2) = m ((c.tc : Thread Cert.RetState.nD Cert.RetState.τ).loc Cert.RetState.main_arg2))
      ∧ r.2.sem = fun _ => 0)

def quiescent_RetStateIdeal [hRetStateIdeal : Cert.RetStateIdeal.Facts] : Prop :=
  ∀ (m : (ℓ : Loc Cert.RetStateIdeal.nD Cert.RetStateIdeal.τ Cert.RetStateIdeal.sig) → Buf (Elt Ideal) ℓ) (g : Dev Cert.RetStateIdeal.nD → PrngReg), Pre_RetStateIdeal m →
    θ_run (Cert.RetStateIdeal.defs (F := Ideal)) (onTc (τ := Cert.RetStateIdeal.τ) (Cert.RetStateIdeal.main (F := Ideal))) ⟨m, fun _ => 0, g⟩ (fun r => (∀ c : Dev Cert.RetStateIdeal.nD,
      r.2.mem ((c.tc : Thread Cert.RetStateIdeal.nD Cert.RetStateIdeal.τ).loc Cert.RetStateIdeal.main_arg0) = m ((c.tc : Thread Cert.RetStateIdeal.nD Cert.RetStateIdeal.τ).loc Cert.RetStateIdeal.main_arg0)
      ∧ r.2.mem ((c.tc : Thread Cert.RetStateIdeal.nD Cert.RetStateIdeal.τ).loc Cert.RetStateIdeal.main_arg1) = m ((c.tc : Thread Cert.RetStateIdeal.nD Cert.RetStateIdeal.τ).loc Cert.RetStateIdeal.main_arg1)
      ∧ r.2.mem ((c.tc : Thread Cert.RetStateIdeal.nD Cert.RetStateIdeal.τ).loc Cert.RetStateIdeal.main_arg2) = m ((c.tc : Thread Cert.RetStateIdeal.nD Cert.RetStateIdeal.τ).loc Cert.RetStateIdeal.main_arg2))
      ∧ r.2.sem = fun _ => 0)

def quiescent_RetStateRefIdeal [hRetStateRefIdeal : Cert.RetStateRefIdeal.Facts] : Prop :=
  ∀ (m : (ℓ : Loc Cert.RetStateRefIdeal.nD Cert.RetStateRefIdeal.τ Cert.RetStateRefIdeal.sig) → Buf (Elt Ideal) ℓ) (g : Dev Cert.RetStateRefIdeal.nD → PrngReg), Pre_RetStateRefIdeal m →
    θ_run (Cert.RetStateRefIdeal.defs (F := Ideal)) (onTc (τ := Cert.RetStateRefIdeal.τ) (Cert.RetStateRefIdeal.main (F := Ideal))) ⟨m, fun _ => 0, g⟩ (fun r => (∀ c : Dev Cert.RetStateRefIdeal.nD,
      r.2.mem ((c.tc : Thread Cert.RetStateRefIdeal.nD Cert.RetStateRefIdeal.τ).loc Cert.RetStateRefIdeal.main_arg0) = m ((c.tc : Thread Cert.RetStateRefIdeal.nD Cert.RetStateRefIdeal.τ).loc Cert.RetStateRefIdeal.main_arg0)
      ∧ r.2.mem ((c.tc : Thread Cert.RetStateRefIdeal.nD Cert.RetStateRefIdeal.τ).loc Cert.RetStateRefIdeal.main_arg1) = m ((c.tc : Thread Cert.RetStateRefIdeal.nD Cert.RetStateRefIdeal.τ).loc Cert.RetStateRefIdeal.main_arg1)
      ∧ r.2.mem ((c.tc : Thread Cert.RetStateRefIdeal.nD Cert.RetStateRefIdeal.τ).loc Cert.RetStateRefIdeal.main_arg2) = m ((c.tc : Thread Cert.RetStateRefIdeal.nD Cert.RetStateRefIdeal.τ).loc Cert.RetStateRefIdeal.main_arg2))
      ∧ r.2.sem = fun _ => 0)

def preserves_AttnLat_AttnLatIdeal : Prop :=
  True

def algebraic_AttnLatIdeal_AttnLatRefIdeal [hAttnLatIdeal : Cert.AttnLatIdeal.Facts] [hAttnLatRefIdeal : Cert.AttnLatRefIdeal.Facts] : Prop :=
  ∀ (m : (ℓ : Loc Cert.AttnLatIdeal.nD Cert.AttnLatIdeal.τ Cert.AttnLatIdeal.sig) → Buf (Elt Ideal) ℓ) (g : Dev Cert.AttnLatIdeal.nD → PrngReg)
    (m' : (ℓ : Loc Cert.AttnLatRefIdeal.nD Cert.AttnLatRefIdeal.τ Cert.AttnLatRefIdeal.sig) → Buf (Elt Ideal) ℓ) (g' : Dev Cert.AttnLatRefIdeal.nD → PrngReg), Pre_AttnLatIdeal m →
    (∀ c : Dev Cert.AttnLatIdeal.nD,
      m' ((c.tc : Thread Cert.AttnLatRefIdeal.nD Cert.AttnLatRefIdeal.τ).loc Cert.AttnLatRefIdeal.main_arg0) = m ((c.tc : Thread Cert.AttnLatIdeal.nD Cert.AttnLatIdeal.τ).loc Cert.AttnLatIdeal.main_arg0)
      ∧ m' ((c.tc : Thread Cert.AttnLatRefIdeal.nD Cert.AttnLatRefIdeal.τ).loc Cert.AttnLatRefIdeal.main_arg1) = m ((c.tc : Thread Cert.AttnLatIdeal.nD Cert.AttnLatIdeal.τ).loc Cert.AttnLatIdeal.main_arg1)
      ∧ m' ((c.tc : Thread Cert.AttnLatRefIdeal.nD Cert.AttnLatRefIdeal.τ).loc Cert.AttnLatRefIdeal.main_arg2) = m ((c.tc : Thread Cert.AttnLatIdeal.nD Cert.AttnLatIdeal.τ).loc Cert.AttnLatIdeal.main_arg2)
      ∧ m' ((c.tc : Thread Cert.AttnLatRefIdeal.nD Cert.AttnLatRefIdeal.τ).loc Cert.AttnLatRefIdeal.main_arg3) = m ((c.tc : Thread Cert.AttnLatIdeal.nD Cert.AttnLatIdeal.τ).loc Cert.AttnLatIdeal.main_arg3)
      ∧ m' ((c.tc : Thread Cert.AttnLatRefIdeal.nD Cert.AttnLatRefIdeal.τ).loc Cert.AttnLatRefIdeal.main_arg4) = m ((c.tc : Thread Cert.AttnLatIdeal.nD Cert.AttnLatIdeal.τ).loc Cert.AttnLatIdeal.main_arg4)) →
    ∃ (v0 : (c : Dev Cert.AttnLatIdeal.nD) → Buf (Elt Ideal) ((c.tc : Thread Cert.AttnLatIdeal.nD Cert.AttnLatIdeal.τ).loc Cert.AttnLatIdeal.main_v1)),
      θ_run (Cert.AttnLatIdeal.defs (F := Ideal)) (onTc (τ := Cert.AttnLatIdeal.τ) (Cert.AttnLatIdeal.main (F := Ideal))) ⟨m, fun _ => 0, g⟩ (fun r => ∀ c : Dev Cert.AttnLatIdeal.nD,
          r.2.mem ((c.tc : Thread Cert.AttnLatIdeal.nD Cert.AttnLatIdeal.τ).loc Cert.AttnLatIdeal.main_v1) = v0 c
          ∧ r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
          ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
          ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2)
          ∧ r.2.mem ((c.tc : Thread Cert.AttnLatIdeal.nD Cert.AttnLatIdeal.τ).loc Cert.AttnLatIdeal.main_arg3) = m ((c.tc : Thread Cert.AttnLatIdeal.nD Cert.AttnLatIdeal.τ).loc Cert.AttnLatIdeal.main_arg3)
          ∧ r.2.mem ((c.tc : Thread Cert.AttnLatIdeal.nD Cert.AttnLatIdeal.τ).loc Cert.AttnLatIdeal.main_arg4) = m ((c.tc : Thread Cert.AttnLatIdeal.nD Cert.AttnLatIdeal.τ).loc Cert.AttnLatIdeal.main_arg4))
      ∧ θ_run (Cert.AttnLatRefIdeal.defs (F := Ideal)) (onTc (τ := Cert.AttnLatRefIdeal.τ) (Cert.AttnLatRefIdeal.main (F := Ideal))) ⟨m', fun _ => 0, g'⟩ (fun r => ∀ c : Dev Cert.AttnLatRefIdeal.nD,
          r.2.mem ((c.tc : Thread Cert.AttnLatRefIdeal.nD Cert.AttnLatRefIdeal.τ).loc Cert.AttnLatRefIdeal.main_v68) = v0 c
          ∧ r.2.mem ((c.tc : Thread Cert.AttnLatRefIdeal.nD Cert.AttnLatRefIdeal.τ).loc Cert.AttnLatRefIdeal.main_arg0) = m' ((c.tc : Thread Cert.AttnLatRefIdeal.nD Cert.AttnLatRefIdeal.τ).loc Cert.AttnLatRefIdeal.main_arg0)
          ∧ r.2.mem ((c.tc : Thread Cert.AttnLatRefIdeal.nD Cert.AttnLatRefIdeal.τ).loc Cert.AttnLatRefIdeal.main_arg1) = m' ((c.tc : Thread Cert.AttnLatRefIdeal.nD Cert.AttnLatRefIdeal.τ).loc Cert.AttnLatRefIdeal.main_arg1)
          ∧ r.2.mem ((c.tc : Thread Cert.AttnLatRefIdeal.nD Cert.AttnLatRefIdeal.τ).loc Cert.AttnLatRefIdeal.main_arg2) = m' ((c.tc : Thread Cert.AttnLatRefIdeal.nD Cert.AttnLatRefIdeal.τ).loc Cert.AttnLatRefIdeal.main_arg2)
          ∧ r.2.mem ((c.tc : Thread Cert.AttnLatRefIdeal.nD Cert.AttnLatRefIdeal.τ).loc Cert.AttnLatRefIdeal.main_arg3) = m' ((c.tc : Thread Cert.AttnLatRefIdeal.nD Cert.AttnLatRefIdeal.τ).loc Cert.AttnLatRefIdeal.main_arg3)
          ∧ r.2.mem ((c.tc : Thread Cert.AttnLatRefIdeal.nD Cert.AttnLatRefIdeal.τ).loc Cert.AttnLatRefIdeal.main_arg4) = m' ((c.tc : Thread Cert.AttnLatRefIdeal.nD Cert.AttnLatRefIdeal.τ).loc Cert.AttnLatRefIdeal.main_arg4))

def preserves_AttnCtx_AttnCtxIdeal : Prop :=
  True

def algebraic_AttnCtxIdeal_AttnCtxRefIdeal [hAttnCtxIdeal : Cert.AttnCtxIdeal.Facts] [hAttnCtxRefIdeal : Cert.AttnCtxRefIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxRefIdeal.nD Cert.AttnCtxRefIdeal.τ Cert.AttnCtxRefIdeal.sig) → Buf (Elt Ideal) ℓ) (g' : Dev Cert.AttnCtxRefIdeal.nD → PrngReg), Pre_AttnCtxIdeal m →
    (∀ c : Dev Cert.AttnCtxIdeal.nD,
      m' ((c.tc : Thread Cert.AttnCtxRefIdeal.nD Cert.AttnCtxRefIdeal.τ).loc Cert.AttnCtxRefIdeal.main_arg0) = m ((c.tc : Thread Cert.AttnCtxIdeal.nD Cert.AttnCtxIdeal.τ).loc Cert.AttnCtxIdeal.main_arg0)
      ∧ m' ((c.tc : Thread Cert.AttnCtxRefIdeal.nD Cert.AttnCtxRefIdeal.τ).loc Cert.AttnCtxRefIdeal.main_arg1) = m ((c.tc : Thread Cert.AttnCtxIdeal.nD Cert.AttnCtxIdeal.τ).loc Cert.AttnCtxIdeal.main_arg1)
      ∧ m' ((c.tc : Thread Cert.AttnCtxRefIdeal.nD Cert.AttnCtxRefIdeal.τ).loc Cert.AttnCtxRefIdeal.main_arg2) = m ((c.tc : Thread Cert.AttnCtxIdeal.nD Cert.AttnCtxIdeal.τ).loc Cert.AttnCtxIdeal.main_arg2)) →
    ∃ (v0 : (c : Dev Cert.AttnCtxIdeal.nD) → Buf (Elt Ideal) ((c.tc : Thread Cert.AttnCtxIdeal.nD Cert.AttnCtxIdeal.τ).loc Cert.AttnCtxIdeal.main_v1_0)) (v1 : (c : Dev Cert.AttnCtxIdeal.nD) → Buf (Elt Ideal) ((c.tc : Thread Cert.AttnCtxIdeal.nD Cert.AttnCtxIdeal.τ).loc Cert.AttnCtxIdeal.main_v1_1)) (v2 : (c : Dev Cert.AttnCtxIdeal.nD) → Buf (Elt Ideal) ((c.tc : Thread Cert.AttnCtxIdeal.nD Cert.AttnCtxIdeal.τ).loc Cert.AttnCtxIdeal.main_v1_2)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v1_0) = v0 c
          ∧ r.2.mem ((c.tc : Thread Cert.AttnCtxIdeal.nD Cert.AttnCtxIdeal.τ).loc Cert.AttnCtxIdeal.main_v1_1) = v1 c
          ∧ r.2.mem ((c.tc : Thread Cert.AttnCtxIdeal.nD Cert.AttnCtxIdeal.τ).loc Cert.AttnCtxIdeal.main_v1_2) = v2 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ θ_run (Cert.AttnCtxRefIdeal.defs (F := Ideal)) (onTc (τ := Cert.AttnCtxRefIdeal.τ) (Cert.AttnCtxRefIdeal.main (F := Ideal))) ⟨m', fun _ => 0, g'⟩ (fun r => ∀ c : Dev Cert.AttnCtxRefIdeal.nD,
          r.2.mem ((c.tc : Thread Cert.AttnCtxRefIdeal.nD Cert.AttnCtxRefIdeal.τ).loc Cert.AttnCtxRefIdeal.main_v63) = v0 c
          ∧ r.2.mem ((c.tc : Thread Cert.AttnCtxRefIdeal.nD Cert.AttnCtxRefIdeal.τ).loc Cert.AttnCtxRefIdeal.main_v65) = v1 c
          ∧ r.2.mem ((c.tc : Thread Cert.AttnCtxRefIdeal.nD Cert.AttnCtxRefIdeal.τ).loc Cert.AttnCtxRefIdeal.main_v66) = v2 c
          ∧ r.2.mem ((c.tc : Thread Cert.AttnCtxRefIdeal.nD Cert.AttnCtxRefIdeal.τ).loc Cert.AttnCtxRefIdeal.main_arg0) = m' ((c.tc : Thread Cert.AttnCtxRefIdeal.nD Cert.AttnCtxRefIdeal.τ).loc Cert.AttnCtxRefIdeal.main_arg0)
          ∧ r.2.mem ((c.tc : Thread Cert.AttnCtxRefIdeal.nD Cert.AttnCtxRefIdeal.τ).loc Cert.AttnCtxRefIdeal.main_arg1) = m' ((c.tc : Thread Cert.AttnCtxRefIdeal.nD Cert.AttnCtxRefIdeal.τ).loc Cert.AttnCtxRefIdeal.main_arg1)
          ∧ r.2.mem ((c.tc : Thread Cert.AttnCtxRefIdeal.nD Cert.AttnCtxRefIdeal.τ).loc Cert.AttnCtxRefIdeal.main_arg2) = m' ((c.tc : Thread Cert.AttnCtxRefIdeal.nD Cert.AttnCtxRefIdeal.τ).loc Cert.AttnCtxRefIdeal.main_arg2))

def preserves_InEven_InEvenIdeal : Prop :=
  IdealRules.named_const.Statement Cert.InEvenIdeal.κ "key_scale" .f32 0x3DB504F3#32 (((Real.sqrt 128)⁻¹ : ℝ) : EReal)

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)
      ∧ m' ((c.tc : Thread Cert.InEvenRefIdeal.nD Cert.InEvenRefIdeal.τ).loc Cert.InEvenRefIdeal.main_arg5) = m ((c.tc : Thread Cert.InEvenIdeal.nD Cert.InEvenIdeal.τ).loc Cert.InEvenIdeal.main_arg5)
      ∧ m' ((c.tc : Thread Cert.InEvenRefIdeal.nD Cert.InEvenRefIdeal.τ).loc Cert.InEvenRefIdeal.main_arg6) = m ((c.tc : Thread Cert.InEvenIdeal.nD Cert.InEvenIdeal.τ).loc Cert.InEvenIdeal.main_arg6)) →
    ∃ (v0 : (c : Dev Cert.InEvenIdeal.nD) → Buf (Elt Ideal) ((c.tc : Thread Cert.InEvenIdeal.nD Cert.InEvenIdeal.τ).loc Cert.InEvenIdeal.main_v19)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v19) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
          ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
          ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v108) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4)
          ∧ r.2.mem ((c.tc : Thread Cert.InEvenRefIdeal.nD Cert.InEvenRefIdeal.τ).loc Cert.InEvenRefIdeal.main_arg5) = m' ((c.tc : Thread Cert.InEvenRefIdeal.nD Cert.InEvenRefIdeal.τ).loc Cert.InEvenRefIdeal.main_arg5)
          ∧ r.2.mem ((c.tc : Thread Cert.InEvenRefIdeal.nD Cert.InEvenRefIdeal.τ).loc Cert.InEvenRefIdeal.main_arg6) = m' ((c.tc : Thread Cert.InEvenRefIdeal.nD Cert.InEvenRefIdeal.τ).loc Cert.InEvenRefIdeal.main_arg6))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v1) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v30) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v46) = v0 c
          ∧ r.2.mem ((c.tc : Thread Cert.OutProjRefIdeal.nD Cert.OutProjRefIdeal.τ).loc Cert.OutProjRefIdeal.main_v77) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Scores_ScoresIdeal : Prop :=
  True

def algebraic_ScoresIdeal_ScoresRefIdeal_pre_scores_finite [hScoresIdeal : Cert.ScoresIdeal.Facts] [hScoresRefIdeal : Cert.ScoresRefIdeal.Facts] [hPre_scores_finite : Cert.Pre_scores_finite.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal_scores_finite m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v2)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v2) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v7) = v0 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v6)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v6) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v8) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v35) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_RetState_RetStateIdeal : Prop :=
  IdealRules.named_const.Statement Cert.RetStateIdeal.κ "key_scale" .f32 0x3DB504F3#32 (((Real.sqrt 128)⁻¹ : ℝ) : EReal)

def algebraic_RetStateIdeal_RetStateRefIdeal [hRetStateIdeal : Cert.RetStateIdeal.Facts] [hRetStateRefIdeal : Cert.RetStateRefIdeal.Facts] : Prop :=
  ∀ (m : (ℓ : Loc Cert.RetStateIdeal.nD Cert.RetStateIdeal.τ Cert.RetStateIdeal.sig) → Buf (Elt Ideal) ℓ) (g : Dev Cert.RetStateIdeal.nD → PrngReg)
    (m' : (ℓ : Loc Cert.RetStateRefIdeal.nD Cert.RetStateRefIdeal.τ Cert.RetStateRefIdeal.sig) → Buf (Elt Ideal) ℓ) (g' : Dev Cert.RetStateRefIdeal.nD → PrngReg), Pre_RetStateIdeal m →
    (∀ c : Dev Cert.RetStateIdeal.nD,
      m' ((c.tc : Thread Cert.RetStateRefIdeal.nD Cert.RetStateRefIdeal.τ).loc Cert.RetStateRefIdeal.main_arg0) = m ((c.tc : Thread Cert.RetStateIdeal.nD Cert.RetStateIdeal.τ).loc Cert.RetStateIdeal.main_arg0)
      ∧ m' ((c.tc : Thread Cert.RetStateRefIdeal.nD Cert.RetStateRefIdeal.τ).loc Cert.RetStateRefIdeal.main_arg1) = m ((c.tc : Thread Cert.RetStateIdeal.nD Cert.RetStateIdeal.τ).loc Cert.RetStateIdeal.main_arg1)
      ∧ m' ((c.tc : Thread Cert.RetStateRefIdeal.nD Cert.RetStateRefIdeal.τ).loc Cert.RetStateRefIdeal.main_arg2) = m ((c.tc : Thread Cert.RetStateIdeal.nD Cert.RetStateIdeal.τ).loc Cert.RetStateIdeal.main_arg2)) →
    ∃ (v0 : (c : Dev Cert.RetStateIdeal.nD) → Buf (Elt Ideal) ((c.tc : Thread Cert.RetStateIdeal.nD Cert.RetStateIdeal.τ).loc Cert.RetStateIdeal.main_v4_0)) (v1 : (c : Dev Cert.RetStateIdeal.nD) → Buf (Elt Ideal) ((c.tc : Thread Cert.RetStateIdeal.nD Cert.RetStateIdeal.τ).loc Cert.RetStateIdeal.main_v4_1)),
      θ_run (Cert.RetStateIdeal.defs (F := Ideal)) (onTc (τ := Cert.RetStateIdeal.τ) (Cert.RetStateIdeal.main (F := Ideal))) ⟨m, fun _ => 0, g⟩ (fun r => ∀ c : Dev Cert.RetStateIdeal.nD,
          r.2.mem ((c.tc : Thread Cert.RetStateIdeal.nD Cert.RetStateIdeal.τ).loc Cert.RetStateIdeal.main_v4_0) = v0 c
          ∧ r.2.mem ((c.tc : Thread Cert.RetStateIdeal.nD Cert.RetStateIdeal.τ).loc Cert.RetStateIdeal.main_v4_1) = v1 c
          ∧ r.2.mem ((c.tc : Thread Cert.RetStateIdeal.nD Cert.RetStateIdeal.τ).loc Cert.RetStateIdeal.main_arg0) = m ((c.tc : Thread Cert.RetStateIdeal.nD Cert.RetStateIdeal.τ).loc Cert.RetStateIdeal.main_arg0)
          ∧ r.2.mem ((c.tc : Thread Cert.RetStateIdeal.nD Cert.RetStateIdeal.τ).loc Cert.RetStateIdeal.main_arg1) = m ((c.tc : Thread Cert.RetStateIdeal.nD Cert.RetStateIdeal.τ).loc Cert.RetStateIdeal.main_arg1)
          ∧ r.2.mem ((c.tc : Thread Cert.RetStateIdeal.nD Cert.RetStateIdeal.τ).loc Cert.RetStateIdeal.main_arg2) = m ((c.tc : Thread Cert.RetStateIdeal.nD Cert.RetStateIdeal.τ).loc Cert.RetStateIdeal.main_arg2))
      ∧ θ_run (Cert.RetStateRefIdeal.defs (F := Ideal)) (onTc (τ := Cert.RetStateRefIdeal.τ) (Cert.RetStateRefIdeal.main (F := Ideal))) ⟨m', fun _ => 0, g'⟩ (fun r => ∀ c : Dev Cert.RetStateRefIdeal.nD,
          r.2.mem ((c.tc : Thread Cert.RetStateRefIdeal.nD Cert.RetStateRefIdeal.τ).loc Cert.RetStateRefIdeal.main_v214) = v0 c
          ∧ r.2.mem ((c.tc : Thread Cert.RetStateRefIdeal.nD Cert.RetStateRefIdeal.τ).loc Cert.RetStateRefIdeal.main_v217) = v1 c
          ∧ r.2.mem ((c.tc : Thread Cert.RetStateRefIdeal.nD Cert.RetStateRefIdeal.τ).loc Cert.RetStateRefIdeal.main_arg0) = m' ((c.tc : Thread Cert.RetStateRefIdeal.nD Cert.RetStateRefIdeal.τ).loc Cert.RetStateRefIdeal.main_arg0)
          ∧ r.2.mem ((c.tc : Thread Cert.RetStateRefIdeal.nD Cert.RetStateRefIdeal.τ).loc Cert.RetStateRefIdeal.main_arg1) = m' ((c.tc : Thread Cert.RetStateRefIdeal.nD Cert.RetStateRefIdeal.τ).loc Cert.RetStateRefIdeal.main_arg1)
          ∧ r.2.mem ((c.tc : Thread Cert.RetStateRefIdeal.nD Cert.RetStateRefIdeal.τ).loc Cert.RetStateRefIdeal.main_arg2) = m' ((c.tc : Thread Cert.RetStateRefIdeal.nD Cert.RetStateRefIdeal.τ).loc Cert.RetStateRefIdeal.main_arg2))

def Claim : Prop :=
  ∃ (hAttnLat : Cert.AttnLat.Facts) (hAttnLatIdeal : Cert.AttnLatIdeal.Facts) (hAttnLatRefIdeal : Cert.AttnLatRefIdeal.Facts) (hAttnCtx : Cert.AttnCtx.Facts) (hAttnCtxIdeal : Cert.AttnCtxIdeal.Facts) (hAttnCtxRefIdeal : Cert.AttnCtxRefIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hOutProj : Cert.OutProj.Facts) (hOutProjIdeal : Cert.OutProjIdeal.Facts) (hOutProjRefIdeal : Cert.OutProjRefIdeal.Facts) (hScores : Cert.Scores.Facts) (hScoresIdeal : Cert.ScoresIdeal.Facts) (hScoresRefIdeal : Cert.ScoresRefIdeal.Facts) (hAda : Cert.Ada.Facts) (hAdaIdeal : Cert.AdaIdeal.Facts) (hAdaRefIdeal : Cert.AdaRefIdeal.Facts) (hSgu : Cert.Sgu.Facts) (hSguIdeal : Cert.SguIdeal.Facts) (hSguRefIdeal : Cert.SguRefIdeal.Facts) (hRetState : Cert.RetState.Facts) (hRetStateIdeal : Cert.RetStateIdeal.Facts) (hRetStateRefIdeal : Cert.RetStateRefIdeal.Facts) (hPre_scores_finite : Cert.Pre_scores_finite.Facts),
    quiescent_AttnLat (hAttnLat := hAttnLat)
    ∧ quiescent_AttnLatIdeal (hAttnLatIdeal := hAttnLatIdeal)
    ∧ quiescent_AttnLatRefIdeal (hAttnLatRefIdeal := hAttnLatRefIdeal)
    ∧ quiescent_AttnCtx (hAttnCtx := hAttnCtx)
    ∧ quiescent_AttnCtxIdeal (hAttnCtxIdeal := hAttnCtxIdeal)
    ∧ quiescent_AttnCtxRefIdeal (hAttnCtxRefIdeal := hAttnCtxRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Scores (hScores := hScores)
    ∧ quiescent_ScoresIdeal (hScoresIdeal := hScoresIdeal)
    ∧ quiescent_ScoresIdeal_pre_scores_finite (hScoresIdeal := hScoresIdeal) (hPre_scores_finite := hPre_scores_finite)
    ∧ quiescent_ScoresRefIdeal (hScoresRefIdeal := hScoresRefIdeal)
    ∧ quiescent_ScoresRefIdeal_pre_scores_finite (hScoresRefIdeal := hScoresRefIdeal) (hPre_scores_finite := hPre_scores_finite)
    ∧ quiescent_Ada (hAda := hAda)
    ∧ quiescent_AdaIdeal (hAdaIdeal := hAdaIdeal)
    ∧ quiescent_AdaRefIdeal (hAdaRefIdeal := hAdaRefIdeal)
    ∧ quiescent_Sgu (hSgu := hSgu)
    ∧ quiescent_SguIdeal (hSguIdeal := hSguIdeal)
    ∧ quiescent_SguRefIdeal (hSguRefIdeal := hSguRefIdeal)
    ∧ quiescent_RetState (hRetState := hRetState)
    ∧ quiescent_RetStateIdeal (hRetStateIdeal := hRetStateIdeal)
    ∧ quiescent_RetStateRefIdeal (hRetStateRefIdeal := hRetStateRefIdeal)
    ∧ preserves_AttnLat_AttnLatIdeal
    ∧ algebraic_AttnLatIdeal_AttnLatRefIdeal (hAttnLatIdeal := hAttnLatIdeal) (hAttnLatRefIdeal := hAttnLatRefIdeal)
    ∧ preserves_AttnCtx_AttnCtxIdeal
    ∧ algebraic_AttnCtxIdeal_AttnCtxRefIdeal (hAttnCtxIdeal := hAttnCtxIdeal) (hAttnCtxRefIdeal := hAttnCtxRefIdeal)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_OutProj_OutProjIdeal
    ∧ algebraic_OutProjIdeal_OutProjRefIdeal (hOutProjIdeal := hOutProjIdeal) (hOutProjRefIdeal := hOutProjRefIdeal)
    ∧ preserves_Scores_ScoresIdeal
    ∧ algebraic_ScoresIdeal_ScoresRefIdeal_pre_scores_finite (hScoresIdeal := hScoresIdeal) (hScoresRefIdeal := hScoresRefIdeal) (hPre_scores_finite := hPre_scores_finite)
    ∧ preserves_Ada_AdaIdeal
    ∧ algebraic_AdaIdeal_AdaRefIdeal (hAdaIdeal := hAdaIdeal) (hAdaRefIdeal := hAdaRefIdeal)
    ∧ preserves_Sgu_SguIdeal
    ∧ algebraic_SguIdeal_SguRefIdeal (hSguIdeal := hSguIdeal) (hSguRefIdeal := hSguRefIdeal)
    ∧ preserves_RetState_RetStateIdeal
    ∧ algebraic_RetStateIdeal_RetStateRefIdeal (hRetStateIdeal := hRetStateIdeal) (hRetStateRefIdeal := hRetStateRefIdeal)
-- ==== Pre_scores_finite.lean ====
abbrev S8x2x128x128 : Shape := ⟨4, ![8, 2, 128, 128]⟩
abbrev S2048x2048 : Shape := ⟨2, ![2048, 2048]⟩
abbrev S2048x16384 : Shape := ⟨2, ![2048, 16384]⟩
abbrev S2048x128 : Shape := ⟨2, ![2048, 128]⟩
abbrev S2048x18560 : Shape := ⟨2, ![2048, 18560]⟩
abbrev S_ : Shape := ⟨0, ![]⟩

class Facts : Prop where
  shapeCasts_S8x2x128x128_S2048x128 : S8x2x128x128.ShapeCasts S2048x128
  bitsLt_bf16_f32 : FTy.bits .bf16 < FTy.bits .f32
  concatenates_S2048x128_S2048x2048_S2048x16384_S2048x18560_d1 : Shape.Concatenates [S2048x128, S2048x2048, S2048x16384] S2048x18560 1
  bcast_S_S2048x18560 : S_.BroadcastsInDim S2048x18560 (![] : Fin 0 → Fin S2048x18560.rank)

variable [Facts]

def fn {F : FTy → Type} [FloatOps F] (main_arg0 : FVec F S8x2x128x128 .f32) (main_arg1 : FVec F S2048x2048 .f32) (main_arg2 : FVec F S2048x16384 .bf16) : IVec S2048x18560 1 :=
  let main_v0 : FVec F S2048x128 .f32 := shapeCast S2048x128 main_arg0 shapeCasts_S8x2x128x128_S2048x128
  let main_v1 : FVec F S2048x16384 .f32 := (extf .f32 · bitsLt_bf16_f32) main_arg2
  let main_v2 : FVec F S2048x18560 .f32 := concatenate S2048x18560 1 [⟨S2048x128, main_v0⟩, ⟨S2048x2048, main_arg1⟩, ⟨S2048x16384, main_v1⟩] concatenates_S2048x128_S2048x2048_S2048x16384_S2048x18560_d1
  let main_v3 : FVec F S2048x18560 .f32 := Host.absf main_v2
  let main_cst : FVec F S_ .f32 := constant S_ .f32 0x7F800000#32
  let main_v4 : FVec F S2048x18560 .f32 := broadcastInDim S2048x18560 ![] bcast_S_S2048x18560 main_cst
  let main_v5 : IVec S2048x18560 1 := cmpf .olt main_v3 main_v4
  main_v5
-- ==== AttnLat.lean ====
abbrev S16384x6144 : Shape := ⟨2, ![16384, 6144]⟩
abbrev S4x64 : Shape := ⟨2, ![4, 64]⟩
abbrev S8x128 : Shape := ⟨2, ![8, 128]⟩
abbrev S2x8x256x128 : Shape := ⟨4, ![2, 8, 256, 128]⟩
abbrev S8x1x128 : Shape := ⟨3, ![8, 1, 128]⟩
abbrev S8192x1024 : Shape := ⟨2, ![8192, 1024]⟩
abbrev S256x128 : Shape := ⟨2, ![256, 128]⟩
abbrev S4096x128 : Shape := ⟨2, ![4096, 128]⟩
abbrev S1x1x256x128 : Shape := ⟨4, ![1, 1, 256, 128]⟩
abbrev S1x1x128 : Shape := ⟨3, ![1, 1, 128]⟩
abbrev S4352x128 : Shape := ⟨2, ![4352, 128]⟩
abbrev S1x64 : Shape := ⟨2, ![1, 64]⟩
abbrev S1 : Shape := ⟨1, ![1]⟩
abbrev S1x1 : Shape := ⟨2, ![1, 1]⟩
abbrev S512x128 : Shape := ⟨2, ![512, 128]⟩
abbrev S512x4352 : Shape := ⟨2, ![512, 4352]⟩
abbrev S512 : Shape := ⟨1, ![512]⟩
abbrev S512x1 : Shape := ⟨2, ![512, 1]⟩
abbrev S256x4352 : Shape := ⟨2, ![256, 4352]⟩
abbrev S256 : Shape := ⟨1, ![256]⟩
abbrev S256x1 : Shape := ⟨2, ![256, 1]⟩
abbrev S1x128 : Shape := ⟨2, ![1, 128]⟩

abbrev nBuf : Space → Nat
  | .hbm => 7
  | .vmem => 17
  | .smem => 0
  | _ => 0

abbrev bufTy : (tb : Table) → Fin (tcTables nBuf tb) → BufTy
  | .hbm, ⟨0, _⟩ => ⟨S16384x6144, .f32⟩
  | .hbm, ⟨1, _⟩ => ⟨S4x64, .f32⟩
  | .hbm, ⟨2, _⟩ => ⟨S8x128, .f32⟩
  | .hbm, ⟨3, _⟩ => ⟨S2x8x256x128, .f32⟩
  | .hbm, ⟨4, _⟩ => ⟨S2x8x256x128, .f32⟩
  | .hbm, ⟨5, _⟩ => ⟨S8x1x128, .f32⟩
  | .hbm, ⟨6, _⟩ => ⟨S8192x1024, .bf16⟩
  | .local _ .vmem, ⟨0, _⟩ => ⟨S4x64, .f32⟩
  | .local _ .vmem, ⟨1, _⟩ => ⟨S256x128, .f32⟩
  | .local _ .vmem, ⟨2, _⟩ => ⟨S256x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S1x1x256x128, .f32⟩
  | .local _ .vmem, ⟨8, _⟩ => ⟨S1x1x256x128, .f32⟩
  | .local _ .vmem, ⟨9, _⟩ => ⟨S1x1x256x128, .f32⟩
  | .local _ .vmem, ⟨10, _⟩ => ⟨S1x1x256x128, .f32⟩
  | .local _ .vmem, ⟨11, _⟩ => ⟨S1x1x128, .f32⟩
  | .local _ .vmem, ⟨12, _⟩ => ⟨S1x1x128, .f32⟩
  | .local _ .vmem, ⟨13, _⟩ => ⟨S256x128, .bf16⟩
  | .local _ .vmem, ⟨14, _⟩ => ⟨S256x128, .bf16⟩
  | .local _ .vmem, ⟨15, _⟩ => ⟨S4352x128, .bf16⟩
  | .local _ .vmem, ⟨16, _⟩ => ⟨S4352x128, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c16_i32 : BitVec 32 := 16#32
  let v1 : BitVec 32 := Scalar.addi c16_i32 arg1
  let c0_i32 : BitVec 32 := 0#32
  ![v0.toNat, v1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnLatRefIdeal.lean ====
abbrev S16384x6144 : Shape := ⟨2, ![16384, 6144]⟩
abbrev S4x64 : Shape := ⟨2, ![4, 64]⟩
abbrev S8x128 : Shape := ⟨2, ![8, 128]⟩
abbrev S2x8x256x128 : Shape := ⟨4, ![2, 8, 256, 128]⟩
abbrev S8192x6144 : Shape := ⟨2, ![8192, 6144]⟩
abbrev S2x4096x6144 : Shape := ⟨3, ![2, 4096, 6144]⟩
abbrev S2x4096x1024 : Shape := ⟨3, ![2, 4096, 1024]⟩
abbrev S2x4096x8x2x64 : Shape := ⟨5, ![2, 4096, 8, 2, 64]⟩
abbrev S2x4096x8x128 : Shape := ⟨4, ![2, 4096, 8, 128]⟩
abbrev S2x256x8x128 : Shape := ⟨4, ![2, 256, 8, 128]⟩
abbrev S2x256x8x2x64 : Shape := ⟨5, ![2, 256, 8, 2, 64]⟩
abbrev S2x4352x8x2x64 : Shape := ⟨5, ![2, 4352, 8, 2, 64]⟩
abbrev S2x4352x8x128 : Shape := ⟨4, ![2, 4352, 8, 128]⟩
abbrev S1x64 : Shape := ⟨2, ![1, 64]⟩
abbrev S64 : Shape := ⟨1, ![64]⟩
abbrev S_ : Shape := ⟨0, ![]⟩
abbrev S2x8x2x4096x4352 : Shape := ⟨5, ![2, 8, 2, 4096, 4352]⟩
abbrev S2x8x2x4096 : Shape := ⟨4, ![2, 8, 2, 4096]⟩
abbrev S2x8x2x4096x1 : Shape := ⟨5, ![2, 8, 2, 4096, 1]⟩
abbrev S2x8x1x4096x4352 : Shape := ⟨5, ![2, 8, 1, 4096, 4352]⟩
abbrev S2x8x4096x4352 : Shape := ⟨4, ![2, 8, 4096, 4352]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x8x128 : Shape := ⟨4, ![1, 1, 8, 128]⟩
abbrev S8192x1024 : Shape := ⟨2, ![8192, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S4x64, .f32⟩
  | .hbm, ⟨2, _⟩ => ⟨S8x128, .f32⟩
  | .hbm, ⟨3, _⟩ => ⟨S2x8x256x128, .f32⟩
  | .hbm, ⟨4, _⟩ => ⟨S2x8x256x128, .f32⟩
  | .hbm, ⟨5, _⟩ => ⟨S8192x6144, .f32⟩
  | .hbm, ⟨6, _⟩ => ⟨S2x4096x6144, .f32⟩
  | .hbm, ⟨7, _⟩ => ⟨S2x4096x1024, .f32⟩
  | .hbm, ⟨8, _⟩ => ⟨S2x4096x8x2x64, .f32⟩
  | .hbm, ⟨9, _⟩ => ⟨S2x4096x1024, .f32⟩
  | .hbm, ⟨10, _⟩ => ⟨S2x4096x8x2x64, .f32⟩
  | .hbm, ⟨11, _⟩ => ⟨S2x4096x1024, .f32⟩
  | .hbm, ⟨12, _⟩ => ⟨S2x4096x8x128, .f32⟩
  | .hbm, ⟨13, _⟩ => ⟨S2x256x8x128, .f32⟩
  | .hbm, ⟨14, _⟩ => ⟨S2x256x8x2x64, .f32⟩
  | .hbm, ⟨15, _⟩ => ⟨S2x256x8x128, .f32⟩
  | .hbm, ⟨16, _⟩ => ⟨S2x4352x8x2x64, .f32⟩
  | .hbm, ⟨17, _⟩ => ⟨S2x4352x8x128, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2x8x2x4096x4352, .f32⟩
  | .hbm, ⟨38, _⟩ => ⟨S_, .f32⟩
  | .hbm, ⟨39, _⟩ => ⟨S2x8x2x4096x4352, .f32⟩
  | .hbm, ⟨40, _⟩ => ⟨S2x8x2x4096x4352, .f32⟩
  | .hbm, ⟨41, _⟩ => ⟨S_, .f32⟩
  | .hbm, ⟨42, _⟩ => ⟨S2x8x2x4096, .f32⟩
  | .hbm, ⟨43, _⟩ => ⟨S_, .f32⟩
  | .hbm, ⟨44, _⟩ => ⟨S2x8x2x4096, .f32⟩
  | .hbm, ⟨45, _⟩ => ⟨S2x8x2x4096, .f32⟩
  | .hbm, ⟨46, _⟩ => ⟨S2x8x2x4096x1, .f32⟩
  | .hbm, ⟨47, _⟩ => ⟨S2x8x2x4096x4352, .f32⟩
  | .hbm, ⟨48, _⟩ => ⟨S2x8x2x4096x4352, .f32⟩
  | .hbm, ⟨49, _⟩ => ⟨S2x8x2x4096x4352, .f32⟩
  | .hbm, ⟨50, _⟩ => ⟨S_, .f32⟩
  | .hbm, ⟨51, _⟩ => ⟨S2x8x2x4096, .f32⟩
  | .hbm, ⟨52, _⟩ => ⟨S2x8x2x4096x1, .f32⟩
  | .hbm, ⟨53, _⟩ => ⟨S2x8x2x4096x4352, .f32⟩
  | .hbm, ⟨54, _⟩ => ⟨S2x8x2x4096x4352, .f32⟩
  | .hbm, ⟨55, _⟩ => ⟨S2x8x1x4096x4352, .f32⟩
  | .hbm, ⟨56, _⟩ => ⟨S2x8x4096x4352, .f32⟩
  | .hbm, ⟨57, _⟩ => ⟨S2x8x1x4096x4352, .f32⟩
  | .hbm, ⟨58, _⟩ => ⟨S2x8x4096x4352, .f32⟩
  | .hbm, ⟨59, _⟩ => ⟨S2x8x4096x4352, .f32⟩
  | .hbm, ⟨60, _⟩ => ⟨S2x8x4096x4352, .f32⟩
  | .hbm, ⟨61, _⟩ => ⟨S2x8x4096x4352, .f32⟩
  | .hbm, ⟨62, _⟩ => ⟨S2x8x128x4096, .f32⟩
  | .hbm, ⟨63, _⟩ => ⟨S2x4096x8x128, .f32⟩
  | .hbm, ⟨64, _⟩ => ⟨S2x4096x8x128, .f32⟩
  | .hbm, ⟨65, _⟩ => ⟨S_, .f32⟩
  | .hbm, ⟨66, _⟩ => ⟨S2x4096x8, .f32⟩
  | .hbm, ⟨67, _⟩ => ⟨S2x4096x8x1, .f32⟩
  | .hbm, ⟨68, _⟩ => ⟨S_, .f32⟩
  | .hbm, ⟨69, _⟩ => ⟨S2x4096x8x1, .f32⟩
  | .hbm, ⟨70, _⟩ => ⟨S2x4096x8x1, .f32⟩
  | .hbm, ⟨71, _⟩ => ⟨S_, .f32⟩
  | .hbm, ⟨72, _⟩ => ⟨S2x4096x8x1, .f32⟩
  | .hbm, ⟨73, _⟩ => ⟨S2x4096x8x1, .f32⟩
  | .hbm, ⟨74, _⟩ => ⟨S2x4096x8x1, .f32⟩
  | .hbm, ⟨75, _⟩ => ⟨S2x4096x8x128, .f32⟩
  | .hbm, ⟨76, _⟩ => ⟨S2x4096x8x128, .f32⟩
  | .hbm, ⟨77, _⟩ => ⟨S1x1x8x128, .f32⟩
  | .hbm, ⟨78, _⟩ => ⟨S2x4096x8x128, .f32⟩
  | .hbm, ⟨79, _⟩ => ⟨S2x4096x8x128, .f32⟩
  | .hbm, ⟨80, _⟩ => ⟨S_, .f32⟩
  | .hbm, ⟨81, _⟩ => ⟨S2x4096x8x128, .f32⟩
  | .hbm, ⟨82, _⟩ => ⟨S2x4096x8x128, .f32⟩
  | .hbm, ⟨83, _⟩ => ⟨S8192x1024, .f32⟩
  | .hbm, ⟨84, _⟩ => ⟨S8192x1024, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== AttnCtx.lean ====
abbrev S16384x6144 : Shape := ⟨2, ![16384, 6144]⟩
abbrev S4x64 : Shape := ⟨2, ![4, 64]⟩
abbrev S8x128 : Shape := ⟨2, ![8, 128]⟩
abbrev S8x1x128 : Shape := ⟨3, ![8, 1, 128]⟩
abbrev S8192x1024 : Shape := ⟨2, ![8192, 1024]⟩
abbrev S32x8x256x128 : Shape := ⟨4, ![32, 8, 256, 128]⟩
abbrev S256x128 : Shape := ⟨2, ![256, 128]⟩
abbrev S1x1x128 : Shape := ⟨3, ![1, 1, 128]⟩
abbrev S1x1x256x128 : Shape := ⟨4, ![1, 1, 256, 128]⟩
abbrev S1x64 : Shape := ⟨2, ![1, 64]⟩
abbrev S1 : Shape := ⟨1, ![1]⟩
abbrev S1x1 : Shape := ⟨2, ![1, 1]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S256 : Shape := ⟨1, ![256]⟩
abbrev S256x1 : Shape := ⟨2, ![256, 1]⟩
abbrev S1x128 : Shape := ⟨2, ![1, 128]⟩

abbrev nBuf : Space → Nat
  | .hbm => 7
  | .vmem => 17
  | .smem => 0
  | _ => 0

abbrev bufTy : (tb : Table) → Fin (tcTables nBuf tb) → BufTy
  | .hbm, ⟨0, _⟩ => ⟨S16384x6144, .f32⟩
  | .hbm, ⟨1, _⟩ => ⟨S4x64, .f32⟩
  | .hbm, ⟨2, _⟩ => ⟨S8x128, .f32⟩
  | .hbm, ⟨3, _⟩ => ⟨S8x1x128, .f32⟩
  | .hbm, ⟨4, _⟩ => ⟨S8192x1024, .bf16⟩
  | .hbm, ⟨5, _⟩ => ⟨S32x8x256x128, .f32⟩
  | .hbm, ⟨6, _⟩ => ⟨S32x8x256x128, .f32⟩
  | .local _ .vmem, ⟨0, _⟩ => ⟨S4x64, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S1x1x128, .f32⟩
  | .local _ .vmem, ⟨8, _⟩ => ⟨S1x1x128, .f32⟩
  | .local _ .vmem, ⟨9, _⟩ => ⟨S256x128, .bf16⟩
  | .local _ .vmem, ⟨10, _⟩ => ⟨S256x128, .bf16⟩
  | .local _ .vmem, ⟨11, _⟩ => ⟨S1x1x256x128, .f32⟩
  | .local _ .vmem, ⟨12, _⟩ => ⟨S1x1x256x128, .f32⟩
  | .local _ .vmem, ⟨13, _⟩ => ⟨S1x1x256x128, .f32⟩
  | .local _ .vmem, ⟨14, _⟩ => ⟨S1x1x256x128, .f32⟩
  | .local _ .vmem, ⟨15, _⟩ => ⟨S256x128, .bf16⟩
  | .local _ .vmem, ⟨16, _⟩ => ⟨S256x128, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![32, 8, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== AttnCtxRefIdeal.lean ====
abbrev S16384x6144 : Shape := ⟨2, ![16384, 6144]⟩
abbrev S4x64 : Shape := ⟨2, ![4, 64]⟩
abbrev S8x128 : Shape := ⟨2, ![8, 128]⟩
abbrev S8192x6144 : Shape := ⟨2, ![8192, 6144]⟩
abbrev S32x256x6144 : Shape := ⟨3, ![32, 256, 6144]⟩
abbrev S32x256x1024 : Shape := ⟨3, ![32, 256, 1024]⟩
abbrev S32x256x8x2x64 : Shape := ⟨5, ![32, 256, 8, 2, 64]⟩
abbrev S32x256x8x128 : Shape := ⟨4, ![32, 256, 8, 128]⟩
abbrev S1x64 : Shape := ⟨2, ![1, 64]⟩
abbrev S64 : Shape := ⟨1, ![64]⟩
abbrev S_ : Shape := ⟨0, ![]⟩
abbrev S32x8x2x256x256 : Shape := ⟨5, ![32, 8, 2, 256, 256]⟩
abbrev S32x8x2x256 : Shape := ⟨4, ![32, 8, 2, 256]⟩
abbrev S32x8x2x256x1 : Shape := ⟨5, ![32, 8, 2, 256, 1]⟩
abbrev S32x8x1x256x256 : Shape := ⟨5, ![32, 8, 1, 256, 256]⟩
abbrev S32x8x256x256 : Shape := ⟨4, ![32, 8, 256, 256]⟩
abbrev S32x8x128x256 : Shape := ⟨4, ![32, 8, 128, 256]⟩
abbrev S32x256x8 : Shape := ⟨3, ![32, 256, 8]⟩
abbrev S32x256x8x1 : Shape := ⟨4, ![32, 256, 8, 1]⟩
abbrev S1x1x8x128 : Shape := ⟨4, ![1, 1, 8, 128]⟩
abbrev S8192x1024 : Shape := ⟨2, ![8192, 1024]⟩
abbrev S32x8x256x128 : Shape := ⟨4, ![32, 8, 256, 128]⟩

abbrev nBuf : Space → Nat
  | .hbm => 81
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S4x64, .f32⟩
  | .hbm, ⟨2, _⟩ => ⟨S8x128, .f32⟩
  | .hbm, ⟨3, _⟩ => ⟨S8192x6144, .f32⟩
  | .hbm, ⟨4, _⟩ => ⟨S32x256x6144, .f32⟩
  | .hbm, ⟨5, _⟩ => ⟨S32x256x1024, .f32⟩
  | .hbm, ⟨6, _⟩ => ⟨S32x256x8x2x64, .f32⟩
  | .hbm, ⟨7, _⟩ => ⟨S32x256x1024, .f32⟩
  | .hbm, ⟨8, _⟩ => ⟨S32x256x8x2x64, .f32⟩
  | .hbm, ⟨9, _⟩ => ⟨S32x256x1024, .f32⟩
  | .hbm, ⟨10, _⟩ => ⟨S32x256x8x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x8x2x256x256, .f32⟩
  | .hbm, ⟨31, _⟩ => ⟨S_, .f32⟩
  | .hbm, ⟨32, _⟩ => ⟨S32x8x2x256x256, .f32⟩
  | .hbm, ⟨33, _⟩ => ⟨S32x8x2x256x256, .f32⟩
  | .hbm, ⟨34, _⟩ => ⟨S_, .f32⟩
  | .hbm, ⟨35, _⟩ => ⟨S32x8x2x256, .f32⟩
  | .hbm, ⟨36, _⟩ => ⟨S_, .f32⟩
  | .hbm, ⟨37, _⟩ => ⟨S32x8x2x256, .f32⟩
  | .hbm, ⟨38, _⟩ => ⟨S32x8x2x256, .f32⟩
  | .hbm, ⟨39, _⟩ => ⟨S32x8x2x256x1, .f32⟩
  | .hbm, ⟨40, _⟩ => ⟨S32x8x2x256x256, .f32⟩
  | .hbm, ⟨41, _⟩ => ⟨S32x8x2x256x256, .f32⟩
  | .hbm, ⟨42, _⟩ => ⟨S32x8x2x256x256, .f32⟩
  | .hbm, ⟨43, _⟩ => ⟨S_, .f32⟩
  | .hbm, ⟨44, _⟩ => ⟨S32x8x2x256, .f32⟩
  | .hbm, ⟨45, _⟩ => ⟨S32x8x2x256x1, .f32⟩
  | .hbm, ⟨46, _⟩ => ⟨S32x8x2x256x256, .f32⟩
  | .hbm, ⟨47, _⟩ => ⟨S32x8x2x256x256, .f32⟩
  | .hbm, ⟨48, _⟩ => ⟨S32x8x1x256x256, .f32⟩
  | .hbm, ⟨49, _⟩ => ⟨S32x8x256x256, .f32⟩
  | .hbm, ⟨50, _⟩ => ⟨S32x8x1x256x256, .f32⟩
  | .hbm, ⟨51, _⟩ => ⟨S32x8x256x256, .f32⟩
  | .hbm, ⟨52, _⟩ => ⟨S32x8x256x256, .f32⟩
  | .hbm, ⟨53, _⟩ => ⟨S32x8x256x256, .f32⟩
  | .hbm, ⟨54, _⟩ => ⟨S32x8x256x256, .f32⟩
  | .hbm, ⟨55, _⟩ => ⟨S32x8x128x256, .f32⟩
  | .hbm, ⟨56, _⟩ => ⟨S32x256x8x128, .f32⟩
  | .hbm, ⟨57, _⟩ => ⟨S32x256x8x128, .f32⟩
  | .hbm, ⟨58, _⟩ => ⟨S_, .f32⟩
  | .hbm, ⟨59, _⟩ => ⟨S32x256x8, .f32⟩
  | .hbm, ⟨60, _⟩ => ⟨S32x256x8x1, .f32⟩
  | .hbm, ⟨61, _⟩ => ⟨S_, .f32⟩
  | .hbm, ⟨62, _⟩ => ⟨S32x256x8x1, .f32⟩
  | .hbm, ⟨63, _⟩ => ⟨S32x256x8x1, .f32⟩
  | .hbm, ⟨64, _⟩ => ⟨S_, .f32⟩
  | .hbm, ⟨65, _⟩ => ⟨S32x256x8x1, .f32⟩
  | .hbm, ⟨66, _⟩ => ⟨S32x256x8x1, .f32⟩
  | .hbm, ⟨67, _⟩ => ⟨S32x256x8x1, .f32⟩
  | .hbm, ⟨68, _⟩ => ⟨S32x256x8x128, .f32⟩
  | .hbm, ⟨69, _⟩ => ⟨S32x256x8x128, .f32⟩
  | .hbm, ⟨70, _⟩ => ⟨S1x1x8x128, .f32⟩
  | .hbm, ⟨71, _⟩ => ⟨S32x256x8x128, .f32⟩
  | .hbm, ⟨72, _⟩ => ⟨S32x256x8x128, .f32⟩
  | .hbm, ⟨73, _⟩ => ⟨S_, .f32⟩
  | .hbm, ⟨74, _⟩ => ⟨S32x256x8x128, .f32⟩
  | .hbm, ⟨75, _⟩ => ⟨S32x256x8x128, .f32⟩
  | .hbm, ⟨76, _⟩ => ⟨S8192x1024, .f32⟩
  | .hbm, ⟨77, _⟩ => ⟨S8192x1024, .bf16⟩
  | .hbm, ⟨78, _⟩ => ⟨S32x256x8x128, .f32⟩
  | .hbm, ⟨79, _⟩ => ⟨S32x8x256x128, .f32⟩
  | .hbm, ⟨80, _⟩ => ⟨S32x8x256x128, .f32⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== InEven.lean ====
abbrev S16384x2048 : Shape := ⟨2, ![16384, 2048]⟩
abbrev S3x6x2048 : Shape := ⟨3, ![3, 6, 2048]⟩
abbrev S2048x6144 : Shape := ⟨2, ![2048, 6144]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x1x128 : Shape := ⟨4, ![1, 4096, 1, 128]⟩
abbrev S16384x6144 : Shape := ⟨2, ![16384, 6144]⟩
abbrev S1024x2048 : Shape := ⟨2, ![1024, 2048]⟩
abbrev S1x6x2048 : Shape := ⟨3, ![1, 6, 2048]⟩
abbrev S2048x1024 : Shape := ⟨2, ![2048, 1024]⟩
abbrev S1024x128 : Shape := ⟨2, ![1024, 128]⟩
abbrev S1024x1024 : Shape := ⟨2, ![1024, 1024]⟩
abbrev S1x1x2048 : Shape := ⟨3, ![1, 1, 2048]⟩
abbrev S1x2048 : Shape := ⟨2, ![1, 2048]⟩

abbrev nBuf : Space → Nat
  | .hbm => 27
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S3x6x2048, .f32⟩
  | .hbm, ⟨2, _⟩ => ⟨S2048x6144, .f32⟩
  | .hbm, ⟨3, _⟩ => ⟨S4096x32, .f32⟩
  | .hbm, ⟨4, _⟩ => ⟨S4096x32, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S1x4096x1x64, .f32⟩
  | .hbm, ⟨9, _⟩ => ⟨S1x4096x2x64, .f32⟩
  | .hbm, ⟨10, _⟩ => ⟨S4096x128, .f32⟩
  | .hbm, ⟨11, _⟩ => ⟨S4096x32, .f32⟩
  | .hbm, ⟨12, _⟩ => ⟨S4096x64, .f32⟩
  | .hbm, ⟨13, _⟩ => ⟨S1x4096x1x64, .f32⟩
  | .hbm, ⟨14, _⟩ => ⟨S1x4096x2x64, .f32⟩
  | .hbm, ⟨15, _⟩ => ⟨S4096x128, .f32⟩
  | .hbm, ⟨16, _⟩ => ⟨S4096x128, .f32⟩
  | .hbm, ⟨17, _⟩ => ⟨S1x4096x1x128, .f32⟩
  | .hbm, ⟨18, _⟩ => ⟨S1x4096x1x128, .f32⟩
  | .hbm, ⟨19, _⟩ => ⟨S4096x128, .f32⟩
  | .hbm, ⟨20, _⟩ => ⟨S4096x64, .f32⟩
  | .hbm, ⟨21, _⟩ => ⟨S4096x128, .f32⟩
  | .hbm, ⟨22, _⟩ => ⟨S1x4096x1x128, .f32⟩
  | .hbm, ⟨23, _⟩ => ⟨S1x4096x1x128, .f32⟩
  | .hbm, ⟨24, _⟩ => ⟨S4096x128, .f32⟩
  | .hbm, ⟨25, _⟩ => ⟨S2048x6144, .bf16⟩
  | .hbm, ⟨26, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | .local _ .vmem, ⟨15, _⟩ => ⟨S1024x1024, .f32⟩
  | .local _ .vmem, ⟨16, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32 : BitVec 32 := 1#32
  let v3 : BitVec 32 := Scalar.select v2 c1_i32 c4_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InEvenIdeal.lean ====
variable {F : FTy → Type} [FloatOps F] [Named F]
def κ : String → Option EReal := fun
  | "key_scale" => some (((Real.sqrt 128)⁻¹ : ℝ) : EReal)
  | _ => none
-- ==== InEvenRefIdeal.lean ====
abbrev S16384x2048 : Shape := ⟨2, ![16384, 2048]⟩
abbrev S3x6x2048 : Shape := ⟨3, ![3, 6, 2048]⟩
abbrev S2048x6144 : Shape := ⟨2, ![2048, 6144]⟩
abbrev S4096x32 : Shape := ⟨2, ![4096, 32]⟩
abbrev S4096x64 : Shape := ⟨2, ![4096, 64]⟩
abbrev S8192x2048 : Shape := ⟨2, ![8192, 2048]⟩
abbrev S1x1x2048 : Shape := ⟨3, ![1, 1, 2048]⟩
abbrev S2048 : Shape := ⟨1, ![2048]⟩
abbrev S_ : Shape := ⟨0, ![]⟩
abbrev S1x2048 : Shape := ⟨2, ![1, 2048]⟩
abbrev S2x4096x2048 : Shape := ⟨3, ![2, 4096, 2048]⟩
abbrev S2x1x2048 : Shape := ⟨3, ![2, 1, 2048]⟩
abbrev S2x2048 : Shape := ⟨2, ![2, 2048]⟩
abbrev S2x4096x6144 : Shape := ⟨3, ![2, 4096, 6144]⟩
abbrev S2x4096x1024 : Shape := ⟨3, ![2, 4096, 1024]⟩
abbrev S2x4096x8x2x64 : Shape := ⟨5, ![2, 4096, 8, 2, 64]⟩
abbrev S2x4096x512 : Shape := ⟨3, ![2, 4096, 512]⟩
abbrev S2x4096x4x128 : Shape := ⟨4, ![2, 4096, 4, 128]⟩
abbrev S1x4096x1x1x32 : Shape := ⟨5, ![1, 4096, 1, 1, 32]⟩
abbrev S2x4096x8x2x32 : Shape := ⟨5, ![2, 4096, 8, 2, 32]⟩
abbrev S1x4096x1x64 : Shape := ⟨4, ![1, 4096, 1, 64]⟩
abbrev S2x4096x4x64 : Shape := ⟨4, ![2, 4096, 4, 64]⟩
abbrev S8192x6144 : Shape := ⟨2, ![8192, 6144]⟩
abbrev S16384x6144 : Shape := ⟨2, ![16384, 6144]⟩

abbrev nBuf : Space → Nat
  | .hbm => 119
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S3x6x2048, .f32⟩
  | .hbm, ⟨2, _⟩ => ⟨S2048x6144, .f32⟩
  | .hbm, ⟨3, _⟩ => ⟨S4096x32, .f32⟩
  | .hbm, ⟨4, _⟩ => ⟨S4096x32, .f32⟩
  | .hbm, ⟨5, _⟩ => ⟨S4096x64, .f32⟩
  | .hbm, ⟨6, _⟩ => ⟨S4096x64, .f32⟩
  | .hbm, ⟨7, _⟩ => ⟨S8192x2048, .f32⟩
  | .hbm, ⟨8, _⟩ => ⟨S1x1x2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S1x1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S2x4096x2048, .f32⟩
  | .hbm, ⟨23, _⟩ => ⟨S2x1x2048, .f32⟩
  | .hbm, ⟨24, _⟩ => ⟨S2x2048, .f32⟩
  | .hbm, ⟨25, _⟩ => ⟨S2x1x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x4096x2048, .f32⟩
  | .hbm, ⟨30, _⟩ => ⟨S2x4096x2048, .f32⟩
  | .hbm, ⟨31, _⟩ => ⟨S2x1x2048, .f32⟩
  | .hbm, ⟨32, _⟩ => ⟨S2x2048, .f32⟩
  | .hbm, ⟨33, _⟩ => ⟨S2x1x2048, .f32⟩
  | .hbm, ⟨34, _⟩ => ⟨S2x4096x2048, .f32⟩
  | .hbm, ⟨35, _⟩ => ⟨S2x4096x2048, .f32⟩
  | .hbm, ⟨36, _⟩ => ⟨S2x4096x6144, .f32⟩
  | .hbm, ⟨37, _⟩ => ⟨S2x4096x1024, .f32⟩
  | .hbm, ⟨38, _⟩ => ⟨S2x4096x8x2x64, .f32⟩
  | .hbm, ⟨39, _⟩ => ⟨S2x4096x1024, .f32⟩
  | .hbm, ⟨40, _⟩ => ⟨S2x4096x8x2x64, .f32⟩
  | .hbm, ⟨41, _⟩ => ⟨S2x4096x512, .f32⟩
  | .hbm, ⟨42, _⟩ => ⟨S2x4096x4x128, .f32⟩
  | .hbm, ⟨43, _⟩ => ⟨S2x4096x512, .f32⟩
  | .hbm, ⟨44, _⟩ => ⟨S2x4096x4x128, .f32⟩
  | .hbm, ⟨45, _⟩ => ⟨S_, .f32⟩
  | .hbm, ⟨46, _⟩ => ⟨S_, .f32⟩
  | .hbm, ⟨47, _⟩ => ⟨S2x4096x4x128, .f32⟩
  | .hbm, ⟨48, _⟩ => ⟨S2x4096x4x128, .f32⟩
  | .hbm, ⟨49, _⟩ => ⟨S1x4096x1x1x32, .f32⟩
  | .hbm, ⟨50, _⟩ => ⟨S1x4096x1x1x32, .f32⟩
  | .hbm, ⟨51, _⟩ => ⟨S2x4096x8x2x32, .f32⟩
  | .hbm, ⟨52, _⟩ => ⟨S2x4096x8x2x32, .f32⟩
  | .hbm, ⟨53, _⟩ => ⟨S2x4096x8x2x32, .f32⟩
  | .hbm, ⟨54, _⟩ => ⟨S2x4096x8x2x32, .f32⟩
  | .hbm, ⟨55, _⟩ => ⟨S2x4096x8x2x32, .f32⟩
  | .hbm, ⟨56, _⟩ => ⟨S2x4096x8x2x32, .f32⟩
  | .hbm, ⟨57, _⟩ => ⟨S2x4096x8x2x32, .f32⟩
  | .hbm, ⟨58, _⟩ => ⟨S2x4096x8x2x32, .f32⟩
  | .hbm, ⟨59, _⟩ => ⟨S2x4096x8x2x32, .f32⟩
  | .hbm, ⟨60, _⟩ => ⟨S2x4096x8x2x32, .f32⟩
  | .hbm, ⟨61, _⟩ => ⟨S2x4096x8x2x32, .f32⟩
  | .hbm, ⟨62, _⟩ => ⟨S2x4096x8x2x32, .f32⟩
  | .hbm, ⟨63, _⟩ => ⟨S2x4096x8x2x64, .f32⟩
  | .hbm, ⟨64, _⟩ => ⟨S1x4096x1x1x32, .f32⟩
  | .hbm, ⟨65, _⟩ => ⟨S1x4096x1x1x32, .f32⟩
  | .hbm, ⟨66, _⟩ => ⟨S2x4096x8x2x32, .f32⟩
  | .hbm, ⟨67, _⟩ => ⟨S2x4096x8x2x32, .f32⟩
  | .hbm, ⟨68, _⟩ => ⟨S2x4096x8x2x32, .f32⟩
  | .hbm, ⟨69, _⟩ => ⟨S2x4096x8x2x32, .f32⟩
  | .hbm, ⟨70, _⟩ => ⟨S2x4096x8x2x32, .f32⟩
  | .hbm, ⟨71, _⟩ => ⟨S2x4096x8x2x32, .f32⟩
  | .hbm, ⟨72, _⟩ => ⟨S2x4096x8x2x32, .f32⟩
  | .hbm, ⟨73, _⟩ => ⟨S2x4096x8x2x32, .f32⟩
  | .hbm, ⟨74, _⟩ => ⟨S2x4096x8x2x32, .f32⟩
  | .hbm, ⟨75, _⟩ => ⟨S2x4096x8x2x32, .f32⟩
  | .hbm, ⟨76, _⟩ => ⟨S2x4096x8x2x32, .f32⟩
  | .hbm, ⟨77, _⟩ => ⟨S2x4096x8x2x32, .f32⟩
  | .hbm, ⟨78, _⟩ => ⟨S2x4096x8x2x64, .f32⟩
  | .hbm, ⟨79, _⟩ => ⟨S1x4096x1x64, .f32⟩
  | .hbm, ⟨80, _⟩ => ⟨S1x4096x1x64, .f32⟩
  | .hbm, ⟨81, _⟩ => ⟨S2x4096x4x64, .f32⟩
  | .hbm, ⟨82, _⟩ => ⟨S2x4096x4x64, .f32⟩
  | .hbm, ⟨83, _⟩ => ⟨S2x4096x4x64, .f32⟩
  | .hbm, ⟨84, _⟩ => ⟨S2x4096x4x64, .f32⟩
  | .hbm, ⟨85, _⟩ => ⟨S2x4096x4x64, .f32⟩
  | .hbm, ⟨86, _⟩ => ⟨S2x4096x4x64, .f32⟩
  | .hbm, ⟨87, _⟩ => ⟨S2x4096x4x64, .f32⟩
  | .hbm, ⟨88, _⟩ => ⟨S2x4096x4x64, .f32⟩
  | .hbm, ⟨89, _⟩ => ⟨S2x4096x4x64, .f32⟩
  | .hbm, ⟨90, _⟩ => ⟨S2x4096x4x64, .f32⟩
  | .hbm, ⟨91, _⟩ => ⟨S2x4096x4x64, .f32⟩
  | .hbm, ⟨92, _⟩ => ⟨S2x4096x4x64, .f32⟩
  | .hbm, ⟨93, _⟩ => ⟨S2x4096x4x128, .f32⟩
  | .hbm, ⟨94, _⟩ => ⟨S1x4096x1x64, .f32⟩
  | .hbm, ⟨95, _⟩ => ⟨S1x4096x1x64, .f32⟩
  | .hbm, ⟨96, _⟩ => ⟨S2x4096x4x64, .f32⟩
  | .hbm, ⟨97, _⟩ => ⟨S2x4096x4x64, .f32⟩
  | .hbm, ⟨98, _⟩ => ⟨S2x4096x4x64, .f32⟩
  | .hbm, ⟨99, _⟩ => ⟨S2x4096x4x64, .f32⟩
  | .hbm, ⟨100, _⟩ => ⟨S2x4096x4x64, .f32⟩
  | .hbm, ⟨101, _⟩ => ⟨S2x4096x4x64, .f32⟩
  | .hbm, ⟨102, _⟩ => ⟨S2x4096x4x64, .f32⟩
  | .hbm, ⟨103, _⟩ => ⟨S2x4096x4x64, .f32⟩
  | .hbm, ⟨104, _⟩ => ⟨S2x4096x4x64, .f32⟩
  | .hbm, ⟨105, _⟩ => ⟨S2x4096x4x64, .f32⟩
  | .hbm, ⟨106, _⟩ => ⟨S2x4096x4x64, .f32⟩
  | .hbm, ⟨107, _⟩ => ⟨S2x4096x4x64, .f32⟩
  | .hbm, ⟨108, _⟩ => ⟨S2x4096x4x128, .f32⟩
  | .hbm, ⟨109, _⟩ => ⟨S2x4096x1024, .f32⟩
  | .hbm, ⟨110, _⟩ => ⟨S2x4096x1024, .f32⟩
  | .hbm, ⟨111, _⟩ => ⟨S2x4096x1024, .f32⟩
  | .hbm, ⟨112, _⟩ => ⟨S2x4096x512, .f32⟩
  | .hbm, ⟨113, _⟩ => ⟨S2x4096x512, .f32⟩
  | .hbm, ⟨114, _⟩ => ⟨S2x4096x2048, .f32⟩
  | .hbm, ⟨115, _⟩ => ⟨S2x4096x6144, .f32⟩
  | .hbm, ⟨116, _⟩ => ⟨S8192x6144, .f32⟩
  | .hbm, ⟨117, _⟩ => ⟨S8192x6144, .f32⟩
  | .hbm, ⟨118, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩

abbrev nD : Nat := 1
abbrev τ : Topo := Topo.v7x

variable {F : FTy → Type} [FloatOps F]
-- ==== InOdd.lean ====
abbrev S16384x2048 : Shape := ⟨2, ![16384, 2048]⟩
abbrev S3x6x2048 : Shape := ⟨3, ![3, 6, 2048]⟩
abbrev S2048x3072 : Shape := ⟨2, ![2048, 3072]⟩
abbrev S16384x3072 : Shape := ⟨2, ![16384, 3072]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1x1x2048 : Shape := ⟨3, ![1, 1, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S3x6x2048, .f32⟩
  | .hbm, ⟨2, _⟩ => ⟨S2048x3072, .f32⟩
  | .hbm, ⟨3, _⟩ => ⟨S2048x3072, .bf16⟩
  | .hbm, ⟨4, _⟩ => ⟨S16384x3072, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InOddRefIdeal.lean ====
abbrev S16384x2048 : Shape := ⟨2, ![16384, 2048]⟩
abbrev S3x6x2048 : Shape := ⟨3, ![3, 6, 2048]⟩
abbrev S2048x3072 : Shape := ⟨2, ![2048, 3072]⟩
abbrev S8192x2048 : Shape := ⟨2, ![8192, 2048]⟩
abbrev S1x1x2048 : Shape := ⟨3, ![1, 1, 2048]⟩
abbrev S2048 : Shape := ⟨1, ![2048]⟩
abbrev S_ : Shape := ⟨0, ![]⟩
abbrev S1x2048 : Shape := ⟨2, ![1, 2048]⟩
abbrev S2x4096x2048 : Shape := ⟨3, ![2, 4096, 2048]⟩
abbrev S2x1x2048 : Shape := ⟨3, ![2, 1, 2048]⟩
abbrev S2x2048 : Shape := ⟨2, ![2, 2048]⟩
abbrev S8192x3072 : Shape := ⟨2, ![8192, 3072]⟩
abbrev S2x4096x3072 : Shape := ⟨3, ![2, 4096, 3072]⟩
abbrev S16384x3072 : Shape := ⟨2, ![16384, 3072]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S3x6x2048, .f32⟩
  | .hbm, ⟨2, _⟩ => ⟨S2048x3072, .f32⟩
  | .hbm, ⟨3, _⟩ => ⟨S8192x2048, .f32⟩
  | .hbm, ⟨4, _⟩ => ⟨S1x1x2048, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S1x1x2048, .f32⟩
  | .hbm, ⟨13, _⟩ => ⟨S2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2x4096x2048, .f32⟩
  | .hbm, ⟨19, _⟩ => ⟨S2x1x2048, .f32⟩
  | .hbm, ⟨20, _⟩ => ⟨S2x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x4096x2048, .f32⟩
  | .hbm, ⟨26, _⟩ => ⟨S2x4096x2048, .f32⟩
  | .hbm, ⟨27, _⟩ => ⟨S2x1x2048, .f32⟩
  | .hbm, ⟨28, _⟩ => ⟨S2x2048, .f32⟩
  | .hbm, ⟨29, _⟩ => ⟨S2x1x2048, .f32⟩
  | .hbm, ⟨30, _⟩ => ⟨S2x4096x2048, .f32⟩
  | .hbm, ⟨31, _⟩ => ⟨S2x4096x2048, .f32⟩
  | .hbm, ⟨32, _⟩ => ⟨S8192x3072, .f32⟩
  | .hbm, ⟨33, _⟩ => ⟨S2x4096x3072, .f32⟩
  | .hbm, ⟨34, _⟩ => ⟨S8192x3072, .f32⟩
  | .hbm, ⟨35, _⟩ => ⟨S16384x3072, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== OutProj.lean ====
abbrev S16384x1024 : Shape := ⟨2, ![16384, 1024]⟩
abbrev S16384x2048 : Shape := ⟨2, ![16384, 2048]⟩
abbrev S3x6x2048 : Shape := ⟨3, ![3, 6, 2048]⟩
abbrev S2048x2048 : Shape := ⟨2, ![2048, 2048]⟩
abbrev S2048 : Shape := ⟨1, ![2048]⟩
abbrev S1x2048 : Shape := ⟨2, ![1, 2048]⟩
abbrev S2048x16384 : Shape := ⟨2, ![2048, 16384]⟩
abbrev S512x1024 : Shape := ⟨2, ![512, 1024]⟩
abbrev S512x2048 : Shape := ⟨2, ![512, 2048]⟩
abbrev S1x6x2048 : Shape := ⟨3, ![1, 6, 2048]⟩
abbrev S1024x2048 : Shape := ⟨2, ![1024, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S3x6x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S16384x2048, .f32⟩
  | .hbm, ⟨11, _⟩ => ⟨S2048x16384, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x6x2048, .f32⟩
  | .local _ .vmem, ⟨7, _⟩ => ⟨S1x6x2048, .f32⟩
  | .local _ .vmem, ⟨8, _⟩ => ⟨S1024x2048, .bf16⟩
  | .local _ .vmem, ⟨9, _⟩ => ⟨S1024x2048, .bf16⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S2048x512, .bf16⟩
  | .local _ .vmem, ⟨15, _⟩ => ⟨S2048x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S16384x1024 : Shape := ⟨2, ![16384, 1024]⟩
abbrev S16384x2048 : Shape := ⟨2, ![16384, 2048]⟩
abbrev S3x6x2048 : Shape := ⟨3, ![3, 6, 2048]⟩
abbrev S2048x2048 : Shape := ⟨2, ![2048, 2048]⟩
abbrev S2048 : Shape := ⟨1, ![2048]⟩
abbrev S3x1x2048 : Shape := ⟨3, ![3, 1, 2048]⟩
abbrev S3x2048 : Shape := ⟨2, ![3, 2048]⟩
abbrev S1x2048 : Shape := ⟨2, ![1, 2048]⟩
abbrev S8192x2048 : Shape := ⟨2, ![8192, 2048]⟩
abbrev S2x2048 : Shape := ⟨2, ![2, 2048]⟩
abbrev S2x1x2048 : Shape := ⟨3, ![2, 1, 2048]⟩
abbrev S2x4096x2048 : Shape := ⟨3, ![2, 4096, 2048]⟩
abbrev S_ : Shape := ⟨0, ![]⟩
abbrev S16384 : Shape := ⟨1, ![16384]⟩
abbrev S16384x1 : Shape := ⟨2, ![16384, 1]⟩
abbrev S1x1x2048 : Shape := ⟨3, ![1, 1, 2048]⟩
abbrev S2048x16384 : Shape := ⟨2, ![2048, 16384]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S3x6x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S3x1x2048, .f32⟩
  | .hbm, ⟨12, _⟩ => ⟨S3x2048, .f32⟩
  | .hbm, ⟨13, _⟩ => ⟨S1x2048, .f32⟩
  | .hbm, ⟨14, _⟩ => ⟨S2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2x2048, .f32⟩
  | .hbm, ⟨20, _⟩ => ⟨S2x1x2048, .f32⟩
  | .hbm, ⟨21, _⟩ => ⟨S8192x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S8192x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S8192x2048, .f32⟩
  | .hbm, ⟨61, _⟩ => ⟨S1x1x2048, .f32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S1x1x2048, .f32⟩
  | .hbm, ⟨70, _⟩ => ⟨S2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S2x4096x2048, .f32⟩
  | .hbm, ⟨76, _⟩ => ⟨S2x1x2048, .f32⟩
  | .hbm, ⟨77, _⟩ => ⟨S2x2048, .f32⟩
  | .hbm, ⟨78, _⟩ => ⟨S2x1x2048, .f32⟩
  | .hbm, ⟨79, _⟩ => ⟨S_, .f32⟩
  | .hbm, ⟨80, _⟩ => ⟨S2x1x2048, .f32⟩
  | .hbm, ⟨81, _⟩ => ⟨S2x1x2048, .f32⟩
  | .hbm, ⟨82, _⟩ => ⟨S2x4096x2048, .f32⟩
  | .hbm, ⟨83, _⟩ => ⟨S2x4096x2048, .f32⟩
  | .hbm, ⟨84, _⟩ => ⟨S2x1x2048, .f32⟩
  | .hbm, ⟨85, _⟩ => ⟨S2x2048, .f32⟩
  | .hbm, ⟨86, _⟩ => ⟨S2x1x2048, .f32⟩
  | .hbm, ⟨87, _⟩ => ⟨S2x4096x2048, .f32⟩
  | .hbm, ⟨88, _⟩ => ⟨S2x4096x2048, .f32⟩
  | .hbm, ⟨89, _⟩ => ⟨S8192x2048, .f32⟩
  | .hbm, ⟨90, _⟩ => ⟨S16384x2048, .f32⟩
  | .hbm, ⟨91, _⟩ => ⟨S2048x16384, .f32⟩
  | .hbm, ⟨92, _⟩ => ⟨S2048x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_6 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]
-- ==== Scores.lean ====
abbrev S8x2x128x128 : Shape := ⟨4, ![8, 2, 128, 128]⟩
abbrev S2048x2048 : Shape := ⟨2, ![2048, 2048]⟩
abbrev S2048x16384 : Shape := ⟨2, ![2048, 16384]⟩
abbrev S16x128x128 : Shape := ⟨3, ![16, 128, 128]⟩
abbrev S1x128x128 : Shape := ⟨3, ![1, 128, 128]⟩
abbrev S2048x128 : Shape := ⟨2, ![2048, 128]⟩
abbrev S128x2048 : Shape := ⟨2, ![128, 2048]⟩
abbrev S128x128 : Shape := ⟨2, ![128, 128]⟩
abbrev S2048x512 : Shape := ⟨2, ![2048, 512]⟩

abbrev nBuf : Space → Nat
  | .hbm => 6
  | .vmem => 11
  | .smem => 0
  | _ => 0

abbrev bufTy : (tb : Table) → Fin (tcTables nBuf tb) → BufTy
  | .hbm, ⟨0, _⟩ => ⟨S8x2x128x128, .f32⟩
  | .hbm, ⟨1, _⟩ => ⟨S2048x2048, .f32⟩
  | .hbm, ⟨2, _⟩ => ⟨S2048x16384, .bf16⟩
  | .hbm, ⟨3, _⟩ => ⟨S16x128x128, .f32⟩
  | .hbm, ⟨4, _⟩ => ⟨S2048x2048, .bf16⟩
  | .hbm, ⟨5, _⟩ => ⟨S2048x16384, .f32⟩
  | .local _ .vmem, ⟨0, _⟩ => ⟨S1x128x128, .f32⟩
  | .local _ .vmem, ⟨1, _⟩ => ⟨S1x128x128, .f32⟩
  | .local _ .vmem, ⟨2, _⟩ => ⟨S2048x128, .f32⟩
  | .local _ .vmem, ⟨3, _⟩ => ⟨S2048x128, .f32⟩
  | .local _ .vmem, ⟨4, _⟩ => ⟨S128x2048, .bf16⟩
  | .local _ .vmem, ⟨5, _⟩ => ⟨S128x2048, .bf16⟩
  | .local _ .vmem, ⟨6, _⟩ => ⟨S2048x2048, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .f32⟩
  | .local _ .vmem, ⟨10, _⟩ => ⟨S2048x512, .f32⟩
  | _, _ => ⟨S8x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ScoresRefIdeal.lean ====
abbrev S8x2x128x128 : Shape := ⟨4, ![8, 2, 128, 128]⟩
abbrev S2048x2048 : Shape := ⟨2, ![2048, 2048]⟩
abbrev S2048x16384 : Shape := ⟨2, ![2048, 16384]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩

abbrev nBuf : Space → Nat
  | .hbm => 11
  | .vmem => 0
  | .smem => 0
  | _ => 0

abbrev bufTy : (tb : Table) → Fin (tcTables nBuf tb) → BufTy
  | .hbm, ⟨0, _⟩ => ⟨S8x2x128x128, .f32⟩
  | .hbm, ⟨1, _⟩ => ⟨S2048x2048, .f32⟩
  | .hbm, ⟨2, _⟩ => ⟨S2048x16384, .bf16⟩
  | .hbm, ⟨3, _⟩ => ⟨S2048x16384, .f32⟩
  | .hbm, ⟨4, _⟩ => ⟨S16384x2048, .f32⟩
  | .hbm, ⟨5, _⟩ => ⟨S16384x2048, .f32⟩
  | .hbm, ⟨6, _⟩ => ⟨S16384x8x2x128, .f32⟩
  | .hbm, ⟨7, _⟩ => ⟨S8x2x128x16384, .f32⟩
  | .hbm, ⟨8, _⟩ => ⟨S16384x8x2x128, .f32⟩
  | .hbm, ⟨9, _⟩ => ⟨S16384x2048, .f32⟩
  | .hbm, ⟨10, _⟩ => ⟨S2048x16384, .f32⟩
  | _, _ => ⟨S8x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ada.lean ====
abbrev S2x2048 : Shape := ⟨2, ![2, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S4x3x12288 : Shape := ⟨3, ![4, 3, 12288]⟩
abbrev S4x3x6x2048 : Shape := ⟨4, ![4, 3, 6, 2048]⟩

abbrev nBuf : Space → Nat
  | .hbm => 12
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .hbm, ⟨10, _⟩ => ⟨S4x3x12288, .f32⟩
  | .hbm, ⟨11, _⟩ => ⟨S4x3x6x2048, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x2048 : Shape := ⟨2, ![2, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S3x2048 : Shape := ⟨2, ![3, 2048]⟩
abbrev S_ : Shape := ⟨0, ![]⟩
abbrev S4x12288x3 : Shape := ⟨3, ![4, 12288, 3]⟩
abbrev S4x3x12288 : Shape := ⟨3, ![4, 3, 12288]⟩
abbrev S4x1x12288 : Shape := ⟨3, ![4, 1, 12288]⟩
abbrev S4x3x6x2048 : Shape := ⟨4, ![4, 3, 6, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S3x2048, .f32⟩
  | .hbm, ⟨6, _⟩ => ⟨S3x2048, .f32⟩
  | .hbm, ⟨7, _⟩ => ⟨S3x2048, .f32⟩
  | .hbm, ⟨8, _⟩ => ⟨S_, .f32⟩
  | .hbm, ⟨9, _⟩ => ⟨S3x2048, .f32⟩
  | .hbm, ⟨10, _⟩ => ⟨S3x2048, .f32⟩
  | .hbm, ⟨11, _⟩ => ⟨S_, .f32⟩
  | .hbm, ⟨12, _⟩ => ⟨S3x2048, .f32⟩
  | .hbm, ⟨13, _⟩ => ⟨S3x2048, .f32⟩
  | .hbm, ⟨14, _⟩ => ⟨S3x2048, .f32⟩
  | .hbm, ⟨15, _⟩ => ⟨S4x12288x3, .f32⟩
  | .hbm, ⟨16, _⟩ => ⟨S4x3x12288, .f32⟩
  | .hbm, ⟨17, _⟩ => ⟨S4x1x12288, .f32⟩
  | .hbm, ⟨18, _⟩ => ⟨S4x3x12288, .f32⟩
  | .hbm, ⟨19, _⟩ => ⟨S4x3x12288, .f32⟩
  | .hbm, ⟨20, _⟩ => ⟨S4x3x6x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Sgu.lean ====
abbrev S16384x3072 : Shape := ⟨2, ![16384, 3072]⟩
abbrev S1024 : Shape := ⟨1, ![1024]⟩
abbrev S4x128x128 : Shape := ⟨3, ![4, 128, 128]⟩
abbrev S4x128 : Shape := ⟨2, ![4, 128]⟩
abbrev S1x1024 : Shape := ⟨2, ![1, 1024]⟩
abbrev S128x4 : Shape := ⟨2, ![128, 4]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x1 : Shape := ⟨2, ![128, 1]⟩
abbrev S128x256 : Shape := ⟨2, ![128, 256]⟩

abbrev nBuf : Space → Nat
  | .hbm => 9
  | .vmem => 10
  | .smem => 0
  | _ => 0

abbrev bufTy : (tb : Table) → Fin (tcTables nBuf tb) → BufTy
  | .hbm, ⟨0, _⟩ => ⟨S16384x3072, .f32⟩
  | .hbm, ⟨1, _⟩ => ⟨S1024, .f32⟩
  | .hbm, ⟨2, _⟩ => ⟨S1024, .f32⟩
  | .hbm, ⟨3, _⟩ => ⟨S4x128x128, .f32⟩
  | .hbm, ⟨4, _⟩ => ⟨S4x128, .f32⟩
  | .hbm, ⟨5, _⟩ => ⟨S1x1024, .f32⟩
  | .hbm, ⟨6, _⟩ => ⟨S1x1024, .f32⟩
  | .hbm, ⟨7, _⟩ => ⟨S128x4, .f32⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S4x128x128, .f32⟩
  | .local _ .vmem, ⟨7, _⟩ => ⟨S128x4, .f32⟩
  | .local _ .vmem, ⟨8, _⟩ => ⟨S512x1024, .bf16⟩
  | .local _ .vmem, ⟨9, _⟩ => ⟨S512x1024, .bf16⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S16384x3072 : Shape := ⟨2, ![16384, 3072]⟩
abbrev S1024 : Shape := ⟨1, ![1024]⟩
abbrev S4x128x128 : Shape := ⟨3, ![4, 128, 128]⟩
abbrev S4x128 : Shape := ⟨2, ![4, 128]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S128x128x4x256 : Shape := ⟨4, ![128, 128, 4, 256]⟩
abbrev S4x128x256x128 : Shape := ⟨4, ![4, 128, 256, 128]⟩
abbrev S128x4 : Shape := ⟨2, ![128, 4]⟩
abbrev S1x128x4x1 : Shape := ⟨4, ![1, 128, 4, 1]⟩

abbrev nBuf : Space → Nat
  | .hbm => 46
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S1024, .f32⟩
  | .hbm, ⟨2, _⟩ => ⟨S1024, .f32⟩
  | .hbm, ⟨3, _⟩ => ⟨S4x128x128, .f32⟩
  | .hbm, ⟨4, _⟩ => ⟨S4x128, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S128x128x4x256, .f32⟩
  | .hbm, ⟨37, _⟩ => ⟨S4x128x256x128, .f32⟩
  | .hbm, ⟨38, _⟩ => ⟨S128x128x4x256, .f32⟩
  | .hbm, ⟨39, _⟩ => ⟨S128x4, .f32⟩
  | .hbm, ⟨40, _⟩ => ⟨S1x128x4x1, .f32⟩
  | .hbm, ⟨41, _⟩ => ⟨S128x128x4x256, .f32⟩
  | .hbm, ⟨42, _⟩ => ⟨S128x128x4x256, .f32⟩
  | .hbm, ⟨43, _⟩ => ⟨S16384x1024, .f32⟩
  | .hbm, ⟨44, _⟩ => ⟨S16384x1024, .f32⟩
  | .hbm, ⟨45, _⟩ => ⟨S16384x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== RetState.lean ====
abbrev S16384x6144 : Shape := ⟨2, ![16384, 6144]⟩
abbrev S2x4 : Shape := ⟨2, ![2, 4]⟩
abbrev S4x256 : Shape := ⟨2, ![4, 256]⟩
abbrev S4x2 : Shape := ⟨2, ![4, 2]⟩
abbrev S4x2x1 : Shape := ⟨3, ![4, 2, 1]⟩
abbrev S4x2x128 : Shape := ⟨3, ![4, 2, 128]⟩
abbrev S4x1x256 : Shape := ⟨3, ![4, 1, 256]⟩
abbrev S8192x1024 : Shape := ⟨2, ![8192, 1024]⟩
abbrev S32x2x4x128x256 : Shape := ⟨5, ![32, 2, 4, 128, 256]⟩
abbrev S256x512 : Shape := ⟨2, ![256, 512]⟩
abbrev S256x1024 : Shape := ⟨2, ![256, 1024]⟩
abbrev S1x2x4x128x256 : Shape := ⟨5, ![1, 2, 4, 128, 256]⟩
abbrev S128x128 : Shape := ⟨2, ![128, 128]⟩
abbrev S128x1 : Shape := ⟨2, ![128, 1]⟩
abbrev S1x1x128 : Shape := ⟨3, ![1, 1, 128]⟩
abbrev S1x128 : Shape := ⟨2, ![1, 128]⟩
abbrev S1x1 : Shape := ⟨2, ![1, 1]⟩
abbrev S128x256 : Shape := ⟨2, ![128, 256]⟩
abbrev S1x1x1x128x256 : Shape := ⟨5, ![1, 1, 1, 128, 256]⟩
abbrev S128 : Shape := ⟨1, ![128]⟩
abbrev S1x1x256 : Shape := ⟨3, ![1, 1, 256]⟩
abbrev S1x256 : Shape := ⟨2, ![1, 256]⟩

abbrev nBuf : Space → Nat
  | .hbm => 9
  | .vmem => 15
  | .smem => 0
  | _ => 0

abbrev bufTy : (tb : Table) → Fin (tcTables nBuf tb) → BufTy
  | .hbm, ⟨0, _⟩ => ⟨S16384x6144, .f32⟩
  | .hbm, ⟨1, _⟩ => ⟨S2x4, .f32⟩
  | .hbm, ⟨2, _⟩ => ⟨S4x256, .f32⟩
  | .hbm, ⟨3, _⟩ => ⟨S4x2, .f32⟩
  | .hbm, ⟨4, _⟩ => ⟨S4x2x1, .f32⟩
  | .hbm, ⟨5, _⟩ => ⟨S4x2x128, .f32⟩
  | .hbm, ⟨6, _⟩ => ⟨S4x1x256, .f32⟩
  | .hbm, ⟨7, _⟩ => ⟨S8192x1024, .bf16⟩
  | .hbm, ⟨8, _⟩ => ⟨S32x2x4x128x256, .f32⟩
  | .local _ .vmem, ⟨0, _⟩ => ⟨S4x2x128, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S4x1x256, .f32⟩
  | .local _ .vmem, ⟨10, _⟩ => ⟨S256x1024, .bf16⟩
  | .local _ .vmem, ⟨11, _⟩ => ⟨S256x1024, .bf16⟩
  | .local _ .vmem, ⟨12, _⟩ => ⟨S1x2x4x128x256, .f32⟩
  | .local _ .vmem, ⟨13, _⟩ => ⟨S1x2x4x128x256, .f32⟩
  | .local _ .vmem, ⟨14, _⟩ => ⟨S256x1024, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32 : BitVec 32 := 0#32
  let c2_i32 : BitVec 32 := 2#32
  let v183 : BitVec 32 := Scalar.addi c0_i32 c2_i32
  let c1_i32 : BitVec 32 := 1#32
  ⟨c0_i32, v183, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  v380
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  let v381 : BitVec 32 := v380
  let v382 : Index := Scalar.indexCast v381
  let c0_148 : Index := 0#32
  ![v382.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  let v381 : BitVec 32 := v380
  let v389 : Index := Scalar.indexCast v381
  let c0_151 : Index := 0#32
  ![v389.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  let v381 : BitVec 32 := v380
  let v414 : Index := Scalar.indexCast v381
  let c128 : Index := 128#32
  ![v414.toNat, 128]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  let v381 : BitVec 32 := v380
  let v421 : Index := Scalar.indexCast v381
  let c256 : Index := 256#32
  ![v421.toNat, 256]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  let v381 : BitVec 32 := v380
  let v446 : Index := Scalar.indexCast v381
  let c256_164 : Index := 256#32
  ![v446.toNat, 256]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  let v381 : BitVec 32 := v380
  let v453 : Index := Scalar.indexCast v381
  let c512 : Index := 512#32
  ![v453.toNat, 512]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  let v381 : BitVec 32 := v380
  let v478 : Index := Scalar.indexCast v381
  let c384 : Index := 384#32
  ![v478.toNat, 384]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v380 : BitVec 32 := Scalar.muli arg11 c128_i32
  let v381 : BitVec 32 := v380
  let v485 : Index := Scalar.indexCast v381
  let c768 : Index := 768#32
  ![v485.toNat, 768]
@[reducible] def k0_t2_loop : Scf.Loop 32 :=
  let c0_i32_124 : BitVec 32 := 0#32
  let c2_i32_125 : BitVec 32 := 2#32
  let v366 : BitVec 32 := Scalar.addi c0_i32_124 c2_i32_125
  let c1_i32_126 : BitVec 32 := 1#32
  ⟨c0_i32_124, v366, c1_i32_126⟩
def k0_mult2 (k0_t2 : Fin k0_t2_loop.trips) : BitVec 32 :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  v381
def k0_off9 (k0_t2 : Fin k0_t2_loop.trips) : Fin 2 → Nat :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  let v382 : BitVec 32 := v381
  let v383 : Index := Scalar.indexCast v382
  let c0_149 : Index := 0#32
  ![v383.toNat, 0]
def k0_off10 (k0_t2 : Fin k0_t2_loop.trips) : Fin 2 → Nat :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  let v382 : BitVec 32 := v381
  let v390 : Index := Scalar.indexCast v382
  let c0_152 : Index := 0#32
  ![v390.toNat, 0]
def k0_off11 (k0_t2 : Fin k0_t2_loop.trips) : Fin 2 → Nat :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  let v382 : BitVec 32 := v381
  let v442 : Index := Scalar.indexCast v382
  let c128 : Index := 128#32
  ![v442.toNat, 128]
def k0_off12 (k0_t2 : Fin k0_t2_loop.trips) : Fin 2 → Nat :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  let v382 : BitVec 32 := v381
  let v449 : Index := Scalar.indexCast v382
  let c256 : Index := 256#32
  ![v449.toNat, 256]
def k0_off13 (k0_t2 : Fin k0_t2_loop.trips) : Fin 2 → Nat :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  let v382 : BitVec 32 := v381
  let v501 : Index := Scalar.indexCast v382
  let c256_185 : Index := 256#32
  ![v501.toNat, 256]
def k0_off14 (k0_t2 : Fin k0_t2_loop.trips) : Fin 2 → Nat :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  let v382 : BitVec 32 := v381
  let v508 : Index := Scalar.indexCast v382
  let c512 : Index := 512#32
  ![v508.toNat, 512]
def k0_off15 (k0_t2 : Fin k0_t2_loop.trips) : Fin 2 → Nat :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  let v382 : BitVec 32 := v381
  let v560 : Index := Scalar.indexCast v382
  let c384 : Index := 384#32
  ![v560.toNat, 384]
def k0_off16 (k0_t2 : Fin k0_t2_loop.trips) : Fin 2 → Nat :=
  let c1_i32_148 : BitVec 32 := 1#32
  let c0_i32_124 : BitVec 32 := 0#32
  let c1_i32_126 : BitVec 32 := 1#32
  let arg11 : BitVec 32 := Scf.iv c0_i32_124 c1_i32_126 k0_t2
  let v380 : BitVec 32 := Scalar.subi c1_i32_148 arg11
  let c128_i32 : BitVec 32 := 128#32
  let v381 : BitVec 32 := Scalar.muli v380 c128_i32
  let v382 : BitVec 32 := v381
  let v567 : Index := Scalar.indexCast v382
  let c768 : Index := 768#32
  ![v567.toNat, 768]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.addi c6_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c7_i32 : BitVec 32 := 7#32
  let v1 : BitVec 32 := Scalar.addi c7_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let v1 : BitVec 32 := Scalar.addi c5_i32 arg1
  let c0_i32_0 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .vmem S4x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RetStateIdeal.lean ====
variable {F : FTy → Type} [FloatOps F] [Named F]
def κ : String → Option EReal := fun
  | "key_scale" => some (((Real.sqrt 128)⁻¹ : ℝ) : EReal)
  | _ => none
-- ==== RetStateRefIdeal.lean ====
abbrev S16384x6144 : Shape := ⟨2, ![16384, 6144]⟩
abbrev S2x4 : Shape := ⟨2, ![2, 4]⟩
abbrev S4x256 : Shape := ⟨2, ![4, 256]⟩
abbrev S8192x6144 : Shape := ⟨2, ![8192, 6144]⟩
abbrev S32x256x6144 : Shape := ⟨3, ![32, 256, 6144]⟩
abbrev S32x256x512 : Shape := ⟨3, ![32, 256, 512]⟩
abbrev S32x256x4x128 : Shape := ⟨4, ![32, 256, 4, 128]⟩
abbrev S_ : Shape := ⟨0, ![]⟩
abbrev S32x256x1024 : Shape := ⟨3, ![32, 256, 1024]⟩
abbrev S32x256x4x256 : Shape := ⟨4, ![32, 256, 4, 256]⟩
abbrev S32x4x128x256 : Shape := ⟨4, ![32, 4, 128, 256]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S128x4 : Shape := ⟨2, ![128, 4]⟩
abbrev S32x128x4x128 : Shape := ⟨4, ![32, 128, 4, 128]⟩
abbrev S32x128x4x256 : Shape := ⟨4, ![32, 128, 4, 256]⟩
abbrev S32x4x128x128 : Shape := ⟨4, ![32, 4, 128, 128]⟩
abbrev S1x4x128x128 : Shape := ⟨4, ![1, 4, 128, 128]⟩
abbrev S32x4x256x128 : Shape := ⟨4, ![32, 4, 256, 128]⟩
abbrev S1x128x4x1 : Shape := ⟨4, ![1, 128, 4, 1]⟩
abbrev S1x4x1x1 : Shape := ⟨4, ![1, 4, 1, 1]⟩
abbrev S32x256x4 : Shape := ⟨3, ![32, 256, 4]⟩
abbrev S32x256x4x1 : Shape := ⟨4, ![32, 256, 4, 1]⟩
abbrev S1x1x4x256 : Shape := ⟨4, ![1, 1, 4, 256]⟩
abbrev S8192x1024 : Shape := ⟨2, ![8192, 1024]⟩
abbrev S32x1x4x128x256 : Shape := ⟨5, ![32, 1, 4, 128, 256]⟩
abbrev S32x2x4x128x256 : Shape := ⟨5, ![32, 2, 4, 128, 256]⟩

abbrev nBuf : Space → Nat
  | .hbm => 269
  | .vmem => 0
  | .smem => 0
  | _ => 0

abbrev hbmTy0_0 (i : Nat) : BufTy := match i % 128 with
  | 0 => ⟨S16384x6144, .f32⟩
  | 1 => ⟨S2x4, .f32⟩
  | 2 => ⟨S4x256, .f32⟩
  | 3 => ⟨S8192x6144, .f32⟩
  | 4 => ⟨S32x256x6144, .f32⟩
  | 5 => ⟨S32x256x512, .f32⟩
  | 6 => ⟨S32x256x4x128, .f32⟩
  | 7 => ⟨S32x256x512, .f32⟩
  | 8 => ⟨S32x256x4x128, .f32⟩
  | 9 => ⟨S_, .f32⟩
  | 10 => ⟨S_, .f32⟩
  | 11 => ⟨S32x256x4x128, .f32⟩
  | 12 => ⟨S32x256x4x128, .f32⟩
  | 13 => ⟨S32x256x1024, .f32⟩
  | 14 => ⟨S32x256x4x256, .f32⟩
  | 15 => ⟨S32x256x1024, .f32⟩
  | 16 => ⟨S2x4, .f32⟩
  | 17 => ⟨S_, .f32⟩
  | 18 => ⟨S2x4, .f32⟩
  | 19 => ⟨S2x4, .f32⟩
  | 20 => ⟨S2x4, .f32⟩
  | 21 => ⟨S2x4, .f32⟩
  | 22 => ⟨S2x4, .i1⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S2x4, .f32⟩
  | 29 => ⟨S2x4, .f32⟩
  | 30 => ⟨S2x4, .f32⟩
  | 31 => ⟨S2x4, .f32⟩
  | 32 => ⟨S_, .f32⟩
  | 33 => ⟨S32x4x128x256, .f32⟩
  | 34 => ⟨S1x4, .f32⟩
  | 35 => ⟨S4, .f32⟩
  | 36 => ⟨S128, .f32⟩
  | 37 => ⟨S128x1, .f32⟩
  | 38 => ⟨S1x128, .f32⟩
  | 39 => ⟨S128x128, .f32⟩
  | 40 => ⟨S128x128, .f32⟩
  | 41 => ⟨S128x128, .f32⟩
  | 42 => ⟨S_, .f32⟩
  | 43 => ⟨S128x128, .f32⟩
  | 44 => ⟨S128x128, .i1⟩
  | 45 => ⟨S4x1x1, .f32⟩
  | 46 => ⟨S_, .f32⟩
  | 47 => ⟨S128x128, .f32⟩
  | 48 => ⟨S128x128, .f32⟩
  | 49 => ⟨S1x128x128, .f32⟩
  | 50 => ⟨S4x128x128, .f32⟩
  | 51 => ⟨S4x128x128, .f32⟩
  | 52 => ⟨S4x128x128, .f32⟩
  | 53 => ⟨S4x128x128, .f32⟩
  | 54 => ⟨S_, .f32⟩
  | 55 => ⟨S_, .f32⟩
  | 56 => ⟨S4x128x128, .i1⟩
  | 57 => ⟨S4x128x128, .f32⟩
  | 58 => ⟨S4x128x128, .f32⟩
  | 59 => ⟨S1x4, .f32⟩
  | 60 => ⟨S128x1, .f32⟩
  | 61 => ⟨S_, .f32⟩
  | 62 => ⟨S128x1, .f32⟩
  | 63 => ⟨S128x1, .f32⟩
  | 64 => ⟨S128x4, .f32⟩
  | 65 => ⟨S128x4, .f32⟩
  | 66 => ⟨S128x4, .f32⟩
  | 67 => ⟨S128x4, .f32⟩
  | 68 => ⟨S1x4, .f32⟩
  | 69 => ⟨S128x1, .f32⟩
  | 70 => ⟨S_, .f32⟩
  | 71 => ⟨S128x1, .f32⟩
  | 72 => ⟨S128x1, .f32⟩
  | 73 => ⟨S128x4, .f32⟩
  | 74 => ⟨S128x4, .f32⟩
  | 75 => ⟨S128x4, .f32⟩
  | 76 => ⟨S128x4, .f32⟩
  | 77 => ⟨S_, .f32⟩
  | 78 => ⟨S4, .f32⟩
  | 79 => ⟨S4, .f32⟩
  | 80 => ⟨S4, .f32⟩
  | 81 => ⟨S32x128x4x128, .f32⟩
  | 82 => ⟨S32x128x4x128, .f32⟩
  | 83 => ⟨S32x128x4x256, .f32⟩
  | 84 => ⟨S32x4x128x128, .f32⟩
  | 85 => ⟨S1x4x128x128, .f32⟩
  | 86 => ⟨S32x4x128x128, .f32⟩
  | 87 => ⟨S32x4x128x128, .f32⟩
  | 88 => ⟨S32x4x256x128, .f32⟩
  | 89 => ⟨S32x128x4x256, .f32⟩
  | 90 => ⟨S32x4x256x128, .f32⟩
  | 91 => ⟨S32x128x4x256, .f32⟩
  | 92 => ⟨S1x128x4x1, .f32⟩
  | 93 => ⟨S32x128x4x256, .f32⟩
  | 94 => ⟨S32x128x4x256, .f32⟩
  | 95 => ⟨S1x4x1x1, .f32⟩
  | 96 => ⟨S32x4x128x256, .f32⟩
  | 97 => ⟨S32x4x128x256, .f32⟩
  | 98 => ⟨S1x128x4x1, .f32⟩
  | 99 => ⟨S32x128x4x128, .f32⟩
  | 100 => ⟨S32x128x4x128, .f32⟩
  | 101 => ⟨S32x4x128x256, .f32⟩
  | 102 => ⟨S32x4x128x256, .f32⟩
  | 103 => ⟨S32x128x4x256, .f32⟩
  | 104 => ⟨S32x128x4x128, .f32⟩
  | 105 => ⟨S32x128x4x128, .f32⟩
  | 106 => ⟨S32x128x4x256, .f32⟩
  | 107 => ⟨S32x4x128x128, .f32⟩
  | 108 => ⟨S1x4x128x128, .f32⟩
  | 109 => ⟨S32x4x128x128, .f32⟩
  | 110 => ⟨S32x4x128x128, .f32⟩
  | 111 => ⟨S32x4x256x128, .f32⟩
  | 112 => ⟨S32x128x4x256, .f32⟩
  | 113 => ⟨S32x4x256x128, .f32⟩
  | 114 => ⟨S32x128x4x256, .f32⟩
  | 115 => ⟨S1x128x4x1, .f32⟩
  | 116 => ⟨S32x128x4x256, .f32⟩
  | 117 => ⟨S32x128x4x256, .f32⟩
  | 118 => ⟨S1x4x1x1, .f32⟩
  | 119 => ⟨S32x4x128x256, .f32⟩
  | 120 => ⟨S32x4x128x256, .f32⟩
  | 121 => ⟨S1x128x4x1, .f32⟩
  | 122 => ⟨S32x128x4x128, .f32⟩
  | 123 => ⟨S32x128x4x128, .f32⟩
  | 124 => ⟨S32x4x128x256, .f32⟩
  | 125 => ⟨S32x4x128x256, .f32⟩
  | 126 => ⟨S32x128x4x256, .f32⟩
  | 127 => ⟨S32x256x4x256, .f32⟩
  | _ => ⟨S16384x6144, .f32⟩

abbrev hbmTy0_1 (i : Nat) : BufTy := match i % 128 with
  | 0 => ⟨S32x256x4x128, .f32⟩
  | 1 => ⟨S32x256x4x128, .f32⟩
  | 2 => ⟨S32x256x4x256, .f32⟩
  | 3 => ⟨S1x4, .f32⟩
  | 4 => ⟨S4, .f32⟩
  | 5 => ⟨S128, .f32⟩
  | 6 => ⟨S128x1, .f32⟩
  | 7 => ⟨S1x128, .f32⟩
  | 8 => ⟨S128x128, .f32⟩
  | 9 => ⟨S128x128, .f32⟩
  | 10 => ⟨S128x128, .f32⟩
  | 11 => ⟨S_, .f32⟩
  | 12 => ⟨S128x128, .f32⟩
  | 13 => ⟨S128x128, .i1⟩
  | 14 => ⟨S4x1x1, .f32⟩
  | 15 => ⟨S_, .f32⟩
  | 16 => ⟨S128x128, .f32⟩
  | 17 => ⟨S128x128, .f32⟩
  | 18 => ⟨S1x128x128, .f32⟩
  | 19 => ⟨S4x128x128, .f32⟩
  | 20 => ⟨S4x128x128, .f32⟩
  | 21 => ⟨S4x128x128, .f32⟩
  | 22 => ⟨S4x128x128, .f32⟩
  | 23 => ⟨S_, .f32⟩
  | 24 => ⟨S_, .f32⟩
  | 25 => ⟨S4x128x128, .i1⟩
  | 26 => ⟨S4x128x128, .f32⟩
  | 27 => ⟨S4x128x128, .f32⟩
  | 28 => ⟨S1x4, .f32⟩
  | 29 => ⟨S128x1, .f32⟩
  | 30 => ⟨S_, .f32⟩
  | 31 => ⟨S128x1, .f32⟩
  | 32 => ⟨S128x1, .f32⟩
  | 33 => ⟨S128x4, .f32⟩
  | 34 => ⟨S128x4, .f32⟩
  | 35 => ⟨S128x4, .f32⟩
  | 36 => ⟨S128x4, .f32⟩
  | 37 => ⟨S1x4, .f32⟩
  | 38 => ⟨S128x1, .f32⟩
  | 39 => ⟨S_, .f32⟩
  | 40 => ⟨S128x1, .f32⟩
  | 41 => ⟨S128x1, .f32⟩
  | 42 => ⟨S128x4, .f32⟩
  | 43 => ⟨S128x4, .f32⟩
  | 44 => ⟨S128x4, .f32⟩
  | 45 => ⟨S128x4, .f32⟩
  | 46 => ⟨S_, .f32⟩
  | 47 => ⟨S4, .f32⟩
  | 48 => ⟨S4, .f32⟩
  | 49 => ⟨S4, .f32⟩
  | 50 => ⟨S32x128x4x128, .f32⟩
  | 51 => ⟨S32x128x4x128, .f32⟩
  | 52 => ⟨S32x128x4x256, .f32⟩
  | 53 => ⟨S32x4x128x128, .f32⟩
  | 54 => ⟨S1x4x128x128, .f32⟩
  | 55 => ⟨S32x4x128x128, .f32⟩
  | 56 => ⟨S32x4x128x128, .f32⟩
  | 57 => ⟨S32x4x256x128, .f32⟩
  | 58 => ⟨S32x128x4x256, .f32⟩
  | 59 => ⟨S32x4x256x128, .f32⟩
  | 60 => ⟨S32x128x4x256, .f32⟩
  | 61 => ⟨S1x128x4x1, .f32⟩
  | 62 => ⟨S32x128x4x256, .f32⟩
  | 63 => ⟨S32x128x4x256, .f32⟩
  | 64 => ⟨S1x4x1x1, .f32⟩
  | 65 => ⟨S32x4x128x256, .f32⟩
  | 66 => ⟨S32x4x128x256, .f32⟩
  | 67 => ⟨S1x128x4x1, .f32⟩
  | 68 => ⟨S32x128x4x128, .f32⟩
  | 69 => ⟨S32x128x4x128, .f32⟩
  | 70 => ⟨S32x4x128x256, .f32⟩
  | 71 => ⟨S32x4x128x256, .f32⟩
  | 72 => ⟨S32x128x4x256, .f32⟩
  | 73 => ⟨S32x128x4x128, .f32⟩
  | 74 => ⟨S32x128x4x128, .f32⟩
  | 75 => ⟨S32x128x4x256, .f32⟩
  | 76 => ⟨S32x4x128x128, .f32⟩
  | 77 => ⟨S1x4x128x128, .f32⟩
  | 78 => ⟨S32x4x128x128, .f32⟩
  | 79 => ⟨S32x4x128x128, .f32⟩
  | 80 => ⟨S32x4x256x128, .f32⟩
  | 81 => ⟨S32x128x4x256, .f32⟩
  | 82 => ⟨S32x4x256x128, .f32⟩
  | 83 => ⟨S32x128x4x256, .f32⟩
  | 84 => ⟨S1x128x4x1, .f32⟩
  | 85 => ⟨S32x128x4x256, .f32⟩
  | 86 => ⟨S32x128x4x256, .f32⟩
  | 87 => ⟨S1x4x1x1, .f32⟩
  | 88 => ⟨S32x4x128x256, .f32⟩
  | 89 => ⟨S32x4x128x256, .f32⟩
  | 90 => ⟨S1x128x4x1, .f32⟩
  | 91 => ⟨S32x128x4x128, .f32⟩
  | 92 => ⟨S32x128x4x128, .f32⟩
  | 93 => ⟨S32x4x128x256, .f32⟩
  | 94 => ⟨S32x4x128x256, .f32⟩
  | 95 => ⟨S32x128x4x256, .f32⟩
  | 96 => ⟨S32x256x4x256, .f32⟩
  | 97 => ⟨S32x256x4x256, .f32⟩
  | 98 => ⟨S32x256x4x256, .f32⟩
  | 99 => ⟨S_, .f32⟩
  | 100 => ⟨S32x256x4, .f32⟩
  | 101 => ⟨S32x256x4x1, .f32⟩
  | 102 => ⟨S_, .f32⟩
  | 103 => ⟨S32x256x4x1, .f32⟩
  | 104 => ⟨S32x256x4x1, .f32⟩
  | 105 => ⟨S32x256x4x256, .f32⟩
  | 106 => ⟨S32x256x4x256, .f32⟩
  | 107 => ⟨S32x256x4x256, .f32⟩
  | 108 => ⟨S_, .f32⟩
  | 109 => ⟨S32x256x4, .f32⟩
  | 110 => ⟨S32x256x4x1, .f32⟩
  | 111 => ⟨S_, .f32⟩
  | 112 => ⟨S32x256x4x1, .f32⟩
  | 113 => ⟨S32x256x4x1, .f32⟩
  | 114 => ⟨S32x256x4x256, .f32⟩
  | 115 => ⟨S32x256x4x256, .f32⟩
  | 116 => ⟨S_, .f32⟩
  | 117 => ⟨S32x256x4x1, .f32⟩
  | 118 => ⟨S32x256x4x1, .f32⟩
  | 119 => ⟨S32x256x4x1, .f32⟩
  | 120 => ⟨S32x256x4x256, .f32⟩
  | 121 => ⟨S32x256x4x256, .f32⟩
  | 122 => ⟨S1x1x4x256, .f32⟩
  | 123 => ⟨S32x256x4x256, .f32⟩
  | 124 => ⟨S32x256x4x256, .f32⟩
  | 125 => ⟨S32x256x1024, .f32⟩
  | 126 => ⟨S32x256x1024, .f32⟩
  | 127 => ⟨S_, .f32⟩
  | _ => ⟨S16384x6144, .f32⟩

abbrev hbmTy0_2 (i : Nat) : BufTy := match i % 128 with
  | 0 => ⟨S32x256x1024, .f32⟩
  | 1 => ⟨S32x256x1024, .f32⟩
  | 2 => ⟨S_, .f32⟩
  | 3 => ⟨S32x256x1024, .f32⟩
  | 4 => ⟨S32x256x1024, .f32⟩
  | 5 => ⟨S32x256x1024, .f32⟩
  | 6 => ⟨S32x256x4x256, .f32⟩
  | 7 => ⟨S32x256x4x256, .f32⟩
  | 8 => ⟨S8192x1024, .f32⟩
  | 9 => ⟨S8192x1024, .bf16⟩
  | 10 => ⟨S32x1x4x128x256, .f32⟩
  | 11 => ⟨S32x1x4x128x256, .f32⟩
  | 12 => ⟨S32x2x4x128x256, .f32⟩
  | _ => ⟨S16384x6144, .f32⟩

abbrev hbmTy (i : Nat) : BufTy := match i / 128 with
  | 0 => hbmTy0_0 i
  | 1 => hbmTy0_1 i
  | 2 => hbmTy0_2 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_7 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_8 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_9 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_10 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_11 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_12 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_cst_13 : Ref sig .tc := ⟨.hbm, 227, rfl⟩
abbrev main_v189 : Ref sig .tc := ⟨.hbm, 228, rfl⟩
abbrev main_v190 : Ref sig .tc := ⟨.hbm, 229, rfl⟩
abbrev main_cst_14 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_cst_15 : Ref sig .tc := ⟨.hbm, 236, rfl⟩
abbrev main_v196 : Ref sig .tc := ⟨.hbm, 237, rfl⟩
abbrev main_v197 : Ref sig .tc := ⟨.hbm, 238, rfl⟩
abbrev main_cst_16 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_cst_17 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_call7_v0 : Ref sig .tc := ⟨.hbm, 253, rfl⟩
abbrev main_call7_v1 : Ref sig .tc := ⟨.hbm, 254, rfl⟩
abbrev main_call7_cst : Ref sig .tc := ⟨.hbm, 255, rfl⟩
abbrev main_call7_v2 : Ref sig .tc := ⟨.hbm, 256, rfl⟩
abbrev main_call7_v3 : Ref sig .tc := ⟨.hbm, 257, rfl⟩
abbrev main_call7_cst_0 : Ref sig .tc := ⟨.hbm, 258, rfl⟩
abbrev main_call7_v4 : Ref sig .tc := ⟨.hbm, 259, rfl⟩
abbrev main_call7_v5 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩

abbrev nD : Nat := 1
abbrev τ : Topo := Topo.v7x

variable {F : FTy → Type} [FloatOps F]
-- ==== Proof.AttnLat.Stages.lean ====
/- The reference of the latent attention, in stages. -/
module

public import proofs.«01_k».proof.Proof.Gen.AttnLatRefIdeal.Run
public import Idealize.ShloMosaic.Lib.Pointwise

@[expose] public section

set_option maxRecDepth 16384

noncomputable section

namespace Cert.AttnLatRefIdeal.Value

open Cert.AttnLatRefIdeal Cert.AttnLatRefIdeal.Gen Idealize.ShloMosaic Idealize.ShloMosaic.TcCoe Idealize.SL.Sem

/-- The queries of the latent tokens: sample, position, head, half, lane. -/
def queries (x0 : FVec Ideal S16384x6144 .f32) :
    FVec Ideal S2x4096x8x2x64 .f32 :=
  shapeCast S2x4096x8x2x64 (extractStridedSlice S2x4096x1024 ![0, 0, 0] (shapeCast S2x4096x6144 (extractStridedSlice S8192x6144 ![8192, 0] x0 slices_S16384x6144_S8192x6144_8192_0) shapeCasts_S8192x6144_S2x4096x6144) slices_S2x4096x6144_S2x4096x1024_0_0_0) shapeCasts_S2x4096x1024_S2x4096x8x2x64

/-- The keys: the cached ones, then those of the latent tokens. -/
def keys (x0 : FVec Ideal S16384x6144 .f32) (x3 : FVec Ideal S2x8x256x128 .f32) :
    FVec Ideal S2x4352x8x2x64 .f32 :=
  concatenate S2x4352x8x2x64 1 [⟨S2x256x8x2x64, (shapeCast S2x256x8x2x64 (transpose S2x256x8x128 [0, 2, 1, 3] x3 transposes_S2x8x256x128_S2x256x8x128_0_2_1_3) shapeCasts_S2x256x8x128_S2x256x8x2x64)⟩, ⟨S2x4096x8x2x64, (shapeCast S2x4096x8x2x64 (extractStridedSlice S2x4096x1024 ![0, 0, 1024] (shapeCast S2x4096x6144 (extractStridedSlice S8192x6144 ![8192, 0] x0 slices_S16384x6144_S8192x6144_8192_0) shapeCasts_S8192x6144_S2x4096x6144) slices_S2x4096x6144_S2x4096x1024_0_0_1024) shapeCasts_S2x4096x1024_S2x4096x8x2x64)⟩] concatenates_S2x256x8x2x64_S2x4096x8x2x64_S2x4352x8x2x64_d1

/-- The values: the cached ones, then those of the latent tokens. -/
def vals (x0 : FVec Ideal S16384x6144 .f32) (x4 : FVec Ideal S2x8x256x128 .f32) :
    FVec Ideal S2x4352x8x128 .f32 :=
  concatenate S2x4352x8x128 1 [⟨S2x256x8x128, (transpose S2x256x8x128 [0, 2, 1, 3] x4 transposes_S2x8x256x128_S2x256x8x128_0_2_1_3)⟩, ⟨S2x4096x8x128, (shapeCast S2x4096x8x128 (extractStridedSlice S2x4096x1024 ![0, 0, 2048] (shapeCast S2x4096x6144 (extractStridedSlice S8192x6144 ![8192, 0] x0 slices_S16384x6144_S8192x6144_8192_0) shapeCasts_S8192x6144_S2x4096x6144) slices_S2x4096x6144_S2x4096x1024_0_0_2048) shapeCasts_S2x4096x1024_S2x4096x8x128)⟩] concatenates_S2x256x8x128_S2x4096x8x128_S2x4352x8x128_d1

/-- The weight of the second softmax. -/
def lambda (x1 : FVec Ideal S4x64 .f32) :
    FVec Ideal S_ .f32 :=
  addf (subf (Host.exp (Host.reduceAdd (mulf (shapeCast S64 (extractStridedSlice S1x64 ![0, 0] x1 slices_S4x64_S1x64_0_0) shapeCasts_S1x64_S64) (shapeCast S64 (extractStridedSlice S1x64 ![1, 0] x1 slices_S4x64_S1x64_1_0) shapeCasts_S1x64_S64)) (constant S_ .f32 0x00000000#32) reducesTo_S64_S_d0 h_S_)) (Host.exp (Host.reduceAdd (mulf (shapeCast S64 (extractStridedSlice S1x64 ![2, 0] x1 slices_S4x64_S1x64_2_0) shapeCasts_S1x64_S64) (shapeCast S64 (extractStridedSlice S1x64 ![3, 0] x1 slices_S4x64_S1x64_3_0) shapeCasts_S1x64_S64)) (constant S_ .f32 0x00000000#32) reducesTo_S64_S_d0 h_S_))) (constant S_ .f32 0x3E4CCCCD#32)

/-- The scaled scores. -/
def scores (queries_ : FVec Ideal S2x4096x8x2x64 .f32) (keys_ : FVec Ideal S2x4352x8x2x64 .f32) :
    FVec Ideal S2x8x2x4096x4352 .f32 :=
  mulf (Host.dotGeneral dot_S2x4096x8x2x64_S2x4352x8x2x64_S2x8x2x4096x4352_4_4_1_1_023_023 none queries_ keys_) (broadcastInDim S2x8x2x4096x4352 ![] bcast_S_S2x8x2x4096x4352 (constant S_ .f32 0x3E000000#32))

/-- The largest score of each row. -/
def rowMax (scores_ : FVec Ideal S2x8x2x4096x4352 .f32) :
    FVec Ideal S2x8x2x4096 .f32 :=
  maximumf (broadcastInDim S2x8x2x4096 ![] bcast_S_S2x8x2x4096 (constant S_ .f32 0xFF800000#32)) (Host.reduce FloatOps.maximumf scores_ (constant S_ .f32 0xFF800000#32) reducesTo_S2x8x2x4096x4352_S2x8x2x4096_d4 h_S_)

/-- The exponentials of the scores below the largest. -/
def exps (scores_ : FVec Ideal S2x8x2x4096x4352 .f32) (rowMax_ : FVec Ideal S2x8x2x4096 .f32) :
    FVec Ideal S2x8x2x4096x4352 .f32 :=
  Host.exp (subf scores_ (broadcastInDim S2x8x2x4096x4352 ![0, 1, 2, 3, 4] bcast_S2x8x2x4096x1_S2x8x2x4096x4352_0_1_2_3_4 (broadcastInDim S2x8x2x4096x1 ![0, 1, 2, 3] bcast_S2x8x2x4096_S2x8x2x4096x1_0_1_2_3 rowMax_)))

/-- Their sums over the keys. -/
def sums (exps_ : FVec Ideal S2x8x2x4096x4352 .f32) :
    FVec Ideal S2x8x2x4096 .f32 :=
  Host.reduceAdd exps_ (constant S_ .f32 0x00000000#32) reducesTo_S2x8x2x4096x4352_S2x8x2x4096_d4 h_S_

/-- The softmax of the scores over the keys. -/
def probs (exps_ : FVec Ideal S2x8x2x4096x4352 .f32) (sums_ : FVec Ideal S2x8x2x4096 .f32) :
    FVec Ideal S2x8x2x4096x4352 .f32 :=
  Host.divf exps_ (broadcastInDim S2x8x2x4096x4352 ![0, 1, 2, 3, 4] bcast_S2x8x2x4096x1_S2x8x2x4096x4352_0_1_2_3_4 (broadcastInDim S2x8x2x4096x1 ![0, 1, 2, 3] bcast_S2x8x2x4096_S2x8x2x4096x1_0_1_2_3 sums_))

/-- The difference of the two softmaxes, applied to the values. -/
def heads (vals_ : FVec Ideal S2x4352x8x128 .f32) (lambda_ : FVec Ideal S_ .f32) (probs_ : FVec Ideal S2x8x2x4096x4352 .f32) :
    FVec Ideal S2x4096x8x128 .f32 :=
  transpose S2x4096x8x128 [0, 3, 1, 2] (Host.dotGeneral dot_S2x4352x8x128_S2x8x4096x4352_S2x8x128x4096_1_3_3_2_02_01 none vals_ (subf (shapeCast S2x8x4096x4352 (extractStridedSlice S2x8x1x4096x4352 ![0, 0, 0, 0, 0] probs_ slices_S2x8x2x4096x4352_S2x8x1x4096x4352_0_0_0_0_0) shapeCasts_S2x8x1x4096x4352_S2x8x4096x4352) (mulf (broadcastInDim S2x8x4096x4352 ![] bcast_S_S2x8x4096x4352 lambda_) (shapeCast S2x8x4096x4352 (extractStridedSlice S2x8x1x4096x4352 ![0, 0, 1, 0, 0] probs_ slices_S2x8x2x4096x4352_S2x8x1x4096x4352_0_0_1_0_0) shapeCasts_S2x8x1x4096x4352_S2x8x4096x4352)))) transposes_S2x8x128x4096_S2x4096x8x128_0_3_1_2

/-- The normalised heads, side by side. -/
def result (x2 : FVec Ideal S8x128 .f32) (heads_ : FVec Ideal S2x4096x8x128 .f32) :
    FVec Ideal S8192x1024 .bf16 :=
  truncf .bf16 (shapeCast S8192x1024 (mulf (mulf (mulf heads_ (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf heads_ heads_) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x3727C5AC#32)))))) (broadcastInDim S2x4096x8x128 ![0, 1, 2, 3] bcast_S1x1x8x128_S2x4096x8x128_0_1_2_3 (broadcastInDim S1x1x8x128 ![2, 3] bcast_S8x128_S1x1x8x128_2_3 x2))) (broadcastInDim S2x4096x8x128 ![] bcast_S_S2x4096x8x128 (constant S_ .f32 0x3F4CCCCD#32))) shapeCasts_S2x4096x8x128_S8192x1024) bitsLt_bf16_f32

/-- The reference's result as a function of its arguments. -/
def REF (x0 : FVec Ideal S16384x6144 .f32) (x1 : FVec Ideal S4x64 .f32) (x2 : FVec Ideal S8x128 .f32) (x3 : FVec Ideal S2x8x256x128 .f32) (x4 : FVec Ideal S2x8x256x128 .f32) :
    FVec Ideal S8192x1024 .bf16 :=
  result x2 (heads (vals x0 x4) (lambda x1) (probs (exps (scores (queries x0) (keys x0 x3)) (rowMax (scores (queries x0) (keys x0 x3)))) (sums (exps (scores (queries x0) (keys x0 x3)) (rowMax (scores (queries x0) (keys x0 x3)))))))

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68) =
        REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.AttnLatRefIdeal.Value

end
-- ==== Proof.Sums.lean ====
/- Facts about sums and maxima of extended reals that the calls share. -/
module

public import Idealize.ShloMosaic.Lib.Pointwise
public import Idealize.ShloMosaic.Lib.IdealHost
public import Idealize.ShloMosaic.PureOps.Reduce

@[expose] public section

noncomputable section

namespace Cert.Sums

open Idealize.ShloMosaic

/-- A finite factor that is not negative may be taken out of a sum, whatever the summands are. -/
theorem sum_mul_of_finite {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The word of 1/8. -/
theorem eighth : Ideal.ofBits .f32 0x3E000000#32 = (((1 : ℝ) / 8 : ℝ) : EReal) := by
  simp [Ideal.ofBits, Ideal.ieee, -EReal.coe_mul]; norm_num

theorem eighth_nonneg : 0 ≤ Ideal.ofBits .f32 0x3E000000#32 := by
  rw [eighth]; exact EReal.coe_nonneg.2 (by norm_num)

theorem eighth_ne_top : Ideal.ofBits .f32 0x3E000000#32 ≠ ⊤ := by
  rw [eighth]; exact EReal.coe_ne_top _

/-- The start value of a maximum is already below it. -/
theorem max_fold {n : ℕ} (c : EReal) (f : Fin n → EReal) :
    max c (Finset.univ.fold max c f) = Finset.univ.fold max c f :=
  max_eq_right ((Finset.le_fold_max c).2 (Or.inl le_rfl))

/-- The maximum of an array of rank 5 over its last axis. -/
theorem hostMax_last5 {n0 n1 n2 n3 n4 : ℕ} {u : Shape} (x : FVec Ideal (⟨5, ![n0, n1, n2, n3, n4]⟩ : Shape) .f32)
    (v : FVec Ideal u .f32) (c : EReal) (hc : ∀ i, v i = c)
    (h : (⟨5, ![n0, n1, n2, n3, n4]⟩ : Shape).ReducesTo [4] ⟨4, ![n0, n1, n2, n3]⟩) (hu : 0 < u.numel)
    (a : Fin n0) (b : Fin n1) (d : Fin n2) (e : Fin n3) :
    Host.reduce (FloatOps.maximumf (F := Ideal) (φ := .f32)) x v h hu (ix4 a b d e)
      = Finset.univ.fold max c fun k : Fin n4 => x (ix5 a b d e k) := by
  pointwise
  rw [hc]

/-- The maximum of two arrays, entry by entry. -/
theorem maximumf_at {s : Shape} (x y : FVec Ideal s .f32) (i : s.Idx) : maximumf x y i = max (x i) (y i) := rfl

/-- The largest entry of a row of an array of rank 5, as the host writes it: a maximum that starts at a constant and
    is compared with it again. -/
theorem rowMax_last5 {n0 n1 n2 n3 n4 : ℕ} {u : Shape} (x : FVec Ideal (⟨5, ![n0, n1, n2, n3, n4]⟩ : Shape) .f32)
    (w : FVec Ideal (⟨4, ![n0, n1, n2, n3]⟩ : Shape) .f32)
    (v : FVec Ideal u .f32) (c : EReal) (hc : ∀ i, v i = c) (hw : ∀ i, w i = c)
    (h : (⟨5, ![n0, n1, n2, n3, n4]⟩ : Shape).ReducesTo [4] ⟨4, ![n0, n1, n2, n3]⟩) (hu : 0 < u.numel)
    (a : Fin n0) (b : Fin n1) (d : Fin n2) (e : Fin n3) :
    maximumf w (Host.reduce (FloatOps.maximumf (F := Ideal) (φ := .f32)) x v h hu) (ix4 a b d e)
      = Finset.univ.fold max c fun k : Fin n4 => x (ix5 a b d e k) := by
  rw [maximumf_at, hw, hostMax_last5 x v c hc h hu a b d e, max_fold]

/-- A sum over the 128 lanes of a head, its halves apart. -/
theorem sum_lanes (f : Fin 128 → EReal) :
    ∑ l : Fin 128, f l = (∑ j : Fin 64, f ⟨j.val, by omega⟩) + ∑ j : Fin 64, f ⟨64 + j.val, by omega⟩ :=
  Fin.sum_univ_add (a := 64) (b := 64) f

/-- A sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Extended reals that are all finite are reals. -/
theorem exists_real {ι : Type} (f : ι → EReal) (hf : ∀ i, f i ≠ ⊤ ∧ f i ≠ ⊥) : ∃ g : ι → ℝ, f = fun i => (g i : EReal) :=
  ⟨fun i => (f i).toReal, funext fun i => (EReal.coe_toReal (hf i).1 (hf i).2).symm⟩

/-- Weights folded ahead of a product, for finite entries: `(a wᵀ) h` is `a (wᵀ h)`. The weights `a wᵀ` are the sum of
    three products, of `a` and `w` themselves and of what is left of them when they are subtracted from themselves. -/
theorem fold_weights {ι κ : Type} [Fintype ι] [Fintype κ] (a : κ → EReal) (w : ι → κ → EReal) (h : ι → EReal)
    (ha : ∀ k, a k ≠ ⊤ ∧ a k ≠ ⊥) (hw : ∀ d k, w d k ≠ ⊤ ∧ w d k ≠ ⊥) (hh : ∀ d, h d ≠ ⊤ ∧ h d ≠ ⊥) :
    ∑ d, (((∑ k, a k * w d k) + ∑ k, a k * (w d k - w d k)) + ∑ k, (a k - a k) * w d k) * h d
      = ∑ k, a k * ∑ d, h d * w d k := by
  obtain ⟨a, rfl⟩ := exists_real a ha
  obtain ⟨h, rfl⟩ := exists_real h hh
  obtain ⟨u, hu⟩ := exists_real (fun p : ι × κ => w p.1 p.2) fun p => hw p.1 p.2
  have e : ∀ d k, w d k = (u (d, k) : EReal) := fun d k => congrFun hu (d, k)
  simp only [e, ← EReal.coe_sub, ← EReal.coe_mul, ← coe_sum, ← EReal.coe_add, sub_self, mul_zero, zero_mul,
    Finset.sum_const_zero, add_zero]
  refine congrArg _ ?_
  simp only [Finset.sum_mul, Finset.mul_sum]
  rw [Finset.sum_comm]
  exact Finset.sum_congr rfl fun k _ => Finset.sum_congr rfl fun d _ => by ring

end Cert.Sums

end
-- ==== Proof.DiffAttn.lean ====
/- Differential attention for one query and one head, as functions of real numbers: the softmax of a row of scores,
   the difference of two softmaxes applied to the values, and the normalisation of the head. -/
module

public import proofs.«01_k».proof.Proof.Sums

@[expose] public section

noncomputable section

namespace Cert.DiffAttn

open Idealize.ShloMosaic Cert.Sums

/-- The largest score of a row. -/
def top {n : ℕ} (s : Fin n → EReal) : EReal := Finset.univ.fold max (Ideal.ofBits .f32 0xFF800000#32) s

/-- The softmax of a row of scores. -/
def soft {n : ℕ} (s : Fin n → EReal) (k : Fin n) : EReal :=
  Ideal.div (Ideal.exp (s k - top s)) (∑ j, Ideal.exp (s j - top s))

/-- The score of a query's half `c` against a key: 64 lanes, divided by 8. -/
def score (q k : Fin 2 → Fin 64 → EReal) (c : Fin 2) : EReal :=
  (∑ j : Fin 64, q c j * k c j) * Ideal.ofBits .f32 0x3E000000#32

/-- The weight of the second softmax, from its four vectors. -/
def lam (x : Fin 4 → Fin 64 → EReal) : EReal :=
  Ideal.exp (∑ j, x 0 j * x 1 j) - Ideal.exp (∑ j, x 2 j * x 3 j) + Ideal.ofBits .f32 0x3E4CCCCD#32

/-- The head of one query: the difference of the two softmaxes applied to the values. -/
def head {n : ℕ} (l : EReal) (q : Fin 2 → Fin 64 → EReal) (k : Fin n → Fin 2 → Fin 64 → EReal) (v : Fin n → EReal) : EReal :=
  ∑ x, (soft (fun x => score q (k x) 0) x - l * soft (fun x => score q (k x) 1) x) * v x

/-- The head divided by its root mean square, times the gain and the constant 0.8. -/
def normed (o : Fin 128 → EReal) (g : EReal) (d : Fin 128) : EReal :=
  o d * Ideal.rsqrt (Ideal.div (∑ j, o j * o j) (Ideal.ofBits .f32 0x43000000#32) + Ideal.ofBits .f32 0x3727C5AC#32) * g
    * Ideal.ofBits .f32 0x3F4CCCCD#32

/-- Lane `64 c + j` of a head. -/
def lane (c : Fin 2) (j : Fin 64) : Fin 128 := ⟨c.val * 64 + j.val, by omega⟩

/-- The comparison that tells the two halves of the lanes apart. -/
theorem lower : ∀ l : Fin 128, IntOp.cmpi .slt (BitVec.ofNat 32 l.val) 64#32 = if l.val < 64 then 1#1 else 0#1 := by
  decide +kernel

/-- The score as the kernel computes it for the first half: a query scaled by 1/8 with the upper lanes set to 0,
    against all 128 lanes of the key. -/
def scored0 (q k : Fin 128 → EReal) : EReal :=
  ∑ l : Fin 128, Scalar.select (IntOp.cmpi .slt (BitVec.ofNat 32 l.val) 64#32) (q l * Ideal.ofBits .f32 0x3E000000#32) 0 * k l

/-- The same for the second half: the lower lanes set to 0. -/
def scored1 (q k : Fin 128 → EReal) : EReal :=
  ∑ l : Fin 128, Scalar.select (IntOp.cmpi .slt (BitVec.ofNat 32 l.val) 64#32) 0 (q l * Ideal.ofBits .f32 0x3E000000#32) * k l

/-- It is the score of the reference: the lanes set to 0 add nothing, and 1/8 comes out of the sum. -/
theorem scored0_eq (q k : Fin 128 → EReal) :
    scored0 q k = score (fun c j => q (lane c j)) (fun c j => k (lane c j)) 0 := by
  unfold scored0 score
  rw [sum_mul_of_finite _ _ eighth_nonneg eighth_ne_top, sum_lanes]
  refine (congrArg₂ (· + ·) (Finset.sum_congr rfl fun j _ => ?_) (Finset.sum_eq_zero fun j _ => ?_)).trans (add_zero _)
  · rw [lower, if_pos (by simp)]
    simp only [Scalar.select, lane, Fin.val_zero, zero_mul, zero_add, ↓reduceIte]
    exact mul_right_comm _ _ _
  · rw [lower, if_neg (by simp)]
    simp [Scalar.select]

theorem scored1_eq (q k : Fin 128 → EReal) :
    scored1 q k = score (fun c j => q (lane c j)) (fun c j => k (lane c j)) 1 := by
  unfold scored1 score
  rw [sum_mul_of_finite _ _ eighth_nonneg eighth_ne_top, sum_lanes]
  refine (congrArg₂ (· + ·) (Finset.sum_eq_zero fun j _ => ?_) (Finset.sum_congr rfl fun j _ => ?_)).trans (zero_add _)
  · rw [lower, if_pos (by simp)]
    simp [Scalar.select]
  · rw [lower, if_neg (by simp)]
    simp only [Scalar.select, lane, Fin.val_one, one_mul]
    exact mul_right_comm _ _ _

end Cert.DiffAttn

end
-- ==== Proof.AttnLat.Ref.lean ====
/- What the reference of the latent attention computes, entry by entry. -/
module

public import proofs.«01_k».proof.Proof.AttnLat.Stages
public import proofs.«01_k».proof.Proof.DiffAttn
public import Idealize.ShloMosaic.Lib.Pipeline.ValueKit

@[expose] public section

set_option maxRecDepth 16384

noncomputable section

namespace Cert.AttnLatRefIdeal.Value

open Cert.AttnLatRefIdeal Cert.AttnLatRefIdeal.Gen Idealize.ShloMosaic Idealize.ShloMosaic.TcCoe Idealize.SL.Sem
open Cert.DiffAttn Cert.Sums

/-- Row of the projections that holds position `i` of sample `b`. -/
def row (b : Fin 2) (i : Fin 4096) : Fin 16384 := ⟨8192 + (b.val * 4096 + i.val), by omega⟩

/-- The query of a position: lane `64 c + j` of head `h`. -/
def query (x0 : FVec Ideal S16384x6144 .f32) (b : Fin 2) (h : Fin 8) (i : Fin 4096) (c : Fin 2) (j : Fin 64) : EReal :=
  x0 (ix2 (row b i) ⟨h.val * 128 + (c.val * 64 + j.val), by omega⟩)

/-- Lane `l` of the key at place `k` of head `h`: 256 cached keys, then those of the latent tokens. -/
def key (x0 : FVec Ideal S16384x6144 .f32) (x3 : FVec Ideal S2x8x256x128 .f32) (b : Fin 2) (h : Fin 8) (k : Fin 4352)
    (l : Fin 128) : EReal :=
  if hk : k.val < 256 then x3 (ix4 b h ⟨k.val, hk⟩ l)
  else x0 (ix2 (row b ⟨k.val - 256, by omega⟩) ⟨1024 + (h.val * 128 + l.val), by omega⟩)

/-- Lane `d` of the value at place `k` of head `h`. -/
def value (x0 : FVec Ideal S16384x6144 .f32) (x4 : FVec Ideal S2x8x256x128 .f32) (b : Fin 2) (h : Fin 8) (k : Fin 4352)
    (d : Fin 128) : EReal :=
  if hk : k.val < 256 then x4 (ix4 b h ⟨k.val, hk⟩ d)
  else x0 (ix2 (row b ⟨k.val - 256, by omega⟩) ⟨2048 + (h.val * 128 + d.val), by omega⟩)

theorem queries_at (x0 : FVec Ideal S16384x6144 .f32) (b : Fin 2) (i : Fin 4096) (h : Fin 8) (c : Fin 2) (j : Fin 64) :
    queries x0 (ix5 b i h c j) = query x0 b h i c j := by
  pointwise [queries, query, row]
  blk_ext

theorem keys_at (x0 : FVec Ideal S16384x6144 .f32) (x3 : FVec Ideal S2x8x256x128 .f32) (b : Fin 2) (k : Fin 4352)
    (h : Fin 8) (c : Fin 2) (j : Fin 64) : keys x0 x3 (ix5 b k h c j) = key x0 x3 b h k (lane c j) := by
  pointwise [keys, key, row, lane]
  split
  · rfl
  · blk_ext

theorem vals_at (x0 : FVec Ideal S16384x6144 .f32) (x4 : FVec Ideal S2x8x256x128 .f32) (b : Fin 2) (k : Fin 4352)
    (h : Fin 8) (d : Fin 128) : vals x0 x4 (ix4 b k h d) = value x0 x4 b h k d := by
  pointwise [vals, value, row]

theorem lambda_at (x1 : FVec Ideal S4x64 .f32) (i : S_.Idx) : lambda x1 i = lam fun a j => x1 (ix2 a j) := by
  pointwise [lambda, lam]

theorem scores_at (q : FVec Ideal S2x4096x8x2x64 .f32) (k : FVec Ideal S2x4352x8x2x64 .f32) (b : Fin 2) (h : Fin 8)
    (c : Fin 2) (i : Fin 4096) (x : Fin 4352) : scores q k (ix5 b h c i x)
      = score (fun c j => q (ix5 b i h c j)) (fun c j => k (ix5 b x h c j)) c := by
  pointwise [scores, score]

theorem rowMax_at (s : FVec Ideal S2x8x2x4096x4352 .f32) (b : Fin 2) (h : Fin 8) (c : Fin 2) (i : Fin 4096) :
    rowMax s (ix4 b h c i) = top fun x => s (ix5 b h c i x) := by
  unfold rowMax top
  exact rowMax_last5 s _ _ (Ideal.ofBits .f32 0xFF800000#32) (fun _ => rfl) (fun _ => rfl) _ _ b h c i

theorem exps_at (s : FVec Ideal S2x8x2x4096x4352 .f32) (t : FVec Ideal S2x8x2x4096 .f32) (b : Fin 2) (h : Fin 8)
    (c : Fin 2) (i : Fin 4096) (x : Fin 4352) :
    exps s t (ix5 b h c i x) = Ideal.exp (s (ix5 b h c i x) - t (ix4 b h c i)) := by
  pointwise [exps]

theorem sums_at (e : FVec Ideal S2x8x2x4096x4352 .f32) (b : Fin 2) (h : Fin 8) (c : Fin 2) (i : Fin 4096) :
    sums e (ix4 b h c i) = ∑ x, e (ix5 b h c i x) := by
  pointwise [sums]

theorem probs_at (e : FVec Ideal S2x8x2x4096x4352 .f32) (t : FVec Ideal S2x8x2x4096 .f32) (b : Fin 2) (h : Fin 8)
    (c : Fin 2) (i : Fin 4096) (x : Fin 4352) :
    probs e t (ix5 b h c i x) = Ideal.div (e (ix5 b h c i x)) (t (ix4 b h c i)) := by
  pointwise [probs]

/-- The softmax of the scores. -/
theorem soft_at (s : FVec Ideal S2x8x2x4096x4352 .f32) (b : Fin 2) (h : Fin 8) (c : Fin 2) (i : Fin 4096)
    (x : Fin 4352) : probs (exps s (rowMax s)) (sums (exps s (rowMax s))) (ix5 b h c i x)
      = soft (fun x => s (ix5 b h c i x)) x := by
  rw [probs_at, sums_at]
  simp only [exps_at, rowMax_at]
  rfl

theorem heads_at (v : FVec Ideal S2x4352x8x128 .f32) (l : FVec Ideal S_ .f32) (p : FVec Ideal S2x8x2x4096x4352 .f32)
    (b : Fin 2) (i : Fin 4096) (h : Fin 8) (d : Fin 128) : heads v l p (ix4 b i h d)
      = ∑ x : Fin 4352, (p (ix5 b h 0 i x) - l ix0 * p (ix5 b h 1 i x)) * v (ix4 b x h d) := by
  pointwise [heads]
  refine Finset.sum_congr rfl fun x _ => ?_
  rw [mul_comm]

theorem result_at (x2 : FVec Ideal S8x128 .f32) (o : FVec Ideal S2x4096x8x128 .f32) (r : Fin 8192) (l : Fin 1024) :
    result x2 o (ix2 r l) = normed (fun d => o (ix4 ⟨r.val / 4096, by omega⟩ ⟨r.val % 4096, by omega⟩ ⟨l.val / 128, by omega⟩ d))
      (x2 (ix2 ⟨l.val / 128, by omega⟩ ⟨l.val % 128, by omega⟩)) ⟨l.val % 128, by omega⟩ := by
  pointwise [result, normed]

/-- Every entry of the reference's result is the normalised head of its row and column. -/
theorem REF_at (x0 : FVec Ideal S16384x6144 .f32) (x1 : FVec Ideal S4x64 .f32) (x2 : FVec Ideal S8x128 .f32)
    (x3 : FVec Ideal S2x8x256x128 .f32) (x4 : FVec Ideal S2x8x256x128 .f32) (b : Fin 2) (h : Fin 8) (i : Fin 4096)
    (d : Fin 128) (r : Fin 8192) (l : Fin 1024) (hr : r.val = b.val * 4096 + i.val) (hl : l.val = h.val * 128 + d.val) :
    REF x0 x1 x2 x3 x4 (ix2 r l)
      = normed (fun d => head (lam fun a j => x1 (ix2 a j)) (query x0 b h i) (fun k c j => key x0 x3 b h k (lane c j))
          fun k => value x0 x4 b h k d) (x2 (ix2 h d)) d := by
  have eb : (⟨r.val / 4096, by omega⟩ : Fin 2) = b := Fin.ext (by simp only; omega)
  have ei : (⟨r.val % 4096, by omega⟩ : Fin 4096) = i := Fin.ext (by simp only; omega)
  have eh : (⟨l.val / 128, by omega⟩ : Fin 8) = h := Fin.ext (by simp only; omega)
  have ed : (⟨l.val % 128, by omega⟩ : Fin 128) = d := Fin.ext (by simp only; omega)
  unfold REF
  rw [result_at, eb, ei, eh, ed]
  simp only [heads_at, soft_at, scores_at, lambda_at, queries_at, keys_at, vals_at]
  rfl

end Cert.AttnLatRefIdeal.Value

end
-- ==== Proof.AttnLat.Block.lean ====
/- What the latent attention kernel computes for one block of queries, from the keys and values it holds. -/
module

public import proofs.«01_k».proof.Proof.Gen.AttnLatIdeal.Frame
public import proofs.«01_k».proof.Proof.AttnLat.Ref
public import Idealize.ShloMosaic.Lib.Pipeline.ReadBack
public import Idealize.ShloMosaic.Lib.Pipeline.ValueKit
public import Idealize.ShloMosaic.Lib.Pointwise

@[expose] public section

set_option maxRecDepth 16384

noncomputable section

namespace Cert.AttnLatIdeal.Value

open Cert.AttnLatIdeal Cert.AttnLatIdeal.Gen Idealize.ShloMosaic Idealize.ShloMosaic.TcCoe Idealize.SL.Sem
open Idealize.ShloMosaic.Pipeline (Dat)
open Cert.DiffAttn Cert.Sums
open Cert.AttnLatRefIdeal.Value (row query key value REF REF_at)

variable (m : (ℓ : Loc nD τ sig) → Buf (Elt Ideal) ℓ)

/-- The exponentials of the first half's scores, in the upper 256 rows of the kernel's array. -/
theorem pay7_at0 (q : FVec Ideal S256x128 .f32) (K : FVec Ideal S4352x128 .bf16) (r : Fin 256) (x : Fin 4352) :
    k0_pay7 (F := Ideal) q K (ix2 ⟨r.val, by omega⟩ x)
      = Ideal.exp (scored0 (fun l => q (ix2 r l)) (fun l => K (ix2 x l))
          - top fun x : Fin 4352 => scored0 (fun l => q (ix2 r l)) (fun l => K (ix2 x l))) := by
  pointwise [k0_pay7, scored0, top]

/-- The exponentials of the second half's scores, in the lower 256 rows. -/
theorem pay7_at1 (q : FVec Ideal S256x128 .f32) (K : FVec Ideal S4352x128 .bf16) (r : Fin 256) (x : Fin 4352) :
    k0_pay7 (F := Ideal) q K (ix2 ⟨256 + r.val, by omega⟩ x)
      = Ideal.exp (scored1 (fun l => q (ix2 r l)) (fun l => K (ix2 x l))
          - top fun x : Fin 4352 => scored1 (fun l => q (ix2 r l)) (fun l => K (ix2 x l))) := by
  pointwise [k0_pay7, scored1, top]

/-- The head from the exponentials: both softmaxes, their difference times the values, and the normalisation. -/
theorem pay1_at (lm : FVec Ideal S1x1 .f32) (e : FVec Ideal S512x4352 .f32) (V : FVec Ideal S4352x128 .bf16)
    (g : FVec Ideal S1x1x128 .f32) (r : Fin 256) (d : Fin 128) :
    k0_pay1 lm e V g (ix2 r d)
      = normed (fun d => ∑ x : Fin 4352,
          (Ideal.div (e (ix2 ⟨r.val, by omega⟩ x)) (∑ x : Fin 4352, e (ix2 ⟨r.val, by omega⟩ x))
            - lm (ix2 0 0) * Ideal.div (e (ix2 ⟨256 + r.val, by omega⟩ x)) (∑ x : Fin 4352, e (ix2 ⟨256 + r.val, by omega⟩ x))) * V (ix2 x d))
          (g (ix3 0 0 d)) d := by
  pointwise [k0_pay1, normed]

/-- The weight of the second softmax. -/
theorem pay6_at (x : FVec Ideal S4x64 .f32) : k0_pay6 (F := Ideal) x (ix2 0 0) = lam fun a j => x (ix2 a j) := by
  pointwise [k0_pay6, lam]

/-- One block of the output: the normalised head of each of its queries against the keys and values held. -/
theorem block_at (x : FVec Ideal S4x64 .f32) (q : FVec Ideal S256x128 .f32) (K V : FVec Ideal S4352x128 .bf16)
    (g : FVec Ideal S1x1x128 .f32) (r : Fin 256) (d : Fin 128) :
    k0_pay1 (F := Ideal) (k0_pay6 x) (k0_pay7 q K) V g (ix2 r d)
      = normed (fun d => head (lam fun a j => x (ix2 a j)) (fun c j => q (ix2 r (lane c j)))
          (fun k c j => K (ix2 k (lane c j))) fun k => V (ix2 k d)) (g (ix3 0 0 d)) d := by
  rw [pay1_at]
  simp only [pay7_at0, pay7_at1, pay6_at, scored0_eq, scored1_eq]
  rfl

end Cert.AttnLatIdeal.Value

end
-- ==== Proof.Reads.lean ====
/- Reading a whole scratch array back after the stores of the same grid point. -/
module

public import Idealize.ShloMosaic.Lib.Pipeline.ReadBack
public import Idealize.ShloMosaic.Lib.Pipeline.ValueKit
public import Idealize.ShloMosaic.Lib.VecWindow

@[expose] public section

noncomputable section

namespace Cert.Reads

open Idealize.ShloMosaic

/-- A load of the whole array reads, at each index, what the newest store that holds the index put there. -/
theorem readCov_all {sig : RefSig} {κ : Kind} {sp : Space} {s : Shape} {e : EltTy} {Val : EltTy → Type}
    [∀ e, Nonempty (Val e)] (v : View sig κ sp s e) (L : List (View.Piece Val s e)) {off : Fin s.rank → ℕ}
    (inb : ∀ a, off a + s.size a ≤ s.size a) :
    v.readCov L (Rect.unit off s.size inb).toLoadRect = View.canon L := by
  rw [View.readCov_eq_canon']
  funext j
  exact congrArg (View.canon L) (Rect.emb_unit_full inb j)

end Cert.Reads

end
-- ==== Proof.AttnLat.Kernel.lean ====
/- What the latent attention kernel leaves in its result array. -/
module

public import proofs.«01_k».proof.Proof.Gen.AttnLatIdeal.Frame
public import proofs.«01_k».proof.Proof.AttnLat.Block
public import proofs.«01_k».proof.Proof.Reads
public import Idealize.ShloMosaic.Lib.Pipeline.ReadBack
public import Idealize.ShloMosaic.Lib.Pipeline.ValueKit
public import Idealize.ShloMosaic.Lib.Pointwise

@[expose] public section

set_option maxRecDepth 16384

noncomputable section

namespace Cert.AttnLatIdeal.Value

open Cert.AttnLatIdeal Cert.AttnLatIdeal.Gen Idealize.ShloMosaic Idealize.ShloMosaic.TcCoe Idealize.SL.Sem
open Idealize.ShloMosaic.Pipeline (Dat)
open Cert.DiffAttn Cert.Sums
open Cert.AttnLatRefIdeal.Value (row query key value REF REF_at)

variable (m : (ℓ : Loc nD τ sig) → Buf (Elt Ideal) ℓ)

/-- Where each block of grid point `t` lies: sample `t / 128`, head `t / 16 % 8`, rows `t % 16` of the queries. -/
theorem idx : ∀ t : Fin cfg0.N, win0_0.index t = ![0, 0] ∧ win0_1.index t = ![32 + (t.val / 128 * 16 + t.val % 16), t.val / 16 % 8]
    ∧ win0_2.index t = ![2 + t.val / 128, 8 + t.val / 16 % 8] ∧ win0_3.index t = ![2 + t.val / 128, 16 + t.val / 16 % 8]
    ∧ win0_4.index t = ![t.val / 128, t.val / 16 % 8, 0, 0] ∧ win0_5.index t = ![t.val / 128, t.val / 16 % 8, 0, 0]
    ∧ win0_6.index t = ![t.val / 16 % 8, 0, 0] ∧ win0_7.index t = ![t.val / 128 * 16 + t.val % 16, t.val / 16 % 8] ∧ t.val < 256 :=
  (by decide +kernel : ∀ t : Fin grid0.N, _)

/-- The first point of a head stores the cached keys and the latent tokens' keys: lane `l` at place `k`. -/
theorem keys_first (c : Dev nD) (t : Fin cfg0.N) (b : Fin 2) (h : Fin 8) (hb : b.val = t.val / 128)
    (hh : h.val = t.val / 16 % 8) (k : Fin 4352) (l : Fin 128) :
    (if hk : k.val < 256 then k0_pay2 (F := Ideal) (iblk m c 4 t) (ix2 ⟨k.val, hk⟩ l)
        else k0_pay4 (F := Ideal) (iblk m c 2 t) (ix2 ⟨k.val - 256, by omega⟩ l))
      = key (m ((c : Thread nD τ).loc main_arg0)) (m ((c : Thread nD τ).loc main_arg3)) b h k l := by
  have hi := idx t
  unfold key
  by_cases hk : k.val < 256
  · rw [dif_pos hk, dif_pos hk]
    pointwise [k0_pay2]
    blk_point [iblk, V, idx t, hb, hh]
  · rw [dif_neg hk, dif_neg hk]
    pointwise [k0_pay4, row]
    blk_point [iblk, V, idx t, hb, hh]

theorem vals_first (c : Dev nD) (t : Fin cfg0.N) (b : Fin 2) (h : Fin 8) (hb : b.val = t.val / 128)
    (hh : h.val = t.val / 16 % 8) (k : Fin 4352) (l : Fin 128) :
    (if hk : k.val < 256 then k0_pay3 (F := Ideal) (iblk m c 5 t) (ix2 ⟨k.val, hk⟩ l)
        else k0_pay5 (F := Ideal) (iblk m c 3 t) (ix2 ⟨k.val - 256, by omega⟩ l))
      = value (m ((c : Thread nD τ).loc main_arg0)) (m ((c : Thread nD τ).loc main_arg4)) b h k l := by
  have hi := idx t
  unfold value
  by_cases hk : k.val < 256
  · rw [dif_pos hk, dif_pos hk]
    pointwise [k0_pay3]
    blk_point [iblk, V, idx t, hb, hh]
  · rw [dif_neg hk, dif_neg hk]
    pointwise [k0_pay5, row]
    blk_point [iblk, V, idx t, hb, hh]

/-- A scratch array after its two stores, the 256 cached rows and then the 4096 rows of the latent tokens. -/
theorem stored (A : FVec Ideal S4096x128 .bf16) (B : FVec Ideal S256x128 .bf16) (k : Fin 4352) (l : Fin 128) :
    View.canon (Val := Elt Ideal) (s := S4352x128) (e := .bf16)
      [⟨Rect.unit ![256, 0] ![4096, 128] inb_S4352x128_S4096x128_256_0, A⟩,
        ⟨Rect.unit ![0, 0] ![256, 128] inb_S4352x128_S256x128_0_0, B⟩] (ix2 k l)
      = if hk : k.val < 256 then B (ix2 ⟨k.val, hk⟩ l) else A (ix2 ⟨k.val - 256, by omega⟩ l) := by
  have hc : ∃ p ∈ ([⟨Rect.unit ![256, 0] ![4096, 128] inb_S4352x128_S4096x128_256_0, A⟩,
        ⟨Rect.unit ![0, 0] ![256, 128] inb_S4352x128_S256x128_0_0, B⟩] : List (View.Piece (Elt Ideal) S4352x128 .bf16)),
      ix2 k l ∈ p.1.set := by
    by_cases hk : k.val < 256
    · refine ⟨⟨Rect.unit ![0, 0] ![256, 128] inb_S4352x128_S256x128_0_0, B⟩, List.mem_cons_of_mem _ List.mem_cons_self,
        (Rect.mem_set_unit (inb := inb_S4352x128_S256x128_0_0)).2 ?_⟩
      exact Fin.forall_fin_two.2 ⟨⟨Nat.zero_le _, (by omega : k.val < 0 + 256)⟩,
        ⟨Nat.zero_le _, (by omega : l.val < 0 + 128)⟩⟩
    · refine ⟨⟨Rect.unit ![256, 0] ![4096, 128] inb_S4352x128_S4096x128_256_0, A⟩, List.mem_cons_self,
        (Rect.mem_set_unit (inb := inb_S4352x128_S4096x128_256_0)).2 ?_⟩
      exact Fin.forall_fin_two.2 ⟨⟨(by omega : 256 ≤ k.val), (by omega : k.val < 256 + 4096)⟩,
        ⟨Nat.zero_le _, (by omega : l.val < 0 + 128)⟩⟩
  canon_tiles x e using hc
  · have f0 : k.val = 256 + (x 0).val := e0
    have f1 : l.val = (x 1).val := e1
    rw [dif_neg (by omega)]
    refine congrArg A ?_
    blk_ext [f0, f1]
    all_goals omega
  · have f0 : k.val = (x 0).val := e0
    have f1 : l.val = (x 1).val := e1
    rw [dif_pos (by omega)]
    refine congrArg B ?_
    blk_ext [f0, f1]
    all_goals omega

/-- The keys scratch at every point of a head: all its keys. -/
theorem keys_held (c : Dev nD) (b : Fin 2) (h : Fin 8) : ∀ (n : ℕ) (hn : n < cfg0.N) (hb : b.val = n / 128)
    (hh : h.val = n / 16 % 8) (k : Fin 4352) (l : Fin 128),
    (outsAt0 m c n hn).2.1 (ix2 k l)
      = key (m ((c : Thread nD τ).loc main_arg0)) (m ((c : Thread nD τ).loc main_arg3)) b h k l := by
  intro n
  induction n with
  | zero =>
    intro hn hb hh k l
    rw [outsAt0_A m c ⟨0, hn⟩ rfl]
    frame_out
    exact (stored _ _ k l).trans (keys_first m c ⟨0, hn⟩ b h hb hh k l)
  | succ n ih =>
    intro hn hb hh k l
    by_cases h0 : (n + 1) % 16 = 0
    · rw [outsAt0_A m c ⟨n + 1, hn⟩ h0]
      frame_out
      exact (stored _ _ k l).trans (keys_first m c ⟨n + 1, hn⟩ b h hb hh k l)
    · rw [outsAt0_B m c ⟨n + 1, hn⟩ h0]
      dsimp only [sout0_B_0, Nat.add_sub_cancel]
      exact ih (by omega) (by omega) (by omega) k l

/-- The values scratch at every point of a head: all its values. -/
theorem vals_held (c : Dev nD) (b : Fin 2) (h : Fin 8) : ∀ (n : ℕ) (hn : n < cfg0.N) (hb : b.val = n / 128)
    (hh : h.val = n / 16 % 8) (k : Fin 4352) (l : Fin 128),
    (outsAt0 m c n hn).2.2 (ix2 k l)
      = value (m ((c : Thread nD τ).loc main_arg0)) (m ((c : Thread nD τ).loc main_arg4)) b h k l := by
  intro n
  induction n with
  | zero =>
    intro hn hb hh k l
    rw [outsAt0_A m c ⟨0, hn⟩ rfl]
    frame_out
    exact (stored _ _ k l).trans (vals_first m c ⟨0, hn⟩ b h hb hh k l)
  | succ n ih =>
    intro hn hb hh k l
    by_cases h0 : (n + 1) % 16 = 0
    · rw [outsAt0_A m c ⟨n + 1, hn⟩ h0]
      frame_out
      exact (stored _ _ k l).trans (vals_first m c ⟨n + 1, hn⟩ b h hb hh k l)
    · rw [outsAt0_B m c ⟨n + 1, hn⟩ h0]
      dsimp only [sout0_B_1, Nat.add_sub_cancel]
      exact ih (by omega) (by omega) (by omega) k l

/-- A point's block of the result, from scratch arrays that hold the keys and the values of its head. -/
theorem block_eq (c : Dev nD) (t : Fin cfg0.N) (K V' : FVec Ideal S4352x128 .bf16) (b : Fin 2) (h : Fin 8)
    (hb : b.val = t.val / 128) (hh : h.val = t.val / 16 % 8)
    (hK : ∀ k l, K (ix2 k l) = key (m ((c : Thread nD τ).loc main_arg0)) (m ((c : Thread nD τ).loc main_arg3)) b h k l)
    (hV : ∀ k l, V' (ix2 k l) = value (m ((c : Thread nD τ).loc main_arg0)) (m ((c : Thread nD τ).loc main_arg4)) b h k l)
    (r : Fin 256) (d : Fin 128) (R : Fin 8192) (L : Fin 1024)
    (hR : R.val = (t.val / 128 * 16 + t.val % 16) * 256 + r.val) (hL : L.val = t.val / 16 % 8 * 128 + d.val) :
    k0_pay1 (F := Ideal) (k0_pay6 (iblk m c 0 t)) (k0_pay7 (iblk m c 1 t) K) V' (iblk m c 6 t) (ix2 r d)
      = REF (m ((c : Thread nD τ).loc main_arg0)) (m ((c : Thread nD τ).loc main_arg1))
        (m ((c : Thread nD τ).loc main_arg2)) (m ((c : Thread nD τ).loc main_arg3))
        (m ((c : Thread nD τ).loc main_arg4)) (ix2 R L) := by
  have hi := idx t
  refine (block_at _ _ _ _ _ r d).trans ?_
  rw [REF_at _ _ _ _ _ b h ⟨t.val % 16 * 256 + r.val, by omega⟩ d R L (by simp only; omega) (by omega)]
  have hx : (fun (a : Fin 4) (j : Fin 64) => (iblk m c 0 t : FVec Ideal S4x64 .f32) (ix2 a j))
      = fun a j => m ((c : Thread nD τ).loc main_arg1) (ix2 a j) := by
    funext a j
    blk_point [iblk, V, idx t]
  have hq : (fun (e : Fin 2) (j : Fin 64) => (iblk m c 1 t : FVec Ideal S256x128 .f32) (ix2 r (lane e j)))
      = query (m ((c : Thread nD τ).loc main_arg0)) b h ⟨t.val % 16 * 256 + r.val, by omega⟩ := by
    funext e j
    unfold query row lane
    blk_point [iblk, V, idx t, hb, hh]
  have hg : (iblk m c 6 t : FVec Ideal S1x1x128 .f32) (ix3 0 0 d) = m ((c : Thread nD τ).loc main_arg2) (ix2 h d) := by
    blk_point [iblk, V, idx t, hh]
  rw [hx, hq, hg]
  simp only [hK, hV]

/-- What each point leaves in its block of the result. -/
theorem out_at (c : Dev nD) (t : Fin cfg0.N) (r : Fin 256) (d : Fin 128) (R : Fin 8192) (L : Fin 1024)
    (hR : R.val = (t.val / 128 * 16 + t.val % 16) * 256 + r.val) (hL : L.val = t.val / 16 % 8 * 128 + d.val) :
    (outsAt0 m c t.val t.isLt).1 (ix2 r d)
      = REF (m ((c : Thread nD τ).loc main_arg0)) (m ((c : Thread nD τ).loc main_arg1))
        (m ((c : Thread nD τ).loc main_arg2)) (m ((c : Thread nD τ).loc main_arg3))
        (m ((c : Thread nD τ).loc main_arg4)) (ix2 R L) := by
  have hi := idx t
  by_cases h0 : t.val % 16 = 0
  · rw [outsAt0_A m c t h0]
    frame_out
    refine block_eq m c t _ _ ⟨t.val / 128, by omega⟩ ⟨t.val / 16 % 8, by omega⟩ rfl rfl ?_ ?_ r d R L hR hL
    · intro k l
      refine (congrFun (Cert.Reads.readCov_all _ _ inb_S4352x128_S4352x128_0_0) _).trans ?_
      exact (stored _ _ k l).trans (keys_first m c t _ _ rfl rfl k l)
    · intro k l
      refine (congrFun (Cert.Reads.readCov_all _ _ inb_S4352x128_S4352x128_0_0) _).trans ?_
      exact (stored _ _ k l).trans (vals_first m c t _ _ rfl rfl k l)
  · rw [outsAt0_B m c t h0]
    frame_out
    refine block_eq m c t _ _ ⟨t.val / 128, by omega⟩ ⟨t.val / 16 % 8, by omega⟩ rfl rfl ?_ ?_ r d R L hR hL
    · intro k l
      rw [read_unread_whole]
      exact keys_held m c _ _ _ _ (by simp only; omega) (by simp only; omega) k l
    · intro k l
      rw [read_unread_whole]
      exact vals_held m c _ _ _ _ (by simp only; omega) (by simp only; omega) k l

/-- The result array after the run is the reference's result. -/
theorem final (c : Dev nD) : (dats m 0 c).arrAt 7 cfg0.N
    = REF (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 7 _ (by decide +kernel) fun t _ y => ?_
  blk_simp
  rw [after0_7]
  have e := (eq_ix2 (n0 := 8192) (n1 := 1024) ((win0_7.blk t).view.emb y))
  refine Eq.trans ?_ (congrArg _ e.symm)
  refine Eq.trans (congrArg _ (eq_ix2 (n0 := 256) (n1 := 128) y)) (out_at m c t (y 0) (y 1) _ _ ?_ ?_)
  · blk_simp [idx t]
  · blk_simp [idx t]

end Cert.AttnLatIdeal.Value

end
-- ==== Proof.AttnLat.Claim.lean ====
/- The attention of the latent tokens: kernel and reference end with equal results. -/
module

public import proofs.«01_k».proof.Defs
public import proofs.«01_k».proof.Proof.AttnLat.Kernel
public import Idealize.ShloMosaic.Lib.Claim
public import Idealize.ShloMosaic.Lib.Quiescent
public import Idealize.ShloMosaic.Adequacy
public import Idealize.ShloMosaic.Init

@[expose] public section

noncomputable section

namespace Cert.AttnLatClaim

open Idealize.ShloMosaic Idealize.SL.Sem

/-- The reference terminates, keeps its arguments and leaves every counter at zero: it declares none. -/
theorem frame_ref : quiescent_AttnLatRefIdeal (hAttnLatRefIdeal := Cert.AttnLatRefIdeal.Gen.facts) := by
  intro m ρ _
  exact (θ_run Cert.AttnLatRefIdeal.defs _ _).mono (fun r h => ⟨fun c => ⟨(h c).2.1, (h c).2.2.1, (h c).2.2.2.1, (h c).2.2.2.2.1, (h c).2.2.2.2.2⟩, sem_eq_zero_of_no_sems (by decide) r.2⟩)
    (Cert.AttnLatRefIdeal.Value.run_ref m ρ)

/-- From equal arguments the kernel and the reference run and end with the same array. -/
theorem algebraic : algebraic_AttnLatIdeal_AttnLatRefIdeal (hAttnLatIdeal := Cert.AttnLatIdeal.Gen.facts)
    (hAttnLatRefIdeal := Cert.AttnLatRefIdeal.Gen.facts) := by
  pair_intro
  · run_from Cert.AttnLatIdeal.Gen.run_main m g
  · run_from Cert.AttnLatRefIdeal.Value.run_ref m' g'
    exact (Cert.AttnLatIdeal.Value.final m c).symm

end Cert.AttnLatClaim

end
-- ==== Proof.AttnCtx.Stages.lean ====
/- The reference of the prompt's attention, in stages. -/
module

public import proofs.«01_k».proof.Proof.Gen.AttnCtxRefIdeal.Run
public import Idealize.ShloMosaic.Lib.Pointwise

@[expose] public section

set_option maxRecDepth 16384

noncomputable section

namespace Cert.AttnCtxRefIdeal.Value

open Cert.AttnCtxRefIdeal Cert.AttnCtxRefIdeal.Gen Idealize.ShloMosaic Idealize.ShloMosaic.TcCoe Idealize.SL.Sem

/-- The queries of the prompt: sequence, position, head, half, lane. -/
def queries (x0 : FVec Ideal S16384x6144 .f32) :
    FVec Ideal S32x256x8x2x64 .f32 :=
  shapeCast S32x256x8x2x64 (extractStridedSlice S32x256x1024 ![0, 0, 0] (shapeCast S32x256x6144 (extractStridedSlice S8192x6144 ![0, 0] x0 slices_S16384x6144_S8192x6144_0_0) shapeCasts_S8192x6144_S32x256x6144) slices_S32x256x6144_S32x256x1024_0_0_0) shapeCasts_S32x256x1024_S32x256x8x2x64

/-- The keys. -/
def keys (x0 : FVec Ideal S16384x6144 .f32) :
    FVec Ideal S32x256x8x2x64 .f32 :=
  shapeCast S32x256x8x2x64 (extractStridedSlice S32x256x1024 ![0, 0, 1024] (shapeCast S32x256x6144 (extractStridedSlice S8192x6144 ![0, 0] x0 slices_S16384x6144_S8192x6144_0_0) shapeCasts_S8192x6144_S32x256x6144) slices_S32x256x6144_S32x256x1024_0_0_1024) shapeCasts_S32x256x1024_S32x256x8x2x64

/-- The values. -/
def vals (x0 : FVec Ideal S16384x6144 .f32) :
    FVec Ideal S32x256x8x128 .f32 :=
  shapeCast S32x256x8x128 (extractStridedSlice S32x256x1024 ![0, 0, 2048] (shapeCast S32x256x6144 (extractStridedSlice S8192x6144 ![0, 0] x0 slices_S16384x6144_S8192x6144_0_0) shapeCasts_S8192x6144_S32x256x6144) slices_S32x256x6144_S32x256x1024_0_0_2048) shapeCasts_S32x256x1024_S32x256x8x128

/-- The weight of the second softmax. -/
def lambda (x1 : FVec Ideal S4x64 .f32) :
    FVec Ideal S_ .f32 :=
  addf (subf (Host.exp (Host.reduceAdd (mulf (shapeCast S64 (extractStridedSlice S1x64 ![0, 0] x1 slices_S4x64_S1x64_0_0) shapeCasts_S1x64_S64) (shapeCast S64 (extractStridedSlice S1x64 ![1, 0] x1 slices_S4x64_S1x64_1_0) shapeCasts_S1x64_S64)) (constant S_ .f32 0x00000000#32) reducesTo_S64_S_d0 h_S_)) (Host.exp (Host.reduceAdd (mulf (shapeCast S64 (extractStridedSlice S1x64 ![2, 0] x1 slices_S4x64_S1x64_2_0) shapeCasts_S1x64_S64) (shapeCast S64 (extractStridedSlice S1x64 ![3, 0] x1 slices_S4x64_S1x64_3_0) shapeCasts_S1x64_S64)) (constant S_ .f32 0x00000000#32) reducesTo_S64_S_d0 h_S_))) (constant S_ .f32 0x3E4CCCCD#32)

/-- The scaled scores. -/
def scores (queries_ : FVec Ideal S32x256x8x2x64 .f32) (keys_ : FVec Ideal S32x256x8x2x64 .f32) :
    FVec Ideal S32x8x2x256x256 .f32 :=
  mulf (Host.dotGeneral dot_S32x256x8x2x64_S32x256x8x2x64_S32x8x2x256x256_4_4_1_1_023_023 none queries_ keys_) (broadcastInDim S32x8x2x256x256 ![] bcast_S_S32x8x2x256x256 (constant S_ .f32 0x3E000000#32))

/-- The largest score of each row. -/
def rowMax (scores_ : FVec Ideal S32x8x2x256x256 .f32) :
    FVec Ideal S32x8x2x256 .f32 :=
  maximumf (broadcastInDim S32x8x2x256 ![] bcast_S_S32x8x2x256 (constant S_ .f32 0xFF800000#32)) (Host.reduce FloatOps.maximumf scores_ (constant S_ .f32 0xFF800000#32) reducesTo_S32x8x2x256x256_S32x8x2x256_d4 h_S_)

/-- The exponentials of the scores below the largest. -/
def exps (scores_ : FVec Ideal S32x8x2x256x256 .f32) (rowMax_ : FVec Ideal S32x8x2x256 .f32) :
    FVec Ideal S32x8x2x256x256 .f32 :=
  Host.exp (subf scores_ (broadcastInDim S32x8x2x256x256 ![0, 1, 2, 3, 4] bcast_S32x8x2x256x1_S32x8x2x256x256_0_1_2_3_4 (broadcastInDim S32x8x2x256x1 ![0, 1, 2, 3] bcast_S32x8x2x256_S32x8x2x256x1_0_1_2_3 rowMax_)))

/-- Their sums over the keys. -/
def sums (exps_ : FVec Ideal S32x8x2x256x256 .f32) :
    FVec Ideal S32x8x2x256 .f32 :=
  Host.reduceAdd exps_ (constant S_ .f32 0x00000000#32) reducesTo_S32x8x2x256x256_S32x8x2x256_d4 h_S_

/-- The softmax of the scores over the keys. -/
def probs (exps_ : FVec Ideal S32x8x2x256x256 .f32) (sums_ : FVec Ideal S32x8x2x256 .f32) :
    FVec Ideal S32x8x2x256x256 .f32 :=
  Host.divf exps_ (broadcastInDim S32x8x2x256x256 ![0, 1, 2, 3, 4] bcast_S32x8x2x256x1_S32x8x2x256x256_0_1_2_3_4 (broadcastInDim S32x8x2x256x1 ![0, 1, 2, 3] bcast_S32x8x2x256_S32x8x2x256x1_0_1_2_3 sums_))

/-- The difference of the two softmaxes, applied to the values. -/
def heads (vals_ : FVec Ideal S32x256x8x128 .f32) (lambda_ : FVec Ideal S_ .f32) (probs_ : FVec Ideal S32x8x2x256x256 .f32) :
    FVec Ideal S32x256x8x128 .f32 :=
  transpose S32x256x8x128 [0, 3, 1, 2] (Host.dotGeneral dot_S32x256x8x128_S32x8x256x256_S32x8x128x256_1_3_3_2_02_01 none vals_ (subf (shapeCast S32x8x256x256 (extractStridedSlice S32x8x1x256x256 ![0, 0, 0, 0, 0] probs_ slices_S32x8x2x256x256_S32x8x1x256x256_0_0_0_0_0) shapeCasts_S32x8x1x256x256_S32x8x256x256) (mulf (broadcastInDim S32x8x256x256 ![] bcast_S_S32x8x256x256 lambda_) (shapeCast S32x8x256x256 (extractStridedSlice S32x8x1x256x256 ![0, 0, 1, 0, 0] probs_ slices_S32x8x2x256x256_S32x8x1x256x256_0_0_1_0_0) shapeCasts_S32x8x1x256x256_S32x8x256x256)))) transposes_S32x8x128x256_S32x256x8x128_0_3_1_2

/-- The normalised heads, side by side. -/
def result (x2 : FVec Ideal S8x128 .f32) (heads_ : FVec Ideal S32x256x8x128 .f32) :
    FVec Ideal S8192x1024 .bf16 :=
  truncf .bf16 (shapeCast S8192x1024 (mulf (mulf (mulf heads_ (broadcastInDim S32x256x8x128 ![0, 1, 2, 3] bcast_S32x256x8x1_S32x256x8x128_0_1_2_3 (Host.rsqrt (addf (Host.divf (broadcastInDim S32x256x8x1 ![0, 1, 2] bcast_S32x256x8_S32x256x8x1_0_1_2 (Host.reduceAdd (mulf heads_ heads_) (constant S_ .f32 0x00000000#32) reducesTo_S32x256x8x128_S32x256x8_d3 h_S_)) (broadcastInDim S32x256x8x1 ![] bcast_S_S32x256x8x1 (constant S_ .f32 0x43000000#32))) (broadcastInDim S32x256x8x1 ![] bcast_S_S32x256x8x1 (constant S_ .f32 0x3727C5AC#32)))))) (broadcastInDim S32x256x8x128 ![0, 1, 2, 3] bcast_S1x1x8x128_S32x256x8x128_0_1_2_3 (broadcastInDim S1x1x8x128 ![2, 3] bcast_S8x128_S1x1x8x128_2_3 x2))) (broadcastInDim S32x256x8x128 ![] bcast_S_S32x256x8x128 (constant S_ .f32 0x3F4CCCCD#32))) shapeCasts_S32x256x8x128_S8192x1024) bitsLt_bf16_f32

/-- The keys, head by head. -/
def keyCache (keys_ : FVec Ideal S32x256x8x2x64 .f32) :
    FVec Ideal S32x8x256x128 .f32 :=
  transpose S32x8x256x128 [0, 2, 1, 3] (shapeCast S32x256x8x128 keys_ shapeCasts_S32x256x8x2x64_S32x256x8x128) transposes_S32x256x8x128_S32x8x256x128_0_2_1_3

/-- The values, head by head. -/
def valCache (vals_ : FVec Ideal S32x256x8x128 .f32) :
    FVec Ideal S32x8x256x128 .f32 :=
  transpose S32x8x256x128 [0, 2, 1, 3] vals_ transposes_S32x256x8x128_S32x8x256x128_0_2_1_3

/-- The reference's result 1 as a function of its arguments. -/
def REF1 (x0 : FVec Ideal S16384x6144 .f32) (x1 : FVec Ideal S4x64 .f32) (x2 : FVec Ideal S8x128 .f32) :
    FVec Ideal S8192x1024 .bf16 :=
  result x2 (heads (vals x0) (lambda x1) (probs (exps (scores (queries x0) (keys x0)) (rowMax (scores (queries x0) (keys x0)))) (sums (exps (scores (queries x0) (keys x0)) (rowMax (scores (queries x0) (keys x0)))))))

/-- The reference's result 2 as a function of its arguments. -/
def REF2 (x0 : FVec Ideal S16384x6144 .f32) (x1 : FVec Ideal S4x64 .f32) (x2 : FVec Ideal S8x128 .f32) :
    FVec Ideal S32x8x256x128 .f32 :=
  keyCache (keys x0)

/-- The reference's result 3 as a function of its arguments. -/
def REF3 (x0 : FVec Ideal S16384x6144 .f32) (x1 : FVec Ideal S4x64 .f32) (x2 : FVec Ideal S8x128 .f32) :
    FVec Ideal S32x8x256x128 .f32 :=
  valCache (vals x0)

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) =
        REF1 (m ((c.tc : Thread nD τ).loc main_arg0)) (m ((c.tc : Thread nD τ).loc main_arg1)) (m ((c.tc : Thread nD τ).loc main_arg2))
      ∧ r.2.mem ((c.tc : Thread nD τ).loc main_v65) =
        REF2 (m ((c.tc : Thread nD τ).loc main_arg0)) (m ((c.tc : Thread nD τ).loc main_arg1)) (m ((c.tc : Thread nD τ).loc main_arg2))
      ∧ r.2.mem ((c.tc : Thread nD τ).loc main_v66) =
        REF3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.AttnCtxRefIdeal.Value

end
-- ==== Proof.AttnCtx.Ref.lean ====
/- What the reference of the attention of the prompt computes, entry by entry. -/
module

public import proofs.«01_k».proof.Proof.AttnCtx.Stages
public import proofs.«01_k».proof.Proof.DiffAttn
public import Idealize.ShloMosaic.Lib.Pipeline.ValueKit

@[expose] public section

set_option maxRecDepth 16384

noncomputable section

namespace Cert.AttnCtxRefIdeal.Value

open Cert.AttnCtxRefIdeal Cert.AttnCtxRefIdeal.Gen Idealize.ShloMosaic Idealize.ShloMosaic.TcCoe Idealize.SL.Sem
open Cert.DiffAttn Cert.Sums

/-- Row of the projections that holds position `i` of sequence `b`. -/
def row (b : Fin 32) (i : Fin 256) : Fin 16384 := ⟨b.val * 256 + i.val, by omega⟩

/-- The query of a position: lane `64 c + j` of head `h`. -/
def query (x0 : FVec Ideal S16384x6144 .f32) (b : Fin 32) (h : Fin 8) (i : Fin 256) (c : Fin 2) (j : Fin 64) : EReal :=
  x0 (ix2 (row b i) ⟨h.val * 128 + (c.val * 64 + j.val), by omega⟩)

/-- Lane `l` of the key at place `k` of head `h`. -/
def key (x0 : FVec Ideal S16384x6144 .f32) (b : Fin 32) (h : Fin 8) (k : Fin 256) (l : Fin 128) : EReal :=
  x0 (ix2 (row b k) ⟨1024 + (h.val * 128 + l.val), by omega⟩)

/-- Lane `d` of the value at place `k` of head `h`. -/
def value (x0 : FVec Ideal S16384x6144 .f32) (b : Fin 32) (h : Fin 8) (k : Fin 256) (d : Fin 128) : EReal :=
  x0 (ix2 (row b k) ⟨2048 + (h.val * 128 + d.val), by omega⟩)

theorem queries_at (x0 : FVec Ideal S16384x6144 .f32) (b : Fin 32) (i : Fin 256) (h : Fin 8) (c : Fin 2) (j : Fin 64) :
    queries x0 (ix5 b i h c j) = query x0 b h i c j := by
  pointwise [queries, query, row]
  all_goals blk_ext

theorem keys_at (x0 : FVec Ideal S16384x6144 .f32) (b : Fin 32) (k : Fin 256)
    (h : Fin 8) (c : Fin 2) (j : Fin 64) : keys x0 (ix5 b k h c j) = key x0 b h k (lane c j) := by
  pointwise [keys, key, row, lane]
  all_goals blk_ext

theorem vals_at (x0 : FVec Ideal S16384x6144 .f32) (b : Fin 32) (k : Fin 256)
    (h : Fin 8) (d : Fin 128) : vals x0 (ix4 b k h d) = value x0 b h k d := by
  pointwise [vals, value, row]

/-- The second result holds the keys. -/
theorem REF2_at (x0 : FVec Ideal S16384x6144 .f32) (x1 : FVec Ideal S4x64 .f32) (x2 : FVec Ideal S8x128 .f32)
    (b : Fin 32) (h : Fin 8) (k : Fin 256) (d : Fin 128) : REF2 x0 x1 x2 (ix4 b h k d) = key x0 b h k d := by
  pointwise [REF2, keyCache, keys, key, row]

/-- The third result holds the values. -/
theorem REF3_at (x0 : FVec Ideal S16384x6144 .f32) (x1 : FVec Ideal S4x64 .f32) (x2 : FVec Ideal S8x128 .f32)
    (b : Fin 32) (h : Fin 8) (k : Fin 256) (d : Fin 128) : REF3 x0 x1 x2 (ix4 b h k d) = value x0 b h k d := by
  pointwise [REF3, valCache, vals, value, row]

theorem lambda_at (x1 : FVec Ideal S4x64 .f32) (i : S_.Idx) : lambda x1 i = lam fun a j => x1 (ix2 a j) := by
  pointwise [lambda, lam]

theorem scores_at (q : FVec Ideal S32x256x8x2x64 .f32) (k : FVec Ideal S32x256x8x2x64 .f32) (b : Fin 32) (h : Fin 8)
    (c : Fin 2) (i : Fin 256) (x : Fin 256) : scores q k (ix5 b h c i x)
      = score (fun c j => q (ix5 b i h c j)) (fun c j => k (ix5 b x h c j)) c := by
  pointwise [scores, score]

theorem rowMax_at (s : FVec Ideal S32x8x2x256x256 .f32) (b : Fin 32) (h : Fin 8) (c : Fin 2) (i : Fin 256) :
    rowMax s (ix4 b h c i) = top fun x => s (ix5 b h c i x) := by
  unfold rowMax top
  exact rowMax_last5 s _ _ (Ideal.ofBits .f32 0xFF800000#32) (fun _ => rfl) (fun _ => rfl) _ _ b h c i

theorem exps_at (s : FVec Ideal S32x8x2x256x256 .f32) (t : FVec Ideal S32x8x2x256 .f32) (b : Fin 32) (h : Fin 8)
    (c : Fin 2) (i : Fin 256) (x : Fin 256) :
    exps s t (ix5 b h c i x) = Ideal.exp (s (ix5 b h c i x) - t (ix4 b h c i)) := by
  pointwise [exps]

theorem sums_at (e : FVec Ideal S32x8x2x256x256 .f32) (b : Fin 32) (h : Fin 8) (c : Fin 2) (i : Fin 256) :
    sums e (ix4 b h c i) = ∑ x, e (ix5 b h c i x) := by
  pointwise [sums]

theorem probs_at (e : FVec Ideal S32x8x2x256x256 .f32) (t : FVec Ideal S32x8x2x256 .f32) (b : Fin 32) (h : Fin 8)
    (c : Fin 2) (i : Fin 256) (x : Fin 256) :
    probs e t (ix5 b h c i x) = Ideal.div (e (ix5 b h c i x)) (t (ix4 b h c i)) := by
  pointwise [probs]

/-- The softmax of the scores. -/
theorem soft_at (s : FVec Ideal S32x8x2x256x256 .f32) (b : Fin 32) (h : Fin 8) (c : Fin 2) (i : Fin 256)
    (x : Fin 256) : probs (exps s (rowMax s)) (sums (exps s (rowMax s))) (ix5 b h c i x)
      = soft (fun x => s (ix5 b h c i x)) x := by
  rw [probs_at, sums_at]
  simp only [exps_at, rowMax_at]
  rfl

theorem heads_at (v : FVec Ideal S32x256x8x128 .f32) (l : FVec Ideal S_ .f32) (p : FVec Ideal S32x8x2x256x256 .f32)
    (b : Fin 32) (i : Fin 256) (h : Fin 8) (d : Fin 128) : heads v l p (ix4 b i h d)
      = ∑ x : Fin 256, (p (ix5 b h 0 i x) - l ix0 * p (ix5 b h 1 i x)) * v (ix4 b x h d) := by
  pointwise [heads]
  refine Finset.sum_congr rfl fun x _ => ?_
  rw [mul_comm]

theorem result_at (x2 : FVec Ideal S8x128 .f32) (o : FVec Ideal S32x256x8x128 .f32) (r : Fin 8192) (l : Fin 1024) :
    result x2 o (ix2 r l) = normed (fun d => o (ix4 ⟨r.val / 256, by omega⟩ ⟨r.val % 256, by omega⟩ ⟨l.val / 128, by omega⟩ d))
      (x2 (ix2 ⟨l.val / 128, by omega⟩ ⟨l.val % 128, by omega⟩)) ⟨l.val % 128, by omega⟩ := by
  pointwise [result, normed]

/-- Every entry of the reference's first result is the normalised head of its row and column. -/
theorem REF1_at (x0 : FVec Ideal S16384x6144 .f32) (x1 : FVec Ideal S4x64 .f32) (x2 : FVec Ideal S8x128 .f32)
    (b : Fin 32) (h : Fin 8) (i : Fin 256) (d : Fin 128) (r : Fin 8192) (l : Fin 1024)
    (hr : r.val = b.val * 256 + i.val) (hl : l.val = h.val * 128 + d.val) :
    REF1 x0 x1 x2 (ix2 r l)
      = normed (fun d => head (lam fun a j => x1 (ix2 a j)) (query x0 b h i) (fun k c j => key x0 b h k (lane c j))
          fun k => value x0 b h k d) (x2 (ix2 h d)) d := by
  have eb : (⟨r.val / 256, by omega⟩ : Fin 32) = b := Fin.ext (by simp only; omega)
  have ei : (⟨r.val % 256, by omega⟩ : Fin 256) = i := Fin.ext (by simp only; omega)
  have eh : (⟨l.val / 128, by omega⟩ : Fin 8) = h := Fin.ext (by simp only; omega)
  have ed : (⟨l.val % 128, by omega⟩ : Fin 128) = d := Fin.ext (by simp only; omega)
  unfold REF1
  rw [result_at, eb, ei, eh, ed]
  simp only [heads_at, soft_at, scores_at, lambda_at, queries_at, keys_at, vals_at]
  rfl

end Cert.AttnCtxRefIdeal.Value

end
-- ==== Proof.AttnCtx.Block.lean ====
/- What the kernel of the prompt's attention computes for one block of queries, from the keys and values it holds. -/
module

public import proofs.«01_k».proof.Proof.Gen.AttnCtxIdeal.Frame
public import proofs.«01_k».proof.Proof.AttnCtx.Ref
public import Idealize.ShloMosaic.Lib.Pipeline.ReadBack
public import Idealize.ShloMosaic.Lib.Pipeline.ValueKit
public import Idealize.ShloMosaic.Lib.Pointwise

@[expose] public section

set_option maxRecDepth 16384

noncomputable section

namespace Cert.AttnCtxIdeal.Value

open Cert.AttnCtxIdeal Cert.AttnCtxIdeal.Gen Idealize.ShloMosaic Idealize.ShloMosaic.TcCoe Idealize.SL.Sem
open Idealize.ShloMosaic.Pipeline (Dat)
open Cert.DiffAttn Cert.Sums
open Cert.AttnCtxRefIdeal.Value (row query key value REF1 REF2 REF3 REF1_at REF2_at REF3_at)

variable (m : (ℓ : Loc nD τ sig) → Buf (Elt Ideal) ℓ)

/-- The exponentials of the first half's scores, in the upper 256 rows of the kernel's array. -/
theorem pay7_at0 (q : FVec Ideal S256x128 .f32) (K : FVec Ideal S256x128 .bf16) (r : Fin 256) (x : Fin 256) :
    k0_pay7 (F := Ideal) q K (ix2 ⟨r.val, by omega⟩ x)
      = Ideal.exp (scored0 (fun l => q (ix2 r l)) (fun l => K (ix2 x l))
          - top fun x : Fin 256 => scored0 (fun l => q (ix2 r l)) (fun l => K (ix2 x l))) := by
  pointwise [k0_pay7, scored0, top]

/-- The exponentials of the second half's scores, in the lower 256 rows. -/
theorem pay7_at1 (q : FVec Ideal S256x128 .f32) (K : FVec Ideal S256x128 .bf16) (r : Fin 256) (x : Fin 256) :
    k0_pay7 (F := Ideal) q K (ix2 ⟨256 + r.val, by omega⟩ x)
      = Ideal.exp (scored1 (fun l => q (ix2 r l)) (fun l => K (ix2 x l))
          - top fun x : Fin 256 => scored1 (fun l => q (ix2 r l)) (fun l => K (ix2 x l))) := by
  pointwise [k0_pay7, scored1, top]

/-- The head from the exponentials: both softmaxes, their difference times the values, and the normalisation. -/
theorem pay1_at (lm : FVec Ideal S1x1 .f32) (e : FVec Ideal S512x256 .f32) (V : FVec Ideal S256x128 .bf16)
    (g : FVec Ideal S1x1x128 .f32) (r : Fin 256) (d : Fin 128) :
    k0_pay1 lm e V g (ix2 r d)
      = normed (fun d => ∑ x : Fin 256,
          (Ideal.div (e (ix2 ⟨r.val, by omega⟩ x)) (∑ x : Fin 256, e (ix2 ⟨r.val, by omega⟩ x))
            - lm (ix2 0 0) * Ideal.div (e (ix2 ⟨256 + r.val, by omega⟩ x)) (∑ x : Fin 256, e (ix2 ⟨256 + r.val, by omega⟩ x))) * V (ix2 x d))
          (g (ix3 0 0 d)) d := by
  pointwise [k0_pay1, normed]

/-- The weight of the second softmax. -/
theorem pay6_at (x : FVec Ideal S4x64 .f32) : k0_pay6 (F := Ideal) x (ix2 0 0) = lam fun a j => x (ix2 a j) := by
  pointwise [k0_pay6, lam]

/-- One block of the output: the normalised head of each of its queries against the keys and values held. -/
theorem block_at (x : FVec Ideal S4x64 .f32) (q : FVec Ideal S256x128 .f32) (K V : FVec Ideal S256x128 .bf16)
    (g : FVec Ideal S1x1x128 .f32) (r : Fin 256) (d : Fin 128) :
    k0_pay1 (F := Ideal) (k0_pay6 x) (k0_pay7 q K) V g (ix2 r d)
      = normed (fun d => head (lam fun a j => x (ix2 a j)) (fun c j => q (ix2 r (lane c j)))
          (fun k c j => K (ix2 k (lane c j))) fun k => V (ix2 k d)) (g (ix3 0 0 d)) d := by
  rw [pay1_at]
  simp only [pay7_at0, pay7_at1, pay6_at, scored0_eq, scored1_eq]
  rfl

end Cert.AttnCtxIdeal.Value

end
-- ==== Proof.AttnCtx.Kernel.lean ====
/- What the kernel of the prompt's attention leaves in its result arrays. -/
module

public import proofs.«01_k».proof.Proof.Gen.AttnCtxIdeal.Frame
public import proofs.«01_k».proof.Proof.AttnCtx.Block
public import proofs.«01_k».proof.Proof.Reads
public import Idealize.ShloMosaic.Lib.Pipeline.ReadBack
public import Idealize.ShloMosaic.Lib.Pipeline.ValueKit
public import Idealize.ShloMosaic.Lib.Pointwise

@[expose] public section

set_option maxRecDepth 16384

noncomputable section

namespace Cert.AttnCtxIdeal.Value

open Cert.AttnCtxIdeal Cert.AttnCtxIdeal.Gen Idealize.ShloMosaic Idealize.ShloMosaic.TcCoe Idealize.SL.Sem
open Idealize.ShloMosaic.Pipeline (Dat)
open Cert.DiffAttn Cert.Sums
open Cert.AttnCtxRefIdeal.Value (row query key value REF1 REF2 REF3 REF1_at REF2_at REF3_at)

variable (m : (ℓ : Loc nD τ sig) → Buf (Elt Ideal) ℓ)

/-- Where each block of grid point `t` lies: sequence `t / 8`, head `t % 8`. -/
theorem idx : ∀ t : Fin cfg0.N, win0_0.index t = ![0, 0] ∧ win0_1.index t = ![t.val / 8, t.val % 8]
    ∧ win0_2.index t = ![t.val / 8, 8 + t.val % 8] ∧ win0_3.index t = ![t.val / 8, 16 + t.val % 8]
    ∧ win0_4.index t = ![t.val % 8, 0, 0] ∧ win0_5.index t = ![t.val / 8, t.val % 8]
    ∧ win0_6.index t = ![t.val / 8, t.val % 8, 0, 0] ∧ win0_7.index t = ![t.val / 8, t.val % 8, 0, 0] ∧ t.val < 256 :=
  (by decide +kernel : ∀ t : Fin grid0.N, _)

/-- The keys a point stores: lane `l` at place `k`. -/
theorem keys_held (c : Dev nD) (t : Fin cfg0.N) (b : Fin 32) (h : Fin 8) (hb : b.val = t.val / 8)
    (hh : h.val = t.val % 8) (k : Fin 256) (l : Fin 128) :
    k0_pay2 (F := Ideal) (iblk m c 2 t) (ix2 k l) = key (m ((c : Thread nD τ).loc main_arg0)) b h k l := by
  have hi := idx t
  unfold key
  pointwise [k0_pay2, row]
  blk_point [iblk, V, idx t, hb, hh]

/-- The values a point stores: lane `l` at place `k`. -/
theorem vals_held (c : Dev nD) (t : Fin cfg0.N) (b : Fin 32) (h : Fin 8) (hb : b.val = t.val / 8)
    (hh : h.val = t.val % 8) (k : Fin 256) (l : Fin 128) :
    k0_pay3 (F := Ideal) (iblk m c 3 t) (ix2 k l) = value (m ((c : Thread nD τ).loc main_arg0)) b h k l := by
  have hi := idx t
  unfold value
  pointwise [k0_pay3, row]
  blk_point [iblk, V, idx t, hb, hh]

/-- The block of keys a point writes out. -/
theorem keys_out (c : Dev nD) (t : Fin cfg0.N) (b : Fin 32) (h : Fin 8) (hb : b.val = t.val / 8)
    (hh : h.val = t.val % 8) (p q : Fin 1) (k : Fin 256) (l : Fin 128) :
    k0_pay4 (F := Ideal) (iblk m c 2 t) (ix4 p q k l) = key (m ((c : Thread nD τ).loc main_arg0)) b h k l := by
  have hi := idx t
  unfold key
  pointwise [k0_pay4, row]
  blk_point [iblk, V, idx t, hb, hh]

/-- The block of values a point writes out. -/
theorem vals_out (c : Dev nD) (t : Fin cfg0.N) (b : Fin 32) (h : Fin 8) (hb : b.val = t.val / 8)
    (hh : h.val = t.val % 8) (p q : Fin 1) (k : Fin 256) (l : Fin 128) :
    k0_pay5 (F := Ideal) (iblk m c 3 t) (ix4 p q k l) = value (m ((c : Thread nD τ).loc main_arg0)) b h k l := by
  have hi := idx t
  unfold value
  pointwise [k0_pay5, row]
  blk_point [iblk, V, idx t, hb, hh]

/-- A point's block of the first result, from scratch arrays that hold the keys and the values of its head. -/
theorem block_eq (c : Dev nD) (t : Fin cfg0.N) (K V' : FVec Ideal S256x128 .bf16) (b : Fin 32) (h : Fin 8)
    (hb : b.val = t.val / 8) (hh : h.val = t.val % 8)
    (hK : ∀ k l, K (ix2 k l) = key (m ((c : Thread nD τ).loc main_arg0)) b h k l)
    (hV : ∀ k l, V' (ix2 k l) = value (m ((c : Thread nD τ).loc main_arg0)) b h k l)
    (r : Fin 256) (d : Fin 128) (R : Fin 8192) (L : Fin 1024)
    (hR : R.val = t.val / 8 * 256 + r.val) (hL : L.val = t.val % 8 * 128 + d.val) :
    k0_pay1 (F := Ideal) (k0_pay6 (iblk m c 0 t)) (k0_pay7 (iblk m c 1 t) K) V' (iblk m c 4 t) (ix2 r d)
      = REF1 (m ((c : Thread nD τ).loc main_arg0)) (m ((c : Thread nD τ).loc main_arg1))
        (m ((c : Thread nD τ).loc main_arg2)) (ix2 R L) := by
  have hi := idx t
  refine (block_at _ _ _ _ _ r d).trans ?_
  rw [REF1_at _ _ _ b h r d R L (by omega) (by omega)]
  have hx : (fun (a : Fin 4) (j : Fin 64) => (iblk m c 0 t : FVec Ideal S4x64 .f32) (ix2 a j))
      = fun a j => m ((c : Thread nD τ).loc main_arg1) (ix2 a j) := by
    funext a j
    blk_point [iblk, V, idx t]
  have hq : (fun (e : Fin 2) (j : Fin 64) => (iblk m c 1 t : FVec Ideal S256x128 .f32) (ix2 r (lane e j)))
      = query (m ((c : Thread nD τ).loc main_arg0)) b h r := by
    funext e j
    unfold query row lane
    blk_point [iblk, V, idx t, hb, hh]
  have hg : (iblk m c 4 t : FVec Ideal S1x1x128 .f32) (ix3 0 0 d) = m ((c : Thread nD τ).loc main_arg2) (ix2 h d) := by
    blk_point [iblk, V, idx t, hh]
  rw [hx, hq, hg]
  simp only [hK, hV]

/-- What each point leaves in its block of the first result. -/
theorem out_at (c : Dev nD) (t : Fin cfg0.N) (r : Fin 256) (d : Fin 128) (R : Fin 8192) (L : Fin 1024)
    (hR : R.val = t.val / 8 * 256 + r.val) (hL : L.val = t.val % 8 * 128 + d.val) :
    (outsAt0 m c t).1 (ix2 r d)
      = REF1 (m ((c : Thread nD τ).loc main_arg0)) (m ((c : Thread nD τ).loc main_arg1))
        (m ((c : Thread nD τ).loc main_arg2)) (ix2 R L) := by
  have hi := idx t
  unfold outsAt0
  frame_out
  refine block_eq m c t _ _ ⟨t.val / 8, by omega⟩ ⟨t.val % 8, by omega⟩ rfl rfl ?_ ?_ r d R L hR hL
  · intro k l
    exact keys_held m c t _ _ rfl rfl k l
  · intro k l
    exact vals_held m c t _ _ rfl rfl k l

/-- The first result array after the run is the reference's. -/
theorem final1 (c : Dev nD) : (dats m 0 c).arrAt 5 cfg0.N
    = REF1 (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  have e := (eq_ix2 (n0 := 8192) (n1 := 1024) ((win0_5.blk t).view.emb y))
  refine Eq.trans ?_ (congrArg _ e.symm)
  refine Eq.trans (congrArg _ (eq_ix2 (n0 := 256) (n1 := 128) y)) (out_at m c t (y 0) (y 1) _ _ ?_ ?_)
  · blk_simp [idx t]
  · blk_simp [idx t]

/-- What each point leaves in its block of the keys in the cache. -/
theorem keys_out_at (c : Dev nD) (t : Fin cfg0.N) (p q : Fin 1) (k : Fin 256) (l : Fin 128) (B : Fin 32) (H : Fin 8) (K : Fin 256)
    (L : Fin 128) (hB : B.val = t.val / 8) (hH : H.val = t.val % 8) (hK : K.val = k.val) (hL : L.val = l.val) :
    (outsAt0 m c t).2.1 (ix4 p q k l)
      = REF2 (m ((c : Thread nD τ).loc main_arg0)) (m ((c : Thread nD τ).loc main_arg1))
        (m ((c : Thread nD τ).loc main_arg2)) (ix4 B H K L) := by
  have eK : K = k := Fin.ext hK
  have eL : L = l := Fin.ext hL
  rw [REF2_at, eK, eL]
  unfold outsAt0
  frame_out
  exact keys_out m c t B H hB hH p q k l

/-- The keys in the cache after the run are the reference's. -/
theorem final2 (c : Dev nD) : (dats m 0 c).arrAt 6 cfg0.N
    = REF2 (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6]
  have e := (eq_ix4 (n0 := 32) (n1 := 8) (n2 := 256) (n3 := 128) ((win0_6.blk t).view.emb y))
  refine Eq.trans ?_ (congrArg _ e.symm)
  refine Eq.trans (congrArg _ (eq_ix4 (n0 := 1) (n1 := 1) (n2 := 256) (n3 := 128) y))
    (keys_out_at m c t (y 0) (y 1) (y 2) (y 3) _ _ _ _ ?_ ?_ ?_ ?_)
  · blk_simp [idx t]
  · blk_simp [idx t]
  · blk_simp [idx t]
  · blk_simp [idx t]

/-- What each point leaves in its block of the values in the cache. -/
theorem vals_out_at (c : Dev nD) (t : Fin cfg0.N) (p q : Fin 1) (k : Fin 256) (l : Fin 128) (B : Fin 32) (H : Fin 8) (K : Fin 256)
    (L : Fin 128) (hB : B.val = t.val / 8) (hH : H.val = t.val % 8) (hK : K.val = k.val) (hL : L.val = l.val) :
    (outsAt0 m c t).2.2 (ix4 p q k l)
      = REF3 (m ((c : Thread nD τ).loc main_arg0)) (m ((c : Thread nD τ).loc main_arg1))
        (m ((c : Thread nD τ).loc main_arg2)) (ix4 B H K L) := by
  have eK : K = k := Fin.ext hK
  have eL : L = l := Fin.ext hL
  rw [REF3_at, eK, eL]
  unfold outsAt0
  frame_out
  exact vals_out m c t B H hB hH p q k l

/-- The values in the cache after the run are the reference's. -/
theorem final3 (c : Dev nD) : (dats m 0 c).arrAt 7 cfg0.N
    = REF3 (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7]
  have e := (eq_ix4 (n0 := 32) (n1 := 8) (n2 := 256) (n3 := 128) ((win0_7.blk t).view.emb y))
  refine Eq.trans ?_ (congrArg _ e.symm)
  refine Eq.trans (congrArg _ (eq_ix4 (n0 := 1) (n1 := 1) (n2 := 256) (n3 := 128) y))
    (vals_out_at m c t (y 0) (y 1) (y 2) (y 3) _ _ _ _ ?_ ?_ ?_ ?_)
  · blk_simp [idx t]
  · blk_simp [idx t]
  · blk_simp [idx t]
  · blk_simp [idx t]

end Cert.AttnCtxIdeal.Value

end
-- ==== Proof.AttnCtx.Claim.lean ====
/- The attention of the prompt: kernel and reference end with equal results. -/
module

public import proofs.«01_k».proof.Defs
public import proofs.«01_k».proof.Proof.AttnCtx.Kernel
public import Idealize.ShloMosaic.Lib.Claim
public import Idealize.ShloMosaic.Lib.Quiescent
public import Idealize.ShloMosaic.Adequacy
public import Idealize.ShloMosaic.Init

@[expose] public section

noncomputable section

namespace Cert.AttnCtxClaim

open Idealize.ShloMosaic Idealize.SL.Sem

/-- The reference terminates, keeps its arguments and leaves every counter at zero: it declares none. -/
theorem frame_ref : quiescent_AttnCtxRefIdeal (hAttnCtxRefIdeal := Cert.AttnCtxRefIdeal.Gen.facts) := by
  intro m ρ _
  exact (θ_run Cert.AttnCtxRefIdeal.defs _ _).mono (fun r h => ⟨fun c => ⟨(h c).2.2.2.1, (h c).2.2.2.2.1, (h c).2.2.2.2.2⟩, sem_eq_zero_of_no_sems (by decide) r.2⟩)
    (Cert.AttnCtxRefIdeal.Value.run_ref m ρ)

/-- From equal arguments the kernel and the reference run and end with the same arrays. -/
theorem algebraic : algebraic_AttnCtxIdeal_AttnCtxRefIdeal (hAttnCtxIdeal := Cert.AttnCtxIdeal.Gen.facts)
    (hAttnCtxRefIdeal := Cert.AttnCtxRefIdeal.Gen.facts) := by
  pair_intro
  · run_from Cert.AttnCtxIdeal.Gen.run_main m g
  · run_from Cert.AttnCtxRefIdeal.Value.run_ref m' g'
    · exact (Cert.AttnCtxIdeal.Value.final1 m c).symm
    · exact (Cert.AttnCtxIdeal.Value.final2 m c).symm
    · exact (Cert.AttnCtxIdeal.Value.final3 m c).symm

end Cert.AttnCtxClaim

end
-- ==== Proof.InEven.Stages.lean ====
/- The reference of the even layers' input projection, in stages. -/
module

public import proofs.«01_k».proof.Proof.Gen.InEvenRefIdeal.Run
public import Idealize.ShloMosaic.Lib.Pointwise

@[expose] public section

set_option maxRecDepth 16384

noncomputable section

namespace Cert.InEvenRefIdeal.Value

open Cert.InEvenRefIdeal Cert.InEvenRefIdeal.Gen Idealize.ShloMosaic Idealize.ShloMosaic.TcCoe Idealize.SL.Sem

/-- The product of the modulated prompt with the weights. -/
def ctxProduct (x0 : FVec Ideal S16384x2048 .f32) (x1 : FVec Ideal S3x6x2048 .f32) (x2 : FVec Ideal S2048x6144 .f32) :
    FVec Ideal S8192x6144 .f32 :=
  Host.dotGeneral dot_S8192x2048_S2048x6144_S8192x6144_1_0_0_1_n_n none (addf (mulf (extractStridedSlice S8192x2048 ![0, 0] x0 slices_S16384x2048_S8192x2048_0_0) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) (shapeCast S2048 (extractStridedSlice S1x1x2048 ![0, 1, 0] x1 slices_S3x6x2048_S1x1x2048_0_1_0) shapeCasts_S1x1x2048_S2048))))) (broadcastInDim S8192x2048 ![0, 1] bcast_S1x2048_S8192x2048_0_1 (broadcastInDim S1x2048 ![1] bcast_S2048_S1x2048_1 (shapeCast S2048 (extractStridedSlice S1x1x2048 ![0, 0, 0] x1 slices_S3x6x2048_S1x1x2048_0_0_0) shapeCasts_S1x1x2048_S2048)))) x2

/-- The product of the modulated latent rows with the weights: sample, position, column. -/
def product (x0 : FVec Ideal S16384x2048 .f32) (x1 : FVec Ideal S3x6x2048 .f32) (x2 : FVec Ideal S2048x6144 .f32) :
    FVec Ideal S2x4096x6144 .f32 :=
  Host.dotGeneral dot_S2x4096x2048_S2048x6144_S2x4096x6144_2_0_01_1_n_n none (addf (mulf (shapeCast S2x4096x2048 (extractStridedSlice S8192x2048 ![8192, 0] x0 slices_S16384x2048_S8192x2048_8192_0) shapeCasts_S8192x2048_S2x4096x2048) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (shapeCast S2x2048 (extractStridedSlice S2x1x2048 ![1, 1, 0] x1 slices_S3x6x2048_S2x1x2048_1_1_0) shapeCasts_S2x1x2048_S2x2048))))) (broadcastInDim S2x4096x2048 ![0, 1, 2] bcast_S2x1x2048_S2x4096x2048_0_1_2 (broadcastInDim S2x1x2048 ![0, 2] bcast_S2x2048_S2x1x2048_0_2 (shapeCast S2x2048 (extractStridedSlice S2x1x2048 ![1, 0, 0] x1 slices_S3x6x2048_S2x1x2048_1_0_0) shapeCasts_S2x1x2048_S2x2048)))) x2

/-- The attention's queries, rotated: sample, position, head, half, lane. -/
def queriesA (x3 : FVec Ideal S4096x32 .f32) (x4 : FVec Ideal S4096x32 .f32) (product_ : FVec Ideal S2x4096x6144 .f32) :
    FVec Ideal S2x4096x8x2x64 .f32 :=
  concatenate S2x4096x8x2x64 4 [⟨S2x4096x8x2x32, (subf (mulf (extractStridedSlice S2x4096x8x2x32 ![0, 0, 0, 0, 0] (shapeCast S2x4096x8x2x64 (extractStridedSlice S2x4096x1024 ![0, 0, 0] product_ slices_S2x4096x6144_S2x4096x1024_0_0_0) shapeCasts_S2x4096x1024_S2x4096x8x2x64) slices_S2x4096x8x2x64_S2x4096x8x2x32_0_0_0_0_0) (broadcastInDim S2x4096x8x2x32 ![0, 1, 2, 3, 4] bcast_S1x4096x1x1x32_S2x4096x8x2x32_0_1_2_3_4 (shapeCast S1x4096x1x1x32 x3 shapeCasts_S4096x32_S1x4096x1x1x32))) (mulf (extractStridedSlice S2x4096x8x2x32 ![0, 0, 0, 0, 32] (shapeCast S2x4096x8x2x64 (extractStridedSlice S2x4096x1024 ![0, 0, 0] product_ slices_S2x4096x6144_S2x4096x1024_0_0_0) shapeCasts_S2x4096x1024_S2x4096x8x2x64) slices_S2x4096x8x2x64_S2x4096x8x2x32_0_0_0_0_32) (broadcastInDim S2x4096x8x2x32 ![0, 1, 2, 3, 4] bcast_S1x4096x1x1x32_S2x4096x8x2x32_0_1_2_3_4 (shapeCast S1x4096x1x1x32 x4 shapeCasts_S4096x32_S1x4096x1x1x32))))⟩, ⟨S2x4096x8x2x32, (addf (mulf (extractStridedSlice S2x4096x8x2x32 ![0, 0, 0, 0, 0] (shapeCast S2x4096x8x2x64 (extractStridedSlice S2x4096x1024 ![0, 0, 0] product_ slices_S2x4096x6144_S2x4096x1024_0_0_0) shapeCasts_S2x4096x1024_S2x4096x8x2x64) slices_S2x4096x8x2x64_S2x4096x8x2x32_0_0_0_0_0) (broadcastInDim S2x4096x8x2x32 ![0, 1, 2, 3, 4] bcast_S1x4096x1x1x32_S2x4096x8x2x32_0_1_2_3_4 (shapeCast S1x4096x1x1x32 x4 shapeCasts_S4096x32_S1x4096x1x1x32))) (mulf (extractStridedSlice S2x4096x8x2x32 ![0, 0, 0, 0, 32] (shapeCast S2x4096x8x2x64 (extractStridedSlice S2x4096x1024 ![0, 0, 0] product_ slices_S2x4096x6144_S2x4096x1024_0_0_0) shapeCasts_S2x4096x1024_S2x4096x8x2x64) slices_S2x4096x8x2x64_S2x4096x8x2x32_0_0_0_0_32) (broadcastInDim S2x4096x8x2x32 ![0, 1, 2, 3, 4] bcast_S1x4096x1x1x32_S2x4096x8x2x32_0_1_2_3_4 (shapeCast S1x4096x1x1x32 x3 shapeCasts_S4096x32_S1x4096x1x1x32))))⟩] concatenates_S2x4096x8x2x32_S2x4096x8x2x32_S2x4096x8x2x64_d4

/-- The attention's keys, rotated. -/
def keysA (x3 : FVec Ideal S4096x32 .f32) (x4 : FVec Ideal S4096x32 .f32) (product_ : FVec Ideal S2x4096x6144 .f32) :
    FVec Ideal S2x4096x8x2x64 .f32 :=
  concatenate S2x4096x8x2x64 4 [⟨S2x4096x8x2x32, (subf (mulf (extractStridedSlice S2x4096x8x2x32 ![0, 0, 0, 0, 0] (shapeCast S2x4096x8x2x64 (extractStridedSlice S2x4096x1024 ![0, 0, 1024] product_ slices_S2x4096x6144_S2x4096x1024_0_0_1024) shapeCasts_S2x4096x1024_S2x4096x8x2x64) slices_S2x4096x8x2x64_S2x4096x8x2x32_0_0_0_0_0) (broadcastInDim S2x4096x8x2x32 ![0, 1, 2, 3, 4] bcast_S1x4096x1x1x32_S2x4096x8x2x32_0_1_2_3_4 (shapeCast S1x4096x1x1x32 x3 shapeCasts_S4096x32_S1x4096x1x1x32))) (mulf (extractStridedSlice S2x4096x8x2x32 ![0, 0, 0, 0, 32] (shapeCast S2x4096x8x2x64 (extractStridedSlice S2x4096x1024 ![0, 0, 1024] product_ slices_S2x4096x6144_S2x4096x1024_0_0_1024) shapeCasts_S2x4096x1024_S2x4096x8x2x64) slices_S2x4096x8x2x64_S2x4096x8x2x32_0_0_0_0_32) (broadcastInDim S2x4096x8x2x32 ![0, 1, 2, 3, 4] bcast_S1x4096x1x1x32_S2x4096x8x2x32_0_1_2_3_4 (shapeCast S1x4096x1x1x32 x4 shapeCasts_S4096x32_S1x4096x1x1x32))))⟩, ⟨S2x4096x8x2x32, (addf (mulf (extractStridedSlice S2x4096x8x2x32 ![0, 0, 0, 0, 0] (shapeCast S2x4096x8x2x64 (extractStridedSlice S2x4096x1024 ![0, 0, 1024] product_ slices_S2x4096x6144_S2x4096x1024_0_0_1024) shapeCasts_S2x4096x1024_S2x4096x8x2x64) slices_S2x4096x8x2x64_S2x4096x8x2x32_0_0_0_0_0) (broadcastInDim S2x4096x8x2x32 ![0, 1, 2, 3, 4] bcast_S1x4096x1x1x32_S2x4096x8x2x32_0_1_2_3_4 (shapeCast S1x4096x1x1x32 x4 shapeCasts_S4096x32_S1x4096x1x1x32))) (mulf (extractStridedSlice S2x4096x8x2x32 ![0, 0, 0, 0, 32] (shapeCast S2x4096x8x2x64 (extractStridedSlice S2x4096x1024 ![0, 0, 1024] product_ slices_S2x4096x6144_S2x4096x1024_0_0_1024) shapeCasts_S2x4096x1024_S2x4096x8x2x64) slices_S2x4096x8x2x64_S2x4096x8x2x32_0_0_0_0_32) (broadcastInDim S2x4096x8x2x32 ![0, 1, 2, 3, 4] bcast_S1x4096x1x1x32_S2x4096x8x2x32_0_1_2_3_4 (shapeCast S1x4096x1x1x32 x3 shapeCasts_S4096x32_S1x4096x1x1x32))))⟩] concatenates_S2x4096x8x2x32_S2x4096x8x2x32_S2x4096x8x2x64_d4

/-- The retention's queries, rotated: sample, position, head, lane. -/
def queriesB (x5 : FVec Ideal S4096x64 .f32) (x6 : FVec Ideal S4096x64 .f32) (product_ : FVec Ideal S2x4096x6144 .f32) :
    FVec Ideal S2x4096x4x128 .f32 :=
  concatenate S2x4096x4x128 3 [⟨S2x4096x4x64, (subf (mulf (extractStridedSlice S2x4096x4x64 ![0, 0, 0, 0] (shapeCast S2x4096x4x128 (extractStridedSlice S2x4096x512 ![0, 0, 3072] product_ slices_S2x4096x6144_S2x4096x512_0_0_3072) shapeCasts_S2x4096x512_S2x4096x4x128) slices_S2x4096x4x128_S2x4096x4x64_0_0_0_0) (broadcastInDim S2x4096x4x64 ![0, 1, 2, 3] bcast_S1x4096x1x64_S2x4096x4x64_0_1_2_3 (shapeCast S1x4096x1x64 x5 shapeCasts_S4096x64_S1x4096x1x64))) (mulf (extractStridedSlice S2x4096x4x64 ![0, 0, 0, 64] (shapeCast S2x4096x4x128 (extractStridedSlice S2x4096x512 ![0, 0, 3072] product_ slices_S2x4096x6144_S2x4096x512_0_0_3072) shapeCasts_S2x4096x512_S2x4096x4x128) slices_S2x4096x4x128_S2x4096x4x64_0_0_0_64) (broadcastInDim S2x4096x4x64 ![0, 1, 2, 3] bcast_S1x4096x1x64_S2x4096x4x64_0_1_2_3 (shapeCast S1x4096x1x64 x6 shapeCasts_S4096x64_S1x4096x1x64))))⟩, ⟨S2x4096x4x64, (addf (mulf (extractStridedSlice S2x4096x4x64 ![0, 0, 0, 0] (shapeCast S2x4096x4x128 (extractStridedSlice S2x4096x512 ![0, 0, 3072] product_ slices_S2x4096x6144_S2x4096x512_0_0_3072) shapeCasts_S2x4096x512_S2x4096x4x128) slices_S2x4096x4x128_S2x4096x4x64_0_0_0_0) (broadcastInDim S2x4096x4x64 ![0, 1, 2, 3] bcast_S1x4096x1x64_S2x4096x4x64_0_1_2_3 (shapeCast S1x4096x1x64 x6 shapeCasts_S4096x64_S1x4096x1x64))) (mulf (extractStridedSlice S2x4096x4x64 ![0, 0, 0, 64] (shapeCast S2x4096x4x128 (extractStridedSlice S2x4096x512 ![0, 0, 3072] product_ slices_S2x4096x6144_S2x4096x512_0_0_3072) shapeCasts_S2x4096x512_S2x4096x4x128) slices_S2x4096x4x128_S2x4096x4x64_0_0_0_64) (broadcastInDim S2x4096x4x64 ![0, 1, 2, 3] bcast_S1x4096x1x64_S2x4096x4x64_0_1_2_3 (shapeCast S1x4096x1x64 x5 shapeCasts_S4096x64_S1x4096x1x64))))⟩] concatenates_S2x4096x4x64_S2x4096x4x64_S2x4096x4x128_d3

/-- The retention's keys over the root of their width. -/
def scaledB (product_ : FVec Ideal S2x4096x6144 .f32) :
    FVec Ideal S2x4096x4x128 .f32 :=
  Host.divf (shapeCast S2x4096x4x128 (extractStridedSlice S2x4096x512 ![0, 0, 3584] product_ slices_S2x4096x6144_S2x4096x512_0_0_3584) shapeCasts_S2x4096x512_S2x4096x4x128) (broadcastInDim S2x4096x4x128 ![] bcast_S_S2x4096x4x128 (Host.sqrt (constant S_ .f32 0x43000000#32)))

/-- The retention's keys, rotated. -/
def keysB (x5 : FVec Ideal S4096x64 .f32) (x6 : FVec Ideal S4096x64 .f32) (scaledB_ : FVec Ideal S2x4096x4x128 .f32) :
    FVec Ideal S2x4096x4x128 .f32 :=
  concatenate S2x4096x4x128 3 [⟨S2x4096x4x64, (subf (mulf (extractStridedSlice S2x4096x4x64 ![0, 0, 0, 0] scaledB_ slices_S2x4096x4x128_S2x4096x4x64_0_0_0_0) (broadcastInDim S2x4096x4x64 ![0, 1, 2, 3] bcast_S1x4096x1x64_S2x4096x4x64_0_1_2_3 (shapeCast S1x4096x1x64 x5 shapeCasts_S4096x64_S1x4096x1x64))) (mulf (extractStridedSlice S2x4096x4x64 ![0, 0, 0, 64] scaledB_ slices_S2x4096x4x128_S2x4096x4x64_0_0_0_64) (broadcastInDim S2x4096x4x64 ![0, 1, 2, 3] bcast_S1x4096x1x64_S2x4096x4x64_0_1_2_3 (shapeCast S1x4096x1x64 x6 shapeCasts_S4096x64_S1x4096x1x64))))⟩, ⟨S2x4096x4x64, (addf (mulf (extractStridedSlice S2x4096x4x64 ![0, 0, 0, 0] scaledB_ slices_S2x4096x4x128_S2x4096x4x64_0_0_0_0) (broadcastInDim S2x4096x4x64 ![0, 1, 2, 3] bcast_S1x4096x1x64_S2x4096x4x64_0_1_2_3 (shapeCast S1x4096x1x64 x6 shapeCasts_S4096x64_S1x4096x1x64))) (mulf (extractStridedSlice S2x4096x4x64 ![0, 0, 0, 64] scaledB_ slices_S2x4096x4x128_S2x4096x4x64_0_0_0_64) (broadcastInDim S2x4096x4x64 ![0, 1, 2, 3] bcast_S1x4096x1x64_S2x4096x4x64_0_1_2_3 (shapeCast S1x4096x1x64 x5 shapeCasts_S4096x64_S1x4096x1x64))))⟩] concatenates_S2x4096x4x64_S2x4096x4x64_S2x4096x4x128_d3

/-- The latent rows: the rotated parts in their columns, the other columns as the product has them. -/
def joined (product_ : FVec Ideal S2x4096x6144 .f32) (queriesA_ : FVec Ideal S2x4096x8x2x64 .f32) (keysA_ : FVec Ideal S2x4096x8x2x64 .f32) (queriesB_ : FVec Ideal S2x4096x4x128 .f32) (keysB_ : FVec Ideal S2x4096x4x128 .f32) :
    FVec Ideal S2x4096x6144 .f32 :=
  (concatenate S2x4096x6144 2 [⟨S2x4096x1024, ((shapeCast S2x4096x1024 queriesA_ shapeCasts_S2x4096x8x2x64_S2x4096x1024))⟩, ⟨S2x4096x1024, ((shapeCast S2x4096x1024 keysA_ shapeCasts_S2x4096x8x2x64_S2x4096x1024))⟩, ⟨S2x4096x1024, ((extractStridedSlice S2x4096x1024 ![0, 0, 2048] product_ slices_S2x4096x6144_S2x4096x1024_0_0_2048))⟩, ⟨S2x4096x512, ((shapeCast S2x4096x512 queriesB_ shapeCasts_S2x4096x4x128_S2x4096x512))⟩, ⟨S2x4096x512, ((shapeCast S2x4096x512 keysB_ shapeCasts_S2x4096x4x128_S2x4096x512))⟩, ⟨S2x4096x2048, ((extractStridedSlice S2x4096x2048 ![0, 0, 4096] product_ slices_S2x4096x6144_S2x4096x2048_0_0_4096))⟩] concatenates_S2x4096x1024_S2x4096x1024_S2x4096x1024_S2x4096x512_S2x4096x512_S2x4096x2048_S2x4096x6144_d2)

/-- The prompt's rows, then the latent ones. -/
def result (ctxProduct_ : FVec Ideal S8192x6144 .f32) (joined_ : FVec Ideal S2x4096x6144 .f32) :
    FVec Ideal S16384x6144 .f32 :=
  concatenate S16384x6144 0 [⟨S8192x6144, ctxProduct_⟩, ⟨S8192x6144, (shapeCast S8192x6144 joined_ shapeCasts_S2x4096x6144_S8192x6144)⟩] concatenates_S8192x6144_S8192x6144_S16384x6144_d0

/-- The reference's result as a function of its arguments. -/
def REF (x0 : FVec Ideal S16384x2048 .f32) (x1 : FVec Ideal S3x6x2048 .f32) (x2 : FVec Ideal S2048x6144 .f32) (x3 : FVec Ideal S4096x32 .f32) (x4 : FVec Ideal S4096x32 .f32) (x5 : FVec Ideal S4096x64 .f32) (x6 : FVec Ideal S4096x64 .f32) :
    FVec Ideal S16384x6144 .f32 :=
  result (ctxProduct x0 x1 x2) (joined (product x0 x1 x2) (queriesA x3 x4 (product x0 x1 x2)) (keysA x3 x4 (product x0 x1 x2)) (queriesB x5 x6 (product x0 x1 x2)) (keysB x5 x6 (scaledB (product x0 x1 x2))))

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108) =
        REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.InEvenRefIdeal.Value

end
-- ==== Proof.InEven.Ref.lean ====
/- What the reference of the even layers' input projection computes, entry by entry. -/
module

public import proofs.«01_k».proof.Proof.InEven.Stages
public import Idealize.ShloMosaic.Lib.IdealHost

@[expose] public section

set_option maxRecDepth 16384

noncomputable section

namespace Cert.InEvenRefIdeal.Value

open Cert.InEvenRefIdeal Cert.InEvenRefIdeal.Gen Idealize.ShloMosaic Idealize.ShloMosaic.TcCoe Idealize.SL.Sem

/-- The row of the modulation table that applies to a row of the activations: 0 for the prompt, then one per sample. -/
def grp (r : Fin 16384) : Fin 3 := if h : r.val < 8192 then 0 else ⟨1 + (r.val - 8192) / 4096, by omega⟩

/-- The position of a latent row in its sample. -/
def pos (r : Fin 16384) : Fin 4096 := ⟨(r.val - 8192) % 4096, by omega⟩

/-- The modulated activations: `x · (1 + scale) + shift`. -/
def modulated (x0 : FVec Ideal S16384x2048 .f32) (x1 : FVec Ideal S3x6x2048 .f32) (r : Fin 16384) (k : Fin 2048) : EReal :=
  x0 (ix2 r k) * (1 + x1 (ix3 (grp r) 1 k)) + x1 (ix3 (grp r) 0 k)

/-- The projection before the rotation: a modulated row times a column of the weights. -/
def proj (x0 : FVec Ideal S16384x2048 .f32) (x1 : FVec Ideal S3x6x2048 .f32) (x2 : FVec Ideal S2048x6144 .f32)
    (r : Fin 16384) (l : Fin 6144) : EReal :=
  ∑ k : Fin 2048, modulated x0 x1 r k * x2 (ix2 k l)

/-- A row rotated in groups of 64 lanes: the first 32 lanes of a group with the last 32. -/
def turnA (f : Fin 6144 → EReal) (c s : Fin 32 → EReal) (l : Fin 6144) : EReal :=
  if h : l.val % 64 < 32 then f l * c ⟨l.val % 64, h⟩ + f ⟨l.val + 32, by omega⟩ * -s ⟨l.val % 64, h⟩
  else f l * c ⟨l.val % 64 - 32, by omega⟩ + f ⟨l.val - 32, by omega⟩ * s ⟨l.val % 64 - 32, by omega⟩

/-- A row rotated in groups of 128 lanes: the first 64 lanes of a group with the last 64. -/
def turnB (f : Fin 6144 → EReal) (c s : Fin 64 → EReal) (l : Fin 6144) : EReal :=
  if h : l.val % 128 < 64 then f l * c ⟨l.val % 128, h⟩ + f ⟨l.val + 64, by omega⟩ * -s ⟨l.val % 128, h⟩
  else f l * c ⟨l.val % 128 - 64, by omega⟩ + f ⟨l.val - 64, by omega⟩ * s ⟨l.val % 128 - 64, by omega⟩

/-- The scale of the retention's keys. -/
def keyScale : EReal := (((Real.sqrt 128)⁻¹ : ℝ) : EReal)

theorem keyScale_nonneg : 0 ≤ keyScale := EReal.coe_nonneg.2 (inv_nonneg.2 (Real.sqrt_nonneg _))

theorem keyScale_ne_top : keyScale ≠ ⊤ := EReal.coe_ne_top _

/-- The word of 128. -/
theorem word_128 : Ideal.ofBits .f32 0x43000000#32 = ((128 : ℝ) : EReal) := by
  simp [Ideal.ofBits, Ideal.ieee, -EReal.coe_mul]; norm_num

/-- The quotient by the root of 128 is the product with the scale. -/
theorem div_root (x : EReal) : Ideal.div x (Ideal.sqrt (Ideal.ofBits .f32 0x43000000#32)) = x * keyScale := by
  rw [word_128, Ideal.sqrt_coe, if_neg (by norm_num), Ideal.div_coe (by positivity), one_div]
  rfl

/-- The scale may be applied before the rotation or after it. -/
theorem turnB_scaled (f : Fin 6144 → EReal) (c s : Fin 64 → EReal) (l : Fin 6144) :
    turnB (fun l => f l * keyScale) c s l = turnB f c s l * keyScale := by
  have e : ∀ a b d g : EReal, a * keyScale * b + d * keyScale * g = (a * b + d * g) * keyScale := fun a b d g => by
    rw [EReal.right_distrib_of_nonneg_of_ne_top keyScale_nonneg keyScale_ne_top, mul_right_comm, mul_right_comm d]
  unfold turnB
  split <;> exact e _ _ _ _

section

variable (h : FVec Ideal S2x4096x6144 .f32) (a b : FVec Ideal S2x4096x8x2x64 .f32) (d e : FVec Ideal S2x4096x4x128 .f32)
  (i : Fin 2) (p : Fin 4096)

/-- The columns that the joined rows take from the product. -/
theorem joined_plain (l : Fin 6144) (hl : (2048 ≤ l.val ∧ l.val < 3072) ∨ 4096 ≤ l.val) :
    joined h a b d e (ix3 i p l) = h (ix3 i p l) := by
  pointwise [joined]
  rcases hl with hl | hl
  · rw [dif_neg (by omega), dif_neg (by omega), dif_pos (by omega)]
    exact congrArg (fun z => h (ix3 i p z)) (Fin.ext (by simp only; omega))
  · rw [dif_neg (by omega), dif_neg (by omega), dif_neg (by omega), dif_neg (by omega), dif_neg (by omega)]
    exact congrArg (fun z => h (ix3 i p z)) (Fin.ext (by simp only; omega))

/-- The columns that the joined rows take from the attention's queries. -/
theorem joined_QA (n : ℕ) (hn : n < 1024) : joined h a b d e (ix3 i p ⟨n, by omega⟩)
    = a (ix5 i p ⟨n / 128, by omega⟩ ⟨n / 64 % 2, by omega⟩ ⟨n % 64, by omega⟩) := by
  generalize hl : (⟨n, by omega⟩ : Fin 6144) = l
  have hv : l.val = n := by rw [← hl]
  pointwise [joined]
  rw [dif_pos (by omega)]
  simp only [hv]

/-- The columns that the joined rows take from the attention's keys. -/
theorem joined_KA (n : ℕ) (hn : n < 1024) : joined h a b d e (ix3 i p ⟨1024 + n, by omega⟩)
    = b (ix5 i p ⟨n / 128, by omega⟩ ⟨n / 64 % 2, by omega⟩ ⟨n % 64, by omega⟩) := by
  generalize hl : (⟨1024 + n, by omega⟩ : Fin 6144) = l
  have hv : l.val = 1024 + n := by rw [← hl]
  have e1 : l.val - 1024 = n := by omega
  pointwise [joined]
  rw [dif_neg (by omega), dif_pos (by omega)]
  simp only [e1]

/-- The columns that the joined rows take from the retention's queries. -/
theorem joined_QB (n : ℕ) (hn : n < 512) : joined h a b d e (ix3 i p ⟨3072 + n, by omega⟩)
    = d (ix4 i p ⟨n / 128, by omega⟩ ⟨n % 128, by omega⟩) := by
  generalize hl : (⟨3072 + n, by omega⟩ : Fin 6144) = l
  have hv : l.val = 3072 + n := by rw [← hl]
  have e1 : l.val - 1024 - 1024 - 1024 = n := by omega
  pointwise [joined]
  rw [dif_neg (by omega), dif_neg (by omega), dif_neg (by omega), dif_pos (by omega)]
  simp only [e1]

/-- The columns that the joined rows take from the retention's keys. -/
theorem joined_KB (n : ℕ) (hn : n < 512) : joined h a b d e (ix3 i p ⟨3584 + n, by omega⟩)
    = e (ix4 i p ⟨n / 128, by omega⟩ ⟨n % 128, by omega⟩) := by
  generalize hl : (⟨3584 + n, by omega⟩ : Fin 6144) = l
  have hv : l.val = 3584 + n := by rw [← hl]
  have e1 : l.val - 1024 - 1024 - 1024 - 512 = n := by omega
  pointwise [joined]
  rw [dif_neg (by omega), dif_neg (by omega), dif_neg (by omega), dif_neg (by omega), dif_pos (by omega)]
  simp only [e1]

end

variable (x0 : FVec Ideal S16384x2048 .f32) (x1 : FVec Ideal S3x6x2048 .f32) (x2 : FVec Ideal S2048x6144 .f32)

/-- The prompt's product. -/
theorem ctxProduct_at (r : Fin 16384) (h : r.val < 8192) (l : Fin 6144) :
    ctxProduct x0 x1 x2 (ix2 ⟨r.val, h⟩ l) = proj x0 x1 x2 r l := by
  have hg : grp r = 0 := dif_pos h
  unfold proj modulated
  rw [hg]
  pointwise [ctxProduct]

/-- The latent rows' product. -/
theorem product_at (r : Fin 16384) (h : ¬ r.val < 8192) (l : Fin 6144) :
    product x0 x1 x2 (ix3 ⟨(r.val - 8192) / 4096, by omega⟩ ⟨(r.val - 8192) % 4096, by omega⟩ l) = proj x0 x1 x2 r l := by
  have hg : grp r = ⟨1 + (r.val - 8192) / 4096, by omega⟩ := dif_neg h
  have hr : (⟨8192 + ((r.val - 8192) / 4096 * 4096 + (r.val - 8192) % 4096), by omega⟩ : Fin 16384) = r :=
    Fin.ext (by simp only; omega)
  unfold proj modulated
  pointwise [product]
  simp only [hg, hr]

variable (x3 x4 : FVec Ideal S4096x32 .f32) (x5 x6 : FVec Ideal S4096x64 .f32)

/-- The rotated queries of the attention. -/
theorem queriesA_at (c s : FVec Ideal S4096x32 .f32) (h : FVec Ideal S2x4096x6144 .f32) (b : Fin 2) (p : Fin 4096)
    (f : Fin 6144 → EReal) (hf : ∀ l, h (ix3 b p l) = f l) (n : ℕ) (hn : n < 1024) :
    queriesA c s h (ix5 b p ⟨n / 128, by omega⟩ ⟨n / 64 % 2, by omega⟩ ⟨n % 64, by omega⟩)
      = turnA f (fun i => c (ix2 p i)) (fun i => s (ix2 p i)) ⟨n, by omega⟩ := by
  have hm : (n) % 64 = n % 64 := by omega
  pointwise [queriesA]
  simp only [hf, turnA, hm]
  split
  · rw [sub_eq_add_neg, ← mul_neg]
    congr 3 <;> exact Fin.ext (by simp only; omega)
  · rw [add_comm]
    congr 3 <;> exact Fin.ext (by simp only; omega)

/-- The rotated keys of the attention. -/
theorem keysA_at (c s : FVec Ideal S4096x32 .f32) (h : FVec Ideal S2x4096x6144 .f32) (b : Fin 2) (p : Fin 4096)
    (f : Fin 6144 → EReal) (hf : ∀ l, h (ix3 b p l) = f l) (n : ℕ) (hn : n < 1024) :
    keysA c s h (ix5 b p ⟨n / 128, by omega⟩ ⟨n / 64 % 2, by omega⟩ ⟨n % 64, by omega⟩)
      = turnA f (fun i => c (ix2 p i)) (fun i => s (ix2 p i)) ⟨1024 + n, by omega⟩ := by
  have hm : (1024 + n) % 64 = n % 64 := by omega
  pointwise [keysA]
  simp only [hf, turnA, hm]
  split
  · rw [sub_eq_add_neg, ← mul_neg]
    congr 3 <;> exact Fin.ext (by simp only; omega)
  · rw [add_comm]
    congr 3 <;> exact Fin.ext (by simp only; omega)

/-- The rotated queries of the retention. -/
theorem queriesB_at (c s : FVec Ideal S4096x64 .f32) (h : FVec Ideal S2x4096x6144 .f32) (b : Fin 2) (p : Fin 4096)
    (f : Fin 6144 → EReal) (hf : ∀ l, h (ix3 b p l) = f l) (n : ℕ) (hn : n < 512) :
    queriesB c s h (ix4 b p ⟨n / 128, by omega⟩ ⟨n % 128, by omega⟩)
      = turnB f (fun i => c (ix2 p i)) (fun i => s (ix2 p i)) ⟨3072 + n, by omega⟩ := by
  have hm : (3072 + n) % 128 = n % 128 := by omega
  pointwise [queriesB]
  simp only [hf, turnB, hm]
  split
  · rw [sub_eq_add_neg, ← mul_neg]
    congr 3 <;> exact Fin.ext (by simp only; omega)
  · rw [add_comm]
    congr 3 <;> exact Fin.ext (by simp only; omega)

/-- The rotated keys of the retention, scaled. -/
theorem keysB_at (c s : FVec Ideal S4096x64 .f32) (h : FVec Ideal S2x4096x6144 .f32) (b : Fin 2) (p : Fin 4096)
    (f : Fin 6144 → EReal) (hf : ∀ l, h (ix3 b p l) = f l) (n : ℕ) (hn : n < 512) :
    keysB c s (scaledB h) (ix4 b p ⟨n / 128, by omega⟩ ⟨n % 128, by omega⟩)
      = turnB f (fun i => c (ix2 p i)) (fun i => s (ix2 p i)) ⟨3584 + n, by omega⟩ * keyScale := by
  have hm : (3584 + n) % 128 = n % 128 := by omega
  rw [← turnB_scaled]
  pointwise [keysB, scaledB]
  simp only [hf, div_root, turnB, hm]
  split
  · rw [sub_eq_add_neg, ← mul_neg]
    congr 4 <;> exact Fin.ext (by simp only; omega)
  · rw [add_comm]
    congr 4 <;> exact Fin.ext (by simp only; omega)

/-- The prompt's rows of the result. -/
theorem REF_ctx (r : Fin 16384) (h : r.val < 8192) (l : Fin 6144) :
    REF x0 x1 x2 x3 x4 x5 x6 (ix2 r l) = proj x0 x1 x2 r l := by
  rw [← ctxProduct_at x0 x1 x2 r h l]
  unfold REF
  generalize joined _ _ _ _ _ = J
  pointwise [result]
  rw [dif_pos h]

/-- The latent rows of the result are those of the joined parts. -/
theorem REF_lat (r : Fin 16384) (h : ¬ r.val < 8192) (l : Fin 6144) :
    REF x0 x1 x2 x3 x4 x5 x6 (ix2 r l)
      = joined (product x0 x1 x2) (queriesA x3 x4 (product x0 x1 x2)) (keysA x3 x4 (product x0 x1 x2))
          (queriesB x5 x6 (product x0 x1 x2)) (keysB x5 x6 (scaledB (product x0 x1 x2)))
          (ix3 ⟨(r.val - 8192) / 4096, by omega⟩ ⟨(r.val - 8192) % 4096, by omega⟩ l) := by
  unfold REF
  generalize joined _ _ _ _ _ = J
  pointwise [result]
  rw [dif_neg h]

/-- The columns without a rotation. -/
theorem REF_plain (r : Fin 16384) (l : Fin 6144)
    (h : r.val < 8192 ∨ (2048 ≤ l.val ∧ l.val < 3072) ∨ 4096 ≤ l.val) :
    REF x0 x1 x2 x3 x4 x5 x6 (ix2 r l) = proj x0 x1 x2 r l := by
  by_cases hr : r.val < 8192
  · exact REF_ctx x0 x1 x2 x3 x4 x5 x6 r hr l
  · rw [REF_lat x0 x1 x2 x3 x4 x5 x6 r hr l, ← product_at x0 x1 x2 r hr l]
    exact joined_plain _ _ _ _ _ _ _ l (h.resolve_left hr)

/-- The columns of the attention's queries, in the latent rows. -/
theorem REF_QA (r : Fin 16384) (hr : ¬ r.val < 8192) (n : ℕ) (hn : n < 1024) :
    REF x0 x1 x2 x3 x4 x5 x6 (ix2 r ⟨n, by omega⟩)
      = turnA (proj x0 x1 x2 r) (fun i => x3 (ix2 (pos r) i)) (fun i => x4 (ix2 (pos r) i)) ⟨n, by omega⟩ := by
  rw [REF_lat x0 x1 x2 x3 x4 x5 x6 r hr, joined_QA _ _ _ _ _ _ _ n hn]
  exact queriesA_at x3 x4 _ _ _ _ (product_at x0 x1 x2 r hr) n hn

/-- The columns of the attention's keys, in the latent rows. -/
theorem REF_KA (r : Fin 16384) (hr : ¬ r.val < 8192) (n : ℕ) (hn : n < 1024) :
    REF x0 x1 x2 x3 x4 x5 x6 (ix2 r ⟨1024 + n, by omega⟩)
      = turnA (proj x0 x1 x2 r) (fun i => x3 (ix2 (pos r) i)) (fun i => x4 (ix2 (pos r) i)) ⟨1024 + n, by omega⟩ := by
  rw [REF_lat x0 x1 x2 x3 x4 x5 x6 r hr, joined_KA _ _ _ _ _ _ _ n hn]
  exact keysA_at x3 x4 _ _ _ _ (product_at x0 x1 x2 r hr) n hn

/-- The columns of the retention's queries, in the latent rows. -/
theorem REF_QB (r : Fin 16384) (hr : ¬ r.val < 8192) (n : ℕ) (hn : n < 512) :
    REF x0 x1 x2 x3 x4 x5 x6 (ix2 r ⟨3072 + n, by omega⟩)
      = turnB (proj x0 x1 x2 r) (fun i => x5 (ix2 (pos r) i)) (fun i => x6 (ix2 (pos r) i)) ⟨3072 + n, by omega⟩ := by
  rw [REF_lat x0 x1 x2 x3 x4 x5 x6 r hr, joined_QB _ _ _ _ _ _ _ n hn]
  exact queriesB_at x5 x6 _ _ _ _ (product_at x0 x1 x2 r hr) n hn

/-- The columns of the retention's keys, in the latent rows. -/
theorem REF_KB (r : Fin 16384) (hr : ¬ r.val < 8192) (n : ℕ) (hn : n < 512) :
    REF x0 x1 x2 x3 x4 x5 x6 (ix2 r ⟨3584 + n, by omega⟩)
      = turnB (proj x0 x1 x2 r) (fun i => x5 (ix2 (pos r) i)) (fun i => x6 (ix2 (pos r) i)) ⟨3584 + n, by omega⟩
          * keyScale := by
  rw [REF_lat x0 x1 x2 x3 x4 x5 x6 r hr, joined_KB _ _ _ _ _ _ _ n hn]
  exact keysB_at x5 x6 _ _ _ _ (product_at x0 x1 x2 r hr) n hn

end Cert.InEvenRefIdeal.Value

end
-- ==== Proof.InEven.Turn.lean ====
/- The kernel's turning of one strip of 128 lanes, entry by entry: the arithmetic the strips of a block share. -/
module

public import proofs.«01_k».proof.Proof.Gen.InEvenIdeal.Frame
public import proofs.«01_k».proof.Proof.InEven.Ref
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InEvenIdeal.Value

open Cert.InEvenRefIdeal.Value (keyScale turnA turnB)
open Cert.InEvenIdeal Cert.InEvenIdeal.Gen Idealize.ShloMosaic Idealize.ShloMosaic.TcCoe Idealize.SL.Sem

/-- The lane's place in its head, as the kernel computes it: below 32 in the first half of a turned pair. -/
theorem lane : ∀ l : Fin 128, Scalar.select
      (IntOp.andi
        (IntOp.xori
          (IntOp.cmpi CmpIPredicate.slt
            (IntOp.remsi ArithUnit.vector (BitVec.ofNat 32 l.val)
              (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 l.val)
            (Scalar.select (Scalar.cmpi CmpIPredicate.eq 64#32 0#32) 1#32 64#32)) 0#32))
      (IntOp.addi
        (IntOp.remsi ArithUnit.vector (BitVec.ofNat 32 l.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 l.val)
        (Scalar.select (Scalar.cmpi CmpIPredicate.eq 64#32 0#32) 1#32 64#32)) = BitVec.ofNat 32 (l.val % 64) := by
  decide +kernel

theorem below : ∀ l : Fin 128, IntOp.cmpi CmpIPredicate.slt (BitVec.ofNat 32 (l.val % 64)) 32#32
    = if l.val % 64 < 32 then 1#1 else 0#1 := by
  decide +kernel

/-- A strip turned in halves of 32 lanes. -/
theorem pay5_at (a b c : FVec Ideal S1024x128 .f32) (r : Fin 1024) (l : Fin 128) :
    k0_pay5 (F := Ideal) a b c (ix2 r l) = a (ix2 r l) * b (ix2 r l)
      + (if l.val % 64 < 32 then a (ix2 r ⟨(l.val + 128 - 96) % 128, Nat.mod_lt _ (by omega)⟩)
          else a (ix2 r ⟨(l.val + 128 - 32) % 128, Nat.mod_lt _ (by omega)⟩)) * c (ix2 r l) := by
  pointwise [k0_pay5]
  rw [lane l, below l]
  split <;> rfl

/-- A strip turned in halves of 64 lanes. -/
theorem pay59_at (a b c : FVec Ideal S1024x128 .f32) (r : Fin 1024) (l : Fin 128) :
    k0_pay59 (F := Ideal) a b c (ix2 r l) = a (ix2 r l) * b (ix2 r l)
      + a (ix2 r ⟨(l.val + 128 - 64) % 128, Nat.mod_lt _ (by omega)⟩) * c (ix2 r l) := by
  pointwise [k0_pay59]

/-- The same, multiplied by the scale of the keys. -/
theorem pay63_at (a b c : FVec Ideal S1024x128 .f32) (r : Fin 1024) (l : Fin 128) :
    k0_pay63 (F := Ideal) a b c (ix2 r l) = k0_pay59 (F := Ideal) a b c (ix2 r l) * keyScale := by
  have h : Named.named (F := Ideal) κ "key_scale" (φ := .f32) 0x3DB504F3#32 = keyScale :=
    IdealRules.named_const.ideal_named_scalar _ _ _ _ rfl
  pointwise [k0_pay63, k0_pay59]
  rw [← h]

section
variable (a b c : FVec Ideal S1024x128 .f32)

theorem strip8 : k0_pay8 (F := Ideal) (k0_pay6 a) (k0_pay7 b) c = k0_pay5 a b c := by rfl
theorem strip13 : k0_pay13 (F := Ideal) (k0_pay9 a) (k0_pay10 b) (k0_pay11 c) 64#32 k0_pay12 = k0_pay5 a b c := by rfl
theorem strip21 : k0_pay21 (F := Ideal) (k0_pay14 a) (k0_pay15 b) (k0_pay16 c) 64#32 k0_pay17 k0_pay18 k0_pay19 k0_pay20 = k0_pay5 a b c := by rfl
theorem strip27 : k0_pay27 (F := Ideal) (k0_pay22 a) (k0_pay23 b) (k0_pay24 c) k0_pay25 (k0_pay26 a) = k0_pay5 a b c := by rfl
theorem strip28 : k0_pay28 (F := Ideal) a b c = k0_pay5 a b c := by rfl
theorem strip29 : k0_pay29 (F := Ideal) a b c = k0_pay5 a b c := by rfl
theorem strip3 : k0_pay3 (F := Ideal) (k0_pay30 a) (k0_pay31 b) c = k0_pay5 a b c := by rfl
theorem strip32 : k0_pay32 (F := Ideal) a b c = k0_pay5 a b c := by rfl
theorem strip35 : k0_pay35 (F := Ideal) (k0_pay33 a) (k0_pay34 b) c = k0_pay5 a b c := by rfl
theorem strip40 : k0_pay40 (F := Ideal) (k0_pay36 a) (k0_pay37 b) (k0_pay38 c) 64#32 k0_pay39 = k0_pay5 a b c := by rfl
theorem strip48 : k0_pay48 (F := Ideal) (k0_pay41 a) (k0_pay42 b) (k0_pay43 c) 64#32 k0_pay44 k0_pay45 k0_pay46 k0_pay47 = k0_pay5 a b c := by rfl
theorem strip54 : k0_pay54 (F := Ideal) (k0_pay49 a) (k0_pay50 b) (k0_pay51 c) k0_pay52 (k0_pay53 a) = k0_pay5 a b c := by rfl
theorem strip55 : k0_pay55 (F := Ideal) a b c = k0_pay5 a b c := by rfl
theorem strip56 : k0_pay56 (F := Ideal) a b c = k0_pay5 a b c := by rfl
theorem strip4 : k0_pay4 (F := Ideal) (k0_pay57 a) (k0_pay58 b) c = k0_pay5 a b c := by rfl
theorem strip60 : k0_pay60 (F := Ideal) a b c = k0_pay59 a b c := by rfl
theorem strip61 : k0_pay61 (F := Ideal) a b c = k0_pay59 a b c := by rfl
theorem strip62 : k0_pay62 (F := Ideal) a b c = k0_pay59 a b c := by rfl
theorem strip67 : k0_pay67 (F := Ideal) (k0_pay64 a) (k0_pay65 b) (k0_pay66 c) = k0_pay63 a b c := by rfl
theorem strip68 : k0_pay68 (F := Ideal) a b c = k0_pay63 a b c := by rfl
theorem strip69 : k0_pay69 (F := Ideal) a b c = k0_pay63 a b c := by rfl
end

/-- Reading a later strip passes over an earlier strip. -/
theorem read_skip {m : Memref sig .tc .vmem S1024x1024 .f32} (o o' : ℕ) (inb) (inb')
    (w : FVec Ideal S1024x128 .f32) (L : List (View.Piece (Elt Ideal) S1024x1024 .f32)) (h : o + 128 ≤ o') :
    m.view.readCov (⟨Rect.unit (s := S1024x1024) ![0, o] ![1024, 128] inb, w⟩ :: L)
      (Rect.unit (s := S1024x1024) ![0, o'] ![1024, 128] inb').toLoadRect
    = m.view.readCov L (Rect.unit (s := S1024x1024) ![0, o'] ![1024, 128] inb').toLoadRect := by
  apply View.readCov_skip
  refine decide_eq_true ⟨1, ?_⟩
  right; right; left
  show o + 1 * (128 - 1) < o'
  omega

/-- One more strip of an output block: where the strip lies it decides, elsewhere the strips below it do. -/
theorem strip_step (G : Fin 1024 → Fin 1024 → EReal) (o : ℕ) (inb)
    (w : FVec Ideal S1024x128 .f32) (L : List (View.Piece (Elt Ideal) S1024x1024 .f32)) (r : Fin 1024) (l : Fin 1024)
    (hp : ∀ (k : Fin 128) (h : o + k.val < 1024), w (ix2 r k) = G r ⟨o + k.val, h⟩)
    (hL : ¬(o ≤ l.val ∧ l.val < o + 128) → View.canon L (ix2 r l) = G r l) :
    View.canon (⟨Rect.unit (s := S1024x1024) ![0, o] S1024x128.size inb, w⟩ :: L) (ix2 r l) = G r l := by
  by_cases h : o ≤ l.val ∧ l.val < o + 128
  · have hl : (ix2 r l : S1024x1024.Idx)
        = (Rect.unit (s := S1024x1024) ![0, o] S1024x128.size inb).emb (ix2 r (⟨l.val - o, by omega⟩ : Fin 128)) := by
      funext a
      refine Fin.cases ?_ (fun a => Fin.cases ?_ (fun a => a.elim0) a) a
      · apply Fin.ext
        show r.val = 0 + 1 * r.val
        omega
      · apply Fin.ext
        show l.val = o + 1 * (l.val - o)
        omega
    rw [hl, View.canon_cons_emb, hp ⟨l.val - o, by omega⟩ (by show o + (l.val - o) < 1024; omega)]
    congr 1
    apply Fin.ext
    show o + (l.val - o) = l.val
    omega
  · rw [View.canon_cons_of_not_mem _ _ ?_, hL h]
    intro hm
    obtain ⟨i, hi, he⟩ := ((Rect.unit (s := S1024x1024) ![0, o] S1024x128.size inb).mem_set).mp hm 1
    apply h
    have h1 : l.val = o + 1 * i := he
    have h2 : i < 128 := hi
    omega

/-- A strip of a whole block, read entry by entry. -/
theorem ld_strip (Z : FVec Ideal S1024x1024 .f32) (o : ℕ) (inb) (r : Fin 1024) (k : Fin 128) (h : o + k.val < 1024) :
    View.ld (Val := Elt Ideal) (e' := .f32) Z (Rect.unit (s := S1024x1024) ![0, o] S1024x128.size inb) (ix2 r k) = Z (ix2 r ⟨o + k.val, h⟩) := by
  refine congrArg Z ?_
  funext a
  refine Fin.cases ?_ (fun a => Fin.cases ?_ (fun a => a.elim0) a) a
  · apply Fin.ext
    show 0 + 1 * r.val = r.val
    omega
  · apply Fin.ext
    show o + 1 * k.val = o + k.val
    omega

/-- A block turned in halves of 32 lanes. -/
def blockA (B : FVec Ideal S1024x1024 .f32) (c s : FVec Ideal S1024x128 .f32) (r l : Fin 1024) : EReal :=
  B (ix2 r l) * c (ix2 r ⟨l.val % 128, Nat.mod_lt _ (by omega)⟩)
    + (if h : l.val % 64 < 32 then B (ix2 r ⟨l.val + 32, by omega⟩) else B (ix2 r ⟨l.val - 32, by omega⟩))
      * s (ix2 r ⟨l.val % 128, Nat.mod_lt _ (by omega)⟩)

/-- A block turned in halves of 64 lanes. -/
def blockB (B : FVec Ideal S1024x1024 .f32) (c s : FVec Ideal S1024x128 .f32) (r l : Fin 1024) : EReal :=
  B (ix2 r l) * c (ix2 r ⟨l.val % 128, Nat.mod_lt _ (by omega)⟩)
    + (if h : l.val % 128 < 64 then B (ix2 r ⟨l.val + 64, by omega⟩) else B (ix2 r ⟨l.val - 64, by omega⟩))
      * s (ix2 r ⟨l.val % 128, Nat.mod_lt _ (by omega)⟩)

theorem strip_A (o : ℕ) (ho : o % 128 = 0) (X : FVec Ideal S1024x128 .f32) (B : FVec Ideal S1024x1024 .f32)
    (c s : FVec Ideal S1024x128 .f32) (r : Fin 1024)
    (hX : ∀ (k : Fin 128) (h : o + k.val < 1024), X (ix2 r k) = B (ix2 r ⟨o + k.val, h⟩))
    (k : Fin 128) (h : o + k.val < 1024) :
    k0_pay5 (F := Ideal) X c s (ix2 r k) = blockA B c s r ⟨o + k.val, h⟩ := by
  have hk : (⟨(o + k.val) % 128, Nat.mod_lt _ (by omega)⟩ : Fin 128) = k := Fin.ext (by show (o + k.val) % 128 = k.val; omega)
  rw [pay5_at]
  simp only [blockA]
  rw [hk, hX k h]
  congr 2
  by_cases h' : k.val % 64 < 32
  · rw [if_pos h', dif_pos (by omega), hX _ (by show o + (k.val + 128 - 96) % 128 < 1024; omega)]
    congr 2
    apply Fin.ext
    show o + (k.val + 128 - 96) % 128 = o + k.val + 32
    omega
  · rw [if_neg h', dif_neg (by omega), hX _ (by show o + (k.val + 128 - 32) % 128 < 1024; omega)]
    congr 2
    apply Fin.ext
    show o + (k.val + 128 - 32) % 128 = o + k.val - 32
    omega

theorem strip_B (o : ℕ) (ho : o % 128 = 0) (X : FVec Ideal S1024x128 .f32) (B : FVec Ideal S1024x1024 .f32)
    (c s : FVec Ideal S1024x128 .f32) (r : Fin 1024)
    (hX : ∀ (k : Fin 128) (h : o + k.val < 1024), X (ix2 r k) = B (ix2 r ⟨o + k.val, h⟩))
    (k : Fin 128) (h : o + k.val < 1024) :
    k0_pay59 (F := Ideal) X c s (ix2 r k) = blockB B c s r ⟨o + k.val, h⟩ := by
  have hk : (⟨(o + k.val) % 128, Nat.mod_lt _ (by omega)⟩ : Fin 128) = k := Fin.ext (by show (o + k.val) % 128 = k.val; omega)
  rw [pay59_at]
  simp only [blockB]
  rw [hk, hX k h]
  congr 2
  by_cases h' : k.val < 64
  · rw [dif_pos (by omega), hX _ (by show o + (k.val + 128 - 64) % 128 < 1024; omega)]
    congr 2
    apply Fin.ext
    show o + (k.val + 128 - 64) % 128 = o + k.val + 64
    omega
  · rw [dif_neg (by omega), hX _ (by show o + (k.val + 128 - 64) % 128 < 1024; omega)]
    congr 2
    apply Fin.ext
    show o + (k.val + 128 - 64) % 128 = o + k.val - 64
    omega

/-- A block of a row's product turned by the tiled tables is the row turned. -/
theorem blockA_turn (B : FVec Ideal S1024x1024 .f32) (C S : FVec Ideal S1024x128 .f32) (f : Fin 6144 → EReal)
    (c s : Fin 32 → EReal) (r : Fin 1024) (o : ℕ) (ho : o % 128 = 0) (hb : o + 1024 ≤ 6144)
    (hB : ∀ l : Fin 1024, B (ix2 r l) = f ⟨o + l.val, by omega⟩)
    (hC : ∀ l : Fin 128, C (ix2 r l) = c ⟨l.val % 32, Nat.mod_lt _ (by omega)⟩)
    (hS : ∀ l : Fin 128, S (ix2 r l) = if h : l.val % 64 < 32 then -s ⟨l.val % 64, h⟩ else s ⟨l.val % 64 - 32, by omega⟩)
    (l : Fin 1024) (L : Fin 6144) (hL : L.val = o + l.val) : blockA B C S r l = turnA f c s L := by
  have hb' : o + l.val < 6144 := by omega
  obtain rfl : L = ⟨o + l.val, hb'⟩ := Fin.ext hL
  simp only [blockA, turnA]
  rw [hB, hC, hS]
  have e1 : l.val % 128 % 64 = (o + l.val) % 64 := by omega
  by_cases h : l.val % 64 < 32
  · rw [dif_pos h, dif_pos (by show l.val % 128 % 64 < 32; omega), dif_pos (by omega), hB]
    congr 2
    · congr 1; apply Fin.ext; show l.val % 128 % 32 = (o + l.val) % 64; omega
    · congr 2; apply Fin.ext; exact e1
  · rw [dif_neg h, dif_neg (by show ¬l.val % 128 % 64 < 32; omega), dif_neg (by omega), hB]
    congr 2
    · congr 1; apply Fin.ext; show l.val % 128 % 32 = (o + l.val) % 64 - 32; omega
    · congr 1; apply Fin.ext; show o + (l.val - 32) = o + l.val - 32; omega
    · congr 1; apply Fin.ext; show l.val % 128 % 64 - 32 = (o + l.val) % 64 - 32; omega

theorem blockB_turn (B : FVec Ideal S1024x1024 .f32) (C S : FVec Ideal S1024x128 .f32) (f : Fin 6144 → EReal)
    (c s : Fin 64 → EReal) (r : Fin 1024) (o : ℕ) (ho : o % 128 = 0) (hb : o + 1024 ≤ 6144)
    (hB : ∀ l : Fin 1024, B (ix2 r l) = f ⟨o + l.val, by omega⟩)
    (hC : ∀ l : Fin 128, C (ix2 r l) = c ⟨l.val % 64, Nat.mod_lt _ (by omega)⟩)
    (hS : ∀ l : Fin 128, S (ix2 r l) = if h : l.val < 64 then -s ⟨l.val, h⟩ else s ⟨l.val - 64, by omega⟩)
    (l : Fin 1024) (L : Fin 6144) (hL : L.val = o + l.val) : blockB B C S r l = turnB f c s L := by
  have hb' : o + l.val < 6144 := by omega
  obtain rfl : L = ⟨o + l.val, hb'⟩ := Fin.ext hL
  simp only [blockB, turnB]
  rw [hB, hC, hS]
  have e1 : l.val % 128 = (o + l.val) % 128 := by omega
  by_cases h : l.val % 128 < 64
  · rw [dif_pos h, dif_pos h, dif_pos (by omega), hB]
    congr 2
    · congr 1; apply Fin.ext; show l.val % 128 % 64 = (o + l.val) % 128; omega
    · congr 2; apply Fin.ext; exact e1
  · rw [dif_neg h, dif_neg h, dif_neg (by omega), hB]
    congr 2
    · congr 1; apply Fin.ext; show l.val % 128 % 64 = (o + l.val) % 128 - 64; omega
    · congr 1; apply Fin.ext; show o + (l.val - 64) = o + l.val - 64; omega
    · congr 1; apply Fin.ext; show l.val % 128 - 64 = (o + l.val) % 128 - 64; omega

end Cert.InEvenIdeal.Value

end
-- ==== Proof.InEven.Tables.lean ====
/- The tables of cosines and signed sines that the program lays out over 128 lanes before it calls the kernel. -/
module

public import proofs.«01_k».proof.Proof.Gen.InEvenIdeal.Frame
public import Idealize.ShloMosaic.Lib.StableHlo.ReadAt
public import Idealize.ShloMosaic.Lib.Pipeline.ValueKit
public import Idealize.ShloMosaic.Lib.Pointwise

@[expose] public section

set_option maxRecDepth 16384

noncomputable section

namespace Cert.InEvenIdeal.Value

open Cert.InEvenIdeal Cert.InEvenIdeal.Gen Idealize.ShloMosaic Idealize.ShloMosaic.TcCoe Idealize.SL.Sem

variable (m : (ℓ : Loc nD τ sig) → Buf (Elt Ideal) ℓ) (c : Dev nD)

/-- Two halves of 32 lanes, side by side and twice over. -/
def tileA (u v : FVec Ideal S4096x32 .f32) : FVec Ideal S4096x128 .f32 :=
  shapeCast S4096x128 (broadcastInDim S1x4096x2x64 ![0, 1, 2, 3]
    bcast_S1x4096x1x64_S1x4096x2x64_0_1_2_3
    (shapeCast S1x4096x1x64 (concatenate S4096x64 1 [⟨S4096x32, u⟩, ⟨S4096x32, v⟩]
      concatenates_S4096x32_S4096x32_S4096x64_d1) shapeCasts_S4096x64_S1x4096x1x64)) shapeCasts_S1x4096x2x64_S4096x128

/-- Two halves of 64 lanes, side by side. -/
def tileB (u v : FVec Ideal S4096x64 .f32) : FVec Ideal S4096x128 .f32 :=
  shapeCast S4096x128 (broadcastInDim S1x4096x1x128 ![0, 1, 2, 3]
    bcast_S1x4096x1x128_S1x4096x1x128_0_1_2_3
    (shapeCast S1x4096x1x128 (concatenate S4096x128 1 [⟨S4096x64, u⟩, ⟨S4096x64, v⟩]
      concatenates_S4096x64_S4096x64_S4096x128_d1) shapeCasts_S4096x128_S1x4096x1x128)) shapeCasts_S1x4096x1x128_S4096x128

theorem tileA_at (u v : FVec Ideal S4096x32 .f32) (p : Fin 4096) (l : Fin 128) :
    tileA u v (ix2 p l) = if h : l.val % 64 < 32 then u (ix2 p ⟨l.val % 64, h⟩) else v (ix2 p ⟨l.val % 64 - 32, by omega⟩) := by
  pointwise [tileA]

theorem tileB_at (u v : FVec Ideal S4096x64 .f32) (p : Fin 4096) (l : Fin 128) :
    tileB u v (ix2 p l) = if h : l.val < 64 then u (ix2 p ⟨l.val, h⟩) else v (ix2 p ⟨l.val - 64, by omega⟩) := by
  pointwise [tileB]

theorem cos_a_eq : V m c main_v3
    = tileA (m ((c : Thread nD τ).loc main_arg3)) (m ((c : Thread nD τ).loc main_arg3)) := by
  unfold_abbrev_sides
  after_results
  rfl

theorem sin_a_eq : V m c main_v8
    = tileA (Host.negf (F := Ideal) (φ := .f32) (m ((c : Thread nD τ).loc main_arg4))) (m ((c : Thread nD τ).loc main_arg4)) := by
  unfold_abbrev_sides
  after_results
  rfl

theorem cos_b_eq : V m c main_v12
    = tileB (m ((c : Thread nD τ).loc main_arg5)) (m ((c : Thread nD τ).loc main_arg5)) := by
  unfold_abbrev_sides
  after_results
  rfl

theorem sin_b_eq : V m c main_v17
    = tileB (Host.negf (F := Ideal) (φ := .f32) (m ((c : Thread nD τ).loc main_arg6))) (m ((c : Thread nD τ).loc main_arg6)) := by
  unfold_abbrev_sides
  after_results
  rfl

end Cert.InEvenIdeal.Value

end
-- ==== Proof.InEven.Blocks.lean ====
/- The blocks that the kernel of the even layers' input projection reads, the rows its scratch holds, and a block's product. -/
module

public import proofs.«01_k».proof.Proof.InEven.Turn
public import proofs.«01_k».proof.Proof.InEven.Tables

@[expose] public section

set_option maxRecDepth 16384

noncomputable section

namespace Cert.InEvenIdeal.Value

open Cert.InEvenIdeal Cert.InEvenIdeal.Gen Idealize.ShloMosaic Idealize.ShloMosaic.TcCoe Idealize.SL.Sem
open Idealize.ShloMosaic.Pipeline (Dat)
open Cert.InEvenRefIdeal.Value (grp pos modulated proj turnA turnB keyScale REF REF_plain REF_QA REF_KA REF_QB REF_KB)

variable (m : (ℓ : Loc nD τ sig) → Buf (Elt Ideal) ℓ)

/-- Where each block of grid point `t` lies: 1024 rows of the activations per six points, one sixth of the columns
    of the weights per point, and the rows of the tables that go with the tokens. -/
theorem idx : ∀ t : Fin cfg0.N, win0_0.index t = ![t.val / 6, 0]
    ∧ win0_1.index t = ![if t.val / 6 < 8 then 0 else 1 + (t.val / 6 - 8) / 4, 0, 0]
    ∧ win0_2.index t = ![0, t.val % 6]
    ∧ win0_3.index t = ![(t.val / 6 - 8) % 4, 0] ∧ win0_4.index t = ![(t.val / 6 - 8) % 4, 0]
    ∧ win0_5.index t = ![(t.val / 6 - 8) % 4, 0] ∧ win0_6.index t = ![(t.val / 6 - 8) % 4, 0]
    ∧ win0_7.index t = ![t.val / 6, t.val % 6] ∧ t.val / 6 < 16 :=
  (by decide +kernel : ∀ t : Fin grid0.N, _)

/-- The block of rows of point `t`, modulated: what the first point of the block computes. -/
theorem mod_at (c : Dev nD) (t : Fin cfg0.N) (r : Fin 1024) (k : Fin 2048) (R : Fin 16384)
    (hR : R.val = t.val / 6 * 1024 + r.val) :
    k0_pay1 (View.ld (iblk m c 1 t) (Rect.unit (s := S1x6x2048) ![0, 0, 0] S1x1x2048.size inb_S1x6x2048_S1x1x2048_0_0_0))
      (View.ld (iblk m c 1 t) (Rect.unit (s := S1x6x2048) ![0, 1, 0] S1x1x2048.size inb_S1x6x2048_S1x1x2048_0_1_0))
      (iblk m c 0 t) (ix2 r k)
      = modulated (m ((c : Thread nD τ).loc main_arg0)) (m ((c : Thread nD τ).loc main_arg1)) R k := by
  have hi := idx t
  have hg : (grp R).val = if t.val / 6 < 8 then 0 else 1 + (t.val / 6 - 8) / 4 := by
    unfold grp
    split <;> split <;> simp <;> omega
  pointwise [k0_pay1, modulated]
  blk_point [iblk, V, idx t, hg]

/-- The scratch holds the modulated rows of the current block at every point. -/
theorem held (c : Dev nD) : ∀ (n : ℕ) (hn : n < cfg0.N) (r : Fin 1024) (k : Fin 2048) (R : Fin 16384)
    (hR : R.val = n / 6 * 1024 + r.val),
    (outsAt0 m c n hn).2 (ix2 r k)
      = modulated (m ((c : Thread nD τ).loc main_arg0)) (m ((c : Thread nD τ).loc main_arg1)) R k := by
  intro n
  induction n with
  | zero =>
    intro hn r k R hR
    rw [outsAt0_A m c ⟨0, hn⟩ rfl (by dsimp only; omega) (by dsimp only; omega) (by dsimp only; omega)]
    frame_out
    exact mod_at m c ⟨0, hn⟩ r k R hR
  | succ n ih =>
    intro hn r k R hR
    by_cases h : (n + 1) % 6 = 0
    · by_cases h1 : 8 * ((n + 1) % 6) + 8 ≤ (n + 1) / 6 % 16
      · rw [outsAt0_C m c ⟨n + 1, hn⟩ h h1 (by dsimp only; omega) (by dsimp only; omega)]
        frame_out
        exact mod_at m c ⟨n + 1, hn⟩ r k R hR
      · rw [outsAt0_A m c ⟨n + 1, hn⟩ h h1 (by dsimp only; omega) (by dsimp only; omega)]
        frame_out
        exact mod_at m c ⟨n + 1, hn⟩ r k R hR
    · have h1 : ¬8 * ((n + 1) % 6) + 8 ≤ (n + 1) / 6 % 16 := by omega
      by_cases h2 : 16 * ((n + 1) % 6) ≤ (n + 1) / 6 % 16 + 8 ∧ (n + 1) / 6 % 16 + 1 ≤ 16 * ((n + 1) % 6)
      · rw [outsAt0_D m c ⟨n + 1, hn⟩ h h1 h2 (by dsimp only; omega)]
        dsimp only [sout0_D_0, Nat.add_sub_cancel]
        exact ih (by omega) r k R (by omega)
      · by_cases h3 : 16 * ((n + 1) % 6) ≤ (n + 1) / 6 % 16 + 40 ∧ (n + 1) / 6 % 16 + 33 ≤ 16 * ((n + 1) % 6)
        · rw [outsAt0_E m c ⟨n + 1, hn⟩ h h1 h2 h3]
          dsimp only [sout0_E_0, Nat.add_sub_cancel]
          exact ih (by omega) r k R (by omega)
        · rw [outsAt0_B m c ⟨n + 1, hn⟩ h h1 h2 h3]
          dsimp only [sout0_B_0, Nat.add_sub_cancel]
          exact ih (by omega) r k R (by omega)

/-- A point's block of the product, from a scratch that holds the modulated rows. -/
theorem prod_at (c : Dev nD) (t : Fin cfg0.N) (s : FVec Ideal S1024x2048 .bf16) (r : Fin 1024) (l : Fin 1024) (R : Fin 16384)
    (L : Fin 6144) (hL : L.val = t.val % 6 * 1024 + l.val)
    (hs : ∀ k : Fin 2048, s (ix2 r k)
      = modulated (m ((c : Thread nD τ).loc main_arg0)) (m ((c : Thread nD τ).loc main_arg1)) R k) :
    k0_pay2 s (iblk m c 2 t) (ix2 r l)
      = proj (m ((c : Thread nD τ).loc main_arg0)) (m ((c : Thread nD τ).loc main_arg1))
        (m ((c : Thread nD τ).loc main_arg2)) R L := by
  have hi := idx t
  unfold proj
  pointwise [k0_pay2]
  refine Finset.sum_congr rfl fun k _ => ?_
  refine Ideal.mul_congr (hs k) ?_
  blk_ext [iblk, V, idx t]

section
variable (c : Dev nD) (t : Fin cfg0.N) (r : Fin 1024) (R : Fin 16384) (hR : R.val = t.val / 6 * 1024 + r.val)
  (hl : ¬R.val < 8192) (l : Fin 128)
include hR hl

theorem cos_a_at : iblk m c 3 t (ix2 r l)
    = m ((c : Thread nD τ).loc main_arg3) (ix2 (pos R) ⟨l.val % 32, Nat.mod_lt _ (by omega)⟩) := by
  have hi := idx t
  have hp : (pos R).val = (R.val - 8192) % 4096 := rfl
  have e : iblk m c 3 t (ix2 r l) = V m c main_v3 (ix2 (pos R) l) := by
    blk_ext [iblk, idx t, hp]
  rw [e, cos_a_eq]
  generalize m ((c : Thread nD τ).loc main_arg3) = x
  refine (tileA_at x x _ _).trans ?_
  split
  · exact congrArg (fun i => x (ix2 (pos R) i)) (Fin.ext (by show l.val % 64 = l.val % 32; omega))
  · exact congrArg (fun i => x (ix2 (pos R) i)) (Fin.ext (by show l.val % 64 - 32 = l.val % 32; omega))

theorem sin_a_at (x : FVec Ideal S4096x32 .f32) (hx : m ((c : Thread nD τ).loc main_arg4) = x) : iblk m c 4 t (ix2 r l)
    = if h : l.val % 64 < 32 then -x (ix2 (pos R) ⟨l.val % 64, h⟩)
      else x (ix2 (pos R) ⟨l.val % 64 - 32, by omega⟩) := by
  have hi := idx t
  have hp : (pos R).val = (R.val - 8192) % 4096 := rfl
  have e : iblk m c 4 t (ix2 r l) = V m c main_v8 (ix2 (pos R) l) := by
    blk_ext [iblk, idx t, hp]
  rw [e, sin_a_eq, hx]
  exact tileA_at _ _ _ _

theorem cos_b_at : iblk m c 5 t (ix2 r l)
    = m ((c : Thread nD τ).loc main_arg5) (ix2 (pos R) ⟨l.val % 64, Nat.mod_lt _ (by omega)⟩) := by
  have hi := idx t
  have hp : (pos R).val = (R.val - 8192) % 4096 := rfl
  have e : iblk m c 5 t (ix2 r l) = V m c main_v12 (ix2 (pos R) l) := by
    blk_ext [iblk, idx t, hp]
  rw [e, cos_b_eq]
  generalize m ((c : Thread nD τ).loc main_arg5) = x
  refine (tileB_at x x _ _).trans ?_
  split
  · exact congrArg (fun i => x (ix2 (pos R) i)) (Fin.ext (by show l.val = l.val % 64; omega))
  · exact congrArg (fun i => x (ix2 (pos R) i)) (Fin.ext (by show l.val - 64 = l.val % 64; omega))

theorem sin_b_at (x : FVec Ideal S4096x64 .f32) (hx : m ((c : Thread nD τ).loc main_arg6) = x) : iblk m c 6 t (ix2 r l)
    = if h : l.val < 64 then -x (ix2 (pos R) ⟨l.val, h⟩)
      else x (ix2 (pos R) ⟨l.val - 64, by omega⟩) := by
  have hi := idx t
  have hp : (pos R).val = (R.val - 8192) % 4096 := rfl
  have e : iblk m c 6 t (ix2 r l) = V m c main_v17 (ix2 (pos R) l) := by
    blk_ext [iblk, idx t, hp]
  rw [e, sin_b_eq, hx]
  exact tileB_at _ _ _ _
end

end Cert.InEvenIdeal.Value

end
-- ==== Proof.InEven.Cases.lean ====
/- What the kernel leaves in a block whose lanes it turns, strip by strip. -/
module

public import proofs.«01_k».proof.Proof.InEven.Blocks

@[expose] public section

set_option maxRecDepth 16384

noncomputable section

namespace Cert.InEvenIdeal.Value

open Cert.InEvenIdeal Cert.InEvenIdeal.Gen Idealize.ShloMosaic Idealize.ShloMosaic.TcCoe Idealize.SL.Sem
open Idealize.ShloMosaic.Pipeline (Dat)
open Cert.InEvenRefIdeal.Value (grp pos modulated proj turnA turnB keyScale REF REF_plain REF_QA REF_KA REF_QB REF_KB)

variable (m : (ℓ : Loc nD τ sig) → Buf (Elt Ideal) ℓ)

/-- A latent block of the first kind of queries: the product, turned in halves of 32 lanes. -/
theorem out_C (c : Dev nD) (t : Fin cfg0.N) (h0 : t.val % 6 = 0) (h1 : 8 * (t.val % 6) + 8 ≤ t.val / 6 % 16)
    (h2 : ¬(16 * (t.val % 6) ≤ t.val / 6 % 16 + 8 ∧ t.val / 6 % 16 + 1 ≤ 16 * (t.val % 6)))
    (h3 : ¬(16 * (t.val % 6) ≤ t.val / 6 % 16 + 40 ∧ t.val / 6 % 16 + 33 ≤ 16 * (t.val % 6))) :
    ∃ s : FVec Ideal S1024x2048 .bf16,
      (∀ (r : Fin 1024) (k : Fin 2048) (R : Fin 16384), R.val = t.val / 6 * 1024 + r.val → s (ix2 r k)
        = modulated (m ((c : Thread nD τ).loc main_arg0)) (m ((c : Thread nD τ).loc main_arg1)) R k)
      ∧ ∀ r l : Fin 1024, (outsAt0 m c t.val t.isLt).1 (ix2 r l)
        = blockA (k0_pay2 s (iblk m c 2 t)) (iblk m c 3 t) (iblk m c 4 t) r l := by
  refine ⟨(k0_pay1 (F := Ideal) (View.ld (iblk m c 1 t) (Rect.unit (s := S1x6x2048) ![0, 0, 0] S1x1x2048.size inb_S1x6x2048_S1x1x2048_0_0_0))
      (View.ld (iblk m c 1 t) (Rect.unit (s := S1x6x2048) ![0, 1, 0] S1x1x2048.size inb_S1x6x2048_S1x1x2048_0_1_0))
      (iblk m c 0 t)), fun r k R hR => mod_at m c t r k R hR, fun r l => ?_⟩
  rw [outsAt0_C m c t h0 h1 h2 h3]
  frame_out
  generalize k0_pay2 (F := Ideal) (k0_pay1 (F := Ideal) (View.ld (iblk m c 1 t) (Rect.unit (s := S1x6x2048) ![0, 0, 0] S1x1x2048.size inb_S1x6x2048_S1x1x2048_0_0_0))
      (View.ld (iblk m c 1 t) (Rect.unit (s := S1x6x2048) ![0, 1, 0] S1x1x2048.size inb_S1x6x2048_S1x1x2048_0_1_0))
      (iblk m c 0 t)) (iblk m c 2 t) = B
  let G : Fin 1024 → Fin 1024 → EReal := fun r l => blockA B (iblk m c 3 t) (iblk m c 4 t) r l
  iterate 8
    refine strip_step G _ _ _ _ r l (fun k h => ?_) (fun _ => ?_)
    · try first | rw [strip3] | rw [strip29] | rw [strip28] | rw [strip27] | rw [strip21] | rw [strip13] | rw [strip8]
      refine strip_A _ rfl _ B _ _ r ?_ k h
      intro k h
      try simp (disch := decide) only [↓read_skip]
      refine Eq.trans (congrFun (View.readCov_fill _ _ _ _ _ ?_) _) (ld_strip B _ _ r k h)
      decide
  exfalso
  have := l.isLt
  omega

/-- A latent block of the first kind of keys: the product, turned in halves of 32 lanes. -/
theorem out_D (c : Dev nD) (t : Fin cfg0.N) (h0 : ¬t.val % 6 = 0) (h1 : ¬8 * (t.val % 6) + 8 ≤ t.val / 6 % 16)
    (h2 : (16 * (t.val % 6) ≤ t.val / 6 % 16 + 8 ∧ t.val / 6 % 16 + 1 ≤ 16 * (t.val % 6)))
    (h3 : ¬(16 * (t.val % 6) ≤ t.val / 6 % 16 + 40 ∧ t.val / 6 % 16 + 33 ≤ 16 * (t.val % 6))) :
    ∃ s : FVec Ideal S1024x2048 .bf16,
      (∀ (r : Fin 1024) (k : Fin 2048) (R : Fin 16384), R.val = t.val / 6 * 1024 + r.val → s (ix2 r k)
        = modulated (m ((c : Thread nD τ).loc main_arg0)) (m ((c : Thread nD τ).loc main_arg1)) R k)
      ∧ ∀ r l : Fin 1024, (outsAt0 m c t.val t.isLt).1 (ix2 r l)
        = blockA (k0_pay2 s (iblk m c 2 t)) (iblk m c 3 t) (iblk m c 4 t) r l := by
  refine ⟨(outsAt0 m c (t.val - 1) (Nat.lt_of_le_of_lt (Nat.sub_le _ _) t.isLt)).2, fun r k R hR => held m c _ _ r k R (by omega), fun r l => ?_⟩
  rw [outsAt0_D m c t h0 h1 h2 h3]
  frame_out
  simp only [read_unread_whole]
  generalize k0_pay2 (F := Ideal) (outsAt0 m c (t.val - 1) (Nat.lt_of_le_of_lt (Nat.sub_le _ _) t.isLt)).2 (iblk m c 2 t) = B
  let G : Fin 1024 → Fin 1024 → EReal := fun r l => blockA B (iblk m c 3 t) (iblk m c 4 t) r l
  iterate 8
    refine strip_step G _ _ _ _ r l (fun k h => ?_) (fun _ => ?_)
    · try first | rw [strip4] | rw [strip56] | rw [strip55] | rw [strip54] | rw [strip48] | rw [strip40] | rw [strip35] | rw [strip32]
      refine strip_A _ rfl _ B _ _ r ?_ k h
      intro k h
      try simp (disch := decide) only [↓read_skip]
      refine Eq.trans (congrFun (View.readCov_fill _ _ _ _ _ ?_) _) (ld_strip B _ _ r k h)
      decide
  exfalso
  have := l.isLt
  omega

/-- A latent block of the second kind of queries and keys: the product, turned in halves of 64 lanes, the keys scaled. -/
theorem out_E (c : Dev nD) (t : Fin cfg0.N) (h0 : ¬t.val % 6 = 0) (h1 : ¬8 * (t.val % 6) + 8 ≤ t.val / 6 % 16)
    (h2 : ¬(16 * (t.val % 6) ≤ t.val / 6 % 16 + 8 ∧ t.val / 6 % 16 + 1 ≤ 16 * (t.val % 6)))
    (h3 : (16 * (t.val % 6) ≤ t.val / 6 % 16 + 40 ∧ t.val / 6 % 16 + 33 ≤ 16 * (t.val % 6))) :
    ∃ s : FVec Ideal S1024x2048 .bf16,
      (∀ (r : Fin 1024) (k : Fin 2048) (R : Fin 16384), R.val = t.val / 6 * 1024 + r.val → s (ix2 r k)
        = modulated (m ((c : Thread nD τ).loc main_arg0)) (m ((c : Thread nD τ).loc main_arg1)) R k)
      ∧ ∀ r l : Fin 1024, (outsAt0 m c t.val t.isLt).1 (ix2 r l)
        = if l.val < 512 then blockB (k0_pay2 s (iblk m c 2 t)) (iblk m c 5 t) (iblk m c 6 t) r l
          else blockB (k0_pay2 s (iblk m c 2 t)) (iblk m c 5 t) (iblk m c 6 t) r l * keyScale := by
  refine ⟨(outsAt0 m c (t.val - 1) (Nat.lt_of_le_of_lt (Nat.sub_le _ _) t.isLt)).2, fun r k R hR => held m c _ _ r k R (by omega), fun r l => ?_⟩
  rw [outsAt0_E m c t h0 h1 h2 h3]
  frame_out
  simp only [read_unread_whole]
  generalize k0_pay2 (F := Ideal) (outsAt0 m c (t.val - 1) (Nat.lt_of_le_of_lt (Nat.sub_le _ _) t.isLt)).2 (iblk m c 2 t) = B
  let G : Fin 1024 → Fin 1024 → EReal := fun r l => if l.val < 512 then blockB B (iblk m c 5 t) (iblk m c 6 t) r l
          else blockB B (iblk m c 5 t) (iblk m c 6 t) r l * keyScale
  iterate 8
    refine strip_step G _ _ _ _ r l (fun k h => ?_) (fun _ => ?_)
    · try first | rw [strip69] | rw [strip68] | rw [strip67] | rw [strip62] | rw [strip61] | rw [strip60]
      first
        | refine Eq.trans (strip_B _ rfl _ B _ _ r ?_ k h) (if_pos (by dsimp only; omega)).symm
        | rw [pay63_at]
          refine Eq.trans (congrArg (· * keyScale) (strip_B _ rfl _ B _ _ r ?_ k h)) (if_neg (by dsimp only; omega)).symm
      intro k h
      try simp (disch := decide) only [↓read_skip]
      refine Eq.trans (congrFun (View.readCov_fill _ _ _ _ _ ?_) _) (ld_strip B _ _ r k h)
      decide
  exfalso
  have := l.isLt
  omega

end Cert.InEvenIdeal.Value

end
-- ==== Proof.InEven.Kernel.lean ====
/- What the kernel of the even layers' input projection leaves in its result array. -/
module

public import proofs.«01_k».proof.Proof.InEven.Cases

@[expose] public section

set_option maxRecDepth 16384

noncomputable section

namespace Cert.InEvenIdeal.Value

open Cert.InEvenIdeal Cert.InEvenIdeal.Gen Idealize.ShloMosaic Idealize.ShloMosaic.TcCoe Idealize.SL.Sem
open Idealize.ShloMosaic.Pipeline (Dat)
open Cert.InEvenRefIdeal.Value (grp pos modulated proj turnA turnB keyScale REF REF_plain REF_QA REF_KA REF_QB REF_KB)

variable (m : (ℓ : Loc nD τ sig) → Buf (Elt Ideal) ℓ)

/-- What each point leaves in its block of the result. -/
theorem out_at (c : Dev nD) (t : Fin cfg0.N) (r : Fin 1024) (l : Fin 1024) (R : Fin 16384) (L : Fin 6144)
    (hR : R.val = t.val / 6 * 1024 + r.val) (hL : L.val = t.val % 6 * 1024 + l.val) :
    (outsAt0 m c t.val t.isLt).1 (ix2 r l)
      = REF (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 R L) := by
  have hi := idx t
  by_cases h0 : t.val % 6 = 0
  · have h2 : ¬(16 * (t.val % 6) ≤ t.val / 6 % 16 + 8 ∧ t.val / 6 % 16 + 1 ≤ 16 * (t.val % 6)) := by omega
    have h3 : ¬(16 * (t.val % 6) ≤ t.val / 6 % 16 + 40 ∧ t.val / 6 % 16 + 33 ≤ 16 * (t.val % 6)) := by omega
    by_cases h1 : 8 * (t.val % 6) + 8 ≤ t.val / 6 % 16
    · have hl : ¬R.val < 8192 := by omega
      obtain ⟨s, hs, ho⟩ := out_C m c t h0 h1 h2 h3
      rw [ho]
      have hb : l.val < 6144 := by omega
      obtain rfl : L = ⟨l.val, hb⟩ := Fin.ext (by show L.val = l.val; omega)
      rw [REF_QA _ _ _ _ _ _ _ R hl l.val l.isLt]
      exact blockA_turn _ _ _ _ _ _ r 0 rfl (by omega)
        (fun l => prod_at m c t s r l R _ (by show 0 + l.val = _; omega) fun k => hs r k R hR)
        (fun l => cos_a_at m c t r R hR hl l) (fun l => sin_a_at m c t r R hR hl l _ rfl) l _ (by show l.val = 0 + l.val; omega)
    · rw [outsAt0_A m c t h0 h1 h2 h3]
      frame_out
      rw [REF_plain _ _ _ _ _ _ _ R L (Or.inl (by omega))]
      exact prod_at m c t _ r l R L hL fun k => mod_at m c t r k R hR
  · have h1 : ¬8 * (t.val % 6) + 8 ≤ t.val / 6 % 16 := by omega
    by_cases h2 : 16 * (t.val % 6) ≤ t.val / 6 % 16 + 8 ∧ t.val / 6 % 16 + 1 ≤ 16 * (t.val % 6)
    · have h3 : ¬(16 * (t.val % 6) ≤ t.val / 6 % 16 + 40 ∧ t.val / 6 % 16 + 33 ≤ 16 * (t.val % 6)) := by omega
      have hq : t.val % 6 = 1 := by omega
      have hl : ¬R.val < 8192 := by omega
      obtain ⟨s, hs, ho⟩ := out_D m c t h0 h1 h2 h3
      rw [ho]
      have hb : 1024 + l.val < 6144 := by omega
      obtain rfl : L = ⟨1024 + l.val, hb⟩ := Fin.ext (by show L.val = 1024 + l.val; omega)
      rw [REF_KA _ _ _ _ _ _ _ R hl l.val l.isLt]
      exact blockA_turn _ _ _ _ _ _ r 1024 rfl (by omega)
        (fun l => prod_at m c t s r l R _ (by show 1024 + l.val = _; omega) fun k => hs r k R hR)
        (fun l => cos_a_at m c t r R hR hl l) (fun l => sin_a_at m c t r R hR hl l _ rfl) l _ rfl
    · by_cases h3 : 16 * (t.val % 6) ≤ t.val / 6 % 16 + 40 ∧ t.val / 6 % 16 + 33 ≤ 16 * (t.val % 6)
      · have hq : t.val % 6 = 3 := by omega
        have hl : ¬R.val < 8192 := by omega
        obtain ⟨s, hs, ho⟩ := out_E m c t h0 h1 h2 h3
        rw [ho]
        have turned := fun (l : Fin 1024) (L : Fin 6144) (hL : L.val = 3072 + l.val) =>
          blockB_turn (k0_pay2 s (iblk m c 2 t)) (iblk m c 5 t) (iblk m c 6 t)
            (proj (m ((c : Thread nD τ).loc main_arg0)) (m ((c : Thread nD τ).loc main_arg1)) (m ((c : Thread nD τ).loc main_arg2)) R)
            (fun i => (m ((c : Thread nD τ).loc main_arg5)) (ix2 (pos R) i)) (fun i => (m ((c : Thread nD τ).loc main_arg6)) (ix2 (pos R) i))
            r 3072 rfl (by omega)
            (fun l => prod_at m c t s r l R _ (by show 3072 + l.val = _; omega) fun k => hs r k R hR)
            (fun l => cos_b_at m c t r R hR hl l) (fun l => sin_b_at m c t r R hR hl l _ rfl) l L hL
        by_cases hk : l.val < 512
        · rw [if_pos hk, turned l L (by omega)]
          have hb : 3072 + l.val < 6144 := by omega
          obtain rfl : L = ⟨3072 + l.val, hb⟩ := Fin.ext (by show L.val = 3072 + l.val; omega)
          exact (REF_QB _ _ _ _ _ _ _ R hl l.val hk).symm
        · rw [if_neg hk, turned l L (by omega)]
          have hb : 3584 + (l.val - 512) < 6144 := by omega
          obtain rfl : L = ⟨3584 + (l.val - 512), hb⟩ := Fin.ext (by show L.val = 3584 + (l.val - 512); omega)
          exact (REF_KB _ _ _ _ _ _ _ R hl (l.val - 512) (by omega)).symm
      · rw [outsAt0_B m c t h0 h1 h2 h3]
        frame_out
        rw [REF_plain _ _ _ _ _ _ _ R L (by
          rcases (by omega : t.val % 6 = 1 ∨ t.val % 6 = 2 ∨ t.val % 6 = 3 ∨ 4 ≤ t.val % 6) with hq | hq | hq | hq
          · left; omega
          · right; left; omega
          · left; omega
          · right; right; omega)]
        exact prod_at m c t _ r l R L hL fun k => by
          rw [read_unread_whole]
          exact held m c _ _ r k R (by omega)

/-- The result array after the run is the reference's result. -/
theorem final (c : Dev nD) : (dats m 0 c).arrAt 7 cfg0.N
    = REF (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t _ y => ?_
  blk_simp
  rw [after0_7]
  have e := (eq_ix2 (n0 := 16384) (n1 := 6144) ((win0_7.blk t).view.emb y))
  refine Eq.trans ?_ (congrArg _ e.symm)
  refine Eq.trans (congrArg _ (eq_ix2 (n0 := 1024) (n1 := 1024) y)) (out_at m c t (y 0) (y 1) _ _ ?_ ?_)
  · blk_simp [idx t]
  · blk_simp [idx t]

end Cert.InEvenIdeal.Value

end
-- ==== Proof.InEven.Claim.lean ====
/- The even layers' input projection: kernel and reference end with equal results. -/
module

public import proofs.«01_k».proof.Defs
public import proofs.«01_k».proof.Proof.InEven.Kernel
public import Idealize.ShloMosaic.Lib.Claim
public import Idealize.ShloMosaic.Lib.Quiescent
public import Idealize.ShloMosaic.Adequacy
public import Idealize.ShloMosaic.Init

@[expose] public section

noncomputable section

namespace Cert.InEvenClaim

open Idealize.ShloMosaic Idealize.SL.Sem

/-- The reference terminates, keeps its arguments and leaves every counter at zero: it declares none. -/
theorem frame_ref : quiescent_InEvenRefIdeal (hInEvenRefIdeal := Cert.InEvenRefIdeal.Gen.facts) := by
  intro m ρ _
  exact (θ_run Cert.InEvenRefIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2⟩, sem_eq_zero_of_no_sems (by decide) r.2⟩)
    (Cert.InEvenRefIdeal.Value.run_ref m ρ)

/-- From equal arguments the kernel and the reference run and end with the same array. -/
theorem algebraic : algebraic_InEvenIdeal_InEvenRefIdeal (hInEvenIdeal := Cert.InEvenIdeal.Gen.facts)
    (hInEvenRefIdeal := Cert.InEvenRefIdeal.Gen.facts) := by
  pair_intro
  · run_from Cert.InEvenIdeal.Gen.run_main m g
  · run_from Cert.InEvenRefIdeal.Value.run_ref m' g'
    exact (Cert.InEvenIdeal.Value.final m c).symm

end Cert.InEvenClaim

end
-- ==== Proof.InOdd.Ref.lean ====
/- What the reference of the odd layers' input projection computes, entry by entry. -/
module

public import proofs.«01_k».proof.Proof.Gen.InOddRefIdeal.Run
public import Idealize.ShloMosaic.Lib.Pointwise

@[expose] public section

set_option maxRecDepth 16384

noncomputable section

namespace Cert.InOddRefIdeal.Value

open Cert.InOddRefIdeal Cert.InOddRefIdeal.Gen Idealize.ShloMosaic Idealize.ShloMosaic.TcCoe Idealize.SL.Sem

/-- The reference's result as a function of its three arguments. -/
def REF (x0 : FVec Ideal S16384x2048 .f32) (x1 : FVec Ideal S3x6x2048 .f32) (x2 : FVec Ideal S2048x3072 .f32) :
    FVec Ideal S16384x3072 .f32 :=
  concatenate S16384x3072 0 [⟨S8192x3072, (Host.dotGeneral dot_S8192x2048_S2048x3072_S8192x3072_1_0_0_1_n_n none (addf (mulf (extractStridedSlice S8192x2048 ![0, 0] x0 slices_S16384x2048_S8192x2048_0_0) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) (shapeCast _ (extractStridedSlice S1x1x2048 ![0, 1, 0] x1 slices_S3x6x2048_S1x1x2048_0_1_0) shapeCasts_S1x1x2048_S2048))))) (broadcastInDim S8192x2048 ![0, 1] bcast_S1x2048_S8192x2048_0_1 (broadcastInDim S1x2048 ![1] bcast_S2048_S1x2048_1 (shapeCast _ (extractStridedSlice S1x1x2048 ![0, 0, 0] x1 slices_S3x6x2048_S1x1x2048_0_0_0) shapeCasts_S1x1x2048_S2048)))) x2)⟩, ⟨S8192x3072, (shapeCast _ (Host.dotGeneral dot_S2x4096x2048_S2048x3072_S2x4096x3072_2_0_01_1_n_n none (addf (mulf (shapeCast _ (extractStridedSlice S8192x2048 ![8192, 0] x0 slices_S16384x2048_S8192x2048_8192_0) shapeCasts_S8192x2048_S2x4096x2048) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (shapeCast _ (extractStridedSlice S2x1x2048 ![1, 1, 0] x1 slices_S3x6x2048_S2x1x2048_1_1_0) shapeCasts_S2x1x2048_S2x2048))))) (broadcastInDim S2x4096x2048 ![0, 1, 2] bcast_S2x1x2048_S2x4096x2048_0_1_2 (broadcastInDim S2x1x2048 ![0, 2] bcast_S2x2048_S2x1x2048_0_2 (shapeCast _ (extractStridedSlice S2x1x2048 ![1, 0, 0] x1 slices_S3x6x2048_S2x1x2048_1_0_0) shapeCasts_S2x1x2048_S2x2048)))) x2) shapeCasts_S2x4096x3072_S8192x3072)⟩] concatenates_S8192x3072_S8192x3072_S16384x3072_d0

/-- The row of the modulation table that applies to a row of the activations: 0 for the prompt, then one per sample. -/
def grp (r : Fin 16384) : Fin 3 := if h : r.val < 8192 then 0 else ⟨1 + (r.val - 8192) / 4096, by omega⟩

/-- The modulated activations: `x · (1 + scale) + shift`. -/
def modulated (x0 : FVec Ideal S16384x2048 .f32) (x1 : FVec Ideal S3x6x2048 .f32) (r : Fin 16384) (k : Fin 2048) : EReal :=
  x0 (ix2 r k) * (1 + x1 (ix3 (grp r) 1 k)) + x1 (ix3 (grp r) 0 k)

/-- Every entry of the reference's result is the product of a modulated row with a column of the weights. -/
theorem REF_at (x0 : FVec Ideal S16384x2048 .f32) (x1 : FVec Ideal S3x6x2048 .f32) (x2 : FVec Ideal S2048x3072 .f32)
    (r : Fin 16384) (l : Fin 3072) :
    REF x0 x1 x2 (ix2 r l) = ∑ k : Fin 2048, modulated x0 x1 r k * x2 (ix2 k l) := by
  pointwise [REF]
  split
  · rename_i h
    have hg : grp r = 0 := dif_pos h
    simp only [modulated, hg]
  · rename_i h
    have hg : grp r = ⟨1 + (r.val - 8192) / 4096, by omega⟩ := dif_neg h
    have hr : (⟨8192 + ((r.val - 8192) / 4096 * 4096 + (r.val - 8192) % 4096), by omega⟩ : Fin 16384) = r :=
      Fin.ext (by simp only; omega)
    simp only [modulated, hg, hr]

/-- The reference's run, its result named `REF`. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = REF (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.InOddRefIdeal.Value

end
-- ==== Proof.InOdd.Kernel.lean ====
/- What the kernel of the odd layers' input projection leaves in its result array. -/
module

public import proofs.«01_k».proof.Proof.Gen.InOddIdeal.Frame
public import proofs.«01_k».proof.Proof.InOdd.Ref
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InOddIdeal.Value

open Cert.InOddIdeal Cert.InOddIdeal.Gen Idealize.ShloMosaic Idealize.ShloMosaic.TcCoe Idealize.SL.Sem
open Idealize.ShloMosaic.Pipeline (Dat)
open Cert.InOddRefIdeal.Value (grp modulated REF REF_at)

variable (m : (ℓ : Loc nD τ sig) → Buf (Elt Ideal) ℓ)

/-- Where each block of grid point `t` lies: 1024 rows of the activations per three points, one third of the columns
    of the weights per point. -/
theorem idx : ∀ t : Fin cfg0.N, win0_0.index t = ![t.val / 3, 0]
    ∧ win0_1.index t = ![if t.val / 3 < 8 then 0 else 1 + (t.val / 3 - 8) / 4, 0, 0]
    ∧ win0_2.index t = ![0, t.val % 3] ∧ win0_3.index t = ![t.val / 3, t.val % 3] ∧ t.val / 3 < 16 :=
  (by decide +kernel : ∀ t : Fin grid0.N, _)

/-- The block of rows of point `t`, modulated: what the first point of the block computes. -/
theorem mod_at (c : Dev nD) (t : Fin cfg0.N) (r : Fin 1024) (k : Fin 2048) (R : Fin 16384)
    (hR : R.val = t.val / 3 * 1024 + r.val) :
    k0_pay1 (View.ld (iblk m c 1 t) (Rect.unit (s := S1x6x2048) ![0, 0, 0] S1x1x2048.size inb_S1x6x2048_S1x1x2048_0_0_0))
      (View.ld (iblk m c 1 t) (Rect.unit (s := S1x6x2048) ![0, 1, 0] S1x1x2048.size inb_S1x6x2048_S1x1x2048_0_1_0))
      (iblk m c 0 t) (ix2 r k)
      = modulated (m ((c : Thread nD τ).loc main_arg0)) (m ((c : Thread nD τ).loc main_arg1)) R k := by
  have hi := idx t
  have hg : (grp R).val = if t.val / 3 < 8 then 0 else 1 + (t.val / 3 - 8) / 4 := by
    unfold grp
    split <;> split <;> simp <;> omega
  pointwise [k0_pay1, modulated]
  blk_point [iblk, V, idx t, hg]

/-- The scratch holds the modulated rows of the current block at every point. -/
theorem held (c : Dev nD) : ∀ (n : ℕ) (hn : n < cfg0.N) (r : Fin 1024) (k : Fin 2048) (R : Fin 16384)
    (hR : R.val = n / 3 * 1024 + r.val),
    (outsAt0 m c n hn).2 (ix2 r k)
      = modulated (m ((c : Thread nD τ).loc main_arg0)) (m ((c : Thread nD τ).loc main_arg1)) R k := by
  intro n
  induction n with
  | zero =>
    intro hn r k R hR
    rw [outsAt0_A m c ⟨0, hn⟩ rfl]
    frame_out
    exact mod_at m c ⟨0, hn⟩ r k R hR
  | succ n ih =>
    intro hn r k R hR
    by_cases h : (n + 1) % 3 = 0
    · rw [outsAt0_A m c ⟨n + 1, hn⟩ h]
      frame_out
      exact mod_at m c ⟨n + 1, hn⟩ r k R hR
    · rw [outsAt0_B m c ⟨n + 1, hn⟩ h]
      dsimp only [sout0_B_0, Nat.add_sub_cancel]
      exact ih (by omega) r k R (by omega)

/-- A point's block of the product, from a scratch that holds the modulated rows. -/
theorem prod_at (c : Dev nD) (t : Fin cfg0.N) (s : FVec Ideal S1024x2048 .bf16) (r : Fin 1024) (l : Fin 1024) (R : Fin 16384)
    (L : Fin 3072) (hL : L.val = t.val % 3 * 1024 + l.val)
    (hs : ∀ k : Fin 2048, s (ix2 r k)
      = modulated (m ((c : Thread nD τ).loc main_arg0)) (m ((c : Thread nD τ).loc main_arg1)) R k) :
    k0_pay2 s (iblk m c 2 t) (ix2 r l)
      = REF (m ((c : Thread nD τ).loc main_arg0)) (m ((c : Thread nD τ).loc main_arg1))
        (m ((c : Thread nD τ).loc main_arg2)) (ix2 R L) := by
  have hi := idx t
  refine Eq.trans ?_ (REF_at _ _ _ R L).symm
  pointwise [k0_pay2]
  refine Finset.sum_congr rfl fun k _ => ?_
  refine Ideal.mul_congr (hs k) ?_
  blk_ext [iblk, V, idx t]

/-- What each point leaves in its block of the result. -/
theorem out_at (c : Dev nD) (t : Fin cfg0.N) (r : Fin 1024) (l : Fin 1024) (R : Fin 16384) (L : Fin 3072)
    (hR : R.val = t.val / 3 * 1024 + r.val) (hL : L.val = t.val % 3 * 1024 + l.val) :
    (outsAt0 m c t.val t.isLt).1 (ix2 r l)
      = REF (m ((c : Thread nD τ).loc main_arg0)) (m ((c : Thread nD τ).loc main_arg1))
        (m ((c : Thread nD τ).loc main_arg2)) (ix2 R L) := by
  by_cases h : t.val % 3 = 0
  · rw [outsAt0_A m c t h]
    frame_out
    exact prod_at m c t _ r l R L hL fun k => mod_at m c t r k R hR
  · rw [outsAt0_B m c t h]
    frame_out
    exact prod_at m c t _ r l R L hL fun k => by
      rw [read_unread_whole]
      exact held m c _ _ r k R (by omega)

/-- The result array after the run is the reference's result. -/
theorem final (c : Dev nD) : (dats m 0 c).arrAt 3 cfg0.N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  have e := (eq_ix2 (n0 := 16384) (n1 := 3072) ((win0_3.blk t).view.emb y))
  refine Eq.trans ?_ (congrArg _ e.symm)
  refine Eq.trans (congrArg _ (eq_ix2 (n0 := 1024) (n1 := 1024) y)) (out_at m c t (y 0) (y 1) _ _ ?_ ?_)
  · blk_simp [idx t]
  · blk_simp [idx t]

end Cert.InOddIdeal.Value

end
-- ==== Proof.InOdd.Claim.lean ====
/- The odd layers' input projection: kernel and reference end with equal results. -/
module

public import proofs.«01_k».proof.Defs
public import proofs.«01_k».proof.Proof.InOdd.Kernel
public import Idealize.ShloMosaic.Lib.Claim
public import Idealize.ShloMosaic.Lib.Quiescent
public import Idealize.ShloMosaic.Adequacy
public import Idealize.ShloMosaic.Init

@[expose] public section

noncomputable section

namespace Cert.InOddClaim

open Idealize.ShloMosaic Idealize.SL.Sem

/-- The reference terminates, keeps its arguments and leaves every counter at zero: it declares none. -/
theorem frame_ref : quiescent_InOddRefIdeal (hInOddRefIdeal := Cert.InOddRefIdeal.Gen.facts) := by
  intro m ρ _
  exact (θ_run Cert.InOddRefIdeal.defs _ _).mono (fun r h => ⟨fun c => ⟨(h c).2.1, (h c).2.2.1, (h c).2.2.2⟩, sem_eq_zero_of_no_sems (by decide) r.2⟩)
    (Cert.InOddRefIdeal.Value.run_ref m ρ)

/-- From equal arguments the kernel and the reference run and end with the same array. -/
theorem algebraic : algebraic_InOddIdeal_InOddRefIdeal (hInOddIdeal := Cert.InOddIdeal.Gen.facts)
    (hInOddRefIdeal := Cert.InOddRefIdeal.Gen.facts) := by
  pair_intro
  · run_from Cert.InOddIdeal.Gen.run_main m g
  · run_from Cert.InOddRefIdeal.Value.run_ref m' g'
    exact (Cert.InOddIdeal.Value.final m c).symm

end Cert.InOddClaim

end
-- ==== Proof.OutProj.Stages.lean ====
/- The reference of the output projection, in stages. -/
module

public import proofs.«01_k».proof.Proof.Gen.OutProjRefIdeal.Run
public import Idealize.ShloMosaic.Lib.Pointwise

@[expose] public section

set_option maxRecDepth 16384

noncomputable section

namespace Cert.OutProjRefIdeal.Value

open Cert.OutProjRefIdeal Cert.OutProjRefIdeal.Gen Idealize.ShloMosaic Idealize.ShloMosaic.TcCoe Idealize.SL.Sem

/-- The two halves of the mixers' output, side by side. -/
def mix (x0 : FVec Ideal S16384x1024 .bf16) (x1 : FVec Ideal S16384x1024 .bf16) :
    FVec Ideal S16384x2048 .f32 :=
  concatenate S16384x2048 1 [⟨S16384x1024, (extf .f32 x0 bitsLt_bf16_f32)⟩, ⟨S16384x1024, (extf .f32 x1 bitsLt_bf16_f32)⟩] concatenates_S16384x1024_S16384x1024_S16384x2048_d1

/-- Their product with the weights. -/
def product (x4 : FVec Ideal S2048x2048 .f32) (mix_ : FVec Ideal S16384x2048 .f32) :
    FVec Ideal S16384x2048 .f32 :=
  Host.dotGeneral dot_S16384x2048_S2048x2048_S16384x2048_1_0_0_1_n_n none mix_ x4

/-- The product, each row scaled by its group's gate. -/
def gated (x3 : FVec Ideal S3x6x2048 .f32) (product_ : FVec Ideal S16384x2048 .f32) :
    FVec Ideal S16384x2048 .f32 :=
  concatenate S16384x2048 0 [⟨S8192x2048, (mulf (broadcastInDim S8192x2048 ![0, 1] bcast_S1x2048_S8192x2048_0_1 (broadcastInDim S1x2048 ![1] bcast_S2048_S1x2048_1 (shapeCast S2048 (extractStridedSlice S1x2048 ![0, 0] (shapeCast S3x2048 (extractStridedSlice S3x1x2048 ![0, 2, 0] x3 slices_S3x6x2048_S3x1x2048_0_2_0) shapeCasts_S3x1x2048_S3x2048) slices_S3x2048_S1x2048_0_0) shapeCasts_S1x2048_S2048))) (extractStridedSlice S8192x2048 ![0, 0] product_ slices_S16384x2048_S8192x2048_0_0))⟩, ⟨S8192x2048, (shapeCast S8192x2048 (mulf (broadcastInDim S2x4096x2048 ![0, 1, 2] bcast_S2x1x2048_S2x4096x2048_0_1_2 (broadcastInDim S2x1x2048 ![0, 2] bcast_S2x2048_S2x1x2048_0_2 (extractStridedSlice S2x2048 ![1, 0] (shapeCast S3x2048 (extractStridedSlice S3x1x2048 ![0, 2, 0] x3 slices_S3x6x2048_S3x1x2048_0_2_0) shapeCasts_S3x1x2048_S3x2048) slices_S3x2048_S2x2048_1_0))) (shapeCast S2x4096x2048 (extractStridedSlice S8192x2048 ![8192, 0] product_ slices_S16384x2048_S8192x2048_8192_0) shapeCasts_S8192x2048_S2x4096x2048)) shapeCasts_S2x4096x2048_S8192x2048)⟩] concatenates_S8192x2048_S8192x2048_S16384x2048_d0

/-- The scaled residual stream plus the gated product. -/
def resid (x2 : FVec Ideal S16384x2048 .f32) (gated_ : FVec Ideal S16384x2048 .f32) :
    FVec Ideal S16384x2048 .f32 :=
  addf (mulf (broadcastInDim S16384x2048 ![] bcast_S_S16384x2048 (constant S_ .f32 0x3FD744FD#32)) x2) gated_

/-- The mean of each row. -/
def mean (resid_ : FVec Ideal S16384x2048 .f32) :
    FVec Ideal S16384x1 .f32 :=
  Host.divf (broadcastInDim S16384x1 ![0] bcast_S16384_S16384x1_0 (Host.reduceAdd resid_ (constant S_ .f32 0x00000000#32) reducesTo_S16384x2048_S16384_d1 h_S_)) (broadcastInDim S16384x1 ![] bcast_S_S16384x1 (constant S_ .f32 0x45000000#32))

/-- Each row less its mean. -/
def centre (resid_ : FVec Ideal S16384x2048 .f32) (mean_ : FVec Ideal S16384x1 .f32) :
    FVec Ideal S16384x2048 .f32 :=
  subf resid_ (broadcastInDim S16384x2048 ![0, 1] bcast_S16384x1_S16384x2048_0_1 mean_)

/-- The mean square of each centred row. -/
def spread (centre_ : FVec Ideal S16384x2048 .f32) :
    FVec Ideal S16384x1 .f32 :=
  Host.divf (broadcastInDim S16384x1 ![0] bcast_S16384_S16384x1_0 (Host.reduceAdd (mulf centre_ centre_) (constant S_ .f32 0x00000000#32) reducesTo_S16384x2048_S16384_d1 h_S_)) (broadcastInDim S16384x1 ![] bcast_S_S16384x1 (constant S_ .f32 0x45000000#32))

/-- The layer norm of the rows. -/
def normed (x5 : FVec Ideal S2048 .f32) (x6 : FVec Ideal S2048 .f32) (resid_ : FVec Ideal S16384x2048 .f32) (mean_ : FVec Ideal S16384x1 .f32) (spread_ : FVec Ideal S16384x1 .f32) :
    FVec Ideal S16384x2048 .f32 :=
  addf (mulf (mulf (subf resid_ (broadcastInDim S16384x2048 ![0, 1] bcast_S16384x1_S16384x2048_0_1 mean_)) (broadcastInDim S16384x2048 ![0, 1] bcast_S16384x1_S16384x2048_0_1 (Host.rsqrt (addf spread_ (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 x5))) (broadcastInDim S16384x2048 ![0, 1] bcast_S1x2048_S16384x2048_0_1 (broadcastInDim S1x2048 ![1] bcast_S2048_S1x2048_1 x6))

/-- The normed rows, modulated for the next block. -/
def shifted (x3 : FVec Ideal S3x6x2048 .f32) (normed_ : FVec Ideal S16384x2048 .f32) :
    FVec Ideal S16384x2048 .f32 :=
  concatenate S16384x2048 0 [⟨S8192x2048, (addf (mulf (extractStridedSlice S8192x2048 ![0, 0] normed_ slices_S16384x2048_S8192x2048_0_0) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) (shapeCast S2048 (extractStridedSlice S1x1x2048 ![0, 4, 0] x3 slices_S3x6x2048_S1x1x2048_0_4_0) shapeCasts_S1x1x2048_S2048))))) (broadcastInDim S8192x2048 ![0, 1] bcast_S1x2048_S8192x2048_0_1 (broadcastInDim S1x2048 ![1] bcast_S2048_S1x2048_1 (shapeCast S2048 (extractStridedSlice S1x1x2048 ![0, 3, 0] x3 slices_S3x6x2048_S1x1x2048_0_3_0) shapeCasts_S1x1x2048_S2048))))⟩, ⟨S8192x2048, (shapeCast S8192x2048 (addf (mulf (shapeCast S2x4096x2048 (extractStridedSlice S8192x2048 ![8192, 0] normed_ slices_S16384x2048_S8192x2048_8192_0) shapeCasts_S8192x2048_S2x4096x2048) (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (shapeCast S2x2048 (extractStridedSlice S2x1x2048 ![1, 4, 0] x3 slices_S3x6x2048_S2x1x2048_1_4_0) shapeCasts_S2x1x2048_S2x2048))))) (broadcastInDim S2x4096x2048 ![0, 1, 2] bcast_S2x1x2048_S2x4096x2048_0_1_2 (broadcastInDim S2x1x2048 ![0, 2] bcast_S2x2048_S2x1x2048_0_2 (shapeCast S2x2048 (extractStridedSlice S2x1x2048 ![1, 3, 0] x3 slices_S3x6x2048_S2x1x2048_1_3_0) shapeCasts_S2x1x2048_S2x2048)))) shapeCasts_S2x4096x2048_S8192x2048)⟩] concatenates_S8192x2048_S8192x2048_S16384x2048_d0

/-- The modulated rows, transposed. -/
def turned (shifted_ : FVec Ideal S16384x2048 .f32) :
    FVec Ideal S2048x16384 .bf16 :=
  truncf .bf16 (transpose S2048x16384 [1, 0] shifted_ transposes_S16384x2048_S2048x16384_1_0) bitsLt_bf16_f32

/-- The reference's result 1 as a function of its arguments. -/
def REF1 (x0 : FVec Ideal S16384x1024 .bf16) (x1 : FVec Ideal S16384x1024 .bf16) (x2 : FVec Ideal S16384x2048 .f32) (x3 : FVec Ideal S3x6x2048 .f32) (x4 : FVec Ideal S2048x2048 .f32) (x5 : FVec Ideal S2048 .f32) (x6 : FVec Ideal S2048 .f32) :
    FVec Ideal S16384x2048 .f32 :=
  normed x5 x6 (resid x2 (gated x3 (product x4 (mix x0 x1)))) (mean (resid x2 (gated x3 (product x4 (mix x0 x1))))) (spread (centre (resid x2 (gated x3 (product x4 (mix x0 x1)))) (mean (resid x2 (gated x3 (product x4 (mix x0 x1)))))))

/-- The reference's result 2 as a function of its arguments. -/
def REF2 (x0 : FVec Ideal S16384x1024 .bf16) (x1 : FVec Ideal S16384x1024 .bf16) (x2 : FVec Ideal S16384x2048 .f32) (x3 : FVec Ideal S3x6x2048 .f32) (x4 : FVec Ideal S2048x2048 .f32) (x5 : FVec Ideal S2048 .f32) (x6 : FVec Ideal S2048 .f32) :
    FVec Ideal S2048x16384 .bf16 :=
  turned (shifted x3 (normed x5 x6 (resid x2 (gated x3 (product x4 (mix x0 x1)))) (mean (resid x2 (gated x3 (product x4 (mix x0 x1))))) (spread (centre (resid x2 (gated x3 (product x4 (mix x0 x1)))) (mean (resid x2 (gated x3 (product x4 (mix x0 x1)))))))))

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46) =
        REF1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v77) =
        REF2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.OutProjRefIdeal.Value

end
-- ==== Proof.LayerNorm.lean ====
/- Layer norm of a row of numbers. -/
module

public import Idealize.ShloMosaic.Lib.Pointwise

@[expose] public section

noncomputable section

namespace Cert.LayerNorm

open Idealize.ShloMosaic

variable {n : ℕ}

/-- The mean of a row: its sum over its length `d`. -/
def mean (d : EReal) (z : Fin n → EReal) : EReal := Ideal.div (∑ x, z x) d

/-- A row less its mean. -/
def centre (d : EReal) (z : Fin n → EReal) (l : Fin n) : EReal := z l - mean d z

/-- The mean square of the centred row. -/
def spread (d : EReal) (z : Fin n → EReal) : EReal := Ideal.div (∑ x, centre d z x * centre d z x) d

/-- The layer norm of a row of length `d` at place `l`, with gain `g` and offset `b` there. -/
def layerNorm (d : EReal) (z : Fin n → EReal) (g b : EReal) (l : Fin n) : EReal :=
  centre d z l * Ideal.rsqrt (spread d z + Ideal.ofBits .f32 0x3727C5AC#32) * g + b

end Cert.LayerNorm

end
-- ==== Proof.OutProj.Ref.lean ====
/- The entries of the output projection's reference. -/
module

public import proofs.«01_k».proof.Proof.OutProj.Stages
public import proofs.«01_k».proof.Proof.LayerNorm
public import Idealize.ShloMosaic.Lib.Pointwise
public import Idealize.ShloMosaic.Lib.Pipeline.ValueKit

@[expose] public section

set_option maxRecDepth 16384

noncomputable section

namespace Cert.OutProjRefIdeal.Value

open Cert.OutProjRefIdeal Cert.OutProjRefIdeal.Gen Idealize.ShloMosaic Idealize.ShloMosaic.TcCoe Idealize.SL.Sem
open Cert.LayerNorm (layerNorm)

/-- The row of the modulation table that applies to a row of the activations: 0 for the prompt, then one per sample. -/
def grp (r : Fin 16384) : Fin 3 := if h : r.val < 8192 then 0 else ⟨1 + (r.val - 8192) / 4096, by omega⟩

/-- A row of the mixers' output, its halves `a` and `b`, against a column of the weights. -/
def prod (a b : FVec Ideal S16384x1024 .bf16) (w : FVec Ideal S2048x2048 .f32) (r : Fin 16384) (l : Fin 2048) : EReal :=
  ∑ k : Fin 1024, a (ix2 r k) * w (ix2 ⟨k.val, by omega⟩ l) + ∑ k : Fin 1024, b (ix2 r k) * w (ix2 ⟨1024 + k.val, by omega⟩ l)

/-- A row of the new residual stream before the norm. -/
def row (a b : FVec Ideal S16384x1024 .bf16) (x : FVec Ideal S16384x2048 .f32) (t : FVec Ideal S3x6x2048 .f32)
    (w : FVec Ideal S2048x2048 .f32) (r : Fin 16384) (l : Fin 2048) : EReal :=
  Ideal.ofBits .f32 0x3FD744FD#32 * x (ix2 r l) + t (ix3 (grp r) 2 l) * prod a b w r l

theorem prod_at (a b : FVec Ideal S16384x1024 .bf16) (w : FVec Ideal S2048x2048 .f32) (r : Fin 16384) (l : Fin 2048) :
    product w (mix a b) (ix2 r l) = prod a b w r l := by
  pointwise [product, mix, prod]

theorem gated_at (t : FVec Ideal S3x6x2048 .f32) (p : FVec Ideal S16384x2048 .f32) (r : Fin 16384) (l : Fin 2048) :
    gated t p (ix2 r l) = t (ix3 (grp r) 2 l) * p (ix2 r l) := by
  pointwise [gated]
  split
  · rename_i h
    have hg : grp r = 0 := dif_pos h
    simp only [hg]
  · rename_i h
    have hg : grp r = ⟨1 + (r.val - 8192) / 4096, by omega⟩ := dif_neg h
    have hr : (⟨8192 + ((r.val - 8192) / 4096 * 4096 + (r.val - 8192) % 4096), by omega⟩ : Fin 16384) = r :=
      Fin.ext (by simp only; omega)
    simp only [hg, hr]

theorem row_at (a b : FVec Ideal S16384x1024 .bf16) (x : FVec Ideal S16384x2048 .f32) (t : FVec Ideal S3x6x2048 .f32)
    (w : FVec Ideal S2048x2048 .f32) (r : Fin 16384) (l : Fin 2048) :
    resid x (gated t (product w (mix a b))) (ix2 r l) = row a b x t w r l := by
  have e : resid x (gated t (product w (mix a b))) (ix2 r l)
      = Ideal.ofBits .f32 0x3FD744FD#32 * x (ix2 r l) + gated t (product w (mix a b)) (ix2 r l) := by
    pointwise [resid]
  rw [e, gated_at, prod_at]
  rfl

theorem normed_at (g b : FVec Ideal S2048 .f32) (z : FVec Ideal S16384x2048 .f32) (r : Fin 16384) (l : Fin 2048) :
    normed g b z (mean z) (spread (centre z (mean z))) (ix2 r l)
      = layerNorm (Ideal.ofBits .f32 0x45000000#32) (fun x => z (ix2 r x)) (g (ix1 l)) (b (ix1 l)) l := by
  pointwise [normed, mean, spread, centre, layerNorm, LayerNorm.mean, LayerNorm.spread, LayerNorm.centre]

theorem turned_at (t : FVec Ideal S3x6x2048 .f32) (z : FVec Ideal S16384x2048 .f32) (r : Fin 16384) (l : Fin 2048) :
    turned (shifted t z) (ix2 l r) = z (ix2 r l) * (1 + t (ix3 (grp r) 4 l)) + t (ix3 (grp r) 3 l) := by
  pointwise [turned, shifted]
  split
  · rename_i h
    have hg : grp r = 0 := dif_pos h
    simp only [hg]
  · rename_i h
    have hg : grp r = ⟨1 + (r.val - 8192) / 4096, by omega⟩ := dif_neg h
    have hr : (⟨8192 + ((r.val - 8192) / 4096 * 4096 + (r.val - 8192) % 4096), by omega⟩ : Fin 16384) = r :=
      Fin.ext (by simp only; omega)
    simp only [hg, hr]

/-- Every entry of the first result is the layer norm of its row. -/
theorem REF1_at (x0 x1 : FVec Ideal S16384x1024 .bf16) (x2 : FVec Ideal S16384x2048 .f32) (x3 : FVec Ideal S3x6x2048 .f32)
    (x4 : FVec Ideal S2048x2048 .f32) (x5 x6 : FVec Ideal S2048 .f32) (r : Fin 16384) (l : Fin 2048) :
    REF1 x0 x1 x2 x3 x4 x5 x6 (ix2 r l) = layerNorm (Ideal.ofBits .f32 0x45000000#32) (row x0 x1 x2 x3 x4 r) (x5 (ix1 l)) (x6 (ix1 l)) l := by
  unfold REF1
  rw [normed_at]
  simp only [row_at]

/-- Every entry of the second result is an entry of the first, modulated. -/
theorem REF2_at (x0 x1 : FVec Ideal S16384x1024 .bf16) (x2 : FVec Ideal S16384x2048 .f32) (x3 : FVec Ideal S3x6x2048 .f32)
    (x4 : FVec Ideal S2048x2048 .f32) (x5 x6 : FVec Ideal S2048 .f32) (r : Fin 16384) (l : Fin 2048) :
    REF2 x0 x1 x2 x3 x4 x5 x6 (ix2 l r)
      = layerNorm (Ideal.ofBits .f32 0x45000000#32) (row x0 x1 x2 x3 x4 r) (x5 (ix1 l)) (x6 (ix1 l)) l * (1 + x3 (ix3 (grp r) 4 l)) + x3 (ix3 (grp r) 3 l) := by
  unfold REF2
  rw [turned_at, normed_at]
  simp only [row_at]

end Cert.OutProjRefIdeal.Value

end
-- ==== Proof.OutProj.Kernel.lean ====
/- What the output projection's kernel leaves in its two result arrays. -/
module

public import proofs.«01_k».proof.Proof.Gen.OutProjIdeal.Frame
public import proofs.«01_k».proof.Proof.OutProj.Ref
public import Idealize.ShloMosaic.Lib.Pipeline.ReadBack
public import Idealize.ShloMosaic.Lib.Pipeline.ValueKit
public import Idealize.ShloMosaic.Lib.Pointwise

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pipeline (Dat)
open Cert.LayerNorm (layerNorm)
open Cert.OutProjRefIdeal.Value (grp prod row REF1 REF2 REF1_at REF2_at)

variable (m : (ℓ : Loc nD τ sig) → Buf (Elt Ideal) ℓ)

/-- A row of the new residual stream before the norm, from the blocks of one grid point. -/
def zrow (v0 : FVec Ideal S512x1024 .bf16) (v1 : FVec Ideal S1024x2048 .bf16) (v4 : FVec Ideal S512x1024 .bf16)
    (v5 : FVec Ideal S1024x2048 .bf16) (v9 : FVec Ideal S1x1x2048 .f32) (v11 : FVec Ideal S512x2048 .f32) (r : Fin 512)
    (l : Fin 2048) : EReal :=
  Ideal.ofBits .f32 0x3FD744FD#32 * v11 (ix2 r l)
    + v9 (ix3 0 0 l) * (∑ k : Fin 1024, v0 (ix2 r k) * v1 (ix2 k l) + ∑ k : Fin 1024, v4 (ix2 r k) * v5 (ix2 k l))

theorem pay5_at (v0 : FVec Ideal S512x1024 .bf16) (v1 : FVec Ideal S1024x2048 .bf16) (v4 : FVec Ideal S512x1024 .bf16)
    (v5 : FVec Ideal S1024x2048 .bf16) (v9 : FVec Ideal S1x1x2048 .f32) (v11 : FVec Ideal S512x2048 .f32) (r : Fin 512)
    (l : Fin 2048) :
    k0_pay5 (F := Ideal) v0 v1 v4 v5 v9 v11 (ix2 r l) = LayerNorm.centre (Ideal.ofBits .f32 0x45000000#32) (zrow v0 v1 v4 v5 v9 v11 r) l := by
  pointwise [k0_pay5, zrow, LayerNorm.centre, LayerNorm.mean]

theorem pay6_at (v0 : FVec Ideal S512x1024 .bf16) (v1 : FVec Ideal S1024x2048 .bf16) (v4 : FVec Ideal S512x1024 .bf16)
    (v5 : FVec Ideal S1024x2048 .bf16) (v9 : FVec Ideal S1x1x2048 .f32) (v11 : FVec Ideal S512x2048 .f32) (r : Fin 512) (u : Fin 1) :
    k0_pay6 (F := Ideal) v0 v1 v4 v5 v9 v11 (ix2 r u)
      = LayerNorm.spread (Ideal.ofBits .f32 0x45000000#32) (zrow v0 v1 v4 v5 v9 v11 r) + Ideal.ofBits .f32 0x3727C5AC#32 := by
  have e : k0_pay6 (F := Ideal) v0 v1 v4 v5 v9 v11 (ix2 r u)
      = Ideal.div (∑ l : Fin 2048, k0_pay5 (F := Ideal) v0 v1 v4 v5 v9 v11 (ix2 r l) * k0_pay5 (F := Ideal) v0 v1 v4 v5 v9 v11 (ix2 r l))
          (Ideal.ofBits .f32 0x45000000#32) + Ideal.ofBits .f32 0x3727C5AC#32 := by
    pointwise [k0_pay6]
  rw [e]
  simp only [pay5_at]
  rfl

/-- The first result's block: the layer norm of its rows. -/
theorem pay1_at (g b : FVec Ideal S1x2048 .f32) (p : FVec Ideal S512x2048 .f32) (s : FVec Ideal S512x1 .f32) (r : Fin 512)
    (l : Fin 2048) :
    k0_pay1 (F := Ideal) (k0_pay3 g) (k0_pay4 b) p s (ix2 r l)
      = p (ix2 r l) * Ideal.rsqrt (s (ix2 r 0)) * g (ix2 0 l) + b (ix2 0 l) := by
  pointwise [k0_pay1, k0_pay3, k0_pay4]

theorem pay2_at (g b : FVec Ideal S1x2048 .f32) (p : FVec Ideal S512x2048 .f32) (s : FVec Ideal S512x1 .f32)
    (c d : FVec Ideal S1x1x2048 .f32) (r : Fin 512) (l : Fin 2048) :
    k0_pay2 (F := Ideal) (k0_pay3 g) (k0_pay4 b) p s c d (ix2 l r)
      = (p (ix2 r l) * Ideal.rsqrt (s (ix2 r 0)) * g (ix2 0 l) + b (ix2 0 l)) * (1 + c (ix3 0 0 l)) + d (ix3 0 0 l) := by
  pointwise [k0_pay2, k0_pay1, k0_pay3, k0_pay4]

/-- Where each block of grid point `t` lies: 512 rows per point; the modulation's row is 0 for the prompt, then one per
    sample. -/
theorem idx : ∀ t : Fin cfg0.N, win0_0.index t = ![t.val, 0] ∧ win0_1.index t = ![t.val, 0] ∧ win0_2.index t = ![t.val, 0]
    ∧ win0_3.index t = ![if t.val < 16 then 0 else 1 + (t.val - 16) / 8, 0, 0]
    ∧ win0_4.index t = ![0, 0] ∧ win0_5.index t = ![1, 0] ∧ win0_6.index t = ![0, 0] ∧ win0_7.index t = ![0, 0]
    ∧ win0_8.index t = ![t.val, 0] ∧ win0_9.index t = ![0, t.val] ∧ t.val < 32 :=
  (by decide +kernel : ∀ t : Fin grid0.N, _)

theorem grp_at (t : Fin cfg0.N) (R : Fin 16384) (r : Fin 512) (hR : R.val = t.val * 512 + r.val) :
    (grp R).val = if t.val < 16 then 0 else 1 + (t.val - 16) / 8 := by
  have hi := idx t
  unfold grp
  split <;> split <;> simp <;> omega

/-- A row of a point's blocks is a row of the arrays. -/
theorem row_eq (c : Dev nD) (t : Fin cfg0.N) (r : Fin 512) (R : Fin 16384) (hR : R.val = t.val * 512 + r.val) :
    zrow (iblk m c 0 t) (iblk m c 4 t) (iblk m c 1 t) (iblk m c 5 t)
        (View.ld (iblk m c 3 t) (Rect.unit (s := S1x6x2048) ![0, 2, 0] S1x1x2048.size inb_S1x6x2048_S1x1x2048_0_2_0)) (iblk m c 2 t) r
      = row (m ((c : Thread nD τ).loc main_arg0)) (m ((c : Thread nD τ).loc main_arg1)) (m ((c : Thread nD τ).loc main_arg2))
          (m ((c : Thread nD τ).loc main_arg3)) (m ((c : Thread nD τ).loc main_arg4)) R := by
  have hi := idx t
  have hg := grp_at t R r hR
  funext l
  unfold zrow row prod
  blk_point [iblk, V, idx t, hg]

/-- The gain at a place. -/
theorem gain_at (c : Dev nD) (t : Fin cfg0.N) (l : Fin 2048) :
    (iblk m c 6 t : FVec Ideal S1x2048 .f32) (ix2 0 l) = m ((c : Thread nD τ).loc main_arg5) (ix1 l) := by
  blk_point [iblk, V, idx t]

/-- The offset at a place. -/
theorem offset_at (c : Dev nD) (t : Fin cfg0.N) (l : Fin 2048) :
    (iblk m c 7 t : FVec Ideal S1x2048 .f32) (ix2 0 l) = m ((c : Thread nD τ).loc main_arg6) (ix1 l) := by
  blk_point [iblk, V, idx t]

/-- What each point leaves in its block of the first result. -/
theorem out1_at (c : Dev nD) (t : Fin cfg0.N) (r : Fin 512) (l : Fin 2048) (R : Fin 16384) (L : Fin 2048)
    (hR : R.val = t.val * 512 + r.val) (hL : L.val = l.val) :
    out0_8 (iblk m c 0 t) (iblk m c 1 t) (iblk m c 2 t) (iblk m c 3 t) (iblk m c 4 t) (iblk m c 5 t) (iblk m c 6 t) (iblk m c 7 t) (ix2 r l)
      = REF1 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (ix2 R L) := by
  have eL : L = l := Fin.ext hL
  rw [REF1_at, eL, ← row_eq m c t r R hR, ← gain_at m c t l, ← offset_at m c t l]
  unfold_out out0_8
  frame_out
  refine (pay1_at _ _ _ _ r l).trans ?_
  rw [pay5_at, pay6_at]
  rfl

/-- What each point leaves in its block of the second result. -/
theorem out2_at (c : Dev nD) (t : Fin cfg0.N) (r : Fin 512) (l : Fin 2048) (R : Fin 16384) (L : Fin 2048)
    (hR : R.val = t.val * 512 + r.val) (hL : L.val = l.val) :
    out0_9 (iblk m c 0 t) (iblk m c 1 t) (iblk m c 2 t) (iblk m c 3 t) (iblk m c 4 t) (iblk m c 5 t) (iblk m c 6 t) (iblk m c 7 t) (ix2 l r)
      = REF2 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (ix2 L R) := by
  have hi := idx t
  have eL : L = l := Fin.ext hL
  have hg := grp_at t R r hR
  have hc : View.ld (iblk m c 3 t) (Rect.unit (s := S1x6x2048) ![0, 4, 0] S1x1x2048.size inb_S1x6x2048_S1x1x2048_0_4_0) (ix3 0 0 l)
      = m ((c : Thread nD τ).loc main_arg3) (ix3 (grp R) 4 l) := by
    blk_point [iblk, V, idx t, hg]
  have hd : View.ld (iblk m c 3 t) (Rect.unit (s := S1x6x2048) ![0, 3, 0] S1x1x2048.size inb_S1x6x2048_S1x1x2048_0_3_0) (ix3 0 0 l)
      = m ((c : Thread nD τ).loc main_arg3) (ix3 (grp R) 3 l) := by
    blk_point [iblk, V, idx t, hg]
  rw [REF2_at, eL, ← row_eq m c t r R hR, ← gain_at m c t l, ← offset_at m c t l, ← hc, ← hd]
  unfold_out out0_9
  frame_out
  refine (pay2_at _ _ _ _ _ _ r l).trans ?_
  rw [pay5_at, pay6_at]
  rfl

/-- The first result array after the run is the reference's. -/
theorem final1 (c : Dev nD) : (dats m 0 c).arrAt 8 cfg0.N
    = REF1 (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  have e := (eq_ix2 (n0 := 16384) (n1 := 2048) ((win0_8.blk t).view.emb y))
  refine Eq.trans ?_ (congrArg _ e.symm)
  refine Eq.trans (congrArg _ (eq_ix2 (n0 := 512) (n1 := 2048) y)) (out1_at m c t (y 0) (y 1) _ _ ?_ ?_)
  · blk_simp [idx t]
  · blk_simp [idx t]

/-- The second result array after the run is the reference's. -/
theorem final2 (c : Dev nD) : (dats m 0 c).arrAt 9 cfg0.N
    = REF2 (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  have e := (eq_ix2 (n0 := 2048) (n1 := 16384) ((win0_9.blk t).view.emb y))
  refine Eq.trans ?_ (congrArg _ e.symm)
  refine Eq.trans (congrArg _ (eq_ix2 (n0 := 2048) (n1 := 512) y)) (out2_at m c t (y 1) (y 0) _ _ ?_ ?_)
  · blk_simp [idx t]
  · blk_simp [idx t]

end Cert.OutProjIdeal.Value

end
-- ==== Proof.OutProj.Claim.lean ====
/- The output projection: kernel and reference end with equal results. -/
module

public import proofs.«01_k».proof.Defs
public import proofs.«01_k».proof.Proof.OutProj.Kernel
public import Idealize.ShloMosaic.Lib.Claim
public import Idealize.ShloMosaic.Lib.Quiescent
public import Idealize.ShloMosaic.Adequacy
public import Idealize.ShloMosaic.Init

@[expose] public section

noncomputable section

namespace Cert.OutProjClaim

open Idealize.ShloMosaic Idealize.SL.Sem

/-- The reference terminates, keeps its arguments and leaves every counter at zero: it declares none. -/
theorem frame_ref : quiescent_OutProjRefIdeal (hOutProjRefIdeal := Cert.OutProjRefIdeal.Gen.facts) := by
  intro m ρ _
  exact (θ_run Cert.OutProjRefIdeal.defs _ _).mono (fun r h => ⟨fun c => ⟨(h c).2.2.1, (h c).2.2.2.1, (h c).2.2.2.2.1, (h c).2.2.2.2.2.1, (h c).2.2.2.2.2.2.1, (h c).2.2.2.2.2.2.2.1, (h c).2.2.2.2.2.2.2.2⟩, sem_eq_zero_of_no_sems (by decide) r.2⟩)
    (Cert.OutProjRefIdeal.Value.run_ref m ρ)

/-- From equal arguments the kernel and the reference run and end with the same arrays. -/
theorem algebraic : algebraic_OutProjIdeal_OutProjRefIdeal (hOutProjIdeal := Cert.OutProjIdeal.Gen.facts)
    (hOutProjRefIdeal := Cert.OutProjRefIdeal.Gen.facts) := by
  pair_intro
  · run_from Cert.OutProjIdeal.Gen.run_main m g
  · run_from Cert.OutProjRefIdeal.Value.run_ref m' g'
    · exact (Cert.OutProjIdeal.Value.final1 m c).symm
    · exact (Cert.OutProjIdeal.Value.final2 m c).symm

end Cert.OutProjClaim

end
-- ==== Proof.Scores.Ref.lean ====
/- What the reference of the product-key scores computes, entry by entry. -/
module

public import proofs.«01_k».proof.Proof.Gen.ScoresRefIdeal.Run
public import Idealize.ShloMosaic.Lib.Pointwise

@[expose] public section

set_option maxRecDepth 16384

noncomputable section

namespace Cert.ScoresRefIdeal.Value

open Cert.ScoresRefIdeal Cert.ScoresRefIdeal.Gen Idealize.ShloMosaic Idealize.ShloMosaic.TcCoe Idealize.SL.Sem

/-- The reference's result as a function of its three arguments. -/
def REF (x0 : FVec Ideal S8x2x128x128 .f32) (x1 : FVec Ideal S2048x2048 .f32) (x2 : FVec Ideal S2048x16384 .bf16) :
    FVec Ideal S2048x16384 .f32 :=
  transpose S2048x16384 [1, 0] (shapeCast _ (transpose S16384x8x2x128 [3, 0, 1, 2] (Host.dotGeneral dot_S8x2x128x128_S16384x8x2x128_S8x2x128x16384_3_3_2_0_01_12 none x0 (shapeCast _ (Host.dotGeneral dot_S16384x2048_S2048x2048_S16384x2048_1_0_0_1_n_n none (transpose S16384x2048 [1, 0] (extf .f32 x2 bitsLt_bf16_f32) transposes_S2048x16384_S16384x2048_1_0) x1) shapeCasts_S16384x2048_S16384x8x2x128)) transposes_S8x2x128x16384_S16384x8x2x128_3_0_1_2) shapeCasts_S16384x8x2x128_S16384x2048) transposes_S16384x2048_S2048x16384_1_0

/-- The row `n` of a score's keys: head, half and key. -/
def keyIdx (n : Fin 2048) (k : Fin 128) : S8x2x128x128.Idx :=
  ix4 (⟨n.val / 256, by omega⟩ : Fin 8) (⟨n.val / 128 % 2, by omega⟩ : Fin 2) (⟨n.val % 128, by omega⟩ : Fin 128) k

/-- The column of the query projection that meets lane `k` of the keys of row `n`. -/
def queryCol (n : Fin 2048) (k : Fin 128) : Fin 2048 := ⟨n.val / 128 * 128 + k.val, by omega⟩

/-- A score is the product of a key with the token's query, and the query is a product itself. -/
theorem REF_at (x0 : FVec Ideal S8x2x128x128 .f32) (x1 : FVec Ideal S2048x2048 .f32) (x2 : FVec Ideal S2048x16384 .bf16)
    (n : Fin 2048) (t : Fin 16384) :
    REF x0 x1 x2 (ix2 n t)
      = ∑ k : Fin 128, (x0 (keyIdx n k) : EReal) * ∑ d : Fin 2048, (x2 (ix2 d t) : EReal) * x1 (ix2 d (queryCol n k)) := by
  have e : n.val / 256 * 256 + n.val / 128 % 2 * 128 = n.val / 128 * 128 := by omega
  pointwise [REF, keyIdx, queryCol]
  simp only [e]

/-- The reference's run, its result named `REF`. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = REF (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.ScoresRefIdeal.Value

end
-- ==== Proof.Scores.Finite.lean ====
/- What the precondition of the product-key scores says: every entry of the three arguments is finite. -/
module

public import proofs.«01_k».proof.Pre_scores_finite
public import proofs.«01_k».proof.Proof.Gen.Pre_scores_finite
public import Idealize.ShloMosaic.Lib.Pointwise
public import Idealize.ShloMosaic.Lib.KernelVsHost

@[expose] public section

set_option maxRecDepth 16384

noncomputable section

namespace Cert.Pre_scores_finite.Value

open Cert.Pre_scores_finite Cert.Pre_scores_finite.Gen Idealize.ShloMosaic

/-- A value whose absolute value compares below infinity is neither infinity. -/
theorem finite_of_lt (x : EReal) (h : FloatOps.cmpf (F := Ideal) (φ := .f32) .olt (FloatOps.hostAbsf (F := Ideal) (φ := .f32) x)
    (FloatOps.ofBits (F := Ideal) .f32 0x7F800000#32) = 1#1) : x ≠ ⊤ ∧ x ≠ ⊥ := by
  rw [← Ideal.xori_weird_eq_hostAbsf_olt_inf] at h
  constructor
  · rintro rfl
    revert h
    show IntOp.xori (BitVec.ofBool (decide ((⊤ : EReal) = ⊤ ∨ (⊤ : EReal) = ⊥))) 1#1 = 1#1 → False
    simp [IntOp.xori]
  · rintro rfl
    revert h
    show IntOp.xori (BitVec.ofBool (decide ((⊥ : EReal) = ⊤ ∨ (⊥ : EReal) = ⊥))) 1#1 = 1#1 → False
    simp [IntOp.xori]

variable {x0 : FVec Ideal S8x2x128x128 .f32} {x1 : FVec Ideal S2048x2048 .f32} {x2 : FVec Ideal S2048x16384 .bf16}

/-- The keys are finite. -/
theorem keys_finite (h : fn (F := Ideal) x0 x1 x2 = fun _ => 1#1) (a : Fin 8) (b : Fin 2) (n k : Fin 128) :
    x0 (ix4 a b n k) ≠ (⊤ : EReal) ∧ x0 (ix4 a b n k) ≠ (⊥ : EReal) := by
  have e := congrFun h (ix2 (⟨a.val * 256 + b.val * 128 + n.val, by omega⟩ : Fin 2048) (⟨k.val, by omega⟩ : Fin 18560))
  refine finite_of_lt _ (Eq.trans ?_ e)
  pointwise [fn]

/-- The query projection is finite. -/
theorem wq_finite (h : fn (F := Ideal) x0 x1 x2 = fun _ => 1#1) (d k : Fin 2048) :
    x1 (ix2 d k) ≠ (⊤ : EReal) ∧ x1 (ix2 d k) ≠ (⊥ : EReal) := by
  have e := congrFun h (ix2 d (⟨128 + k.val, by omega⟩ : Fin 18560))
  refine finite_of_lt _ (Eq.trans ?_ e)
  pointwise [fn]

/-- The tokens are finite. -/
theorem tokens_finite (h : fn (F := Ideal) x0 x1 x2 = fun _ => 1#1) (d : Fin 2048) (t : Fin 16384) :
    x2 (ix2 d t) ≠ (⊤ : EReal) ∧ x2 (ix2 d t) ≠ (⊥ : EReal) := by
  have e := congrFun h (ix2 d (⟨2176 + t.val, by omega⟩ : Fin 18560))
  refine finite_of_lt _ (Eq.trans ?_ e)
  pointwise [fn]
  have e0 : ¬ 2176 + t.val < 128 := by omega
  have e1 : ¬ 2176 + t.val - 128 < 2048 := by omega
  have e2 : (⟨2176 + t.val - 128 - 2048, by omega⟩ : Fin 16384) = t := Fin.ext (by simp only; omega)
  rw [dif_neg e0, dif_neg e1, e2]

end Cert.Pre_scores_finite.Value

end
-- ==== Proof.Scores.Kernel.lean ====
/- What the two kernels of the product-key scores leave in their result arrays. -/
module

public import proofs.«01_k».proof.Proof.Gen.ScoresIdeal.Frame
public import proofs.«01_k».proof.Proof.Scores.Ref
public import proofs.«01_k».proof.Proof.Scores.Finite
public import proofs.«01_k».proof.Proof.Sums
public import Idealize.ShloMosaic.Lib.Pipeline.ReadBack
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ScoresIdeal.Value

open Cert.ScoresIdeal Cert.ScoresIdeal.Gen Idealize.ShloMosaic Idealize.ShloMosaic.TcCoe Idealize.SL.Sem
open Idealize.ShloMosaic.Pipeline (Dat)
open Cert.ScoresRefIdeal.Value (keyIdx queryCol REF REF_at)

variable (m : (ℓ : Loc nD τ sig) → Buf (Elt Ideal) ℓ) (ρ : Dev nD → PrngReg)

/-- Where the blocks of the first kernel lie at a grid point: one head and half of the keys, the columns of the query
    projection that meet them, and 128 rows of the folded weights. -/
theorem idx0 : ∀ t : Fin cfg0.N, win0_0.index t = ![t.val, 0, 0] ∧ win0_1.index t = ![0, t.val]
    ∧ win0_2.index t = ![t.val, 0] ∧ t.val < 16 :=
  (by decide +kernel : ∀ t : Fin grid0.N, _)

/-- Where the blocks of the second kernel lie at a grid point: the folded weights whole, and 512 tokens. -/
theorem idx1 : ∀ t : Fin cfg1.N, win1_0.index t = ![0, 0] ∧ win1_1.index t = ![0, t.val]
    ∧ win1_2.index t = ![0, t.val] ∧ t.val < 32 :=
  (by decide +kernel : ∀ t : Fin grid1.N, _)

/-- The keys as the first kernel reads them: heads and halves on one axis. -/
theorem V1_keys (c : Dev nD) : V1 m ρ c main_v0
    = shapeCast S16x128x128 (m ((c : Thread nD τ).loc main_arg0)) shapeCasts_S8x2x128x128_S16x128x128 := by
  unfold_abbrev_sides
  after_results
  rfl

theorem V1_wq (c : Dev nD) : V1 m ρ c main_arg1 = m ((c : Thread nD τ).loc main_arg1) :=
  W1_args m ρ c main_arg1 (by decide)

theorem V2_tokens (c : Dev nD) : V2 m ρ c main_arg2 = m ((c : Thread nD τ).loc main_arg2) :=
  W2_args m ρ c main_arg2 (by decide)

/-- The folded weights: keys times the transposed query projection, as a sum of three products whose factors are the
    arrays and what is left of them when they are subtracted from themselves. -/
def FOLD (x0 : FVec Ideal S8x2x128x128 .f32) (x1 : FVec Ideal S2048x2048 .f32) : FVec Ideal S2048x2048 .bf16 := fun i =>
  (((∑ k : Fin 128, (x0 (keyIdx (i 0) k) : EReal) * x1 (ix2 (i 1) (queryCol (i 0) k)))
    + ∑ k : Fin 128, (x0 (keyIdx (i 0) k) : EReal) * ((x1 (ix2 (i 1) (queryCol (i 0) k)) : EReal) - x1 (ix2 (i 1) (queryCol (i 0) k))))
    + ∑ k : Fin 128, ((x0 (keyIdx (i 0) k) : EReal) - x0 (keyIdx (i 0) k)) * x1 (ix2 (i 1) (queryCol (i 0) k)))

/-- The keys with heads and halves on one axis, entry by entry. -/
theorem cast_at (x : FVec Ideal S8x2x128x128 .f32) (a : Fin 16) (r k : Fin 128) (R : Fin 2048) (hR : R.val = a.val * 128 + r.val) :
    shapeCast S16x128x128 x shapeCasts_S8x2x128x128_S16x128x128 (ix3 a r k) = x (keyIdx R k) := by
  have e1 : R.val / 256 = a.val / 2 := by omega
  have e2 : R.val / 128 % 2 = a.val % 2 := by omega
  have e3 : R.val % 128 = r.val := by omega
  pointwise [keyIdx]
  simp only [e1, e2, e3]

/-- A block of the keys. -/
theorem keys_at (c : Dev nD) (t : Fin cfg0.N) (r k : Fin 128) (R : Fin 2048) (hR : R.val = t.val * 128 + r.val) :
    iblk0 (V1 m ρ) c 0 t (ix3 (0 : Fin 1) r k) = m ((c : Thread nD τ).loc main_arg0) (keyIdx R k) := by
  have hi := idx0 t
  have e : iblk0 (V1 m ρ) c 0 t (ix3 (0 : Fin 1) r k) = V1 m ρ c main_v0 (ix3 (⟨t.val, by omega⟩ : Fin 16) r k) := by
    blk_ext [iblk0, idx0 t]
  rw [e, V1_keys]
  exact cast_at _ _ r k R hR

/-- A block of the query projection. -/
theorem wq_at (c : Dev nD) (t : Fin cfg0.N) (d : Fin 2048) (r k : Fin 128) (R : Fin 2048) (hR : R.val = t.val * 128 + r.val) :
    iblk0 (V1 m ρ) c 1 t (ix2 d k) = m ((c : Thread nD τ).loc main_arg1) (ix2 d (queryCol R k)) := by
  have hi := idx0 t
  have e : iblk0 (V1 m ρ) c 1 t (ix2 d k) = V1 m ρ c main_arg1 (ix2 d (queryCol R k)) := by
    have hq : (queryCol R k).val = t.val * 128 + k.val := by simp only [queryCol]; omega
    blk_ext [iblk0, idx0 t, hq]
  rw [e, V1_wq]

/-- What each point of the first kernel leaves in its block. -/
theorem fold_at (c : Dev nD) (t : Fin cfg0.N) (r : Fin 128) (d : Fin 2048) (R D : Fin 2048) (hR : R.val = t.val * 128 + r.val)
    (hD : D.val = d.val) :
    out0_2 (iblk0 (V1 m ρ) c 0 t) (iblk0 (V1 m ρ) c 1 t) (ix2 r d)
      = FOLD (m ((c : Thread nD τ).loc main_arg0)) (m ((c : Thread nD τ).loc main_arg1)) (ix2 R D) := by
  obtain rfl : D = d := Fin.ext hD
  unfold out0_2
  frame_out
  have hk := fun k => keys_at m ρ c t r k R hR
  have hw := fun k => wq_at m ρ c t D r k R hR
  generalize iblk0 (V1 m ρ) c 0 t = x at hk
  generalize iblk0 (V1 m ρ) c 1 t = w at hw
  pointwise [k0_pay1, FOLD]
  simp only [hk, hw]

/-- The folded weights as the second kernel finds them. -/
theorem V2_fold (c : Dev nD) : V2 m ρ c main_v1
    = FOLD (m ((c : Thread nD τ).loc main_arg0)) (m ((c : Thread nD τ).loc main_arg1)) := by
  refine (W2_arr m ρ c 2).trans ?_
  refine (dat0 (V1 m ρ) c).arrAt_eq_of_covers 2 _ (by decide +kernel) fun t _ y => ?_
  blk_simp
  rw [after0_2]
  have e := (eq_ix2 (n0 := 2048) (n1 := 2048) ((win0_2.blk t).view.emb y))
  refine Eq.trans ?_ (congrArg _ e.symm)
  refine Eq.trans (congrArg _ (eq_ix2 (n0 := 128) (n1 := 2048) y)) (fold_at m ρ c t (y 0) (y 1) _ _ ?_ ?_)
  · blk_simp [idx0 t]
  · blk_simp [idx0 t]

/-- The two kernels' result: the folded weights times the tokens. -/
def SCORES (x0 : FVec Ideal S8x2x128x128 .f32) (x1 : FVec Ideal S2048x2048 .f32) (x2 : FVec Ideal S2048x16384 .bf16) :
    FVec Ideal S2048x16384 .f32 := fun i =>
  ∑ d : Fin 2048, (FOLD x0 x1 (ix2 (i 0) d) : EReal) * x2 (ix2 d (i 1))

/-- What each point of the second kernel leaves in its block. -/
theorem score_at (c : Dev nD) (t : Fin cfg1.N) (n : Fin 2048) (r : Fin 512) (N : Fin 2048) (R : Fin 16384)
    (hN : N.val = n.val) (hR : R.val = t.val * 512 + r.val) :
    out1_2 (iblk1 (V2 m ρ) c 0 t) (iblk1 (V2 m ρ) c 1 t) (ix2 n r)
      = SCORES (m ((c : Thread nD τ).loc main_arg0)) (m ((c : Thread nD τ).loc main_arg1))
        (m ((c : Thread nD τ).loc main_arg2)) (ix2 N R) := by
  obtain rfl : N = n := Fin.ext hN
  have hi := idx1 t
  have hw : ∀ d : Fin 2048, iblk1 (V2 m ρ) c 0 t (ix2 N d)
      = FOLD (m ((c : Thread nD τ).loc main_arg0)) (m ((c : Thread nD τ).loc main_arg1)) (ix2 N d) := fun d => by
    have e : iblk1 (V2 m ρ) c 0 t (ix2 N d) = V2 m ρ c main_v1 (ix2 N d) := by blk_ext [iblk1, idx1 t]
    rw [e, V2_fold]
  have hx : ∀ d : Fin 2048, iblk1 (V2 m ρ) c 1 t (ix2 d r) = m ((c : Thread nD τ).loc main_arg2) (ix2 d R) := fun d => by
    have e : iblk1 (V2 m ρ) c 1 t (ix2 d r) = V2 m ρ c main_arg2 (ix2 d R) := by blk_ext [iblk1, idx1 t]
    rw [e, V2_tokens]
  unfold out1_2
  frame_out
  generalize iblk1 (V2 m ρ) c 0 t = w at hw
  generalize iblk1 (V2 m ρ) c 1 t = x at hx
  pointwise [k1_pay1, SCORES]
  simp only [hw, hx]

/-- The result array after the run. -/
theorem scores_array (c : Dev nD) : W3 m ρ c (Proc.devRef .tc main_v2)
    = SCORES (m ((c : Thread nD τ).loc main_arg0)) (m ((c : Thread nD τ).loc main_arg1))
        (m ((c : Thread nD τ).loc main_arg2)) := by
  refine (W3_arr m ρ c 2).trans ?_
  refine (dat1 (V2 m ρ) c).arrAt_eq_of_covers 2 _ (by decide +kernel) fun t _ y => ?_
  blk_simp
  rw [after1_2]
  have e := (eq_ix2 (n0 := 2048) (n1 := 16384) ((win1_2.blk t).view.emb y))
  refine Eq.trans ?_ (congrArg _ e.symm)
  refine Eq.trans (congrArg _ (eq_ix2 (n0 := 2048) (n1 := 512) y)) (score_at m ρ c t (y 0) (y 1) _ _ ?_ ?_)
  · blk_simp [idx1 t]
  · blk_simp [idx1 t]

/-- For finite arguments the folded weights times the tokens are the reference's scores. -/
theorem final (c : Dev nD) (h : Cert.Pre_scores_finite.fn (F := Ideal) (m ((c : Thread nD τ).loc main_arg0))
      (m ((c : Thread nD τ).loc main_arg1)) (m ((c : Thread nD τ).loc main_arg2)) = fun _ => 1#1) :
    W3 m ρ c (Proc.devRef .tc main_v2)
      = REF (m ((c : Thread nD τ).loc main_arg0)) (m ((c : Thread nD τ).loc main_arg1))
        (m ((c : Thread nD τ).loc main_arg2)) := by
  rw [scores_array]
  funext i
  rw [eq_ix2 (n0 := 2048) (n1 := 16384) i]
  refine Eq.trans ?_ (REF_at _ _ _ (i 0) (i 1)).symm
  exact Cert.Sums.fold_weights (fun k : Fin 128 => m ((c : Thread nD τ).loc main_arg0) (keyIdx (i 0) k))
    (fun (d : Fin 2048) k => m ((c : Thread nD τ).loc main_arg1) (ix2 d (queryCol (i 0) k)))
    (fun d => m ((c : Thread nD τ).loc main_arg2) (ix2 d (i 1)))
    (fun k => Cert.Pre_scores_finite.Value.keys_finite h _ _ _ k)
    (fun d k => Cert.Pre_scores_finite.Value.wq_finite h d _)
    (fun d => Cert.Pre_scores_finite.Value.tokens_finite h d _)

end Cert.ScoresIdeal.Value

end
-- ==== Proof.Scores.Run.lean ====
/- The run of the two kernels of the product-key scores: every array at the end, and with it the result. -/
module

public import proofs.«01_k».proof.Proof.Gen.ScoresIdeal.Frame
public import Idealize.ShloMosaic.PureOps.Ideal

@[expose] public section

set_option maxRecDepth 16384

noncomputable section

namespace Cert.ScoresIdeal.Value

open Cert.ScoresIdeal Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- The assertions about a run of this program. -/
abbrev Assertion := sProp (MT nD τ sig Unit (Elt Ideal) ℕ (UR sig nD τ) ℕ)

-- The kit's implicit arguments are found by unifying its conclusion with this one, which unfolds plain definitions.
set_option backward.isDefEq.respectTransparency.types false in
/-- The run, from the host stretch through both kernels: the result array holds what the second kernel leaves, and the
    arguments are as launched. -/
theorem run_main : θ_run defs (onTc (τ := τ) (main (F := Ideal))) ⟨m, fun _ => 0, ρ⟩ fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => (iprop(emp) : Assertion))
    (u₀ := initOf (Pipeline.cells cfgs cellOf_inj) (Pipeline.launchToks cfgs cellOf_inj)) (hu₀ := ?start)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?first)
    (QY := fun c s => ∀ b ∈ Pipeline.ucRefs τ sig, s.mem (((c : Thread nD τ)).1, b) = W3 m ρ c b) (hfin := ?last)
    (hQ := fun s h c => ⟨h c _ (mem_uc main_v2 (by decide)),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c)⟩)
  case start =>
    have own : (ownU (initOf (Pipeline.cells cfgs cellOf_inj) (Pipeline.launchToks cfgs cellOf_inj)) : Assertion)
        ⊢ BI.own (emb₁ (initOf (Pipeline.cells cfgs cellOf_inj) (Pipeline.launchToks cfgs cellOf_inj))) := .rfl
    have rest : (BI.emp : Assertion) ⊢ bigSep Finset.univ (fun _ : Dev nD => (BI.emp : Assertion)) := by
      rw [BI.bigSep_emp_const]
    iintro Hu
    imodintro
    isplitl [Hu]
    · iapply own; iexact Hu
    · iapply rest; iempintro
  case first =>
    refine Pipeline.initEach L lv fun c => ?_
    have held : unscopedBufs c (fun b => m ((c : Thread nD τ).loc b))
        = (StableHlo.held (c : Thread nD τ) (Pipeline.ucRefs τ sig) (W0 m ρ c) : Assertion) := Pipeline.unscopedBufs_held c (W0 m ρ c)
    rw [held]
    iintro ⟨⟨Hh, -, HO, -, Hp, -⟩, -⟩
    imodintro
    isplitl [Hh]
    · iexact Hh
    isplitl [Hp]
    · iexists _; iexact Hp
    · iexists ∅; iexact HO
  case last =>
    intro c s'
    iintro ⟨⟨Hh, -⟩, HS⟩
    unfold StableHlo.held
    imodintro
    iapply (pointsTo_read_all (Pipeline.ucRefs τ sig) (fun b => (((c : Thread nD τ)).1, b)) (W3 m ρ c) s')
    isplitl [Hh] <;> iassumption

end Cert.ScoresIdeal.Value

end
-- ==== Proof.Scores.Claim.lean ====
/- The product-key scores: on finite arguments the kernels and the reference end with equal results. -/
module

public import proofs.«01_k».proof.Defs
public import proofs.«01_k».proof.Proof.Scores.Kernel
public import proofs.«01_k».proof.Proof.Scores.Run
public import Idealize.ShloMosaic.Lib.Claim
public import Idealize.ShloMosaic.Lib.Quiescent
public import Idealize.ShloMosaic.Adequacy
public import Idealize.ShloMosaic.Init

@[expose] public section

noncomputable section

namespace Cert.ScoresClaim

open Idealize.ShloMosaic Idealize.SL.Sem

/-- The reference terminates, keeps its arguments and leaves every counter at zero: it declares none. -/
theorem frame_ref : quiescent_ScoresRefIdeal (hScoresRefIdeal := Cert.ScoresRefIdeal.Gen.facts) := by
  intro m ρ _
  exact (θ_run Cert.ScoresRefIdeal.defs _ _).mono (fun r h => ⟨fun c => ⟨(h c).2.1, (h c).2.2.1, (h c).2.2.2⟩, sem_eq_zero_of_no_sems (by decide) r.2⟩)
    (Cert.ScoresRefIdeal.Value.run_ref m ρ)

/-- The same from finite arguments: `frame_ref` asks nothing of them. -/
theorem frame_ref_finite : quiescent_ScoresRefIdeal_pre_scores_finite (hScoresRefIdeal := Cert.ScoresRefIdeal.Gen.facts)
    (hPre_scores_finite := Cert.Pre_scores_finite.Gen.facts) :=
  fun m ρ _ => frame_ref m ρ True.intro

/-- From equal finite arguments the kernels and the reference run and end with the same array. -/
theorem algebraic : algebraic_ScoresIdeal_ScoresRefIdeal_pre_scores_finite (hScoresIdeal := Cert.ScoresIdeal.Gen.facts)
    (hScoresRefIdeal := Cert.ScoresRefIdeal.Gen.facts) (hPre_scores_finite := Cert.Pre_scores_finite.Gen.facts) := by
  pair_intro
  · run_from Cert.ScoresIdeal.Value.run_main m g
  · run_from Cert.ScoresRefIdeal.Value.run_ref m' g'
    exact (Cert.ScoresIdeal.Value.final m g c (hpre c)).symm

end Cert.ScoresClaim

end
-- ==== Proof.Ada.Ref.lean ====
/- The modulation's reference: its stages and its entries. -/
module

public import proofs.«01_k».proof.Proof.Gen.AdaRefIdeal.Run
public import Idealize.ShloMosaic.Lib.Pointwise

@[expose] public section

set_option maxRecDepth 16384

noncomputable section

namespace Cert.AdaRefIdeal.Value

open Cert.AdaRefIdeal Cert.AdaRefIdeal.Gen Idealize.ShloMosaic Idealize.ShloMosaic.TcCoe Idealize.SL.Sem

/-- The conditions: the prompt's, then one per sample. -/
def cond (x0 : FVec Ideal S2x2048 .f32) (x1 : FVec Ideal S2048 .f32) : FVec Ideal S3x2048 .f32 :=
  concatenate S3x2048 0 [⟨S1x2048, (broadcastInDim S1x2048 ![1] bcast_S2048_S1x2048_1 x1)⟩, ⟨S2x2048, x0⟩] concatenates_S1x2048_S2x2048_S3x2048_d0

/-- Each condition times its logistic. -/
def act (z : FVec Ideal S3x2048 .f32) : FVec Ideal S3x2048 .f32 :=
  mulf z (Host.divf (broadcastInDim S3x2048 ![] bcast_S_S3x2048 (constant S_ .f32 0x3F800000#32)) (addf (broadcastInDim S3x2048 ![] bcast_S_S3x2048 (constant S_ .f32 0x3F800000#32)) (Host.exp (Host.negf z))))

/-- The reference's result as a function of its arguments. -/
def REF (x0 : FVec Ideal S2x2048 .f32) (x1 : FVec Ideal S2048 .f32) (x2 : FVec Ideal S4x2048x12288 .f32)
    (x3 : FVec Ideal S4x12288 .f32) : FVec Ideal S4x3x6x2048 .f32 :=
  shapeCast S4x3x6x2048 (addf (transpose S4x3x12288 [0, 2, 1] (Host.dotGeneral dot_S4x2048x12288_S3x2048_S4x12288x3_1_1_02_0_n_n none x2 (act (cond x0 x1))) transposes_S4x12288x3_S4x3x12288_0_2_1) (broadcastInDim S4x3x12288 ![0, 1, 2] bcast_S4x1x12288_S4x3x12288_0_1_2 (broadcastInDim S4x1x12288 ![0, 2] bcast_S4x12288_S4x1x12288_0_2 x3))) shapeCasts_S4x3x12288_S4x3x6x2048

/-- A condition at a place: row 0 is the prompt's, the others the samples'. -/
def row (x0 : FVec Ideal S2x2048 .f32) (x1 : FVec Ideal S2048 .f32) (s : Fin 3) (k : Fin 2048) : EReal :=
  if h : s.val < 1 then x1 (ix1 k) else x0 (ix2 (⟨s.val - 1, by omega⟩ : Fin 2) k)

/-- A number times its logistic. -/
def silu (z : EReal) : EReal := z * Ideal.div 1 (1 + Ideal.exp (-z))

theorem cond_at (x0 : FVec Ideal S2x2048 .f32) (x1 : FVec Ideal S2048 .f32) (s : Fin 3) (k : Fin 2048) :
    cond x0 x1 (ix2 s k) = row x0 x1 s k := by
  pointwise [cond, row]

theorem act_at (z : FVec Ideal S3x2048 .f32) (s : Fin 3) (k : Fin 2048) : act z (ix2 s k) = silu (z (ix2 s k)) := by
  pointwise [act, silu]

/-- Every entry of the reference's result: a column of the layer's weights against a condition's row, plus the bias. -/
theorem REF_at (x0 : FVec Ideal S2x2048 .f32) (x1 : FVec Ideal S2048 .f32) (x2 : FVec Ideal S4x2048x12288 .f32)
    (x3 : FVec Ideal S4x12288 .f32) (l : Fin 4) (s : Fin 3) (a : Fin 6) (d : Fin 2048) :
    REF x0 x1 x2 x3 (ix4 l s a d)
      = ∑ k : Fin 2048, silu (row x0 x1 s k) * x2 (ix3 l k (⟨a.val * 2048 + d.val, by omega⟩ : Fin 12288))
        + x3 (ix2 l (⟨a.val * 2048 + d.val, by omega⟩ : Fin 12288)) := by
  have e : REF x0 x1 x2 x3 (ix4 l s a d)
      = ∑ k : Fin 2048, x2 (ix3 l k (⟨a.val * 2048 + d.val, by omega⟩ : Fin 12288)) * act (cond x0 x1) (ix2 s k)
        + x3 (ix2 l (⟨a.val * 2048 + d.val, by omega⟩ : Fin 12288)) := by
    pointwise [REF]
  rw [e]
  refine congrArg (fun z : EReal => z + _) (Finset.sum_congr rfl fun k _ => ?_)
  rw [act_at, cond_at, mul_comm]

/-- The reference's run, its result named `REF`. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = REF (m ((c.tc : Thread nD τ).loc main_arg0))
          (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.AdaRefIdeal.Value

end
-- ==== Proof.Ada.Kernel.lean ====
/- What the modulation's kernel leaves in its array, and what the program makes of it. -/
module

public import proofs.«01_k».proof.Proof.Gen.AdaIdeal.Frame
public import proofs.«01_k».proof.Proof.Ada.Ref
public import Idealize.ShloMosaic.Lib.Pipeline.ReadBack
public import Idealize.ShloMosaic.Lib.Pipeline.ValueKit
public import Idealize.ShloMosaic.Lib.Pointwise

@[expose] public section

set_option maxRecDepth 16384

noncomputable section

namespace Cert.AdaIdeal.Value

open Cert.AdaIdeal Cert.AdaIdeal.Gen Idealize.ShloMosaic Idealize.ShloMosaic.TcCoe Idealize.SL.Sem
open Idealize.ShloMosaic.Pipeline (Dat)
open Cert.AdaRefIdeal.Value (REF REF_at silu row)

/-- The conditions with five rows of zeros below. -/
def padded (x0 : FVec Ideal S2x2048 .f32) (x1 : FVec Ideal S2048 .f32) : FVec Ideal S8x2048 .f32 :=
  concatenate S8x2048 0 [⟨S1x2048, (broadcastInDim S1x2048 ![1] bcast_S2048_S1x2048_1 x1)⟩, ⟨S2x2048, x0⟩,
    ⟨S5x2048, (broadcastInDim S5x2048 ![] bcast_S_S5x2048 (constant S_ .f32 0x00000000#32))⟩]
    concatenates_S1x2048_S2x2048_S5x2048_S8x2048_d0

/-- The first three rows are the conditions. -/
theorem padded_at (x0 : FVec Ideal S2x2048 .f32) (x1 : FVec Ideal S2048 .f32) (s : Fin 8) (s' : Fin 3) (hs : s.val = s'.val)
    (k : Fin 2048) : padded x0 x1 (ix2 s k) = row x0 x1 s' k := by
  obtain ⟨v, hv⟩ := s
  obtain rfl : v = s'.val := hs
  pointwise [padded, row]
  by_cases h : s'.val < 1
  · rw [dif_pos h, dif_pos h]
  · rw [dif_neg h, dif_neg h, dif_pos (show s'.val - 1 < 2 by omega)]

/-- A point's block: its weights against the conditions' rows, plus the bias. -/
theorem pay1_at (z : FVec Ideal S8x2048 .f32) (w : FVec Ideal S1x2048x1024 .f32) (b : FVec Ideal S1x1x1024 .f32) (u : Fin 1)
    (s : Fin 8) (l : Fin 1024) :
    k0_pay1 (F := Ideal) z w b (ix3 u s l)
      = ∑ k : Fin 2048, silu (z (ix2 s k)) * w (ix3 0 k l) + b (ix3 0 0 l) := by
  pointwise [k0_pay1, silu]
  rfl

variable (m : (ℓ : Loc nD τ sig) → Buf (Elt Ideal) ℓ)

/-- The biases, a row of their own each, entry by entry. -/
theorem bias_at (x : FVec Ideal S4x12288 .f32) (l : Fin 4) (n : Fin 12288) :
    shapeCast S4x1x12288 x shapeCasts_S4x12288_S4x1x12288 (ix3 l 0 n) = x (ix2 l n) := by
  pointwise []

/-- The array that the kernel leaves. -/
def WIDE (x0 : FVec Ideal S2x2048 .f32) (x1 : FVec Ideal S2048 .f32) (x2 : FVec Ideal S4x2048x12288 .f32)
    (x3 : FVec Ideal S4x12288 .f32) : FVec Ideal S4x8x12288 .f32 := fun y =>
  ∑ k : Fin 2048, silu (padded x0 x1 (ix2 (y 1) k)) * x2 (ix3 (y 0) k (y 2)) + x3 (ix2 (y 0) (y 2))

/-- Where each block of grid point `t` lies: twelve points per layer, 1024 columns each. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] ∧ t.val < 48 :=
  (by decide +kernel : ∀ t : Fin grid0.N, _)

/-- The padded conditions are what the kernel finds. -/
theorem V_cond (c : Dev nD) : V m c main_v2
    = padded (m ((c : Thread nD τ).loc main_arg0)) (m ((c : Thread nD τ).loc main_arg1)) := by
  show StableHlo.after hostOps0 (fun b => m (c, b)) (Proc.devRef .tc main_v2) = _
  after_results
  rfl

/-- The biases, a row of their own each, are what the kernel finds. -/
theorem V_bias (c : Dev nD) : V m c main_v3
    = shapeCast S4x1x12288 (m ((c : Thread nD τ).loc main_arg3)) shapeCasts_S4x12288_S4x1x12288 := by
  show StableHlo.after hostOps0 (fun b => m (c, b)) (Proc.devRef .tc main_v3) = _
  after_results
  rfl

/-- Every grid point has all the conditions before it. -/
theorem iblk0_at (c : Dev nD) (t : Fin cfg0.N) (s : Fin 8) (k : Fin 2048) :
    (iblk m c 0 t : FVec Ideal S8x2048 .f32) (ix2 s k)
      = padded (m ((c : Thread nD τ).loc main_arg0)) (m ((c : Thread nD τ).loc main_arg1)) (ix2 s k) := by
  have hi := idx t
  rw [← V_cond]
  blk_point [iblk, idx t]

/-- What each point leaves in its block. -/
theorem out_at (c : Dev nD) (t : Fin cfg0.N) (u : Fin 1) (s : Fin 8) (l : Fin 1024) (y : S4x8x12288.Idx)
    (h0 : (y 0).val = t.val / 12) (h1 : (y 1).val = s.val) (h2 : (y 2).val = t.val % 12 * 1024 + l.val) :
    out0_3 (F := Ideal) (iblk m c 0 t) (iblk m c 1 t) (iblk m c 2 t) (ix3 u s l)
      = WIDE (m ((c : Thread nD τ).loc main_arg0)) (m ((c : Thread nD τ).loc main_arg1)) (m ((c : Thread nD τ).loc main_arg2))
          (m ((c : Thread nD τ).loc main_arg3)) y := by
  have hi := idx t
  have hw : ∀ k : Fin 2048, (iblk m c 1 t : FVec Ideal S1x2048x1024 .f32) (ix3 0 k l)
      = m ((c : Thread nD τ).loc main_arg2) (ix3 (y 0) k (y 2)) := fun k => by
    blk_point [iblk, V, idx t, h0, h2]
  have hb : (iblk m c 2 t : FVec Ideal S1x1x1024 .f32) (ix3 0 0 l)
      = m ((c : Thread nD τ).loc main_arg3) (ix2 (y 0) (y 2)) := by
    have e : (iblk m c 2 t : FVec Ideal S1x1x1024 .f32) (ix3 0 0 l) = V m c main_v3 (ix3 (y 0) 0 (y 2)) := by
      blk_point [iblk, idx t, h0, h2]
    rw [e, V_bias]
    exact bias_at _ (y 0) (y 2)
  have es : s = y 1 := Fin.ext h1.symm
  unfold out0_3
  frame_out
  refine (pay1_at _ _ _ u s l).trans ?_
  unfold WIDE
  rw [hb, ← es]
  refine congrArg (fun z : EReal => z + _) (Finset.sum_congr rfl fun k _ => ?_)
  rw [hw]
  exact congrArg (fun z => silu z * _) (iblk0_at m c t s k)

/-- The kernel's array after the run. -/
theorem wide (c : Dev nD) : (dats m 0 c).arrAt 3 cfg0.N
    = WIDE (m ((c : Thread nD τ).loc main_arg0)) (m ((c : Thread nD τ).loc main_arg1)) (m ((c : Thread nD τ).loc main_arg2))
        (m ((c : Thread nD τ).loc main_arg3)) := by
  refine (dats m 0 c).arrAt_eq_of_covers 3 _ (by decide +kernel) fun t _ y => ?_
  blk_simp
  rw [after0_3]
  refine Eq.trans (congrArg _ (eq_ix3 (n0 := 1) (n1 := 8) (n2 := 1024) y)) (out_at m c t (y 0) (y 1) (y 2) _ ?_ ?_ ?_)
  · blk_simp [idx t]
  · blk_simp [idx t]
  · blk_simp [idx t]

/-- The first three rows of the kernel's array, in the shape of the result, are the reference's result. -/
theorem cut (x0 : FVec Ideal S2x2048 .f32) (x1 : FVec Ideal S2048 .f32) (x2 : FVec Ideal S4x2048x12288 .f32)
    (x3 : FVec Ideal S4x12288 .f32) :
    shapeCast S4x3x6x2048 (extractStridedSlice S4x3x12288 ![0, 0, 0] (WIDE x0 x1 x2 x3) slices_S4x8x12288_S4x3x12288_0_0_0)
      shapeCasts_S4x3x12288_S4x3x6x2048 = REF x0 x1 x2 x3 := by
  funext y
  have e : ∀ (l : Fin 4) (s : Fin 3) (a : Fin 6) (d : Fin 2048),
      shapeCast S4x3x6x2048 (extractStridedSlice S4x3x12288 ![0, 0, 0] (WIDE x0 x1 x2 x3) slices_S4x8x12288_S4x3x12288_0_0_0)
        shapeCasts_S4x3x12288_S4x3x6x2048 (ix4 l s a d) = REF x0 x1 x2 x3 (ix4 l s a d) := fun l s a d => by
    have e : shapeCast S4x3x6x2048 (extractStridedSlice S4x3x12288 ![0, 0, 0] (WIDE x0 x1 x2 x3) slices_S4x8x12288_S4x3x12288_0_0_0)
        shapeCasts_S4x3x12288_S4x3x6x2048 (ix4 l s a d)
        = WIDE x0 x1 x2 x3 (ix3 l (⟨s.val, by omega⟩ : Fin 8) (⟨a.val * 2048 + d.val, by omega⟩ : Fin 12288)) := by
      pointwise []
    rw [e, REF_at]
    unfold WIDE
    refine congrArg (fun z : EReal => z + _) (Finset.sum_congr rfl fun k _ => ?_)
    exact congrArg (fun z => silu z * _) (padded_at x0 x1 _ _ rfl k)
  exact (congrArg _ (eq_ix4 (n0 := 4) (n1 := 3) (n2 := 6) (n3 := 2048) y)).trans
    ((e (y 0) (y 1) (y 2) (y 3)).trans (congrArg _ (eq_ix4 (n0 := 4) (n1 := 3) (n2 := 6) (n3 := 2048) y).symm))

/-- The result after the run is the reference's. -/
theorem final (c : Dev nD) : Pipeline.afterTail₀ cfgs (dats m) 0 (V0 m) [hostOps1] c main_v6
    = REF (m ((c : Thread nD τ).loc main_arg0)) (m ((c : Thread nD τ).loc main_arg1)) (m ((c : Thread nD τ).loc main_arg2))
        (m ((c : Thread nD τ).loc main_arg3)) := by
  rw [← cut, ← wide]
  have h := Pipeline.withArrays_arr spec0 winFacts0.arr_inj c (V0 m c) (fun w => (dats m 0 c).arrAt w cfg0.N) 3
  refine Eq.trans (b := shapeCast S4x3x6x2048 (extractStridedSlice S4x3x12288 ![0, 0, 0]
    (Pipeline.withArrays spec0 c (V0 m c) (fun w => (dats m 0 c).arrAt w cfg0.N) (Proc.devRef .tc main_v4))
    slices_S4x8x12288_S4x3x12288_0_0_0) shapeCasts_S4x3x12288_S4x3x6x2048) ?_ ?_
  · show StableHlo.after hostOps1 _ (Proc.devRef .tc main_v6) = _
    after_results
    rfl
  · exact congrArg (fun z => shapeCast S4x3x6x2048 (extractStridedSlice S4x3x12288 ![0, 0, 0] z
      slices_S4x8x12288_S4x3x12288_0_0_0) shapeCasts_S4x3x12288_S4x3x6x2048) h

end Cert.AdaIdeal.Value

end
-- ==== Proof.Ada.Claim.lean ====
/- The modulation: kernel and reference end with equal results. -/
module

public import proofs.«01_k».proof.Defs
public import proofs.«01_k».proof.Proof.Ada.Kernel
public import Idealize.ShloMosaic.Lib.Claim
public import Idealize.ShloMosaic.Lib.Quiescent
public import Idealize.ShloMosaic.Adequacy
public import Idealize.ShloMosaic.Init

@[expose] public section

noncomputable section

namespace Cert.AdaClaim

open Idealize.ShloMosaic Idealize.SL.Sem

/-- The reference terminates, keeps its arguments and leaves every counter at zero: it declares none. -/
theorem frame_ref : quiescent_AdaRefIdeal (hAdaRefIdeal := Cert.AdaRefIdeal.Gen.facts) := by
  intro m ρ _
  exact (θ_run Cert.AdaRefIdeal.defs _ _).mono (fun r h => ⟨fun c => ⟨(h c).2.1, (h c).2.2.1, (h c).2.2.2.1, (h c).2.2.2.2⟩, sem_eq_zero_of_no_sems (by decide) r.2⟩)
    (Cert.AdaRefIdeal.Value.run_ref m ρ)

/-- From equal arguments the kernel and the reference run and end with the same array. -/
theorem algebraic : algebraic_AdaIdeal_AdaRefIdeal (hAdaIdeal := Cert.AdaIdeal.Gen.facts)
    (hAdaRefIdeal := Cert.AdaRefIdeal.Gen.facts) := by
  pair_intro
  · run_from Cert.AdaIdeal.Gen.run_main m g
    · exact Cert.AdaIdeal.Gen.W_main_arg0 m _ c
    · exact Cert.AdaIdeal.Gen.W_main_arg1 m _ c
    · exact Cert.AdaIdeal.Gen.W_main_arg3 m _ c
  · run_from Cert.AdaRefIdeal.Value.run_ref m' g'
    exact (Cert.AdaIdeal.Value.final m c).symm

end Cert.AdaClaim

end
-- ==== Proof.Sgu.Tiles.lean ====
/- The kernel of the spatial gating writes its block in tiles of 128 rows and 256 columns. -/
module

public import proofs.«01_k».proof.Proof.Gen.SguIdeal.Frame
public import proofs.«01_k».proof.Proof.LayerNorm
public import Idealize.ShloMosaic.Lib.Pipeline.ReadBack
public import Idealize.ShloMosaic.Lib.Pipeline.ValueKit
public import Idealize.ShloMosaic.Lib.Pointwise

@[expose] public section

set_option maxRecDepth 16384

noncomputable section

namespace Cert.SguIdeal.Value

open Cert.SguIdeal Cert.SguIdeal.Gen Idealize.ShloMosaic Idealize.ShloMosaic.TcCoe Idealize.SL.Sem
open Cert.LayerNorm (layerNorm)

/-- The normed rows of a block. -/
theorem normed_at (v : FVec Ideal S512x1024 .f32) (g b : FVec Ideal S1x1024 .f32) (r : Fin 512) (l : Fin 1024) :
    k0_pay1 (F := Ideal) v g b (ix2 r l)
      = layerNorm (Ideal.ofBits .f32 0x44800000#32) (fun x => v (ix2 r x)) (g (ix2 0 l)) (b (ix2 0 l)) l := by
  pointwise [k0_pay1, layerNorm, LayerNorm.mean, LayerNorm.spread, LayerNorm.centre]

/-- A tile at row `o` and column `q`: the weights times the tile's normed rows, plus the bias, times the other half. -/
def tile (o q : ℕ) (hs : S512x1024.Slices ![o, q] S128x256) (v : FVec Ideal S512x1024 .bf16) (w : FVec Ideal S128x128 .bf16)
    (b : FVec Ideal S128x1 .f32) (u : FVec Ideal S128x256 .f32) : FVec Ideal S128x256 .bf16 :=
  truncf .bf16 (mulf u (addf (matmul dot_S128x128_S128x256_S128x256_1_0_0_1_n_n none w (extractStridedSlice S128x256 ![o, q] v hs)
    (constant S128x256 .f32 0x00000000#32)) (broadcastTo S128x256 b broadcasts_S128x1_S128x256))) bitsLt_bf16_f32

theorem tile_at (o q : ℕ) (ho : o + 128 ≤ 512) (hq : q + 256 ≤ 1024) (hs : S512x1024.Slices ![o, q] S128x256)
    (v : FVec Ideal S512x1024 .bf16) (w : FVec Ideal S128x128 .bf16)
    (b : FVec Ideal S128x1 .f32) (u : FVec Ideal S128x256 .f32) (i : Fin 128) (j : Fin 256) :
    tile o q hs v w b u (ix2 i j)
      = u (ix2 i j) * (∑ x : Fin 128, w (ix2 i x) * v (ix2 (⟨o + x.val, by omega⟩ : Fin 512) (⟨q + j.val, by omega⟩ : Fin 1024))
          + b (ix2 i 0)) := by
  pointwise [tile]

/-- One more tile of a block: where the tile lies it decides, elsewhere the tiles below it do. -/
theorem tile_step (G : Fin 512 → Fin 1024 → EReal) (o q : ℕ) (inb)
    (w : FVec Ideal S128x256 .bf16) (L : List (View.Piece (Elt Ideal) S512x1024 .bf16)) (r : Fin 512) (l : Fin 1024)
    (hp : ∀ (i : Fin 128) (j : Fin 256) (h : o + i.val < 512) (h' : q + j.val < 1024),
      w (ix2 i j) = G ⟨o + i.val, h⟩ ⟨q + j.val, h'⟩)
    (hL : ¬(o ≤ r.val ∧ r.val < o + 128 ∧ q ≤ l.val ∧ l.val < q + 256) → View.canon L (ix2 r l) = G r l) :
    View.canon (⟨Rect.unit (s := S512x1024) ![o, q] S128x256.size inb, w⟩ :: L) (ix2 r l) = G r l := by
  by_cases h : o ≤ r.val ∧ r.val < o + 128 ∧ q ≤ l.val ∧ l.val < q + 256
  · have hl : (ix2 r l : S512x1024.Idx)
        = (Rect.unit (s := S512x1024) ![o, q] S128x256.size inb).emb
            (ix2 (⟨r.val - o, by omega⟩ : Fin 128) (⟨l.val - q, by omega⟩ : Fin 256)) := by
      funext a
      refine Fin.cases ?_ (fun a => Fin.cases ?_ (fun a => a.elim0) a) a
      · apply Fin.ext
        show r.val = o + 1 * (r.val - o)
        omega
      · apply Fin.ext
        show l.val = q + 1 * (l.val - q)
        omega
    rw [hl, View.canon_cons_emb, hp ⟨r.val - o, by omega⟩ ⟨l.val - q, by omega⟩ (by show o + (r.val - o) < 512; omega)
      (by show q + (l.val - q) < 1024; omega)]
    congr 1
    · apply Fin.ext
      show o + (r.val - o) = r.val
      omega
    · apply Fin.ext
      show q + (l.val - q) = l.val
      omega
  · rw [View.canon_cons_of_not_mem _ _ ?_, hL h]
    intro hm
    have hm' := ((Rect.unit (s := S512x1024) ![o, q] S128x256.size inb).mem_set).mp hm
    obtain ⟨i, hi, he⟩ := hm' 0
    obtain ⟨j, hj, he'⟩ := hm' 1
    apply h
    have h1 : r.val = o + 1 * i := he
    have h2 : i < 128 := hi
    have h3 : l.val = q + 1 * j := he'
    have h4 : j < 256 := hj
    omega

end Cert.SguIdeal.Value

end
-- ==== Proof.Sgu.Ref.lean ====
/- The spatial gating's reference: its stages and its entries. -/
module

public import proofs.«01_k».proof.Proof.Gen.SguRefIdeal.Run
public import proofs.«01_k».proof.Proof.LayerNorm
public import Idealize.ShloMosaic.Lib.Pointwise

@[expose] public section

set_option maxRecDepth 16384

noncomputable section

namespace Cert.SguRefIdeal.Value

open Cert.SguRefIdeal Cert.SguRefIdeal.Gen Idealize.ShloMosaic Idealize.ShloMosaic.TcCoe Idealize.SL.Sem
open Cert.LayerNorm (layerNorm)

/-- The half of the projection that is normed and mixed. -/
def half (x0 : FVec Ideal S16384x3072 .f32) : FVec Ideal S16384x1024 .f32 :=
  extractStridedSlice S16384x1024 ![0, 1024] x0 slices_S16384x3072_S16384x1024_0_1024

/-- The mean of each row. -/
def mean (z : FVec Ideal S16384x1024 .f32) : FVec Ideal S16384x1 .f32 :=
  Host.divf (broadcastInDim S16384x1 ![0] bcast_S16384_S16384x1_0 (Host.reduceAdd z (constant S_ .f32 0x00000000#32) reducesTo_S16384x1024_S16384_d1 h_S_)) (broadcastInDim S16384x1 ![] bcast_S_S16384x1 (constant S_ .f32 0x44800000#32))

/-- Each row less its mean. -/
def centre (z : FVec Ideal S16384x1024 .f32) : FVec Ideal S16384x1024 .f32 :=
  subf z (broadcastInDim S16384x1024 ![0, 1] bcast_S16384x1_S16384x1024_0_1 (mean z))

/-- The mean square of each centred row. -/
def spread (z : FVec Ideal S16384x1024 .f32) : FVec Ideal S16384x1 .f32 :=
  mean (mulf (centre z) (centre z))

/-- The layer norm of the rows. -/
def normed (g b : FVec Ideal S1024 .f32) (z : FVec Ideal S16384x1024 .f32) : FVec Ideal S16384x1024 .f32 :=
  addf (mulf (mulf (centre z) (broadcastInDim S16384x1024 ![0, 1] bcast_S16384x1_S16384x1024_0_1 (Host.rsqrt (addf (spread z) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The normed rows mixed within chunks of 128, one mixing per group of columns, plus the bias. -/
def mixed (w : FVec Ideal S4x128x128 .f32) (b : FVec Ideal S4x128 .f32) (z : FVec Ideal S16384x1024 .f32) :
    FVec Ideal S16384x1024 .f32 :=
  shapeCast S16384x1024 (addf (transpose S128x128x4x256 [1, 3, 0, 2] (Host.dotGeneral dot_S128x128x4x256_S4x128x128_S4x128x256x128_1_2_03_1_2_0 none (shapeCast S128x128x4x256 z shapeCasts_S16384x1024_S128x128x4x256) w) transposes_S4x128x256x128_S128x128x4x256_1_3_0_2) (broadcastInDim S128x128x4x256 ![0, 1, 2, 3] bcast_S1x128x4x1_S128x128x4x256_0_1_2_3 (broadcastInDim S1x128x4x1 ![1, 2] bcast_S128x4_S1x128x4x1_1_2 (transpose S128x4 [1, 0] b transposes_S4x128_S128x4_1_0)))) shapeCasts_S128x128x4x256_S16384x1024

/-- The reference's result as a function of its arguments. -/
def REF (x0 : FVec Ideal S16384x3072 .f32) (x1 x2 : FVec Ideal S1024 .f32) (x3 : FVec Ideal S4x128x128 .f32)
    (x4 : FVec Ideal S4x128 .f32) : FVec Ideal S16384x1024 .bf16 :=
  truncf .bf16 (mulf (extractStridedSlice S16384x1024 ![0, 0] x0 slices_S16384x3072_S16384x1024_0_0)
    (mixed x3 x4 (normed x1 x2 (half x0)))) bitsLt_bf16_f32

/-- An entry of a mixed array: the rows of the entry's chunk, weighted, plus the bias. -/
def mix (w : FVec Ideal S4x128x128 .f32) (b : FVec Ideal S4x128 .f32) (z : Fin 16384 → EReal) (r : Fin 16384) (g : Fin 4) :
    EReal :=
  ∑ j : Fin 128, w (ix3 g (⟨r.val % 128, by omega⟩ : Fin 128) j) * z ⟨r.val / 128 * 128 + j.val, by omega⟩
    + b (ix2 g (⟨r.val % 128, by omega⟩ : Fin 128))

theorem normed_at (g b : FVec Ideal S1024 .f32) (z : FVec Ideal S16384x1024 .f32) (r : Fin 16384) (l : Fin 1024) :
    normed g b z (ix2 r l)
      = layerNorm (Ideal.ofBits .f32 0x44800000#32) (fun x => z (ix2 r x)) (g (ix1 l)) (b (ix1 l)) l := by
  pointwise [normed, mean, spread, centre, layerNorm, LayerNorm.mean, LayerNorm.spread, LayerNorm.centre]

theorem mixed_at (w : FVec Ideal S4x128x128 .f32) (b : FVec Ideal S4x128 .f32) (z : FVec Ideal S16384x1024 .f32)
    (r : Fin 16384) (l : Fin 1024) :
    mixed w b z (ix2 r l) = mix w b (fun x => z (ix2 x l)) r ⟨l.val / 256, by omega⟩ := by
  pointwise [mixed, mix]
  exact congrArg (· + b _) (Finset.sum_congr rfl fun _ _ => mul_comm _ _)

/-- Every entry of the reference's result: the other half's entry times the mixed normed rows. -/
theorem REF_at (x0 : FVec Ideal S16384x3072 .f32) (x1 x2 : FVec Ideal S1024 .f32) (x3 : FVec Ideal S4x128x128 .f32)
    (x4 : FVec Ideal S4x128 .f32) (r : Fin 16384) (l : Fin 1024) :
    REF x0 x1 x2 x3 x4 (ix2 r l)
      = x0 (ix2 r (⟨l.val, by omega⟩ : Fin 3072))
        * mix x3 x4 (fun x => layerNorm (Ideal.ofBits .f32 0x44800000#32)
            (fun k : Fin 1024 => x0 (ix2 x (⟨1024 + k.val, by omega⟩ : Fin 3072))) (x1 (ix1 l)) (x2 (ix1 l)) l) r
          ⟨l.val / 256, by omega⟩ := by
  have e : REF x0 x1 x2 x3 x4 (ix2 r l)
      = x0 (ix2 r (⟨l.val, by omega⟩ : Fin 3072)) * mixed x3 x4 (normed x1 x2 (half x0)) (ix2 r l) := by
    pointwise [REF]
  have h : ∀ (x : Fin 16384) (k : Fin 1024), half x0 (ix2 x k) = x0 (ix2 x (⟨1024 + k.val, by omega⟩ : Fin 3072)) := by
    intro x k
    pointwise [half]
  rw [e, mixed_at]
  simp only [normed_at, h]

/-- The reference's run, its result named `REF`. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = REF (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.SguRefIdeal.Value

end
-- ==== Proof.Sgu.Kernel.lean ====
/- What the kernel of the spatial gating leaves in its result array. -/
module

public import proofs.«01_k».proof.Proof.Sgu.Tiles
public import proofs.«01_k».proof.Proof.Sgu.Ref

@[expose] public section

set_option maxRecDepth 16384

noncomputable section

namespace Cert.SguIdeal.Value

open Cert.SguIdeal Cert.SguIdeal.Gen Idealize.ShloMosaic Idealize.ShloMosaic.TcCoe Idealize.SL.Sem
open Idealize.ShloMosaic.Pipeline (Dat)
open Cert.LayerNorm (layerNorm)
open Cert.SguRefIdeal.Value (REF REF_at mix)

/-- An entry of a block: its entry of the first half times the mixed rows of its chunk. -/
def block (u : FVec Ideal S512x1024 .f32) (v : FVec Ideal S512x1024 .bf16) (w : FVec Ideal S4x128x128 .f32)
    (b : FVec Ideal S128x4 .f32) (r : Fin 512) (l : Fin 1024) : EReal :=
  u (ix2 r l) * (∑ x : Fin 128, w (ix3 (⟨l.val / 256, by omega⟩ : Fin 4) (⟨r.val % 128, by omega⟩ : Fin 128) x)
      * v (ix2 (⟨r.val / 128 * 128 + x.val, by omega⟩ : Fin 512) l)
    + b (ix2 (⟨r.val % 128, by omega⟩ : Fin 128) (⟨l.val / 256, by omega⟩ : Fin 4)))

/-- One more tile of a block, the `a`-th of 128 rows and the `k`-th of 256 columns. -/
theorem step (u : FVec Ideal S512x1024 .f32) (v : FVec Ideal S512x1024 .bf16) (w : FVec Ideal S4x128x128 .f32)
    (b : FVec Ideal S128x4 .f32) (a k : ℕ) (ha : a < 4) (hk : k < 4)
    (hs : S512x1024.Slices ![128 * a, 256 * k] S128x256) (inb) (inw) (inb') (L : List (View.Piece (Elt Ideal) S512x1024 .bf16))
    (r : Fin 512) (l : Fin 1024)
    (hL : ¬(r.val / 128 = a ∧ l.val / 256 = k) → View.canon L (ix2 r l) = block u v w b r l) :
    View.canon (⟨Rect.unit (s := S512x1024) ![128 * a, 256 * k] S128x256.size inb,
        tile (128 * a) (256 * k) hs v
          (k0_pay2 (F := Ideal) (View.ld (Val := Elt Ideal) (e' := .f32) w (Rect.unit (s := S4x128x128) ![k, 0, 0] S1x128x128.size inw)))
          (k0_pay3 (F := Ideal) (View.ld (Val := Elt Ideal) (e' := .f32) b (Rect.unit (s := S128x4) ![0, k] S128x1.size inb')))
          (View.ld (Val := Elt Ideal) (e' := .f32) u (Rect.unit (s := S512x1024) ![128 * a, 256 * k] S128x256.size inb))⟩ :: L) (ix2 r l)
      = block u v w b r l := by
  refine tile_step (block u v w b) (128 * a) (256 * k) inb _ L r l (fun i j h h' => ?_) fun h => hL fun hh => h (by omega)
  refine (tile_at (128 * a) (256 * k) (by omega) (by omega) hs v _ _ _ i j).trans ?_
  have e1 : (⟨(256 * k + j.val) / 256, by omega⟩ : Fin 4) = ⟨k, hk⟩ := Fin.ext (by simp only; omega)
  have e2 : (⟨(128 * a + i.val) % 128, by omega⟩ : Fin 128) = i := Fin.ext (by simp only; omega)
  have e3 : ∀ x : Fin 128, (⟨(128 * a + i.val) / 128 * 128 + x.val, by omega⟩ : Fin 512) = ⟨128 * a + x.val, by omega⟩ :=
    fun x => Fin.ext (by simp only; omega)
  unfold block
  simp only [e1, e2, e3]
  pointwise [k0_pay2, k0_pay3]

/-- A block of the result, entry by entry. -/
theorem out_block (x0 x1 : FVec Ideal S512x1024 .f32) (x2 x3 : FVec Ideal S1x1024 .f32) (x4 : FVec Ideal S4x128x128 .f32)
    (x5 : FVec Ideal S128x4 .f32) (r : Fin 512) (l : Fin 1024) :
    out0_6 (F := Ideal) x0 x1 x2 x3 x4 x5 (ix2 r l) = block x0 (k0_pay27 x0 x1 x2 x3 x4 x5) x4 x5 r l := by
  unfold out0_6
  refine step x0 (k0_pay27 x0 x1 x2 x3 x4 x5) x4 x5 3 3 (by omega) (by omega) slices_S512x1024_o384_768_S128x256 _ _ _ _ r l fun h33 => ?_
  refine step x0 (k0_pay27 x0 x1 x2 x3 x4 x5) x4 x5 2 3 (by omega) (by omega) slices_S512x1024_o256_768_S128x256 _ _ _ _ r l fun h23 => ?_
  refine step x0 (k0_pay27 x0 x1 x2 x3 x4 x5) x4 x5 1 3 (by omega) (by omega) slices_S512x1024_o128_768_S128x256 _ _ _ _ r l fun h13 => ?_
  refine step x0 (k0_pay27 x0 x1 x2 x3 x4 x5) x4 x5 0 3 (by omega) (by omega) slices_S512x1024_o0_768_S128x256 _ _ _ _ r l fun h03 => ?_
  refine step x0 (k0_pay27 x0 x1 x2 x3 x4 x5) x4 x5 3 2 (by omega) (by omega) slices_S512x1024_o384_512_S128x256 _ _ _ _ r l fun h32 => ?_
  refine step x0 (k0_pay27 x0 x1 x2 x3 x4 x5) x4 x5 2 2 (by omega) (by omega) slices_S512x1024_o256_512_S128x256 _ _ _ _ r l fun h22 => ?_
  refine step x0 (k0_pay27 x0 x1 x2 x3 x4 x5) x4 x5 1 2 (by omega) (by omega) slices_S512x1024_o128_512_S128x256 _ _ _ _ r l fun h12 => ?_
  refine step x0 (k0_pay27 x0 x1 x2 x3 x4 x5) x4 x5 0 2 (by omega) (by omega) slices_S512x1024_o0_512_S128x256 _ _ _ _ r l fun h02 => ?_
  refine step x0 (k0_pay27 x0 x1 x2 x3 x4 x5) x4 x5 3 1 (by omega) (by omega) slices_S512x1024_o384_256_S128x256 _ _ _ _ r l fun h31 => ?_
  refine step x0 (k0_pay27 x0 x1 x2 x3 x4 x5) x4 x5 2 1 (by omega) (by omega) slices_S512x1024_o256_256_S128x256 _ _ _ _ r l fun h21 => ?_
  refine step x0 (k0_pay27 x0 x1 x2 x3 x4 x5) x4 x5 1 1 (by omega) (by omega) slices_S512x1024_o128_256_S128x256 _ _ _ _ r l fun h11 => ?_
  refine step x0 (k0_pay27 x0 x1 x2 x3 x4 x5) x4 x5 0 1 (by omega) (by omega) slices_S512x1024_o0_256_S128x256 _ _ _ _ r l fun h01 => ?_
  refine step x0 (k0_pay27 x0 x1 x2 x3 x4 x5) x4 x5 3 0 (by omega) (by omega) slices_S512x1024_o384_0_S128x256 _ _ _ _ r l fun h30 => ?_
  refine step x0 (k0_pay27 x0 x1 x2 x3 x4 x5) x4 x5 2 0 (by omega) (by omega) slices_S512x1024_o256_0_S128x256 _ _ _ _ r l fun h20 => ?_
  refine step x0 (k0_pay27 x0 x1 x2 x3 x4 x5) x4 x5 1 0 (by omega) (by omega) slices_S512x1024_o128_0_S128x256 _ _ _ _ r l fun h10 => ?_
  refine step x0 (k0_pay27 x0 x1 x2 x3 x4 x5) x4 x5 0 0 (by omega) (by omega) slices_S512x1024_o0_0_S128x256 _ _ _ _ r l fun h00 => ?_
  have hr : r.val / 128 < 4 := by omega
  have hl : l.val / 256 < 4 := by omega
  exfalso
  generalize r.val / 128 = A at *
  generalize l.val / 256 = B at *
  interval_cases A <;> interval_cases B <;> simp_all

variable (m : (ℓ : Loc nD τ sig) → Buf (Elt Ideal) ℓ)

/-- Where each block of grid point `t` lies: 512 rows per point, the two halves side by side in the projections. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![t.val, 0]
    ∧ t.val < 32 :=
  (by decide +kernel : ∀ t : Fin grid0.N, _)

/-- A row made a matrix of one row. -/
theorem wide_at (x : FVec Ideal S1024 .f32) (y : S1x1024.Idx) :
    broadcastInDim S1x1024 ![1] bcast_S1024_S1x1024_1 x y = x (ix1 (y 1)) := by
  refine (congrArg _ (eq_ix2 (n0 := 1) (n1 := 1024) y)).trans ?_
  pointwise []

/-- A normed row of a point's block is a normed row of the array. -/
theorem row_eq (c : Dev nD) (t : Fin cfg0.N) (r : Fin 512) (l : Fin 1024) (R : Fin 16384) (hR : R.val = t.val * 512 + r.val) :
    k0_pay27 (F := Ideal) (iblk m c 0 t) (iblk m c 1 t) (iblk m c 2 t) (iblk m c 3 t) (iblk m c 4 t) (iblk m c 5 t) (ix2 r l)
      = layerNorm (Ideal.ofBits .f32 0x44800000#32)
          (fun k : Fin 1024 => m ((c : Thread nD τ).loc main_arg0) (ix2 R (⟨1024 + k.val, by omega⟩ : Fin 3072)))
          (m ((c : Thread nD τ).loc main_arg1) (ix1 l)) (m ((c : Thread nD τ).loc main_arg2) (ix1 l)) l := by
  have hi := idx t
  unfold k0_pay27
  rw [normed_at]
  have e1 : ∀ k : Fin 1024, View.ld (iblk m c 1 t) r0_0 (ix2 r k)
      = m ((c : Thread nD τ).loc main_arg0) (ix2 R (⟨1024 + k.val, by omega⟩ : Fin 3072)) := fun k => by
    blk_point [iblk, V, idx t]
  have e2 : View.ld (iblk m c 2 t) r0_1 (ix2 0 l) = m ((c : Thread nD τ).loc main_arg1) (ix1 l) := by
    blk_simp [iblk, V]
    refine (wide_at _ _).trans ?_
    blk_ext [idx t]
    show 0 + 1 * l.val = l.val
    omega
  have e3 : View.ld (iblk m c 3 t) r0_1 (ix2 0 l) = m ((c : Thread nD τ).loc main_arg2) (ix1 l) := by
    blk_simp [iblk, V]
    refine (wide_at _ _).trans ?_
    blk_ext [idx t]
    show 0 + 1 * l.val = l.val
    omega
  rw [e2, e3]
  exact congrArg (fun z => layerNorm _ z _ _ l) (funext e1)

/-- What each point leaves in its block of the result. -/
theorem out_at (c : Dev nD) (t : Fin cfg0.N) (r : Fin 512) (l : Fin 1024) (R : Fin 16384) (L : Fin 1024)
    (hR : R.val = t.val * 512 + r.val) (hL : L.val = l.val) :
    out0_6 (F := Ideal) (iblk m c 0 t) (iblk m c 1 t) (iblk m c 2 t) (iblk m c 3 t) (iblk m c 4 t) (iblk m c 5 t) (ix2 r l)
      = REF (m ((c : Thread nD τ).loc main_arg0)) (m ((c : Thread nD τ).loc main_arg1)) (m ((c : Thread nD τ).loc main_arg2))
          (m ((c : Thread nD τ).loc main_arg3)) (m ((c : Thread nD τ).loc main_arg4)) (ix2 R L) := by
  have hi := idx t
  have eL : L = l := Fin.ext hL
  rw [REF_at, eL, out_block]
  have eR : (⟨R.val % 128, by omega⟩ : Fin 128) = ⟨r.val % 128, by omega⟩ := Fin.ext (by simp only; omega)
  have hu : (iblk m c 0 t : FVec Ideal S512x1024 .f32) (ix2 r l)
      = m ((c : Thread nD τ).loc main_arg0) (ix2 R (⟨l.val, by omega⟩ : Fin 3072)) := by
    blk_point [iblk, V, idx t]
  have hw : ∀ (g : Fin 4) (i x : Fin 128), (iblk m c 4 t : FVec Ideal S4x128x128 .f32) (ix3 g i x)
      = m ((c : Thread nD τ).loc main_arg3) (ix3 g i x) := fun g i x => by
    blk_point [iblk, V, idx t]
  have hb : ∀ (g : Fin 4) (i : Fin 128), (iblk m c 5 t : FVec Ideal S128x4 .f32) (ix2 i g)
      = m ((c : Thread nD τ).loc main_arg4) (ix2 g i) := fun g i => by
    blk_point [iblk, V, idx t]
  unfold block mix
  rw [hu, hb, eR]
  refine Ideal.mul_congr rfl (congrArg (fun z : EReal => z + _) (Finset.sum_congr rfl fun x _ => ?_))
  rw [hw, row_eq m c t _ l ⟨R.val / 128 * 128 + x.val, by omega⟩ (by simp only; omega)]

/-- The result array after the run is the reference's. -/
theorem final (c : Dev nD) : (dats m 0 c).arrAt 6 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  have e := (eq_ix2 (n0 := 16384) (n1 := 1024) ((win0_6.blk t).view.emb y))
  refine Eq.trans ?_ (congrArg _ e.symm)
  refine Eq.trans (congrArg _ (eq_ix2 (n0 := 512) (n1 := 1024) y)) (out_at m c t (y 0) (y 1) _ _ ?_ ?_)
  · blk_simp [idx t]
  · blk_simp [idx t]

end Cert.SguIdeal.Value

end
-- ==== Proof.Sgu.Claim.lean ====
/- The spatial gating: kernel and reference end with equal results. -/
module

public import proofs.«01_k».proof.Defs
public import proofs.«01_k».proof.Proof.Sgu.Kernel
public import Idealize.ShloMosaic.Lib.Claim
public import Idealize.ShloMosaic.Lib.Quiescent
public import Idealize.ShloMosaic.Adequacy
public import Idealize.ShloMosaic.Init

@[expose] public section

noncomputable section

namespace Cert.SguClaim

open Idealize.ShloMosaic Idealize.SL.Sem

/-- The reference terminates, keeps its arguments and leaves every counter at zero: it declares none. -/
theorem frame_ref : quiescent_SguRefIdeal (hSguRefIdeal := Cert.SguRefIdeal.Gen.facts) := by
  intro m ρ _
  exact (θ_run Cert.SguRefIdeal.defs _ _).mono (fun r h => ⟨fun c => ⟨(h c).2.1, (h c).2.2.1, (h c).2.2.2.1, (h c).2.2.2.2.1, (h c).2.2.2.2.2⟩, sem_eq_zero_of_no_sems (by decide) r.2⟩)
    (Cert.SguRefIdeal.Value.run_ref m ρ)

/-- From equal arguments the kernel and the reference run and end with the same array. -/
theorem algebraic : algebraic_SguIdeal_SguRefIdeal (hSguIdeal := Cert.SguIdeal.Gen.facts)
    (hSguRefIdeal := Cert.SguRefIdeal.Gen.facts) := by
  pair_intro
  · run_from Cert.SguIdeal.Gen.run_main m g
  · run_from Cert.SguRefIdeal.Value.run_ref m' g'
    exact (Cert.SguIdeal.Value.final m c).symm

end Cert.SguClaim

end
-- ==== Proof.RetState.Whole.lean ====
/- Stores that cover a whole buffer leave the same contents over any old ones. -/
module

public import Idealize.ShloMosaic.Lib.Ring
public import Idealize.ShloMosaic.Lib.Pipeline.Frame

@[expose] public section

namespace Cert.Whole

open Idealize.ShloMosaic

/-- Stores that cover a whole buffer leave the same contents over any old ones. -/
theorem writes_any {sig : RefSig} {κ : Kind} {sp : Space} {s : Shape} {e : EltTy} {Val : EltTy → Type}
    {a : Memref sig κ sp s e} (ha : a.IsWhole) (f g : a.view.ty.Contents Val) (L : List (View.Piece Val s e))
    (hL : ∀ y, ∃ pc ∈ L, y ∈ pc.1.set) : a.view.writes Val f L = a.view.writes Val g L :=
  (ha.eq_unread rfl).trans ((congrArg _ (View.read_writes_of_cover _ _ _ _ _ hL)).trans (ha.eq_unread rfl).symm)

end Cert.Whole

end
-- ==== Proof.RetStateIdeal.Run.lean ====
/- The run of the retention's body: two loops over the chunks, the second reading what the first stored. -/
module

public import proofs.«01_k».proof.Proof.Gen.RetStateIdeal.Frame.Runs
public import proofs.«01_k».proof.Proof.RetState.Whole

@[expose] public section

set_option maxRecDepth 16384

noncomputable section

namespace Cert.RetStateIdeal.Body

open Cert.RetStateIdeal Cert.RetStateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores that the body leaves in its two results' blocks, whatever the results' blocks and the scratch held before:
    the first loop's stores cover the scratch, so what the second loop reads there does not depend on it. -/
noncomputable def kernelRun0_A (c : Dev nD) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole)
    (x0 : Vec F S4x2x128 .f32) (x1 : Vec F S256x512 .f32) (x2 : Vec F S256x512 .f32) (x3 : Vec F S256x1024 .f32) (x4 : Vec F S256x1024 .f32) (x5 : Vec F S4x1x256 .f32) :
    Σ' (L6 : List (View.Piece (Elt F) S256x1024 .bf16)), { L7 : List (View.Piece (Elt F) S1x2x4x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ d, owns (c : Thread nD τ) arg10 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10) K } := by
  refine ⟨?_, ?_, fun E K => ?run⟩
  case run =>
    simp only [cc0_retention_eq_skeleton]; unfold cc0_retention_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    delta kernelRun0_A.sl.r_44
    rw [Cert.Whole.writes_any harg10 fs0 arg10.view.junk _ (View.cover_of_tiledL _ S128x256.size (by sl_kernel_rfl))]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _, _; isplitr; swap; · iexact HS0
    ipureintro; rfl

end Cert.RetStateIdeal.Body

end
-- ==== Proof.RetStateIdeal.Frame.lean ====
/- The frame of the call over the body's run in Run.lean: what each point leaves in the two results' blocks, and the program's run. -/
module

public import proofs.«01_k».proof.Proof.RetStateIdeal.Run
public import Idealize.ShloMosaic.Lib.Claim

@[expose] public section

-- membership in a rectangle of production extents (`View.cover_of_tiled`): the elaborator's structural look
-- recurses once per coordinate of the long axes
set_option maxRecDepth 16384

noncomputable section

namespace Cert.RetStateIdeal.Body

open Cert.RetStateIdeal Cert.RetStateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 6 tile its block (8 stores of `S128x256`), so they cover it. -/
theorem cover0_A_6 (c : Dev nD) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole)
    (x0 : Vec F S4x2x128 .f32) (x1 : Vec F S256x512 .f32) (x2 : Vec F S256x512 .f32) (x3 : Vec F S256x1024 .f32) (x4 : Vec F S256x1024 .f32) (x5 : Vec F S4x1x256 .f32) (y : S256x1024.Idx) :
    ∃ pc ∈ (kernelRun0_A c i arg2 harg2 arg3 harg3 arg4 harg4 arg5 harg5 arg6 harg6 arg7 harg7 arg8 harg8 arg9 harg9 arg10 harg10 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 x5).1 S128x256.size (by sl_kernel_rfl) y

/-- What the run leaves in output 6's staging buffer: its pieces read back over junk. -/
def out0_A_6 (c : Dev nD) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole)
    (x0 : Vec F S4x2x128 .f32) (x1 : Vec F S256x512 .f32) (x2 : Vec F S256x512 .f32) (x3 : Vec F S256x1024 .f32) (x4 : Vec F S256x1024 .f32) (x5 : Vec F S4x1x256 .f32) : Vec F S256x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3 x4 x5).1)

/-- The run's pieces for output 7 tile its block (8 stores of `S1x1x1x128x256`), so they cover it. -/
theorem cover0_A_7 (c : Dev nD) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole)
    (x0 : Vec F S4x2x128 .f32) (x1 : Vec F S256x512 .f32) (x2 : Vec F S256x512 .f32) (x3 : Vec F S256x1024 .f32) (x4 : Vec F S256x1024 .f32) (x5 : Vec F S4x1x256 .f32) (y : S1x2x4x128x256.Idx) :
    ∃ pc ∈ (kernelRun0_A c i arg2 harg2 arg3 harg3 arg4 harg4 arg5 harg5 arg6 harg6 arg7 harg7 arg8 harg8 arg9 harg9 arg10 harg10 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 x5).2.1 S1x1x1x128x256.size (by sl_kernel_rfl) y

/-- What the run leaves in output 7's staging buffer: its pieces read back over junk. -/
def out0_A_7 (c : Dev nD) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole)
    (x0 : Vec F S4x2x128 .f32) (x1 : Vec F S256x512 .f32) (x2 : Vec F S256x512 .f32) (x3 : Vec F S256x1024 .f32) (x4 : Vec F S256x1024 .f32) (x5 : Vec F S4x1x256 .f32) : Vec F S1x2x4x128x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 x0 x1 x2 x3 x4 x5).2.1)

/-! ## What the outputs hold after each point -/

/-- What the outputs' staging buffers hold after the body at point `t` (as a tuple, in window order): the run's contents at
    the point's memrefs and input blocks. -/
def outsAt0 (c : Dev nD) (t : Fin cfg0.N) : Vec F S256x1024 .bf16 × Vec F S1x2x4x128x256 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_6 out0_A_7; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  iintro ⟨H0, H1, H2, H3, H4, H5, ⟨%e6, H6⟩, ⟨%e7, H7⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The program runs to its end and leaves its arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.RetStateIdeal.Body

end
-- ==== Proof.RetState.Ref.lean ====
/- What the retention's reference computes for the final states, entry by entry. -/
module

public import proofs.«01_k».proof.Proof.Gen.RetStateRefIdeal.Run
public import proofs.«01_k».proof.Proof.InEven.Ref
public import Idealize.ShloMosaic.Lib.Pointwise
public import Idealize.ShloMosaic.Lib.IdealHost

@[expose] public section

set_option maxRecDepth 16384

noncomputable section

namespace Cert.RetStateRefIdeal.Value

open Cert.InEvenRefIdeal.Value (keyScale div_root)
open Cert.RetStateRefIdeal Cert.RetStateRefIdeal.Gen Idealize.ShloMosaic Idealize.ShloMosaic.TcCoe Idealize.SL.Sem

/-- The logarithms of the decays: the logistic's logarithm of each logit. -/
def logDecay (x1 : FVec Ideal S2x4 .f32) : FVec Ideal S2x4 .f32 :=
  let z : FVec Ideal S2x4 .f32 := broadcastInDim S2x4 ![] bcast_S_S2x4 (constant S_ .f32 0x00000000#32)
  let n := Host.negf x1
  Host.negf (select (cmpf .une (subf n z) (subf n z)) (addf n z)
    (addf (maximumf n z) (Host.log1p (Host.exp (Host.negf (Host.absf (subf n z)))))))

/-- The prompt's projections, a row of sequences. -/
def prompt (x0 : FVec Ideal S16384x6144 .f32) : FVec Ideal S32x256x6144 .f32 :=
  shapeCast _ (extractStridedSlice S8192x6144 ![0, 0] x0 slices_S16384x6144_S8192x6144_0_0) shapeCasts_S8192x6144_S32x256x6144

/-- The keys, each divided by the root of its width. -/
def keys (x0 : FVec Ideal S16384x6144 .f32) : FVec Ideal S32x256x4x128 .f32 :=
  Host.divf (shapeCast _ (extractStridedSlice S32x256x512 ![0, 0, 3584] (prompt x0) slices_S32x256x6144_S32x256x512_0_0_3584)
    shapeCasts_S32x256x512_S32x256x4x128)
    (broadcastInDim S32x256x4x128 ![] bcast_S_S32x256x4x128 (Host.sqrt (constant S_ .f32 0x43000000#32)))

/-- The values. -/
def vals (x0 : FVec Ideal S16384x6144 .f32) : FVec Ideal S32x256x4x256 .f32 :=
  shapeCast _ (extractStridedSlice S32x256x1024 ![0, 0, 4096] (prompt x0) slices_S32x256x6144_S32x256x1024_0_0_4096)
    shapeCasts_S32x256x1024_S32x256x4x256

/-- What a token's key is multiplied by: the decay to its chunk's end. -/
def toEnd (g : FVec Ideal S4 .f32) : FVec Ideal S128x4 .f32 :=
  Host.exp (mulf (broadcastInDim S128x4 ![0, 1] bcast_S1x4_S128x4_0_1 (broadcastInDim S1x4 ![1] bcast_S4_S1x4_1 g))
    (broadcastInDim S128x4 ![0, 1] bcast_S128x1_S128x4_0_1
      (subf (broadcastInDim S128x1 ![] bcast_S_S128x1 (constant S_ .f32 0x42FE0000#32))
        (broadcastInDim S128x1 ![0] bcast_S128_S128x1_0 (sitofp .f32 (iotaInDim S128 32 0))))))

/-- A state after one more chunk: the state decayed over the chunk, plus the chunk's decayed keys times its values. -/
def chunk (g : FVec Ideal S4 .f32) (s : FVec Ideal S32x4x128x256 .f32) (k : FVec Ideal S32x128x4x128 .f32)
    (v : FVec Ideal S32x128x4x256 .f32) : FVec Ideal S32x4x128x256 .f32 :=
  addf (mulf s (broadcastInDim S32x4x128x256 ![0, 1, 2, 3] bcast_S1x4x1x1_S32x4x128x256_0_1_2_3
      (broadcastInDim S1x4x1x1 ![1] bcast_S4_S1x4x1x1_1
        (Host.exp (mulf g (broadcastInDim S4 ![] bcast_S_S4 (constant S_ .f32 0x43000000#32)))))))
    (Host.dotGeneral dot_S32x128x4x128_S32x128x4x256_S32x4x128x256_1_1_3_3_02_02 none
      (mulf k (broadcastInDim S32x128x4x128 ![0, 1, 2, 3] bcast_S1x128x4x1_S32x128x4x128_0_1_2_3
        (broadcastInDim S1x128x4x1 ![1, 2] bcast_S128x4_S1x128x4x1_1_2 (toEnd g)))) v)

/-- The states of one direction: from zero, over the two chunks. -/
def states (g : FVec Ideal S4 .f32) (k : FVec Ideal S32x256x4x128 .f32) (v : FVec Ideal S32x256x4x256 .f32) :
    FVec Ideal S32x4x128x256 .f32 :=
  chunk g (chunk g (broadcastInDim S32x4x128x256 ![] bcast_S_S32x4x128x256 (constant S_ .f32 0x00000000#32))
      (extractStridedSlice S32x128x4x128 ![0, 0, 0, 0] k slices_S32x256x4x128_S32x128x4x128_0_0_0_0)
      (extractStridedSlice S32x128x4x256 ![0, 0, 0, 0] v slices_S32x256x4x256_S32x128x4x256_0_0_0_0))
    (extractStridedSlice S32x128x4x128 ![0, 128, 0, 0] k slices_S32x256x4x128_S32x128x4x128_0_128_0_0)
    (extractStridedSlice S32x128x4x256 ![0, 128, 0, 0] v slices_S32x256x4x256_S32x128x4x256_0_128_0_0)

/-- The reference's second result as a function of its arguments: both directions' states. -/
def REF (x0 : FVec Ideal S16384x6144 .f32) (x1 : FVec Ideal S2x4 .f32) : FVec Ideal S32x2x4x128x256 .f32 :=
  concatenate S32x2x4x128x256 1
    [⟨S32x1x4x128x256, broadcastInDim S32x1x4x128x256 ![0, 2, 3, 4] bcast_S32x4x128x256_S32x1x4x128x256_0_2_3_4
        (states (shapeCast _ (extractStridedSlice S1x4 ![0, 0] (logDecay x1) slices_S2x4_S1x4_0_0) shapeCasts_S1x4_S4)
          (keys x0) (vals x0))⟩,
      ⟨S32x1x4x128x256, broadcastInDim S32x1x4x128x256 ![0, 2, 3, 4] bcast_S32x4x128x256_S32x1x4x128x256_0_2_3_4
        (states (shapeCast _ (extractStridedSlice S1x4 ![1, 0] (logDecay x1) slices_S2x4_S1x4_1_0) shapeCasts_S1x4_S4)
          (Host.reverse [1] (keys x0)) (Host.reverse [1] (vals x0)))⟩]
    concatenates_S32x1x4x128x256_S32x1x4x128x256_S32x2x4x128x256_d1

/-- The logarithm of the logistic. -/
def logSigmoid (z : EReal) : EReal :=
  -(max (-z) 0 + Ideal.log1p (Ideal.exp (-FloatOps.absf (F := Ideal) (φ := .f32) (-z))))

/-- A position as a number. -/
def place (r : ℕ) : EReal := FloatOps.sitofp (F := Ideal) .f32 (BitVec.ofNat 32 r)

/-- The decay from a position to its chunk's last. -/
def toLast (g : EReal) (r : Fin 128) : EReal := Ideal.exp (g * (Ideal.ofBits .f32 0x42FE0000#32 - place r.val))

/-- The decay from a position to its chunk's first. -/
def toFirst (g : EReal) (r : Fin 128) : EReal := Ideal.exp (g * place r.val)

/-- A state's entry after one more chunk. -/
def step (g : EReal) (w : Fin 128 → EReal) (k v : Fin 256 → EReal) (o : Fin 2) (s : EReal) : EReal :=
  s * Ideal.exp (g * Ideal.ofBits .f32 0x43000000#32)
    + ∑ r : Fin 128, k ⟨o.val * 128 + r.val, by omega⟩ * w r * v ⟨o.val * 128 + r.val, by omega⟩

/-- A state's entry at the end of a sequence, read forwards. -/
def forward (g : EReal) (k v : Fin 256 → EReal) : EReal := step g (toLast g) k v 1 (step g (toLast g) k v 0 0)

/-- A state's entry at the start of a sequence, read backwards. -/
def backward (g : EReal) (k v : Fin 256 → EReal) : EReal := step g (toFirst g) k v 0 (step g (toFirst g) k v 1 0)

/-- A token's key, scaled. -/
def keyAt (x0 : FVec Ideal S16384x6144 .f32) (t : Fin 32) (h : Fin 4) (d : Fin 128) (r : Fin 256) : EReal :=
  x0 (ix2 (⟨t.val * 256 + r.val, by omega⟩ : Fin 16384) (⟨3584 + (h.val * 128 + d.val), by omega⟩ : Fin 6144)) * keyScale

/-- A token's value. -/
def valAt (x0 : FVec Ideal S16384x6144 .f32) (t : Fin 32) (h : Fin 4) (e : Fin 256) (r : Fin 256) : EReal :=
  x0 (ix2 (⟨t.val * 256 + r.val, by omega⟩ : Fin 16384) (⟨4096 + (h.val * 256 + e.val), by omega⟩ : Fin 6144))

theorem place_eq (r : ℕ) (h : r < 128) : place r = ((r : ℝ) : EReal) := by
  have e : (BitVec.ofNat 32 r).toInt = (r : ℤ) := by
    rw [BitVec.toInt_ofNat']
    exact Int.bmod_eq_of_le (by omega) (by omega)
  show (((BitVec.ofNat 32 r).toInt : ℝ) : EReal) = _
  rw [e]
  norm_cast

/-- The word of 127. -/
theorem word_127 : Ideal.ofBits .f32 0x42FE0000#32 = ((127 : ℝ) : EReal) := by
  simp [Ideal.ofBits, Ideal.ieee, -EReal.coe_mul]; norm_num

/-- Read backwards, the distance to the last position is the distance to the first. -/
theorem toLast_rev (g : EReal) (r : Fin 128) : toLast g r.rev = toFirst g r := by
  unfold toLast toFirst
  rw [place_eq _ r.isLt, place_eq _ r.rev.isLt, word_127, ← EReal.coe_sub, Fin.val_rev]
  congr 3
  rw [Nat.cast_sub (by omega)]
  push_cast
  ring

/-- A chunk of a sequence turned round is the other chunk with its positions turned round. -/
theorem step_rev (g : EReal) (k v : Fin 256 → EReal) (o : Fin 2) (s : EReal) :
    step g (toLast g) (fun r => k r.rev) (fun r => v r.rev) o s = step g (toFirst g) k v o.rev s := by
  unfold step
  congr 1
  rw [← Equiv.sum_comp Fin.revPerm]
  refine Finset.sum_congr rfl fun r _ => ?_
  have e : ∀ (a : o.val * 128 + (Fin.revPerm r : Fin 128).val < 256) (b : o.rev.val * 128 + r.val < 256),
      (⟨_, a⟩ : Fin 256).rev = ⟨_, b⟩ := fun a b => Fin.ext (by
    simp only [Fin.val_rev, Fin.revPerm_apply]; omega)
  simp only [e _ (by omega)]
  rw [Fin.revPerm_apply, toLast_rev]

theorem logDecay_at (x1 : FVec Ideal S2x4 .f32) (d : Fin 2) (h : Fin 4) : logDecay x1 (ix2 d h) = logSigmoid (x1 (ix2 d h)) := by
  pointwise [logDecay, logSigmoid]
  rw [if_neg (fun hn => hn rfl)]

theorem toEnd_at (g : FVec Ideal S4 .f32) (r : Fin 128) (h : Fin 4) : toEnd g (ix2 r h) = toLast (g (ix1 h)) r := by
  pointwise [toEnd, toLast, place]

theorem keys_at (x0 : FVec Ideal S16384x6144 .f32) (t : Fin 32) (r : Fin 256) (h : Fin 4) (d : Fin 128) :
    keys x0 (ix4 t r h d) = keyAt x0 t h d r := by
  pointwise [keys, prompt, keyAt]
  exact div_root _

theorem vals_at (x0 : FVec Ideal S16384x6144 .f32) (t : Fin 32) (r : Fin 256) (h : Fin 4) (e : Fin 256) :
    vals x0 (ix4 t r h e) = valAt x0 t h e r := by
  pointwise [vals, prompt, valAt]

theorem states_at (g : FVec Ideal S4 .f32) (k : FVec Ideal S32x256x4x128 .f32) (v : FVec Ideal S32x256x4x256 .f32)
    (t : Fin 32) (h : Fin 4) (d : Fin 128) (e : Fin 256) :
    states g k v (ix4 t h d e) = forward (g (ix1 h)) (fun r => k (ix4 t r h d)) (fun r => v (ix4 t r h e)) := by
  pointwise [states, chunk, forward, step, toEnd_at]

theorem keys_rev (k : FVec Ideal S32x256x4x128 .f32) (t : Fin 32) (r : Fin 256) (h : Fin 4) (d : Fin 128) :
    Host.reverse [1] k (ix4 t r h d) = k (ix4 t r.rev h d) := by
  pointwise []
  simp

theorem vals_rev (v : FVec Ideal S32x256x4x256 .f32) (t : Fin 32) (r : Fin 256) (h : Fin 4) (e : Fin 256) :
    Host.reverse [1] v (ix4 t r h e) = v (ix4 t r.rev h e) := by
  pointwise []
  simp

/-- The reference's states read forwards. -/
theorem REF_forward (x0 : FVec Ideal S16384x6144 .f32) (x1 : FVec Ideal S2x4 .f32) (t : Fin 32) (h : Fin 4) (d : Fin 128)
    (e : Fin 256) : REF x0 x1 (ix5 t 0 h d e) = forward (logSigmoid (x1 (ix2 0 h))) (keyAt x0 t h d) (valAt x0 t h e) := by
  pointwise [REF]
  rw [states_at]
  simp only [keys_at, vals_at]
  refine congrArg (fun z => forward z _ _) ?_
  pointwise [logDecay_at]

/-- The reference's states read backwards. -/
theorem REF_backward (x0 : FVec Ideal S16384x6144 .f32) (x1 : FVec Ideal S2x4 .f32) (t : Fin 32) (h : Fin 4) (d : Fin 128)
    (e : Fin 256) : REF x0 x1 (ix5 t 1 h d e) = backward (logSigmoid (x1 (ix2 1 h))) (keyAt x0 t h d) (valAt x0 t h e) := by
  pointwise [REF]
  rw [states_at]
  refine (congrArg₂ (forward _) (funext fun r => (keys_rev _ t r h d).trans (keys_at x0 t r.rev h d))
    (funext fun r => (vals_rev _ t r h e).trans (vals_at x0 t r.rev h e))).trans ?_
  unfold forward backward
  rw [step_rev, step_rev]
  refine congrArg (fun z => step z (toFirst z) _ _ 0 (step z (toFirst z) _ _ 1 0)) ?_
  pointwise [logDecay_at]

end Cert.RetStateRefIdeal.Value

end
-- ==== Proof.RetStateIdeal.Trips.lean ====
/- The retention's two loops: what a head's state is after both chunks, in each direction. -/
module

public import proofs.«01_k».proof.Proof.RetStateIdeal.Frame
public import proofs.«01_k».proof.Proof.RetState.Ref
public import Idealize.ShloMosaic.Lib.WholeRead
public import Idealize.ShloMosaic.Lib.Pointwise

@[expose] public section

set_option maxRecDepth 16384

noncomputable section

namespace Cert.RetStateIdeal.Value

open Cert.RetStateIdeal Cert.RetStateIdeal.Gen Cert.RetStateIdeal.Body Idealize.ShloMosaic Idealize.ShloMosaic.TcCoe Idealize.SL.Sem
open Cert.InEvenRefIdeal.Value (keyScale)
open Cert.RetStateRefIdeal.Value (logSigmoid toLast toFirst forward backward step place)

/-- The keys' scale by its name is the reference's. -/
theorem scale_eq : Named.named (F := Ideal) κ "key_scale" (φ := .f32) 0x3DB504F3#32 = keyScale :=
  IdealRules.named_const.ideal_named_scalar _ _ _ _ rfl

/-- A state carried over one chunk, entry by entry. -/
theorem next_at (w : FVec Ideal S128x1 .f32) (g : FVec Ideal S1x1 .f32) (s : FVec Ideal S128x256 .f32)
    (k : FVec Ideal S128x128 .f32) (v : FVec Ideal S128x256 .f32) (d : Fin 128) (e : Fin 256) :
    k0_pay77 (F := Ideal) w g s k v (ix2 d e)
      = s (ix2 d e) * g (ix2 0 0) + ∑ r : Fin 128, k (ix2 r d) * keyScale * w (ix2 r 0) * v (ix2 r e) := by
  pointwise [k0_pay77, k0_pay74, k0_pay75, scale_eq]

/-- The logarithm of a head's decay. -/
theorem gate_at (v : FVec Ideal S1x1x128 .f32) : k0_pay44 (F := Ideal) v (ix2 0 0) = logSigmoid (v (ix3 0 0 0)) := by
  pointwise [k0_pay44, k0_pay43, logSigmoid]
  simp only [zero_sub, ne_eq, not_true_eq_false, if_false]

/-- The weights of a chunk's keys towards its end. -/
theorem toLast_at (v : FVec Ideal S1x1x128 .f32) (r : Fin 128) :
    k0_pay48 (F := Ideal) (k0_pay47 v) (ix2 r 0) = toLast (logSigmoid (v (ix3 0 0 0))) r := by
  pointwise [k0_pay48, k0_pay47, k0_pay41, toLast, place, gate_at]

/-- The weights of a chunk's keys towards its start. -/
def fromFirst (v : FVec Ideal S1x1x128 .f32) : FVec Ideal S128x1 .f32 :=
  exp (mulf (broadcastTo S128x1 (k0_pay44 v) broadcasts_S1x1_S128x1) k0_pay41)

theorem fromFirst_at (v : FVec Ideal S1x1x128 .f32) (r : Fin 128) :
    fromFirst v (ix2 r 0) = toFirst (logSigmoid (v (ix3 0 0 0))) r := by
  pointwise [fromFirst, k0_pay41, toFirst, place, gate_at]

/-- A whole chunk's decay. -/
theorem chunk_at (v : FVec Ideal S1x1x128 .f32) :
    k0_pay49 (F := Ideal) (k0_pay44 v) (ix2 0 0) = Ideal.exp (logSigmoid (v (ix3 0 0 0)) * Ideal.ofBits .f32 0x43000000#32) := by
  pointwise [k0_pay49, gate_at]

/-- The state that a loop starts from. -/
theorem start_at (d : Fin 128) (e : Fin 256) : k0_pay69 (F := Ideal) (ix2 d e) = 0 := by
  pointwise [k0_pay69]

/-- A rectangle read out of a whole buffer of two axes. -/
theorem load_at {a b a' b' : ℕ} (v : Memref sig .tc .vmem ⟨2, ![a, b]⟩ .f32) (h : v.IsWhole) (x : Vec Ideal ⟨2, ![a, b]⟩ .f32)
    (off : Fin 2 → ℕ) (o q : ℕ) (ho : off = ![o, q]) (inb : ∀ i, off i + (![a', b'] : Fin 2 → ℕ) i ≤ (⟨2, ![a, b]⟩ : Shape).size i) (i : Fin a') (j : Fin b')
    (i' : Fin a) (j' : Fin b) (hi : i'.val = o + i.val) (hj : j'.val = q + j.val) :
    View.readAt (Elt Ideal) v.view (Rect.unit (s := ⟨2, ![a, b]⟩) off ![a', b'] inb).toLoadRect (h.unread x) (ix2 i j) = x (ix2 i' j') := by
  subst ho
  rw [Memref.IsWhole.readAt_unread]
  refine congrArg x ?_
  funext z
  refine Fin.cases ?_ (fun z => Fin.cases ?_ (fun z => z.elim0) z) z
  · apply Fin.ext
    show o + 1 * i.val = i'.val
    omega
  · apply Fin.ext
    show q + 1 * j.val = j'.val
    omega

/-- A head's lane of the decays in one direction. -/
def lanes (v : Memref sig .tc .vmem S4x2x128 .f32) (h : v.IsWhole) (x : Vec Ideal S4x2x128 .f32) (off : Fin 3 → ℕ)
    (inb : ∀ i, off i + S1x1x128.size i ≤ S4x2x128.size i) : FVec Ideal S1x1x128 .f32 :=
  View.readAt (Elt Ideal) v.view (Rect.unit (s := S4x2x128) off S1x1x128.size inb).toLoadRect (h.unread x)

theorem lanes_at (v : Memref sig .tc .vmem S4x2x128 .f32) (h : v.IsWhole) (x : Vec Ideal S4x2x128 .f32) (o : Fin 4) (q : Fin 2) (inb) :
    lanes v h x ![o.val, q.val, 0] inb (ix3 0 0 0) = x (ix3 o q 0) := by
  unfold lanes
  rw [Memref.IsWhole.readAt_unread]
  refine congrArg x ?_
  funext z
  refine Fin.cases ?_ (fun z => Fin.cases ?_ (fun z => Fin.cases ?_ (fun z => z.elim0) z) z) z
  · rfl
  · rfl
  · rfl

/-- A head's keys of a chunk. -/
def keyChunk (v : Memref sig .tc .vmem S256x512 .f32) (h : v.IsWhole) (x : Vec Ideal S256x512 .f32) (off : Fin 2 → ℕ)
    (inb : ∀ i, off i + S128x128.size i ≤ S256x512.size i) : FVec Ideal S128x128 .f32 :=
  View.readAt (Elt Ideal) v.view (Rect.unit (s := S256x512) off S128x128.size inb).toLoadRect (h.unread x)

/-- A head's values of a chunk. -/
def valChunk (v : Memref sig .tc .vmem S256x1024 .f32) (h : v.IsWhole) (x : Vec Ideal S256x1024 .f32) (off : Fin 2 → ℕ)
    (inb : ∀ i, off i + S128x256.size i ≤ S256x1024.size i) : FVec Ideal S128x256 .f32 :=
  View.readAt (Elt Ideal) v.view (Rect.unit (s := S256x1024) off S128x256.size inb).toLoadRect (h.unread x)

section

variable (a2 : Memref sig .tc .vmem S4x2x128 .f32) (h2 : a2.IsWhole) (a4 : Memref sig .tc .vmem S256x512 .f32) (h4 : a4.IsWhole)
  (a5 : Memref sig .tc .vmem S256x1024 .f32) (h5 : a5.IsWhole) (x0 : Vec Ideal S4x2x128 .f32) (x2 : Vec Ideal S256x512 .f32)
  (x3 : Vec Ideal S256x1024 .f32) (n : Fin 4) (d : Fin 128) (e : Fin 256)

/-- One chunk more, over what a head's state was. -/
theorem chunk_step (o : Fin 2) (G : EReal) (W : Fin 128 → EReal) (w : FVec Ideal S128x1 .f32) (g : FVec Ideal S1x1 .f32)
    (z : FVec Ideal S128x256 .f32) (ko vo : Fin 2 → ℕ) (ik iv)
    (hw : ∀ r, w (ix2 r 0) = W r) (hg : g (ix2 0 0) = Ideal.exp (G * Ideal.ofBits .f32 0x43000000#32))
    (hk : ko = ![o.val * 128, n.val * 128]) (hv : vo = ![o.val * 128, n.val * 256]) :
    k0_pay77 (F := Ideal) w g z (keyChunk a4 h4 x2 ko ik) (valChunk a5 h5 x3 vo iv) (ix2 d e)
      = step G W (fun r => x2 (ix2 r (⟨n.val * 128 + d.val, by omega⟩ : Fin 512)) * keyScale)
          (fun r => x3 (ix2 r (⟨n.val * 256 + e.val, by omega⟩ : Fin 1024))) o (z (ix2 d e)) := by
  rw [next_at, hg]
  refine congrArg (fun s : EReal => _ + s) (Finset.sum_congr rfl fun r _ => ?_)
  rw [hw]
  exact congrArg₂ (fun a b : EReal => a * keyScale * W r * b) (load_at a4 h4 x2 ko _ _ hk ik r d _ _ rfl rfl)
    (load_at a5 h5 x3 vo _ _ hv iv r e _ _ rfl rfl)

/-- A head's state after both chunks, the first one first. -/
theorem forward_at (il) (w : FVec Ideal S128x1 .f32) (g : FVec Ideal S1x1 .f32) (z : FVec Ideal S128x256 .f32)
    (k0 k1 v0 v1 : Fin 2 → ℕ) (i0 i1 j0 j1)
    (hw : w = k0_pay48 (k0_pay47 (lanes a2 h2 x0 ![n.val, (0 : Fin 2).val, 0] il)))
    (hg : g = k0_pay49 (k0_pay44 (lanes a2 h2 x0 ![n.val, (0 : Fin 2).val, 0] il))) (hz : z = k0_pay69)
    (hk0 : k0 = ![(0 : Fin 2).val * 128, n.val * 128]) (hv0 : v0 = ![(0 : Fin 2).val * 128, n.val * 256])
    (hk1 : k1 = ![(1 : Fin 2).val * 128, n.val * 128]) (hv1 : v1 = ![(1 : Fin 2).val * 128, n.val * 256]) :
    k0_pay77 (F := Ideal) w g (k0_pay77 w g z (keyChunk a4 h4 x2 k0 i0) (valChunk a5 h5 x3 v0 j0))
        (keyChunk a4 h4 x2 k1 i1) (valChunk a5 h5 x3 v1 j1) (ix2 d e)
      = forward (logSigmoid (x0 (ix3 n 0 0))) (fun r => x2 (ix2 r (⟨n.val * 128 + d.val, by omega⟩ : Fin 512)) * keyScale)
          (fun r => x3 (ix2 r (⟨n.val * 256 + e.val, by omega⟩ : Fin 1024))) := by
  have Hw : ∀ r, w (ix2 r 0) = toLast (logSigmoid (x0 (ix3 n 0 0))) r := fun r => by
    rw [hw, toLast_at, lanes_at]
  have Hg : g (ix2 0 0) = Ideal.exp (logSigmoid (x0 (ix3 n 0 0)) * Ideal.ofBits .f32 0x43000000#32) := by
    rw [hg, chunk_at, lanes_at]
  rw [chunk_step a4 h4 a5 h5 x2 x3 n d e 1 _ _ w g _ k1 v1 i1 j1 Hw Hg hk1 hv1,
    chunk_step a4 h4 a5 h5 x2 x3 n d e 0 _ _ w g _ k0 v0 i0 j0 Hw Hg hk0 hv0, hz, start_at]
  rfl

/-- A head's state after both chunks, the last one first. -/
theorem backward_at (il) (w : FVec Ideal S128x1 .f32) (g : FVec Ideal S1x1 .f32) (z : FVec Ideal S128x256 .f32)
    (k0 k1 v0 v1 : Fin 2 → ℕ) (i0 i1 j0 j1)
    (hw : w = fromFirst (lanes a2 h2 x0 ![n.val, (1 : Fin 2).val, 0] il))
    (hg : g = k0_pay49 (k0_pay44 (lanes a2 h2 x0 ![n.val, (1 : Fin 2).val, 0] il))) (hz : z = k0_pay69)
    (hk0 : k0 = ![(1 : Fin 2).val * 128, n.val * 128]) (hv0 : v0 = ![(1 : Fin 2).val * 128, n.val * 256])
    (hk1 : k1 = ![(0 : Fin 2).val * 128, n.val * 128]) (hv1 : v1 = ![(0 : Fin 2).val * 128, n.val * 256]) :
    k0_pay77 (F := Ideal) w g (k0_pay77 w g z (keyChunk a4 h4 x2 k0 i0) (valChunk a5 h5 x3 v0 j0))
        (keyChunk a4 h4 x2 k1 i1) (valChunk a5 h5 x3 v1 j1) (ix2 d e)
      = backward (logSigmoid (x0 (ix3 n 1 0))) (fun r => x2 (ix2 r (⟨n.val * 128 + d.val, by omega⟩ : Fin 512)) * keyScale)
          (fun r => x3 (ix2 r (⟨n.val * 256 + e.val, by omega⟩ : Fin 1024))) := by
  have Hw : ∀ r, w (ix2 r 0) = toFirst (logSigmoid (x0 (ix3 n 1 0))) r := fun r => by
    rw [hw, fromFirst_at, lanes_at]
  have Hg : g (ix2 0 0) = Ideal.exp (logSigmoid (x0 (ix3 n 1 0)) * Ideal.ofBits .f32 0x43000000#32) := by
    rw [hg, chunk_at, lanes_at]
  rw [chunk_step a4 h4 a5 h5 x2 x3 n d e 0 _ _ w g _ k1 v1 i1 j1 Hw Hg hk1 hv1,
    chunk_step a4 h4 a5 h5 x2 x3 n d e 1 _ _ w g _ k0 v0 i0 j0 Hw Hg hk0 hv0, hz, start_at]
  rfl

end

/-- A trip of the first loop carries each head's state over one more chunk. -/
theorem trip1 (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v1 : FVec Ideal S128x128 .f32) (v3 : FVec Ideal S128x128 .f32) (v36 : FVec Ideal S128x128 .f32) (v41 : FVec Ideal S128x1 .f32) (v46 : FVec Ideal S128x1 .f32) (v49 : FVec Ideal S1x1 .f32) (v79 : FVec Ideal S128x128 .f32) (v84 : FVec Ideal S128x1 .f32) (v89 : FVec Ideal S128x1 .f32) (v92 : FVec Ideal S1x1 .f32) (v122 : FVec Ideal S128x128 .f32) (v127 : FVec Ideal S128x1 .f32) (v132 : FVec Ideal S128x1 .f32) (v135 : FVec Ideal S1x1 .f32) (v165 : FVec Ideal S128x128 .f32) (v170 : FVec Ideal S128x1 .f32) (v175 : FVec Ideal S128x1 .f32) (v178 : FVec Ideal S1x1 .f32) (v179 : FVec Ideal S128x256 .f32) (v180 : FVec Ideal S128x256 .f32) (v181 : FVec Ideal S128x256 .f32) (cst_50 : Ideal .f32) (X_arg3 : BufTy.Contents (Elt Ideal) arg3.view.ty) (X_arg4 : BufTy.Contents (Elt Ideal) arg4.view.ty) (X_arg5 : BufTy.Contents (Elt Ideal) arg5.view.ty) (k : Fin k0_t1_loop.trips) (acc : FVec Ideal S128x256 .f32 × FVec Ideal S128x256 .f32 × FVec Ideal S128x256 .f32 × FVec Ideal S128x256 .f32) :
    tripR_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 k acc
      = (k0_pay77 (F := Ideal) v46 v49 acc.1 (View.readAt (Elt Ideal) arg4.view (Rect.unit (s := S256x512) (k0_off1 k) S128x128.size (k0_off1_inb k)).toLoadRect X_arg4)
          (View.readAt (Elt Ideal) arg5.view (Rect.unit (s := S256x1024) (k0_off2 k) S128x256.size (k0_off2_inb k)).toLoadRect X_arg5),
        k0_pay77 (F := Ideal) v89 v92 acc.2.1 (View.readAt (Elt Ideal) arg4.view (Rect.unit (s := S256x512) (k0_off3 k) S128x128.size (k0_off3_inb k)).toLoadRect X_arg4)
          (View.readAt (Elt Ideal) arg5.view (Rect.unit (s := S256x1024) (k0_off4 k) S128x256.size (k0_off4_inb k)).toLoadRect X_arg5),
        k0_pay77 (F := Ideal) v132 v135 acc.2.2.1 (View.readAt (Elt Ideal) arg4.view (Rect.unit (s := S256x512) (k0_off5 k) S128x128.size (k0_off5_inb k)).toLoadRect X_arg4)
          (View.readAt (Elt Ideal) arg5.view (Rect.unit (s := S256x1024) (k0_off6 k) S128x256.size (k0_off6_inb k)).toLoadRect X_arg5),
        k0_pay77 (F := Ideal) v175 v178 acc.2.2.2 (View.readAt (Elt Ideal) arg4.view (Rect.unit (s := S256x512) (k0_off7 k) S128x128.size (k0_off7_inb k)).toLoadRect X_arg4)
          (View.readAt (Elt Ideal) arg5.view (Rect.unit (s := S256x1024) (k0_off8 k) S128x256.size (k0_off8_inb k)).toLoadRect X_arg5)) := by
  unfold tripR_k0_t1 trip_k0_t1
  rfl

/-- A trip of the second loop carries each head's state over one more chunk. -/
theorem trip2 (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v5 : FVec Ideal S128x1 .f32) (v227 : FVec Ideal S128x128 .f32) (v232 : FVec Ideal S128x1 .f32) (v235 : FVec Ideal S128x1 .f32) (v238 : FVec Ideal S1x1 .f32) (v268 : FVec Ideal S128x128 .f32) (v273 : FVec Ideal S128x1 .f32) (v276 : FVec Ideal S128x1 .f32) (v279 : FVec Ideal S1x1 .f32) (v309 : FVec Ideal S128x128 .f32) (v314 : FVec Ideal S128x1 .f32) (v317 : FVec Ideal S128x1 .f32) (v320 : FVec Ideal S1x1 .f32) (v341 : FVec Ideal S1x1 .f32) (v343 : IVec S128x128 1) (v348 : FVec Ideal S128x128 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (k : Fin k0_t2_loop.trips) (acc : FVec Ideal S128x256 .f32 × FVec Ideal S128x256 .f32 × FVec Ideal S128x256 .f32 × FVec Ideal S128x256 .f32) :
    tripR_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 k acc
      = (k0_pay77 (F := Ideal) v235 v238 acc.1 (View.readAt (Elt Ideal) arg4.view (Rect.unit (s := S256x512) (k0_off9 k) S128x128.size (k0_off9_inb k)).toLoadRect X_arg4)
          (View.readAt (Elt Ideal) arg5.view (Rect.unit (s := S256x1024) (k0_off10 k) S128x256.size (k0_off10_inb k)).toLoadRect X_arg5),
        k0_pay77 (F := Ideal) v276 v279 acc.2.1 (View.readAt (Elt Ideal) arg4.view (Rect.unit (s := S256x512) (k0_off11 k) S128x128.size (k0_off11_inb k)).toLoadRect X_arg4)
          (View.readAt (Elt Ideal) arg5.view (Rect.unit (s := S256x1024) (k0_off12 k) S128x256.size (k0_off12_inb k)).toLoadRect X_arg5),
        k0_pay77 (F := Ideal) v317 v320 acc.2.2.1 (View.readAt (Elt Ideal) arg4.view (Rect.unit (s := S256x512) (k0_off13 k) S128x128.size (k0_off13_inb k)).toLoadRect X_arg4)
          (View.readAt (Elt Ideal) arg5.view (Rect.unit (s := S256x1024) (k0_off14 k) S128x256.size (k0_off14_inb k)).toLoadRect X_arg5),
        k0_pay77 (F := Ideal) (exp (mulf (broadcastTo S128x1 v341 broadcasts_S1x1_S128x1) v5)) (k0_pay49 (F := Ideal) v341) acc.2.2.2 (View.readAt (Elt Ideal) arg4.view (Rect.unit (s := S256x512) (k0_off15 k) S128x128.size (k0_off15_inb k)).toLoadRect X_arg4)
          (View.readAt (Elt Ideal) arg5.view (Rect.unit (s := S256x1024) (k0_off16 k) S128x256.size (k0_off16_inb k)).toLoadRect X_arg5)) := by
  unfold tripR_k0_t2 trip_k0_t2
  rfl

/-- The first loop is two trips. -/
theorem loop1 (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v1 : FVec Ideal S128x128 .f32) (v3 : FVec Ideal S128x128 .f32) (v36 : FVec Ideal S128x128 .f32) (v41 : FVec Ideal S128x1 .f32) (v46 : FVec Ideal S128x1 .f32) (v49 : FVec Ideal S1x1 .f32) (v79 : FVec Ideal S128x128 .f32) (v84 : FVec Ideal S128x1 .f32) (v89 : FVec Ideal S128x1 .f32) (v92 : FVec Ideal S1x1 .f32) (v122 : FVec Ideal S128x128 .f32) (v127 : FVec Ideal S128x1 .f32) (v132 : FVec Ideal S128x1 .f32) (v135 : FVec Ideal S1x1 .f32) (v165 : FVec Ideal S128x128 .f32) (v170 : FVec Ideal S128x1 .f32) (v175 : FVec Ideal S128x1 .f32) (v178 : FVec Ideal S1x1 .f32) (v179 : FVec Ideal S128x256 .f32) (v180 : FVec Ideal S128x256 .f32) (v181 : FVec Ideal S128x256 .f32) (cst_50 : Ideal .f32) (X_arg3 : BufTy.Contents (Elt Ideal) arg3.view.ty) (X_arg4 : BufTy.Contents (Elt Ideal) arg4.view.ty) (X_arg5 : BufTy.Contents (Elt Ideal) arg5.view.ty) (init : FVec Ideal S128x256 .f32 × FVec Ideal S128x256 .f32 × FVec Ideal S128x256 .f32 × FVec Ideal S128x256 .f32) :
    (st_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 init (Scf.trips k0_t1_loop.lb k0_t1_loop.ub k0_t1_loop.st)).1
      = tripR_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 ⟨1, by decide⟩ (tripR_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 ⟨0, by decide⟩ init) :=
  (congrArg Prod.fst (st_k0_t1_succ (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 init ⟨1, by decide⟩)).trans
    (congrArg (tripR_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 ⟨1, by decide⟩) (congrArg Prod.fst (st_k0_t1_succ (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 init ⟨0, by decide⟩)))

/-- The second loop is two trips. -/
theorem loop2 (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v5 : FVec Ideal S128x1 .f32) (v227 : FVec Ideal S128x128 .f32) (v232 : FVec Ideal S128x1 .f32) (v235 : FVec Ideal S128x1 .f32) (v238 : FVec Ideal S1x1 .f32) (v268 : FVec Ideal S128x128 .f32) (v273 : FVec Ideal S128x1 .f32) (v276 : FVec Ideal S128x1 .f32) (v279 : FVec Ideal S1x1 .f32) (v309 : FVec Ideal S128x128 .f32) (v314 : FVec Ideal S128x1 .f32) (v317 : FVec Ideal S128x1 .f32) (v320 : FVec Ideal S1x1 .f32) (v341 : FVec Ideal S1x1 .f32) (v343 : IVec S128x128 1) (v348 : FVec Ideal S128x128 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (init : FVec Ideal S128x256 .f32 × FVec Ideal S128x256 .f32 × FVec Ideal S128x256 .f32 × FVec Ideal S128x256 .f32) :
    (st_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 init (Scf.trips k0_t2_loop.lb k0_t2_loop.ub k0_t2_loop.st)).1
      = tripR_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 ⟨1, by decide⟩ (tripR_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 ⟨0, by decide⟩ init) :=
  (congrArg Prod.fst (st_k0_t2_succ (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 init ⟨1, by decide⟩)).trans
    (congrArg (tripR_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 ⟨1, by decide⟩) (congrArg Prod.fst (st_k0_t2_succ (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 init ⟨0, by decide⟩)))

end Cert.RetStateIdeal.Value

end
-- ==== Proof.RetState.RefOut.lean ====
/- What the retention's reference computes for what it passes on, entry by entry, and its run. -/
module

public import proofs.«01_k».proof.Proof.RetState.Ref
public import proofs.«01_k».proof.Proof.Ada.Ref
public import proofs.«01_k».proof.Proof.LayerNorm

@[expose] public section

set_option maxRecDepth 16384

noncomputable section

namespace Cert.RetStateRefIdeal.Value

open Cert.InEvenRefIdeal.Value (keyScale)
open Cert.AdaRefIdeal.Value (silu)
open Cert.LayerNorm (centre spread)
open Cert.RetStateRefIdeal Cert.RetStateRefIdeal.Gen Idealize.ShloMosaic Idealize.ShloMosaic.TcCoe Idealize.SL.Sem

/-- The queries. -/
def queries (x0 : FVec Ideal S16384x6144 .f32) : FVec Ideal S32x256x4x128 .f32 :=
  shapeCast _ (extractStridedSlice S32x256x512 ![0, 0, 3072] (prompt x0) slices_S32x256x6144_S32x256x512_0_0_3072)
    shapeCasts_S32x256x512_S32x256x4x128

/-- The gates. -/
def gates (x0 : FVec Ideal S16384x6144 .f32) : FVec Ideal S32x256x1024 .f32 :=
  extractStridedSlice S32x256x1024 ![0, 0, 5120] (prompt x0) slices_S32x256x6144_S32x256x1024_0_0_5120

/-- How far each position of a chunk lies behind each. -/
def behind : FVec Ideal S128x128 .f32 :=
  subf (broadcastInDim S128x128 ![0, 1] bcast_S128x1_S128x128_0_1
      (broadcastInDim S128x1 ![0] bcast_S128_S128x1_0 (sitofp .f32 (iotaInDim S128 32 0))))
    (broadcastInDim S128x128 ![0, 1] bcast_S1x128_S128x128_0_1
      (broadcastInDim S1x128 ![1] bcast_S128_S1x128_1 (sitofp .f32 (iotaInDim S128 32 0))))

/-- The decays inside a chunk, zero for what lies ahead. -/
def inside (g : FVec Ideal S4 .f32) : FVec Ideal S4x128x128 .f32 :=
  select (broadcastInDim S4x128x128 ![1, 2] bcast_S128x128_S4x128x128_1_2 (cmpf .oge behind (broadcastInDim S128x128 ![] bcast_S_S128x128 (constant S_ .f32 0x00000000#32))))
    (Host.exp (mulf (broadcastInDim S4x128x128 ![0, 1, 2] bcast_S4x1x1_S4x128x128_0_1_2 (broadcastInDim S4x1x1 ![0] bcast_S4_S4x1x1_0 g))
      (broadcastInDim S4x128x128 ![0, 1, 2] bcast_S1x128x128_S4x128x128_0_1_2 (broadcastInDim S1x128x128 ![1, 2] bcast_S128x128_S1x128x128_1_2
        (maximumf behind (broadcastInDim S128x128 ![] bcast_S_S128x128 (constant S_ .f32 0x00000000#32)))))))
    (broadcastInDim S4x128x128 ![] bcast_S_S4x128x128 (id (constant S_ .f32 0x00000000#32)))

/-- What a position takes of the state before its chunk. -/
def fromStart (g : FVec Ideal S4 .f32) : FVec Ideal S128x4 .f32 :=
  Host.exp (mulf (broadcastInDim S128x4 ![0, 1] bcast_S1x4_S128x4_0_1 (broadcastInDim S1x4 ![1] bcast_S4_S1x4_1 g))
    (broadcastInDim S128x4 ![0, 1] bcast_S128x1_S128x4_0_1
      (addf (broadcastInDim S128x1 ![0] bcast_S128_S128x1_0 (sitofp .f32 (iotaInDim S128 32 0)))
        (broadcastInDim S128x1 ![] bcast_S_S128x1 (constant S_ .f32 0x3F800000#32)))))

/-- What a chunk reads: of itself, and of the state before it. -/
def reads (g : FVec Ideal S4 .f32) (s : FVec Ideal S32x4x128x256 .f32) (q k : FVec Ideal S32x128x4x128 .f32)
    (v : FVec Ideal S32x128x4x256 .f32) : FVec Ideal S32x128x4x256 .f32 :=
  addf (transpose S32x128x4x256 [0, 3, 1, 2] (Host.dotGeneral dot_S32x128x4x256_S32x4x128x128_S32x4x256x128_1_3_3_2_02_01 none v
      (mulf (Host.dotGeneral dot_S32x128x4x128_S32x128x4x128_S32x4x128x128_3_3_1_1_02_02 none q k)
        (broadcastInDim S32x4x128x128 ![0, 1, 2, 3] bcast_S1x4x128x128_S32x4x128x128_0_1_2_3
          (broadcastInDim S1x4x128x128 ![1, 2, 3] bcast_S4x128x128_S1x4x128x128_1_2_3 (inside g))))) transposes_S32x4x256x128_S32x128x4x256_0_3_1_2)
    (mulf (transpose S32x128x4x256 [0, 3, 1, 2] (Host.dotGeneral dot_S32x4x128x256_S32x128x4x128_S32x4x256x128_2_3_3_1_01_02 none s q)
        transposes_S32x4x256x128_S32x128x4x256_0_3_1_2)
      (broadcastInDim S32x128x4x256 ![0, 1, 2, 3] bcast_S1x128x4x1_S32x128x4x256_0_1_2_3
        (broadcastInDim S1x128x4x1 ![1, 2] bcast_S128x4_S1x128x4x1_1_2 (fromStart g))))

/-- What a sequence reads, chunk after chunk. -/
def readAll (g : FVec Ideal S4 .f32) (q k : FVec Ideal S32x256x4x128 .f32) (v : FVec Ideal S32x256x4x256 .f32) :
    FVec Ideal S32x256x4x256 .f32 :=
  let z : FVec Ideal S32x4x128x256 .f32 := broadcastInDim S32x4x128x256 ![] bcast_S_S32x4x128x256 (constant S_ .f32 0x00000000#32)
  let k0 := extractStridedSlice S32x128x4x128 ![0, 0, 0, 0] k slices_S32x256x4x128_S32x128x4x128_0_0_0_0
  let v0 := extractStridedSlice S32x128x4x256 ![0, 0, 0, 0] v slices_S32x256x4x256_S32x128x4x256_0_0_0_0
  concatenate S32x256x4x256 1
    [⟨S32x128x4x256, reads g z (extractStridedSlice S32x128x4x128 ![0, 0, 0, 0] q slices_S32x256x4x128_S32x128x4x128_0_0_0_0) k0 v0⟩,
      ⟨S32x128x4x256, reads g (chunk g z k0 v0) (extractStridedSlice S32x128x4x128 ![0, 128, 0, 0] q slices_S32x256x4x128_S32x128x4x128_0_128_0_0)
        (extractStridedSlice S32x128x4x128 ![0, 128, 0, 0] k slices_S32x256x4x128_S32x128x4x128_0_128_0_0)
        (extractStridedSlice S32x128x4x256 ![0, 128, 0, 0] v slices_S32x256x4x256_S32x128x4x256_0_128_0_0)⟩]
    concatenates_S32x128x4x256_S32x128x4x256_S32x256x4x256_d1

/-- Both directions together. -/
def summed (x0 : FVec Ideal S16384x6144 .f32) (x1 : FVec Ideal S2x4 .f32) : FVec Ideal S32x256x4x256 .f32 :=
  addf (readAll (shapeCast _ (extractStridedSlice S1x4 ![0, 0] (logDecay x1) slices_S2x4_S1x4_0_0) shapeCasts_S1x4_S4)
      (queries x0) (keys x0) (vals x0))
    (Host.reverse [1] (readAll (shapeCast _ (extractStridedSlice S1x4 ![1, 0] (logDecay x1) slices_S2x4_S1x4_1_0) shapeCasts_S1x4_S4)
      (Host.reverse [1] (queries x0)) (Host.reverse [1] (keys x0)) (Host.reverse [1] (vals x0))))

/-- The mean of each head. -/
def means (z : FVec Ideal S32x256x4x256 .f32) : FVec Ideal S32x256x4x1 .f32 :=
  Host.divf (broadcastInDim S32x256x4x1 ![0, 1, 2] bcast_S32x256x4_S32x256x4x1_0_1_2
      (Host.reduceAdd z (constant S_ .f32 0x00000000#32) reducesTo_S32x256x4x256_S32x256x4_d3 h_S_))
    (broadcastInDim S32x256x4x1 ![] bcast_S_S32x256x4x1 (constant S_ .f32 0x43800000#32))

/-- Each head less its mean. -/
def centred (z : FVec Ideal S32x256x4x256 .f32) : FVec Ideal S32x256x4x256 .f32 :=
  subf z (broadcastInDim S32x256x4x256 ![0, 1, 2, 3] bcast_S32x256x4x1_S32x256x4x256_0_1_2_3 (means z))

/-- The reference's first result as a function of its arguments: both directions' sum, normed head by head and gated. -/
def OUT (x0 : FVec Ideal S16384x6144 .f32) (x1 : FVec Ideal S2x4 .f32) (x2 : FVec Ideal S4x256 .f32) : FVec Ideal S8192x1024 .bf16 :=
  truncf .bf16 (shapeCast _ (mulf (mulf (mulf (centred (summed x0 x1)) (broadcastInDim S32x256x4x256 ![0, 1, 2, 3] bcast_S32x256x4x1_S32x256x4x256_0_1_2_3 (Host.rsqrt (addf (Host.divf (broadcastInDim S32x256x4x1 ![0, 1, 2] bcast_S32x256x4_S32x256x4x1_0_1_2 (Host.reduceAdd (mulf (centred (summed x0 x1)) (centred (summed x0 x1))) (constant S_ .f32 0x00000000#32) reducesTo_S32x256x4x256_S32x256x4_d3 h_S_)) (broadcastInDim S32x256x4x1 ![] bcast_S_S32x256x4x1 (constant S_ .f32 0x43800000#32))) (broadcastInDim S32x256x4x1 ![] bcast_S_S32x256x4x1 (constant S_ .f32 0x3727C5AC#32)))))) (broadcastInDim S32x256x4x256 ![0, 1, 2, 3] bcast_S1x1x4x256_S32x256x4x256_0_1_2_3 (broadcastInDim S1x1x4x256 ![2, 3] bcast_S4x256_S1x1x4x256_2_3 x2))) (shapeCast _ (mulf (gates x0) (Host.divf (broadcastInDim S32x256x1024 ![] bcast_S_S32x256x1024 (constant S_ .f32 0x3F800000#32)) (addf (broadcastInDim S32x256x1024 ![] bcast_S_S32x256x1024 (constant S_ .f32 0x3F800000#32)) (Host.exp (Host.negf (gates x0)))))) shapeCasts_S32x256x1024_S32x256x4x256)) shapeCasts_S32x256x4x256_S8192x1024) bitsLt_bf16_f32

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v214) = OUT (m ((c.tc : Thread nD τ).loc main_arg0)) (m ((c.tc : Thread nD τ).loc main_arg1))
        (m ((c.tc : Thread nD τ).loc main_arg2))
      ∧ r.2.mem ((c.tc : Thread nD τ).loc main_v217) = REF (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

/-- The decay over a distance, zero for a negative one. -/
def near (g x : EReal) : EReal := if 0 ≤ x then Ideal.exp (g * max x 0) else 0

theorem inside_at (g : FVec Ideal S4 .f32) (h : Fin 4) (i j : Fin 128) :
    inside g (ix3 h i j) = near (g (ix1 h)) (place i.val - place j.val) := by
  pointwise [inside, behind, near, place]
  refine congrArg (ite _ _) ?_
  show (constant (F := Ideal) S_ .f32 0x00000000#32) ix0 = 0
  pointwise []

/-- What a position takes of the state before its chunk: decayed from the chunk's start, -/
def sinceStart (g : EReal) (i : Fin 128) : EReal := Ideal.exp (g * (place i.val + Ideal.ofBits .f32 0x3F800000#32))

/-- and read backwards from its end. -/
def sinceEnd (g : EReal) (i : Fin 128) : EReal := Ideal.exp (g * (Ideal.ofBits .f32 0x43000000#32 - place i.val))

theorem fromStart_at (g : FVec Ideal S4 .f32) (h : Fin 4) (i : Fin 128) :
    fromStart g (ix2 i h) = sinceStart (g (ix1 h)) i := by
  pointwise [fromStart, place, sinceStart]

/-- What place `i` of chunk `o` reads: of the chunk with the weights `N`, and of the state before it with the weight `w`. -/
def reading (N : Fin 128 → Fin 128 → EReal) (w : Fin 128 → EReal) (q k : Fin 256 → Fin 128 → EReal) (v : Fin 256 → EReal)
    (s : Fin 128 → EReal) (o : Fin 2) (i : Fin 128) : EReal :=
  ∑ j : Fin 128, (∑ d : Fin 128, q ⟨o.val * 128 + i.val, by omega⟩ d * k ⟨o.val * 128 + j.val, by omega⟩ d) * N i j
      * v ⟨o.val * 128 + j.val, by omega⟩
    + (∑ d : Fin 128, q ⟨o.val * 128 + i.val, by omega⟩ d * s d) * w i

/-- The state before a chunk, the first one first, -/
def before (g : EReal) (k : Fin 256 → Fin 128 → EReal) (v : Fin 256 → EReal) (o : Fin 2) (d : Fin 128) : EReal :=
  if o = 0 then 0 else step g (toLast g) (fun r => k r d) v 0 0

/-- and the last one first. -/
def beyond (g : EReal) (k : Fin 256 → Fin 128 → EReal) (v : Fin 256 → EReal) (o : Fin 2) (d : Fin 128) : EReal :=
  if o = 1 then 0 else step g (toFirst g) (fun r => k r d) v 1 0

/-- What is read forwards. -/
def readForward (g : EReal) (q k : Fin 256 → Fin 128 → EReal) (v : Fin 256 → EReal) (o : Fin 2) (i : Fin 128) : EReal :=
  reading (fun i j => near g (place i.val - place j.val)) (sinceStart g) q k v (before g k v o) o i

/-- What is read backwards. -/
def readBackward (g : EReal) (q k : Fin 256 → Fin 128 → EReal) (v : Fin 256 → EReal) (o : Fin 2) (i : Fin 128) : EReal :=
  reading (fun i j => near g (place j.val - place i.val)) (sinceEnd g) q k v (beyond g k v o) o i

theorem reads_at (g : FVec Ideal S4 .f32) (s : FVec Ideal S32x4x128x256 .f32) (q k : FVec Ideal S32x128x4x128 .f32)
    (v : FVec Ideal S32x128x4x256 .f32) (t : Fin 32) (i : Fin 128) (h : Fin 4) (e : Fin 256) :
    reads g s q k v (ix4 t i h e)
      = ∑ j : Fin 128, (∑ d : Fin 128, q (ix4 t i h d) * k (ix4 t j h d)) * near (g (ix1 h)) (place i.val - place j.val) * v (ix4 t j h e)
        + (∑ d : Fin 128, q (ix4 t i h d) * s (ix4 t h d e)) * sinceStart (g (ix1 h)) i := by
  pointwise [reads, inside_at, fromStart_at]
  congr 1
  · exact Finset.sum_congr rfl fun x _ => mul_comm _ _
  · exact congrArg (fun z : EReal => z * _) (Finset.sum_congr rfl fun x _ => mul_comm _ _)

theorem chunk_at (g : FVec Ideal S4 .f32) (s : FVec Ideal S32x4x128x256 .f32) (k : FVec Ideal S32x128x4x128 .f32)
    (v : FVec Ideal S32x128x4x256 .f32) (t : Fin 32) (h : Fin 4) (d : Fin 128) (e : Fin 256) :
    chunk g s k v (ix4 t h d e)
      = s (ix4 t h d e) * Ideal.exp (g (ix1 h) * Ideal.ofBits .f32 0x43000000#32)
        + ∑ r : Fin 128, k (ix4 t r h d) * toLast (g (ix1 h)) r * v (ix4 t r h e) := by
  pointwise [chunk, toEnd_at]

theorem readAll_at (g : FVec Ideal S4 .f32) (q k : FVec Ideal S32x256x4x128 .f32) (v : FVec Ideal S32x256x4x256 .f32)
    (t : Fin 32) (o : Fin 2) (i : Fin 128) (h : Fin 4) (e : Fin 256) :
    readAll g q k v (ix4 t (⟨o.val * 128 + i.val, by omega⟩ : Fin 256) h e)
      = readForward (g (ix1 h)) (fun r d => q (ix4 t r h d)) (fun r d => k (ix4 t r h d)) (fun r => v (ix4 t r h e)) o i := by
  match o with
  | 0 =>
    pointwise [readAll, reads_at, chunk_at, readForward, reading, before, step]
  | 1 =>
    pointwise [readAll, reads_at, chunk_at, readForward, reading, before, step]

/-- The words of 1 and of 128. -/
theorem word_1 : Ideal.ofBits .f32 0x3F800000#32 = ((1 : ℝ) : EReal) := by
  simp [Ideal.ofBits, Ideal.ieee, -EReal.coe_mul]; norm_num

theorem word_128 : Ideal.ofBits .f32 0x43000000#32 = ((128 : ℝ) : EReal) := by
  simp [Ideal.ofBits, Ideal.ieee, -EReal.coe_mul]; norm_num

theorem sinceStart_rev (g : EReal) (i : Fin 128) : sinceStart g i.rev = sinceEnd g i := by
  unfold sinceStart sinceEnd
  rw [place_eq _ i.isLt, place_eq _ i.rev.isLt, word_1, word_128, ← EReal.coe_sub, ← EReal.coe_add, Fin.val_rev]
  congr 3
  rw [Nat.cast_sub (by omega)]
  push_cast
  ring

theorem distance_rev (i j : Fin 128) : place i.rev.val - place j.rev.val = place j.val - place i.val := by
  rw [place_eq _ i.isLt, place_eq _ i.rev.isLt, place_eq _ j.isLt, place_eq _ j.rev.isLt, ← EReal.coe_sub, ← EReal.coe_sub,
    Fin.val_rev, Fin.val_rev]
  congr 1
  rw [Nat.cast_sub (by omega), Nat.cast_sub (by omega)]
  push_cast
  ring

/-- Reading a sequence that is turned round is reading it backwards. -/
theorem readForward_rev (g : EReal) (q k : Fin 256 → Fin 128 → EReal) (v : Fin 256 → EReal) (o : Fin 2) (i : Fin 128) :
    readForward g (fun r => q r.rev) (fun r => k r.rev) (fun r => v r.rev) o.rev i.rev = readBackward g q k v o i := by
  have e : ∀ (j : Fin 128) (a : o.rev.val * 128 + j.rev.val < 256) (b : o.val * 128 + j.val < 256),
      (⟨_, a⟩ : Fin 256).rev = ⟨_, b⟩ := fun j a b => Fin.ext (by
    simp only [Fin.val_rev]; omega)
  have es : ∀ d, before g (fun r => k r.rev) (fun r => v r.rev) o.rev d = beyond g k v o d := fun d => by
    unfold before beyond
    match o with
    | 0 =>
      rw [if_neg (by decide), if_neg (by decide)]
      exact step_rev g (fun r => k r d) v 0 0
    | 1 => rw [if_pos (by decide), if_pos (by decide)]
  unfold readForward readBackward reading
  rw [sinceStart_rev]
  simp only [es, e i (by omega) (by omega)]
  congr 1
  rw [← Equiv.sum_comp Fin.revPerm]
  refine Finset.sum_congr rfl fun j _ => ?_
  simp only [Fin.revPerm_apply, e j (by omega) (by omega), distance_rev]

/-- A token's query. -/
def queryAt (x0 : FVec Ideal S16384x6144 .f32) (t : Fin 32) (h : Fin 4) (r : Fin 256) (d : Fin 128) : EReal :=
  x0 (ix2 (⟨t.val * 256 + r.val, by omega⟩ : Fin 16384) (⟨3072 + (h.val * 128 + d.val), by omega⟩ : Fin 6144))

/-- A token's gate. -/
def gateAt (x0 : FVec Ideal S16384x6144 .f32) (t : Fin 32) (h : Fin 4) (e : Fin 256) (r : Fin 256) : EReal :=
  x0 (ix2 (⟨t.val * 256 + r.val, by omega⟩ : Fin 16384) (⟨5120 + (h.val * 256 + e.val), by omega⟩ : Fin 6144))

theorem queries_at (x0 : FVec Ideal S16384x6144 .f32) (t : Fin 32) (r : Fin 256) (h : Fin 4) (d : Fin 128) :
    queries x0 (ix4 t r h d) = queryAt x0 t h r d := by
  pointwise [queries, prompt, queryAt]

theorem gates_at (x0 : FVec Ideal S16384x6144 .f32) (t : Fin 32) (r : Fin 256) (h : Fin 4) (e : Fin 256) :
    gates x0 (ix3 t r (⟨h.val * 256 + e.val, by omega⟩ : Fin 1024)) = gateAt x0 t h e r := by
  pointwise [gates, prompt, gateAt]

/-- What a token reads in both directions. -/
def both (f b : EReal) (q k : Fin 256 → Fin 128 → EReal) (v : Fin 256 → EReal) (o : Fin 2) (i : Fin 128) : EReal :=
  readForward f q k v o i + readBackward b q k v o i

theorem reverse_at (z : FVec Ideal S32x256x4x256 .f32) (t : Fin 32) (o : Fin 2) (i : Fin 128) (h : Fin 4) (e : Fin 256) :
    Host.reverse [1] z (ix4 t (⟨o.val * 128 + i.val, by omega⟩ : Fin 256) h e)
      = z (ix4 t (⟨o.rev.val * 128 + i.rev.val, by omega⟩ : Fin 256) h e) :=
  (vals_rev z t _ h e).trans (congrArg (fun r => z (ix4 t r h e)) (Fin.ext (by simp only [Fin.val_rev]; omega)))

theorem summed_at (x0 : FVec Ideal S16384x6144 .f32) (x1 : FVec Ideal S2x4 .f32) (t : Fin 32) (o : Fin 2) (i : Fin 128) (h : Fin 4)
    (e : Fin 256) :
    summed x0 x1 (ix4 t (⟨o.val * 128 + i.val, by omega⟩ : Fin 256) h e)
      = both (logSigmoid (x1 (ix2 0 h))) (logSigmoid (x1 (ix2 1 h))) (queryAt x0 t h) (fun r d => keyAt x0 t h d r) (valAt x0 t h e) o i := by
  have g0 : shapeCast S4 (extractStridedSlice S1x4 ![0, 0] (logDecay x1) slices_S2x4_S1x4_0_0) shapeCasts_S1x4_S4 (ix1 h)
      = logSigmoid (x1 (ix2 0 h)) := by pointwise [logDecay_at]
  have g1 : shapeCast S4 (extractStridedSlice S1x4 ![1, 0] (logDecay x1) slices_S2x4_S1x4_1_0) shapeCasts_S1x4_S4 (ix1 h)
      = logSigmoid (x1 (ix2 1 h)) := by pointwise [logDecay_at]
  unfold summed both
  refine congrArg₂ (fun a b : EReal => a + b) ?_ ?_
  · rw [readAll_at, g0]
    simp only [queries_at, keys_at, vals_at]
  · rw [reverse_at, readAll_at, g1, ← readForward_rev]
    exact congrFun (congrFun (congr (congr (congrArg (readForward _)
      (funext fun r => funext fun d => (keys_rev _ t r h d).trans (queries_at x0 t r.rev h d)))
      (funext fun r => funext fun d => (keys_rev _ t r h d).trans (keys_at x0 t r.rev h d)))
      (funext fun r => (vals_rev _ t r h e).trans (vals_at x0 t r.rev h e))) _) _

/-- A head's row, normed and gated, at one place. -/
def gated (z : Fin 256 → EReal) (n x : EReal) (e : Fin 256) : EReal :=
  centre (Ideal.ofBits .f32 0x43800000#32) z e
    * Ideal.rsqrt (spread (Ideal.ofBits .f32 0x43800000#32) z + Ideal.ofBits .f32 0x3727C5AC#32) * n * silu x

/-- The reference's first result, entry by entry. -/
theorem OUT_at (x0 : FVec Ideal S16384x6144 .f32) (x1 : FVec Ideal S2x4 .f32) (x2 : FVec Ideal S4x256 .f32) (t : Fin 32) (o : Fin 2)
    (i : Fin 128) (h : Fin 4) (e : Fin 256) :
    OUT x0 x1 x2 (ix2 (⟨t.val * 256 + (o.val * 128 + i.val), by omega⟩ : Fin 8192) (⟨h.val * 256 + e.val, by omega⟩ : Fin 1024))
      = gated (fun e => both (logSigmoid (x1 (ix2 0 h))) (logSigmoid (x1 (ix2 1 h))) (queryAt x0 t h) (fun r d => keyAt x0 t h d r)
          (valAt x0 t h e) o i) (x2 (ix2 h e)) (gateAt x0 t h e ⟨o.val * 128 + i.val, by omega⟩) e := by
  have hr : ∀ r : Fin 256, OUT x0 x1 x2 (ix2 (⟨t.val * 256 + r.val, by omega⟩ : Fin 8192) (⟨h.val * 256 + e.val, by omega⟩ : Fin 1024))
      = gated (fun e => summed x0 x1 (ix4 t r h e)) (x2 (ix2 h e)) (gateAt x0 t h e r) e := fun r => by
    pointwise [OUT, centred, means, gated, silu, centre, spread, Cert.LayerNorm.mean, gates_at]
  refine (hr ⟨o.val * 128 + i.val, by omega⟩).trans ?_
  simp only [summed_at]

end Cert.RetStateRefIdeal.Value

end
-- ==== Proof.RetStateIdeal.Reads.lean ====
/- What the retention's two loops store: a chunk read by its queries, and both directions' sum normed and gated. -/
module

public import proofs.«01_k».proof.Proof.RetStateIdeal.Trips
public import proofs.«01_k».proof.Proof.RetState.RefOut
public import Idealize.ShloMosaic.Lib.Pipeline.ReadBack

@[expose] public section

set_option maxRecDepth 16384

noncomputable section

namespace Cert.RetStateIdeal.Value

open Cert.RetStateIdeal Cert.RetStateIdeal.Gen Cert.RetStateIdeal.Body Idealize.ShloMosaic Idealize.ShloMosaic.TcCoe Idealize.SL.Sem
open Cert.InEvenRefIdeal.Value (keyScale)
open Cert.AdaRefIdeal.Value (silu)
open Cert.LayerNorm (mean centre spread)
open Cert.RetStateRefIdeal.Value (logSigmoid toLast toFirst step place near sinceStart sinceEnd reading before beyond readForward readBackward both gated)

/-- A chunk read by its queries, entry by entry. -/
theorem read_at (N : FVec Ideal S128x128 .f32) (w : FVec Ideal S128x1 .f32) (s : FVec Ideal S128x256 .f32)
    (q k : FVec Ideal S128x128 .f32) (v : FVec Ideal S128x256 .f32) (i : Fin 128) (e : Fin 256) :
    k0_pay76 (F := Ideal) N w s q k v (ix2 i e)
      = ∑ j : Fin 128, (∑ d : Fin 128, q (ix2 i d) * (k (ix2 j d) * keyScale)) * N (ix2 i j) * v (ix2 j e)
        + (∑ d : Fin 128, q (ix2 i d) * s (ix2 d e)) * w (ix2 i 0) := by
  pointwise [k0_pay76, k0_pay74, k0_pay75, scale_eq]

/-- How the forward direction weighs the keys of the queries' own chunk. -/
theorem near_at (v : FVec Ideal S1x1x128 .f32) (i j : Fin 128) :
    k0_pay45 (F := Ideal) v (ix2 i j) = near (logSigmoid (v (ix3 0 0 j))) (place i.val - place j.val) := by
  pointwise [k0_pay45, k0_pay42, k0_pay43, k0_pay39, k0_pay40, near, place, logSigmoid]
  simp only [zero_sub, ne_eq, not_true_eq_false, if_false]

/-- How it weighs what came before the chunk. -/
theorem sinceStart_at (v : FVec Ideal S1x1x128 .f32) (i : Fin 128) :
    k0_pay46 (F := Ideal) v (ix2 i 0) = sinceStart (logSigmoid (v (ix3 0 0 0))) i := by
  pointwise [k0_pay46, k0_pay41, sinceStart, place, gate_at]

/-- The backward direction's weights within a chunk. -/
def nearBack (v : FVec Ideal S1x1x128 .f32) : FVec Ideal S128x128 .f32 :=
  select (cmpf .oge (subf (k0_pay40 (F := Ideal)) k0_pay39) (broadcast S128x128 (Scalar.ofBits .f32 0x00000000#32)))
    (exp (mulf (broadcastTo S128x128 (k0_pay43 v) broadcasts_S1x128_S128x128)
      (maximumf (subf (k0_pay40 (F := Ideal)) k0_pay39) (broadcast S128x128 (Scalar.ofBits .f32 0x00000000#32)))))
    (broadcast S128x128 (Scalar.ofBits .f32 0x00000000#32))

theorem nearBack_at (v : FVec Ideal S1x1x128 .f32) (i j : Fin 128) :
    nearBack v (ix2 i j) = near (logSigmoid (v (ix3 0 0 j))) (place j.val - place i.val) := by
  pointwise [nearBack, k0_pay43, k0_pay39, k0_pay40, near, place, logSigmoid]
  simp only [zero_sub, ne_eq, not_true_eq_false, if_false]

/-- The backward direction's weights of what comes after the chunk. -/
def tillEnd (v : FVec Ideal S1x1x128 .f32) : FVec Ideal S128x1 .f32 :=
  exp (mulf (broadcastTo S128x1 (k0_pay44 v) broadcasts_S1x1_S128x1)
    (subf (broadcast S128x1 (Scalar.ofBits .f32 0x43000000#32)) k0_pay41))

theorem tillEnd_at (v : FVec Ideal S1x1x128 .f32) (i : Fin 128) :
    tillEnd v (ix2 i 0) = sinceEnd (logSigmoid (v (ix3 0 0 0))) i := by
  pointwise [tillEnd, k0_pay41, sinceEnd, place, gate_at]

/-- The second loop's store: its reading and the first loop's, summed, normed, scaled and gated. -/
def finish (N : FVec Ideal S128x128 .f32) (w : FVec Ideal S128x1 .f32) (s : FVec Ideal S128x256 .f32) (q k : FVec Ideal S128x128 .f32)
    (v z a : FVec Ideal S128x256 .f32) (n : FVec Ideal S1x1x256 .f32) : FVec Ideal S128x256 .bf16 :=
  k0_pay19 (k0_pay16 N w s q k v z) (k0_pay17 a) (k0_pay18 N w s q k v z) n

/-- The sum less its mean along a row. -/
theorem centred_at (N : FVec Ideal S128x128 .f32) (w : FVec Ideal S128x1 .f32) (s : FVec Ideal S128x256 .f32) (q k : FVec Ideal S128x128 .f32)
    (v z : FVec Ideal S128x256 .f32) (i : Fin 128) (e : Fin 256) :
    k0_pay16 N w s q k v z (ix2 i e)
      = centre (Ideal.ofBits .f32 0x43800000#32) (fun e => k0_pay76 N w s q k v (ix2 i e) + z (ix2 i e)) e := by
  simp only [read_at]
  pointwise [k0_pay16, k0_pay14, k0_pay15, scale_eq, centre, mean]

theorem finish_at (N : FVec Ideal S128x128 .f32) (w : FVec Ideal S128x1 .f32) (s : FVec Ideal S128x256 .f32) (q k : FVec Ideal S128x128 .f32)
    (v z a : FVec Ideal S128x256 .f32) (n : FVec Ideal S1x1x256 .f32) (i : Fin 128) (e : Fin 256) :
    finish N w s q k v z a n (ix2 i e)
      = gated (fun e => k0_pay76 N w s q k v (ix2 i e) + z (ix2 i e)) (n (ix3 0 0 e)) (a (ix2 i e)) e := by
  pointwise [finish, k0_pay19, k0_pay17, k0_pay18, centred_at, gated, spread, mean, silu]
  rfl

/-- A tile of the block is what was stored there. -/
theorem tile {φ : EltTy} (off : Fin 2 → ℕ) (inb) (w : Vec Ideal S128x256 φ) (L : List (View.Piece (Elt Ideal) S256x1024 φ))
    (o : Fin 2) (h : Fin 4) (i : Fin 128) (e : Fin 256) (ho : off = ![o.val * 128, h.val * 256]) :
    View.canon (⟨Rect.unit (s := S256x1024) off S128x256.size inb, w⟩ :: L)
        (ix2 (⟨o.val * 128 + i.val, by omega⟩ : Fin 256) (⟨h.val * 256 + e.val, by omega⟩ : Fin 1024))
      = w (ix2 i e) := by
  subst ho
  have hy : (ix2 (⟨o.val * 128 + i.val, by omega⟩ : Fin 256) (⟨h.val * 256 + e.val, by omega⟩ : Fin 1024) : S256x1024.Idx)
      = (Rect.unit (s := S256x1024) ![o.val * 128, h.val * 256] S128x256.size inb).emb (ix2 i e) := by
    funext z
    match z with
    | ⟨0, _⟩ => exact Fin.ext (show o.val * 128 + i.val = o.val * 128 + 1 * i.val by omega)
    | ⟨1, _⟩ => exact Fin.ext (show h.val * 256 + e.val = h.val * 256 + 1 * e.val by omega)
  rw [hy, View.canon_cons_emb]

/-- What is stored in another tile does not matter. -/
theorem elsewhere {φ : EltTy} (off : Fin 2 → ℕ) (inb) (w : Vec Ideal S128x256 φ) (L : List (View.Piece (Elt Ideal) S256x1024 φ))
    (o : Fin 2) (h : Fin 4) (i : Fin 128) (e : Fin 256)
    (ho : off 0 + 128 ≤ o.val * 128 ∨ o.val * 128 + 128 ≤ off 0 ∨ off 1 + 256 ≤ h.val * 256 ∨ h.val * 256 + 256 ≤ off 1) :
    View.canon (⟨Rect.unit (s := S256x1024) off S128x256.size inb, w⟩ :: L)
        (ix2 (⟨o.val * 128 + i.val, by omega⟩ : Fin 256) (⟨h.val * 256 + e.val, by omega⟩ : Fin 1024))
      = View.canon L (ix2 (⟨o.val * 128 + i.val, by omega⟩ : Fin 256) (⟨h.val * 256 + e.val, by omega⟩ : Fin 1024)) := by
  rw [View.canon_cons_of_not_mem]
  intro hm
  have hm' := ((Rect.unit (s := S256x1024) off S128x256.size inb).mem_set).mp hm
  obtain ⟨a, ha, hea⟩ := hm' 0
  obtain ⟨b, hb, heb⟩ := hm' 1
  have h1 : o.val * 128 + i.val = off 0 + 1 * a := hea
  have h2 : a < 128 := ha
  have h3 : h.val * 256 + e.val = off 1 + 1 * b := heb
  have h4 : b < 256 := hb
  omega

/-- What a trip of the first loop stores, by head. -/
theorem stores1 (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v1 : FVec Ideal S128x128 .f32) (v3 : FVec Ideal S128x128 .f32) (v36 : FVec Ideal S128x128 .f32) (v41 : FVec Ideal S128x1 .f32) (v46 : FVec Ideal S128x1 .f32) (v49 : FVec Ideal S1x1 .f32) (v79 : FVec Ideal S128x128 .f32) (v84 : FVec Ideal S128x1 .f32) (v89 : FVec Ideal S128x1 .f32) (v92 : FVec Ideal S1x1 .f32) (v122 : FVec Ideal S128x128 .f32) (v127 : FVec Ideal S128x1 .f32) (v132 : FVec Ideal S128x1 .f32) (v135 : FVec Ideal S1x1 .f32) (v165 : FVec Ideal S128x128 .f32) (v170 : FVec Ideal S128x1 .f32) (v175 : FVec Ideal S128x1 .f32) (v178 : FVec Ideal S1x1 .f32) (v179 : FVec Ideal S128x256 .f32) (v180 : FVec Ideal S128x256 .f32) (v181 : FVec Ideal S128x256 .f32) (cst_50 : Ideal .f32) (X_arg3 : BufTy.Contents (Elt Ideal) arg3.view.ty) (X_arg4 : BufTy.Contents (Elt Ideal) arg4.view.ty) (X_arg5 : BufTy.Contents (Elt Ideal) arg5.view.ty) (k : Fin k0_t1_loop.trips) (acc : FVec Ideal S128x256 .f32 × FVec Ideal S128x256 .f32 × FVec Ideal S128x256 .f32 × FVec Ideal S128x256 .f32) :
    tripL_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 k acc
      = [⟨Rect.unit (s := S256x1024) (k0_off8 k) S128x256.size (k0_off8_inb k), k0_pay76 (F := Ideal) v165 v170 acc.2.2.2 (View.readAt (Elt Ideal) arg3.view (Rect.unit (s := S256x512) (k0_off7 k) S128x128.size (k0_off7_inb k)).toLoadRect X_arg3) (View.readAt (Elt Ideal) arg4.view (Rect.unit (s := S256x512) (k0_off7 k) S128x128.size (k0_off7_inb k)).toLoadRect X_arg4) (View.readAt (Elt Ideal) arg5.view (Rect.unit (s := S256x1024) (k0_off8 k) S128x256.size (k0_off8_inb k)).toLoadRect X_arg5)⟩,
        ⟨Rect.unit (s := S256x1024) (k0_off6 k) S128x256.size (k0_off6_inb k), k0_pay76 (F := Ideal) v122 v127 acc.2.2.1 (View.readAt (Elt Ideal) arg3.view (Rect.unit (s := S256x512) (k0_off5 k) S128x128.size (k0_off5_inb k)).toLoadRect X_arg3) (View.readAt (Elt Ideal) arg4.view (Rect.unit (s := S256x512) (k0_off5 k) S128x128.size (k0_off5_inb k)).toLoadRect X_arg4) (View.readAt (Elt Ideal) arg5.view (Rect.unit (s := S256x1024) (k0_off6 k) S128x256.size (k0_off6_inb k)).toLoadRect X_arg5)⟩,
        ⟨Rect.unit (s := S256x1024) (k0_off4 k) S128x256.size (k0_off4_inb k), k0_pay76 (F := Ideal) v79 v84 acc.2.1 (View.readAt (Elt Ideal) arg3.view (Rect.unit (s := S256x512) (k0_off3 k) S128x128.size (k0_off3_inb k)).toLoadRect X_arg3) (View.readAt (Elt Ideal) arg4.view (Rect.unit (s := S256x512) (k0_off3 k) S128x128.size (k0_off3_inb k)).toLoadRect X_arg4) (View.readAt (Elt Ideal) arg5.view (Rect.unit (s := S256x1024) (k0_off4 k) S128x256.size (k0_off4_inb k)).toLoadRect X_arg5)⟩,
        ⟨Rect.unit (s := S256x1024) (k0_off2 k) S128x256.size (k0_off2_inb k), k0_pay76 (F := Ideal) v36 v41 acc.1 (View.readAt (Elt Ideal) arg3.view (Rect.unit (s := S256x512) (k0_off1 k) S128x128.size (k0_off1_inb k)).toLoadRect X_arg3) (View.readAt (Elt Ideal) arg4.view (Rect.unit (s := S256x512) (k0_off1 k) S128x128.size (k0_off1_inb k)).toLoadRect X_arg4) (View.readAt (Elt Ideal) arg5.view (Rect.unit (s := S256x1024) (k0_off2 k) S128x256.size (k0_off2_inb k)).toLoadRect X_arg5)⟩] := by
  unfold tripL_k0_t1 trip_k0_t1
  rfl

/-- All that the first loop stores, the last trip in front. -/
theorem pieces1 (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v1 : FVec Ideal S128x128 .f32) (v3 : FVec Ideal S128x128 .f32) (v36 : FVec Ideal S128x128 .f32) (v41 : FVec Ideal S128x1 .f32) (v46 : FVec Ideal S128x1 .f32) (v49 : FVec Ideal S1x1 .f32) (v79 : FVec Ideal S128x128 .f32) (v84 : FVec Ideal S128x1 .f32) (v89 : FVec Ideal S128x1 .f32) (v92 : FVec Ideal S1x1 .f32) (v122 : FVec Ideal S128x128 .f32) (v127 : FVec Ideal S128x1 .f32) (v132 : FVec Ideal S128x1 .f32) (v135 : FVec Ideal S1x1 .f32) (v165 : FVec Ideal S128x128 .f32) (v170 : FVec Ideal S128x1 .f32) (v175 : FVec Ideal S128x1 .f32) (v178 : FVec Ideal S1x1 .f32) (v179 : FVec Ideal S128x256 .f32) (v180 : FVec Ideal S128x256 .f32) (v181 : FVec Ideal S128x256 .f32) (cst_50 : Ideal .f32) (X_arg3 : BufTy.Contents (Elt Ideal) arg3.view.ty) (X_arg4 : BufTy.Contents (Elt Ideal) arg4.view.ty) (X_arg5 : BufTy.Contents (Elt Ideal) arg5.view.ty) (init : FVec Ideal S128x256 .f32 × FVec Ideal S128x256 .f32 × FVec Ideal S128x256 .f32 × FVec Ideal S128x256 .f32) :
    (st_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 init (Scf.trips k0_t1_loop.lb k0_t1_loop.ub k0_t1_loop.st)).2
      = tripL_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 ⟨1, by decide⟩ (tripR_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 ⟨0, by decide⟩ init) ++ (tripL_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 ⟨0, by decide⟩ init ++ []) :=
  (congrArg Prod.snd (st_k0_t1_succ (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 init ⟨1, by decide⟩)).trans
    (congrArg (fun z => tripL_k0_t1 (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 ⟨1, by decide⟩ z.1 ++ z.2) (st_k0_t1_succ (F := Ideal) 𝒱 c bd i arg2 harg2 arg3 harg3 arg4 harg4 arg5 harg5 arg6 harg6 arg7 harg7 arg8 harg8 arg9 harg9 arg10 harg10 v1 v3 v36 v41 v46 v49 v79 v84 v89 v92 v122 v127 v132 v135 v165 v170 v175 v178 v179 v180 v181 cst_50 X_arg3 X_arg4 X_arg5 init ⟨0, by decide⟩))

/-- What a trip of the second loop stores, by head. -/
theorem stores2 (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v5 : FVec Ideal S128x1 .f32) (v227 : FVec Ideal S128x128 .f32) (v232 : FVec Ideal S128x1 .f32) (v235 : FVec Ideal S128x1 .f32) (v238 : FVec Ideal S1x1 .f32) (v268 : FVec Ideal S128x128 .f32) (v273 : FVec Ideal S128x1 .f32) (v276 : FVec Ideal S128x1 .f32) (v279 : FVec Ideal S1x1 .f32) (v309 : FVec Ideal S128x128 .f32) (v314 : FVec Ideal S128x1 .f32) (v317 : FVec Ideal S128x1 .f32) (v320 : FVec Ideal S1x1 .f32) (v341 : FVec Ideal S1x1 .f32) (v343 : IVec S128x128 1) (v348 : FVec Ideal S128x128 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (k : Fin k0_t2_loop.trips) (acc : FVec Ideal S128x256 .f32 × FVec Ideal S128x256 .f32 × FVec Ideal S128x256 .f32 × FVec Ideal S128x256 .f32) :
    tripL_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 k acc
      = [⟨Rect.unit (s := S256x1024) (k0_off16 k) S128x256.size (k0_off16_inb k), finish (select v343 v348 (broadcast S128x128 (Scalar.ofBits .f32 0x00000000#32))) (exp (mulf (broadcastTo S128x1 v341 broadcasts_S1x1_S128x1) (subf (broadcast S128x1 (Scalar.ofBits .f32 0x43000000#32)) v5))) acc.2.2.2 (View.readAt (Elt Ideal) arg3.view (Rect.unit (s := S256x512) (k0_off15 k) S128x128.size (k0_off15_inb k)).toLoadRect X_arg3) (View.readAt (Elt Ideal) arg4.view (Rect.unit (s := S256x512) (k0_off15 k) S128x128.size (k0_off15_inb k)).toLoadRect X_arg4) (View.readAt (Elt Ideal) arg5.view (Rect.unit (s := S256x1024) (k0_off16 k) S128x256.size (k0_off16_inb k)).toLoadRect X_arg5) (View.readAt (Elt Ideal) arg10.view (Rect.unit (s := S256x1024) (k0_off16 k) S128x256.size (k0_off16_inb k)).toLoadRect X_arg10) (View.readAt (Elt Ideal) arg6.view (Rect.unit (s := S256x1024) (k0_off16 k) S128x256.size (k0_off16_inb k)).toLoadRect X_arg6) (View.readAt (Elt Ideal) arg7.view (Rect.unit (s := S4x1x256) ![3, 0, 0] S1x1x256.size (by decide)).toLoadRect X_arg7)⟩,
        ⟨Rect.unit (s := S256x1024) (k0_off14 k) S128x256.size (k0_off14_inb k), finish v309 v314 acc.2.2.1 (View.readAt (Elt Ideal) arg3.view (Rect.unit (s := S256x512) (k0_off13 k) S128x128.size (k0_off13_inb k)).toLoadRect X_arg3) (View.readAt (Elt Ideal) arg4.view (Rect.unit (s := S256x512) (k0_off13 k) S128x128.size (k0_off13_inb k)).toLoadRect X_arg4) (View.readAt (Elt Ideal) arg5.view (Rect.unit (s := S256x1024) (k0_off14 k) S128x256.size (k0_off14_inb k)).toLoadRect X_arg5) (View.readAt (Elt Ideal) arg10.view (Rect.unit (s := S256x1024) (k0_off14 k) S128x256.size (k0_off14_inb k)).toLoadRect X_arg10) (View.readAt (Elt Ideal) arg6.view (Rect.unit (s := S256x1024) (k0_off14 k) S128x256.size (k0_off14_inb k)).toLoadRect X_arg6) (View.readAt (Elt Ideal) arg7.view (Rect.unit (s := S4x1x256) ![2, 0, 0] S1x1x256.size (by decide)).toLoadRect X_arg7)⟩,
        ⟨Rect.unit (s := S256x1024) (k0_off12 k) S128x256.size (k0_off12_inb k), finish v268 v273 acc.2.1 (View.readAt (Elt Ideal) arg3.view (Rect.unit (s := S256x512) (k0_off11 k) S128x128.size (k0_off11_inb k)).toLoadRect X_arg3) (View.readAt (Elt Ideal) arg4.view (Rect.unit (s := S256x512) (k0_off11 k) S128x128.size (k0_off11_inb k)).toLoadRect X_arg4) (View.readAt (Elt Ideal) arg5.view (Rect.unit (s := S256x1024) (k0_off12 k) S128x256.size (k0_off12_inb k)).toLoadRect X_arg5) (View.readAt (Elt Ideal) arg10.view (Rect.unit (s := S256x1024) (k0_off12 k) S128x256.size (k0_off12_inb k)).toLoadRect X_arg10) (View.readAt (Elt Ideal) arg6.view (Rect.unit (s := S256x1024) (k0_off12 k) S128x256.size (k0_off12_inb k)).toLoadRect X_arg6) (View.readAt (Elt Ideal) arg7.view (Rect.unit (s := S4x1x256) ![1, 0, 0] S1x1x256.size (by decide)).toLoadRect X_arg7)⟩,
        ⟨Rect.unit (s := S256x1024) (k0_off10 k) S128x256.size (k0_off10_inb k), finish v227 v232 acc.1 (View.readAt (Elt Ideal) arg3.view (Rect.unit (s := S256x512) (k0_off9 k) S128x128.size (k0_off9_inb k)).toLoadRect X_arg3) (View.readAt (Elt Ideal) arg4.view (Rect.unit (s := S256x512) (k0_off9 k) S128x128.size (k0_off9_inb k)).toLoadRect X_arg4) (View.readAt (Elt Ideal) arg5.view (Rect.unit (s := S256x1024) (k0_off10 k) S128x256.size (k0_off10_inb k)).toLoadRect X_arg5) (View.readAt (Elt Ideal) arg10.view (Rect.unit (s := S256x1024) (k0_off10 k) S128x256.size (k0_off10_inb k)).toLoadRect X_arg10) (View.readAt (Elt Ideal) arg6.view (Rect.unit (s := S256x1024) (k0_off10 k) S128x256.size (k0_off10_inb k)).toLoadRect X_arg6) (View.readAt (Elt Ideal) arg7.view (Rect.unit (s := S4x1x256) ![0, 0, 0] S1x1x256.size (by decide)).toLoadRect X_arg7)⟩] := by
  unfold tripL_k0_t2 trip_k0_t2
  rfl

/-- All that the second loop stores, the last trip in front. -/
theorem pieces2 (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v5 : FVec Ideal S128x1 .f32) (v227 : FVec Ideal S128x128 .f32) (v232 : FVec Ideal S128x1 .f32) (v235 : FVec Ideal S128x1 .f32) (v238 : FVec Ideal S1x1 .f32) (v268 : FVec Ideal S128x128 .f32) (v273 : FVec Ideal S128x1 .f32) (v276 : FVec Ideal S128x1 .f32) (v279 : FVec Ideal S1x1 .f32) (v309 : FVec Ideal S128x128 .f32) (v314 : FVec Ideal S128x1 .f32) (v317 : FVec Ideal S128x1 .f32) (v320 : FVec Ideal S1x1 .f32) (v341 : FVec Ideal S1x1 .f32) (v343 : IVec S128x128 1) (v348 : FVec Ideal S128x128 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (init : FVec Ideal S128x256 .f32 × FVec Ideal S128x256 .f32 × FVec Ideal S128x256 .f32 × FVec Ideal S128x256 .f32) :
    (st_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 init (Scf.trips k0_t2_loop.lb k0_t2_loop.ub k0_t2_loop.st)).2
      = tripL_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 ⟨1, by decide⟩ (tripR_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 ⟨0, by decide⟩ init) ++ (tripL_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 ⟨0, by decide⟩ init ++ []) :=
  (congrArg Prod.snd (st_k0_t2_succ (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 init ⟨1, by decide⟩)).trans
    (congrArg (fun z => tripL_k0_t2 (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 ⟨1, by decide⟩ z.1 ++ z.2) (st_k0_t2_succ (F := Ideal) 𝒱 c bd i arg2 harg2 arg3 harg3 arg4 harg4 arg5 harg5 arg6 harg6 arg7 harg7 arg8 harg8 arg9 harg9 arg10 harg10 v5 v227 v232 v235 v238 v268 v273 v276 v279 v309 v314 v317 v320 v341 v343 v348 X_arg3 X_arg4 X_arg5 X_arg6 X_arg7 X_arg10 init ⟨0, by decide⟩))

end Cert.RetStateIdeal.Value

end
-- ==== Proof.RetStateIdeal.Tiles.lean ====
/- The retention of the prompt, chunk by chunk: what both loops leave in a tile of their blocks. -/
module

public import proofs.«01_k».proof.Proof.RetStateIdeal.Reads

@[expose] public section

set_option maxRecDepth 16384

noncomputable section

namespace Cert.RetStateIdeal.Value

open Cert.RetStateIdeal Cert.RetStateIdeal.Gen Cert.RetStateIdeal.Body Idealize.ShloMosaic Idealize.ShloMosaic.TcCoe Idealize.SL.Sem
open Cert.InEvenRefIdeal.Value (keyScale)
open Cert.RetStateRefIdeal.Value (logSigmoid toLast toFirst step place near sinceStart sinceEnd reading before beyond readForward readBackward both gated)

/-- Any lane of a head's decays. -/
theorem lane_at (v : Memref sig .tc .vmem S4x2x128 .f32) (h : v.IsWhole) (x : Vec Ideal S4x2x128 .f32) (o : Fin 4) (q : Fin 2) (l : Fin 128) (inb) :
    lanes v h x ![o.val, q.val, 0] inb (ix3 0 0 l) = x (ix3 o q l) := by
  unfold lanes
  rw [Memref.IsWhole.readAt_unread]
  refine congrArg x ?_
  funext z
  match z with
  | ⟨0, _⟩ => exact Fin.ext (show o.val + 1 * 0 = o.val by omega)
  | ⟨1, _⟩ => exact Fin.ext (show q.val + 1 * 0 = q.val by omega)
  | ⟨2, _⟩ => exact Fin.ext (show 0 + 1 * l.val = l.val by omega)

/-- A head's queries or keys in a sequence. -/
def headOf (x : Vec Ideal S256x512 .f32) (n : Fin 4) (r : Fin 256) (d : Fin 128) : EReal :=
  x (ix2 r (⟨n.val * 128 + d.val, by omega⟩ : Fin 512))

/-- A head's keys, scaled. -/
def scaled (x : Vec Ideal S256x512 .f32) (n : Fin 4) (r : Fin 256) (d : Fin 128) : EReal := headOf x n r d * keyScale

/-- A head's values in a sequence, or its gates. -/
def wideOf (x : Vec Ideal S256x1024 .f32) (n : Fin 4) (e : Fin 256) (r : Fin 256) : EReal :=
  x (ix2 r (⟨n.val * 256 + e.val, by omega⟩ : Fin 1024))

section

variable (a2 : Memref sig .tc .vmem S4x2x128 .f32) (h2 : a2.IsWhole) (a3 : Memref sig .tc .vmem S256x512 .f32) (h3 : a3.IsWhole)
  (a4 : Memref sig .tc .vmem S256x512 .f32) (h4 : a4.IsWhole) (a5 : Memref sig .tc .vmem S256x1024 .f32) (h5 : a5.IsWhole)
  (x0 : Vec Ideal S4x2x128 .f32) (x1 x2 : Vec Ideal S256x512 .f32) (x3 : Vec Ideal S256x1024 .f32) (n : Fin 4) (o : Fin 2)

/-- A chunk's reading, the weights and the state being what they are. -/
theorem reading_at (i : Fin 128) (e : Fin 256) (NN : Fin 128 → Fin 128 → EReal) (W SS : Fin 128 → EReal) (N : FVec Ideal S128x128 .f32)
    (w : FVec Ideal S128x1 .f32) (s : FVec Ideal S128x256 .f32) (qo ko vo : Fin 2 → ℕ) (iq ik iv)
    (hN : ∀ j, N (ix2 i j) = NN i j) (hw : w (ix2 i 0) = W i) (hs : ∀ d, s (ix2 d e) = SS d)
    (hq : qo = ![o.val * 128, n.val * 128]) (hk : ko = ![o.val * 128, n.val * 128]) (hv : vo = ![o.val * 128, n.val * 256]) :
    k0_pay76 (F := Ideal) N w s (keyChunk a3 h3 x1 qo iq) (keyChunk a4 h4 x2 ko ik) (valChunk a5 h5 x3 vo iv) (ix2 i e)
      = reading NN W (headOf x1 n) (scaled x2 n) (wideOf x3 n e) SS o i := by
  have hQ : ∀ d : Fin 128, keyChunk a3 h3 x1 qo iq (ix2 i d) = headOf x1 n ⟨o.val * 128 + i.val, by omega⟩ d :=
    fun d => load_at a3 h3 x1 qo _ _ hq iq i d _ _ rfl rfl
  have hK : ∀ j d : Fin 128, keyChunk a4 h4 x2 ko ik (ix2 j d) = headOf x2 n ⟨o.val * 128 + j.val, by omega⟩ d :=
    fun j d => load_at a4 h4 x2 ko _ _ hk ik j d _ _ rfl rfl
  have hV : ∀ j : Fin 128, valChunk a5 h5 x3 vo iv (ix2 j e) = wideOf x3 n e ⟨o.val * 128 + j.val, by omega⟩ :=
    fun j => load_at a5 h5 x3 vo _ _ hv iv j e _ _ rfl rfl
  rw [read_at, hw]
  simp only [hQ, hK, hV, hN, hs]
  rfl

variable (hx : ∀ n p l, x0 (ix3 n p l) = x0 (ix3 n p 0))

include hx in
/-- A chunk's reading in the forward direction. -/
theorem forward_read (i : Fin 128) (e : Fin 256) (il) (s : FVec Ideal S128x256 .f32) (qo ko vo : Fin 2 → ℕ) (iq ik iv)
    (hs : ∀ d, s (ix2 d e) = before (logSigmoid (x0 (ix3 n 0 0))) (scaled x2 n) (wideOf x3 n e) o d)
    (hq : qo = ![o.val * 128, n.val * 128]) (hk : ko = ![o.val * 128, n.val * 128]) (hv : vo = ![o.val * 128, n.val * 256]) :
    k0_pay76 (F := Ideal) (k0_pay45 (lanes a2 h2 x0 ![n.val, (0 : Fin 2).val, 0] il)) (k0_pay46 (lanes a2 h2 x0 ![n.val, (0 : Fin 2).val, 0] il)) s
        (keyChunk a3 h3 x1 qo iq) (keyChunk a4 h4 x2 ko ik) (valChunk a5 h5 x3 vo iv) (ix2 i e)
      = readForward (logSigmoid (x0 (ix3 n 0 0))) (headOf x1 n) (scaled x2 n) (wideOf x3 n e) o i :=
  reading_at a3 h3 a4 h4 a5 h5 x1 x2 x3 n o i e (fun i j => near (logSigmoid (x0 (ix3 n 0 0))) (place i.val - place j.val)) _ _ _ _ s qo ko vo iq ik iv
    (fun j => by rw [near_at, lane_at, hx]) (by rw [sinceStart_at, lane_at]) hs hq hk hv

include hx in
/-- A chunk's reading in the backward direction. -/
theorem backward_read (i : Fin 128) (e : Fin 256) (il) (s : FVec Ideal S128x256 .f32) (qo ko vo : Fin 2 → ℕ) (iq ik iv)
    (hs : ∀ d, s (ix2 d e) = beyond (logSigmoid (x0 (ix3 n 1 0))) (scaled x2 n) (wideOf x3 n e) o d)
    (hq : qo = ![o.val * 128, n.val * 128]) (hk : ko = ![o.val * 128, n.val * 128]) (hv : vo = ![o.val * 128, n.val * 256]) :
    k0_pay76 (F := Ideal) (nearBack (lanes a2 h2 x0 ![n.val, (1 : Fin 2).val, 0] il)) (tillEnd (lanes a2 h2 x0 ![n.val, (1 : Fin 2).val, 0] il)) s
        (keyChunk a3 h3 x1 qo iq) (keyChunk a4 h4 x2 ko ik) (valChunk a5 h5 x3 vo iv) (ix2 i e)
      = readBackward (logSigmoid (x0 (ix3 n 1 0))) (headOf x1 n) (scaled x2 n) (wideOf x3 n e) o i :=
  reading_at a3 h3 a4 h4 a5 h5 x1 x2 x3 n o i e (fun i j => near (logSigmoid (x0 (ix3 n 1 0))) (place j.val - place i.val)) _ _ _ _ s qo ko vo iq ik iv
    (fun j => by rw [nearBack_at, lane_at, hx]) (by rw [tillEnd_at, lane_at]) hs hq hk hv

/-- What the forward direction's first trip leaves is the state before the second chunk. -/
theorem before_at (d : Fin 128) (e : Fin 256) (il) (ko vo : Fin 2 → ℕ) (ik iv)
    (hk : ko = ![(0 : Fin 2).val * 128, n.val * 128]) (hv : vo = ![(0 : Fin 2).val * 128, n.val * 256]) :
    k0_pay77 (F := Ideal) (k0_pay48 (k0_pay47 (lanes a2 h2 x0 ![n.val, (0 : Fin 2).val, 0] il)))
        (k0_pay49 (k0_pay44 (lanes a2 h2 x0 ![n.val, (0 : Fin 2).val, 0] il))) k0_pay69
        (keyChunk a4 h4 x2 ko ik) (valChunk a5 h5 x3 vo iv) (ix2 d e)
      = before (logSigmoid (x0 (ix3 n 0 0))) (scaled x2 n) (wideOf x3 n e) 1 d := by
  rw [chunk_step a4 h4 a5 h5 x2 x3 n d e 0 (logSigmoid (x0 (ix3 n 0 0))) (toLast (logSigmoid (x0 (ix3 n 0 0)))) _ _ _ ko vo ik iv
    (fun r => by rw [toLast_at, lane_at]) (by rw [chunk_at, lane_at]) hk hv, start_at]
  rfl

/-- What the backward direction's first trip leaves is the state after the first chunk. -/
theorem beyond_at (d : Fin 128) (e : Fin 256) (il) (ko vo : Fin 2 → ℕ) (ik iv)
    (hk : ko = ![(1 : Fin 2).val * 128, n.val * 128]) (hv : vo = ![(1 : Fin 2).val * 128, n.val * 256]) :
    k0_pay77 (F := Ideal) (fromFirst (lanes a2 h2 x0 ![n.val, (1 : Fin 2).val, 0] il))
        (k0_pay49 (k0_pay44 (lanes a2 h2 x0 ![n.val, (1 : Fin 2).val, 0] il))) k0_pay69
        (keyChunk a4 h4 x2 ko ik) (valChunk a5 h5 x3 vo iv) (ix2 d e)
      = beyond (logSigmoid (x0 (ix3 n 1 0))) (scaled x2 n) (wideOf x3 n e) 0 d := by
  rw [chunk_step a4 h4 a5 h5 x2 x3 n d e 1 (logSigmoid (x0 (ix3 n 1 0))) (toFirst (logSigmoid (x0 (ix3 n 1 0)))) _ _ _ ko vo ik iv
    (fun r => by rw [fromFirst_at, lane_at]) (by rw [chunk_at, lane_at]) hk hv, start_at]
  rfl

/-- A chunk of the result: the backward reading, the forward one over it, normed, scaled and gated. -/
theorem finish_read (hx : ∀ n p l, x0 (ix3 n p l) = x0 (ix3 n p 0)) (a6 : Memref sig .tc .vmem S256x1024 .f32) (h6 : a6.IsWhole)
    (a7 : Memref sig .tc .vmem S4x1x256 .f32) (h7 : a7.IsWhole) (a10 : Memref sig .tc .vmem S256x1024 .f32)
    (x4 : Vec Ideal S256x1024 .f32) (x5 : Vec Ideal S4x1x256 .f32) (L : List (View.Piece (Elt Ideal) S256x1024 .f32))
    (z : Fin 256 → EReal) (i : Fin 128) (e : Fin 256) (il) (s : FVec Ideal S128x256 .f32) (qo ko vo zo go : Fin 2 → ℕ) (iq ik iv iz ig ia)
    (hz : ∀ e : Fin 256, View.canon L (ix2 (⟨o.val * 128 + i.val, by omega⟩ : Fin 256) (⟨n.val * 256 + e.val, by omega⟩ : Fin 1024)) = z e)
    (hs : ∀ d e, s (ix2 d e) = beyond (logSigmoid (x0 (ix3 n 1 0))) (scaled x2 n) (wideOf x3 n e) o d)
    (hq : qo = ![o.val * 128, n.val * 128]) (hk : ko = ![o.val * 128, n.val * 128]) (hv : vo = ![o.val * 128, n.val * 256])
    (hzo : zo = ![o.val * 128, n.val * 256]) (hgo : go = ![o.val * 128, n.val * 256]) :
    finish (nearBack (lanes a2 h2 x0 ![n.val, (1 : Fin 2).val, 0] il)) (tillEnd (lanes a2 h2 x0 ![n.val, (1 : Fin 2).val, 0] il)) s
        (keyChunk a3 h3 x1 qo iq) (keyChunk a4 h4 x2 ko ik) (valChunk a5 h5 x3 vo iv)
        (View.readAt (Elt Ideal) a10.view (Rect.unit (s := S256x1024) zo S128x256.size iz).toLoadRect (a10.view.writes (Elt Ideal) a10.view.junk L))
        (valChunk a6 h6 x4 go ig)
        (View.readAt (Elt Ideal) a7.view (Rect.unit (s := S4x1x256) ![n.val, 0, 0] S1x1x256.size ia).toLoadRect (h7.unread x5)) (ix2 i e)
      = gated (fun e => readBackward (logSigmoid (x0 (ix3 n 1 0))) (headOf x1 n) (scaled x2 n) (wideOf x3 n e) o i + z e)
          (x5 (ix3 n 0 e)) (wideOf x4 n e ⟨o.val * 128 + i.val, by omega⟩) e := by
  have hg : valChunk a6 h6 x4 go ig (ix2 i e) = wideOf x4 n e ⟨o.val * 128 + i.val, by omega⟩ := load_at a6 h6 x4 go _ _ hgo ig i e _ _ rfl rfl
  have ha : View.readAt (Elt Ideal) a7.view (Rect.unit (s := S4x1x256) ![n.val, 0, 0] S1x1x256.size ia).toLoadRect (h7.unread x5) (ix3 0 0 e)
      = x5 (ix3 n 0 e) := by
    rw [Memref.IsWhole.readAt_unread]
    refine congrArg x5 ?_
    funext y
    match y with
    | ⟨0, _⟩ => exact Fin.ext (show n.val + 1 * 0 = n.val by omega)
    | ⟨1, _⟩ => rfl
    | ⟨2, _⟩ => exact Fin.ext (show 0 + 1 * e.val = e.val by omega)
  rw [finish_at, hg, ha]
  refine congrArg (fun f => gated f _ _ _) (funext fun e => congrArg₂ (fun a b : EReal => a + b)
    (backward_read a2 h2 a3 h3 a4 h4 a5 h5 x0 x1 x2 x3 n o hx i e il s qo ko vo iq ik iv (fun d => hs d e) hq hk hv) ?_)
  rw [View.readAt_writes_junk_eq_canon, ← hz e]
  subst hzo
  refine congrArg (View.canon L) ?_
  funext y
  match y with
  | ⟨0, _⟩ => exact Fin.ext (show o.val * 128 + 1 * i.val = o.val * 128 + i.val by omega)
  | ⟨1, _⟩ => exact Fin.ext (show n.val * 256 + 1 * e.val = n.val * 256 + e.val by omega)

end

/-- The four tiles of a chunk, over what was stored before: a tile of this chunk is its own, any other is as before. -/
theorem four {φ : EltTy} (a : Fin 2) (f0 f1 f2 f3 : Fin 2 → ℕ) (i0 i1 i2 i3) (w0 w1 w2 w3 : Vec Ideal S128x256 φ)
    (L : List (View.Piece (Elt Ideal) S256x1024 φ)) (o : Fin 2) (h : Fin 4) (i : Fin 128) (e : Fin 256)
    (e0 : f0 = ![a.val * 128, (0 : Fin 4).val * 256]) (e1 : f1 = ![a.val * 128, (1 : Fin 4).val * 256])
    (e2 : f2 = ![a.val * 128, (2 : Fin 4).val * 256]) (e3 : f3 = ![a.val * 128, (3 : Fin 4).val * 256]) :
    View.canon ([⟨Rect.unit (s := S256x1024) f3 S128x256.size i3, w3⟩, ⟨Rect.unit (s := S256x1024) f2 S128x256.size i2, w2⟩,
        ⟨Rect.unit (s := S256x1024) f1 S128x256.size i1, w1⟩, ⟨Rect.unit (s := S256x1024) f0 S128x256.size i0, w0⟩] ++ L)
        (ix2 (⟨o.val * 128 + i.val, by omega⟩ : Fin 256) (⟨h.val * 256 + e.val, by omega⟩ : Fin 1024))
      = if o = a then (match h with | 0 => w0 | 1 => w1 | 2 => w2 | 3 => w3) (ix2 i e)
        else View.canon L (ix2 (⟨o.val * 128 + i.val, by omega⟩ : Fin 256) (⟨h.val * 256 + e.val, by omega⟩ : Fin 1024)) := by
  subst e0 e1 e2 e3
  simp only [List.cons_append, List.nil_append]
  split
  · rename_i ho
    subst ho
    match h with
    | 3 => rw [tile _ _ _ _ o 3 i e rfl]
    | 2 => rw [elsewhere _ _ _ _ o 2 i e (by simp), tile _ _ _ _ o 2 i e rfl]
    | 1 => rw [elsewhere _ _ _ _ o 1 i e (by simp), elsewhere _ _ _ _ o 1 i e (by simp), tile _ _ _ _ o 1 i e rfl]
    | 0 => rw [elsewhere _ _ _ _ o 0 i e (by simp), elsewhere _ _ _ _ o 0 i e (by simp), elsewhere _ _ _ _ o 0 i e (by simp), tile _ _ _ _ o 0 i e rfl]
  · rename_i ho
    have far : ∀ c : ℕ, a.val * 128 + 128 ≤ o.val * 128 ∨ o.val * 128 + 128 ≤ a.val * 128 ∨ c + 256 ≤ h.val * 256 ∨ h.val * 256 + 256 ≤ c := by
      intro c
      have : o.val ≠ a.val := fun z => ho (Fin.ext z)
      omega
    rw [elsewhere _ _ _ _ o h i e (far _), elsewhere _ _ _ _ o h i e (far _), elsewhere _ _ _ _ o h i e (far _), elsewhere _ _ _ _ o h i e (far _)]

/-- The first loop leaves the forward readings. -/
theorem scratch_at (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (v1 : FVec Ideal S128x128 .f32) (v3 : FVec Ideal S128x128 .f32) (v179 : FVec Ideal S128x256 .f32) (v180 : FVec Ideal S128x256 .f32) (v181 : FVec Ideal S128x256 .f32) (cst_50 : Ideal .f32) (x0 : Vec Ideal S4x2x128 .f32) (x1 x2 : Vec Ideal S256x512 .f32) (x3 : Vec Ideal S256x1024 .f32) (hx : ∀ n p l, x0 (ix3 n p l) = x0 (ix3 n p 0)) (o : Fin 2) (h : Fin 4) (j : Fin 128) (e : Fin 256) :
    View.canon (st_k0_t1 (F := Ideal) 𝒱 c bd i arg2 harg2 arg3 harg3 arg4 harg4 arg5 harg5 arg6 harg6 arg7 harg7 arg8 harg8 arg9 harg9 arg10 harg10 v1 v3 (k0_pay45 (lanes arg2 harg2 x0 ![(0 : Fin 4).val, (0 : Fin 2).val, 0] (by decide))) (k0_pay46 (lanes arg2 harg2 x0 ![(0 : Fin 4).val, (0 : Fin 2).val, 0] (by decide))) (k0_pay48 (k0_pay47 (lanes arg2 harg2 x0 ![(0 : Fin 4).val, (0 : Fin 2).val, 0] (by decide)))) (k0_pay49 (k0_pay44 (lanes arg2 harg2 x0 ![(0 : Fin 4).val, (0 : Fin 2).val, 0] (by decide)))) (k0_pay45 (lanes arg2 harg2 x0 ![(1 : Fin 4).val, (0 : Fin 2).val, 0] (by decide))) (k0_pay46 (lanes arg2 harg2 x0 ![(1 : Fin 4).val, (0 : Fin 2).val, 0] (by decide))) (k0_pay48 (k0_pay47 (lanes arg2 harg2 x0 ![(1 : Fin 4).val, (0 : Fin 2).val, 0] (by decide)))) (k0_pay49 (k0_pay44 (lanes arg2 harg2 x0 ![(1 : Fin 4).val, (0 : Fin 2).val, 0] (by decide)))) (k0_pay45 (lanes arg2 harg2 x0 ![(2 : Fin 4).val, (0 : Fin 2).val, 0] (by decide))) (k0_pay46 (lanes arg2 harg2 x0 ![(2 : Fin 4).val, (0 : Fin 2).val, 0] (by decide))) (k0_pay48 (k0_pay47 (lanes arg2 harg2 x0 ![(2 : Fin 4).val, (0 : Fin 2).val, 0] (by decide)))) (k0_pay49 (k0_pay44 (lanes arg2 harg2 x0 ![(2 : Fin 4).val, (0 : Fin 2).val, 0] (by decide)))) (k0_pay45 (lanes arg2 harg2 x0 ![(3 : Fin 4).val, (0 : Fin 2).val, 0] (by decide))) (k0_pay46 (lanes arg2 harg2 x0 ![(3 : Fin 4).val, (0 : Fin 2).val, 0] (by decide))) (k0_pay48 (k0_pay47 (lanes arg2 harg2 x0 ![(3 : Fin 4).val, (0 : Fin 2).val, 0] (by decide)))) (k0_pay49 (k0_pay44 (lanes arg2 harg2 x0 ![(3 : Fin 4).val, (0 : Fin 2).val, 0] (by decide)))) v179 v180 v181 cst_50 (harg3.unread x1) (harg4.unread x2) (harg5.unread x3) (k0_pay69, k0_pay69, k0_pay69, k0_pay69) (Scf.trips k0_t1_loop.lb k0_t1_loop.ub k0_t1_loop.st)).2 (ix2 (⟨o.val * 128 + j.val, by omega⟩ : Fin 256) (⟨h.val * 256 + e.val, by omega⟩ : Fin 1024))
      = readForward (logSigmoid (x0 (ix3 h 0 0))) (headOf x1 h) (scaled x2 h) (wideOf x3 h e) o j := by
  rw [pieces1, stores1, stores1, trip1, four 1 _ _ _ _ _ _ _ _ _ _ _ _ _ o h j e (by decide) (by decide) (by decide) (by decide),
    four 0 _ _ _ _ _ _ _ _ _ _ _ _ _ o h j e (by decide) (by decide) (by decide) (by decide)]
  match o with
  | 1 =>
    rw [if_pos rfl]
    match h with
    | 0 => exact forward_read arg2 harg2 arg3 harg3 arg4 harg4 arg5 harg5 x0 x1 x2 x3 0 1 hx j e (by decide) _ _ _ _ _ _ _ (fun d => before_at arg2 harg2 arg4 harg4 arg5 harg5 x0 x2 x3 0 d e (by decide) _ _ _ _ (by decide) (by decide)) (by decide) (by decide) (by decide)
    | 1 => exact forward_read arg2 harg2 arg3 harg3 arg4 harg4 arg5 harg5 x0 x1 x2 x3 1 1 hx j e (by decide) _ _ _ _ _ _ _ (fun d => before_at arg2 harg2 arg4 harg4 arg5 harg5 x0 x2 x3 1 d e (by decide) _ _ _ _ (by decide) (by decide)) (by decide) (by decide) (by decide)
    | 2 => exact forward_read arg2 harg2 arg3 harg3 arg4 harg4 arg5 harg5 x0 x1 x2 x3 2 1 hx j e (by decide) _ _ _ _ _ _ _ (fun d => before_at arg2 harg2 arg4 harg4 arg5 harg5 x0 x2 x3 2 d e (by decide) _ _ _ _ (by decide) (by decide)) (by decide) (by decide) (by decide)
    | 3 => exact forward_read arg2 harg2 arg3 harg3 arg4 harg4 arg5 harg5 x0 x1 x2 x3 3 1 hx j e (by decide) _ _ _ _ _ _ _ (fun d => before_at arg2 harg2 arg4 harg4 arg5 harg5 x0 x2 x3 3 d e (by decide) _ _ _ _ (by decide) (by decide)) (by decide) (by decide) (by decide)
  | 0 =>
    rw [if_neg (by decide), if_pos rfl]
    match h with
    | 0 => exact forward_read arg2 harg2 arg3 harg3 arg4 harg4 arg5 harg5 x0 x1 x2 x3 0 0 hx j e (by decide) _ _ _ _ _ _ _ (fun d => start_at d e) (by decide) (by decide) (by decide)
    | 1 => exact forward_read arg2 harg2 arg3 harg3 arg4 harg4 arg5 harg5 x0 x1 x2 x3 1 0 hx j e (by decide) _ _ _ _ _ _ _ (fun d => start_at d e) (by decide) (by decide) (by decide)
    | 2 => exact forward_read arg2 harg2 arg3 harg3 arg4 harg4 arg5 harg5 x0 x1 x2 x3 2 0 hx j e (by decide) _ _ _ _ _ _ _ (fun d => start_at d e) (by decide) (by decide) (by decide)
    | 3 => exact forward_read arg2 harg2 arg3 harg3 arg4 harg4 arg5 harg5 x0 x1 x2 x3 3 0 hx j e (by decide) _ _ _ _ _ _ _ (fun d => start_at d e) (by decide) (by decide) (by decide)

/-- The second loop leaves both readings' sum, normed, scaled and gated. -/
theorem result_at (𝒱 : Variants) (c : Dev nD) (bd : Option 𝒱.V) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole) (x0 : Vec Ideal S4x2x128 .f32) (x1 x2 : Vec Ideal S256x512 .f32) (x3 : Vec Ideal S256x1024 .f32) (x4 : Vec Ideal S256x1024 .f32) (x5 : Vec Ideal S4x1x256 .f32) (L : List (View.Piece (Elt Ideal) S256x1024 .f32)) (hx : ∀ n p l, x0 (ix3 n p l) = x0 (ix3 n p 0))
    (z : Fin 4 → Fin 2 → Fin 128 → Fin 256 → EReal) (hz : ∀ (o : Fin 2) (h : Fin 4) (j : Fin 128) (e : Fin 256), View.canon L (ix2 (⟨o.val * 128 + j.val, by omega⟩ : Fin 256) (⟨h.val * 256 + e.val, by omega⟩ : Fin 1024)) = z h o j e)
    (o : Fin 2) (h : Fin 4) (j : Fin 128) (e : Fin 256) :
    View.canon (st_k0_t2 (F := Ideal) 𝒱 c bd i arg2 harg2 arg3 harg3 arg4 harg4 arg5 harg5 arg6 harg6 arg7 harg7 arg8 harg8 arg9 harg9 arg10 harg10 k0_pay41 (nearBack (lanes arg2 harg2 x0 ![(0 : Fin 4).val, (1 : Fin 2).val, 0] (by decide))) (tillEnd (lanes arg2 harg2 x0 ![(0 : Fin 4).val, (1 : Fin 2).val, 0] (by decide))) (fromFirst (lanes arg2 harg2 x0 ![(0 : Fin 4).val, (1 : Fin 2).val, 0] (by decide))) (k0_pay49 (k0_pay44 (lanes arg2 harg2 x0 ![(0 : Fin 4).val, (1 : Fin 2).val, 0] (by decide)))) (nearBack (lanes arg2 harg2 x0 ![(1 : Fin 4).val, (1 : Fin 2).val, 0] (by decide))) (tillEnd (lanes arg2 harg2 x0 ![(1 : Fin 4).val, (1 : Fin 2).val, 0] (by decide))) (fromFirst (lanes arg2 harg2 x0 ![(1 : Fin 4).val, (1 : Fin 2).val, 0] (by decide))) (k0_pay49 (k0_pay44 (lanes arg2 harg2 x0 ![(1 : Fin 4).val, (1 : Fin 2).val, 0] (by decide)))) (nearBack (lanes arg2 harg2 x0 ![(2 : Fin 4).val, (1 : Fin 2).val, 0] (by decide))) (tillEnd (lanes arg2 harg2 x0 ![(2 : Fin 4).val, (1 : Fin 2).val, 0] (by decide))) (fromFirst (lanes arg2 harg2 x0 ![(2 : Fin 4).val, (1 : Fin 2).val, 0] (by decide))) (k0_pay49 (k0_pay44 (lanes arg2 harg2 x0 ![(2 : Fin 4).val, (1 : Fin 2).val, 0] (by decide)))) (k0_pay44 (lanes arg2 harg2 x0 ![(3 : Fin 4).val, (1 : Fin 2).val, 0] (by decide))) (cmpf .oge (subf (k0_pay40 (F := Ideal)) k0_pay39) (broadcast S128x128 (Scalar.ofBits .f32 0x00000000#32))) (exp (mulf (broadcastTo S128x128 (k0_pay43 (lanes arg2 harg2 x0 ![(3 : Fin 4).val, (1 : Fin 2).val, 0] (by decide))) broadcasts_S1x128_S128x128) (maximumf (subf (k0_pay40 (F := Ideal)) k0_pay39) (broadcast S128x128 (Scalar.ofBits .f32 0x00000000#32))))) (harg3.unread x1) (harg4.unread x2) (harg5.unread x3) (harg6.unread x4) (harg7.unread x5) (arg10.view.writes (Elt Ideal) arg10.view.junk L) (k0_pay69, k0_pay69, k0_pay69, k0_pay69) (Scf.trips k0_t2_loop.lb k0_t2_loop.ub k0_t2_loop.st)).2 (ix2 (⟨o.val * 128 + j.val, by omega⟩ : Fin 256) (⟨h.val * 256 + e.val, by omega⟩ : Fin 1024))
      = gated (fun e => readBackward (logSigmoid (x0 (ix3 h 1 0))) (headOf x1 h) (scaled x2 h) (wideOf x3 h e) o j + z h o j e)
          (x5 (ix3 h 0 e)) (wideOf x4 h e ⟨o.val * 128 + j.val, by omega⟩) e := by
  rw [pieces2, stores2, stores2, trip2, four 0 _ _ _ _ _ _ _ _ _ _ _ _ _ o h j e (by decide) (by decide) (by decide) (by decide),
    four 1 _ _ _ _ _ _ _ _ _ _ _ _ _ o h j e (by decide) (by decide) (by decide) (by decide)]
  match o with
  | 0 =>
    rw [if_pos rfl]
    match h with
    | 0 => exact finish_read arg2 harg2 arg3 harg3 arg4 harg4 arg5 harg5 x0 x1 x2 x3 0 0 hx arg6 harg6 arg7 harg7 arg10 x4 x5 L _ j e (by decide) _ _ _ _ _ _ _ _ _ _ _ (by decide) (hz 0 0 j) (fun d e => beyond_at arg2 harg2 arg4 harg4 arg5 harg5 x0 x2 x3 0 d e (by decide) _ _ _ _ (by decide) (by decide)) (by decide) (by decide) (by decide) (by decide) (by decide)
    | 1 => exact finish_read arg2 harg2 arg3 harg3 arg4 harg4 arg5 harg5 x0 x1 x2 x3 1 0 hx arg6 harg6 arg7 harg7 arg10 x4 x5 L _ j e (by decide) _ _ _ _ _ _ _ _ _ _ _ (by decide) (hz 0 1 j) (fun d e => beyond_at arg2 harg2 arg4 harg4 arg5 harg5 x0 x2 x3 1 d e (by decide) _ _ _ _ (by decide) (by decide)) (by decide) (by decide) (by decide) (by decide) (by decide)
    | 2 => exact finish_read arg2 harg2 arg3 harg3 arg4 harg4 arg5 harg5 x0 x1 x2 x3 2 0 hx arg6 harg6 arg7 harg7 arg10 x4 x5 L _ j e (by decide) _ _ _ _ _ _ _ _ _ _ _ (by decide) (hz 0 2 j) (fun d e => beyond_at arg2 harg2 arg4 harg4 arg5 harg5 x0 x2 x3 2 d e (by decide) _ _ _ _ (by decide) (by decide)) (by decide) (by decide) (by decide) (by decide) (by decide)
    | 3 => exact finish_read arg2 harg2 arg3 harg3 arg4 harg4 arg5 harg5 x0 x1 x2 x3 3 0 hx arg6 harg6 arg7 harg7 arg10 x4 x5 L _ j e (by decide) _ _ _ _ _ _ _ _ _ _ _ (by decide) (hz 0 3 j) (fun d e => beyond_at arg2 harg2 arg4 harg4 arg5 harg5 x0 x2 x3 3 d e (by decide) _ _ _ _ (by decide) (by decide)) (by decide) (by decide) (by decide) (by decide) (by decide)
  | 1 =>
    rw [if_neg (by decide), if_pos rfl]
    match h with
    | 0 => exact finish_read arg2 harg2 arg3 harg3 arg4 harg4 arg5 harg5 x0 x1 x2 x3 0 1 hx arg6 harg6 arg7 harg7 arg10 x4 x5 L _ j e (by decide) _ _ _ _ _ _ _ _ _ _ _ (by decide) (hz 1 0 j) (fun d e => start_at d e) (by decide) (by decide) (by decide) (by decide) (by decide)
    | 1 => exact finish_read arg2 harg2 arg3 harg3 arg4 harg4 arg5 harg5 x0 x1 x2 x3 1 1 hx arg6 harg6 arg7 harg7 arg10 x4 x5 L _ j e (by decide) _ _ _ _ _ _ _ _ _ _ _ (by decide) (hz 1 1 j) (fun d e => start_at d e) (by decide) (by decide) (by decide) (by decide) (by decide)
    | 2 => exact finish_read arg2 harg2 arg3 harg3 arg4 harg4 arg5 harg5 x0 x1 x2 x3 2 1 hx arg6 harg6 arg7 harg7 arg10 x4 x5 L _ j e (by decide) _ _ _ _ _ _ _ _ _ _ _ (by decide) (hz 1 2 j) (fun d e => start_at d e) (by decide) (by decide) (by decide) (by decide) (by decide)
    | 3 => exact finish_read arg2 harg2 arg3 harg3 arg4 harg4 arg5 harg5 x0 x1 x2 x3 3 1 hx arg6 harg6 arg7 harg7 arg10 x4 x5 L _ j e (by decide) _ _ _ _ _ _ _ _ _ _ _ (by decide) (hz 1 3 j) (fun d e => start_at d e) (by decide) (by decide) (by decide) (by decide) (by decide)

end Cert.RetStateIdeal.Value

end
-- ==== Proof.RetState.Kernel.lean ====
/- What the retention of the prompt leaves as its final states, against the reference. -/
module

public import proofs.«01_k».proof.Proof.RetStateIdeal.Trips
public import Idealize.ShloMosaic.Lib.Pipeline.ReadBack
public import Idealize.ShloMosaic.Lib.Pipeline.ValueKit

@[expose] public section

set_option maxRecDepth 16384

noncomputable section

namespace Cert.RetStateIdeal.Value

open Cert.RetStateIdeal Cert.RetStateIdeal.Gen Cert.RetStateIdeal.Body Idealize.ShloMosaic Idealize.ShloMosaic.TcCoe Idealize.SL.Sem
open Idealize.ShloMosaic.Pipeline (Dat)
open Cert.InEvenRefIdeal.Value (keyScale)
open Cert.RetStateRefIdeal.Value (REF REF_forward REF_backward logSigmoid forward backward keyAt valAt)

/-- A state, as it is stored. -/
theorem stored_at (s : FVec Ideal S128x256 .f32) (d : Fin 128) (e : Fin 256) :
    k0_pay1 (F := Ideal) s (ix5 0 0 0 d e) = s (ix2 d e) := by
  pointwise [k0_pay1]

/-- The state stored for a direction and a head is what the block holds there. -/
theorem slot (p q : ℕ) (inb) (w : FVec Ideal S1x1x1x128x256 .f32) (L : List (View.Piece (Elt Ideal) S1x2x4x128x256 .f32))
    (a : Fin 2) (b : Fin 4) (d : Fin 128) (e : Fin 256) (ha : a.val = p) (hb : b.val = q) :
    View.canon (⟨Rect.unit (s := S1x2x4x128x256) ![0, p, q, 0, 0] S1x1x1x128x256.size inb, w⟩ :: L) (ix5 0 a b d e)
      = w (ix5 0 0 0 d e) := by
  subst ha hb
  have h : (ix5 0 a b d e : S1x2x4x128x256.Idx)
      = (Rect.unit (s := S1x2x4x128x256) ![0, a.val, b.val, 0, 0] S1x1x1x128x256.size inb).emb (ix5 0 0 0 d e) := by
    funext z
    match z with
    | ⟨0, _⟩ => rfl
    | ⟨1, _⟩ => rfl
    | ⟨2, _⟩ => rfl
    | ⟨3, _⟩ => exact Fin.ext (show d.val = 0 + 1 * d.val by omega)
    | ⟨4, _⟩ => exact Fin.ext (show e.val = 0 + 1 * e.val by omega)
  rw [h, View.canon_cons_emb]

/-- What is stored elsewhere does not matter. -/
theorem other (p q : ℕ) (inb) (w : FVec Ideal S1x1x1x128x256 .f32) (L : List (View.Piece (Elt Ideal) S1x2x4x128x256 .f32))
    (a : Fin 2) (b : Fin 4) (d : Fin 128) (e : Fin 256) (h : ¬(a.val = p ∧ b.val = q)) :
    View.canon (⟨Rect.unit (s := S1x2x4x128x256) ![0, p, q, 0, 0] S1x1x1x128x256.size inb, w⟩ :: L) (ix5 0 a b d e)
      = View.canon L (ix5 0 a b d e) := by
  rw [View.canon_cons_of_not_mem]
  intro hm
  have hm' := ((Rect.unit (s := S1x2x4x128x256) ![0, p, q, 0, 0] S1x1x1x128x256.size inb).mem_set).mp hm
  obtain ⟨i, hi, he⟩ := hm' 1
  obtain ⟨j, hj, he'⟩ := hm' 2
  apply h
  have h1 : a.val = p + 1 * i := he
  have h2 : i < 1 := hi
  have h3 : b.val = q + 1 * j := he'
  have h4 : j < 1 := hj
  omega

/-- What a point leaves in its block for the direction read forwards. -/
theorem out_forward (c : Dev nD) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole)
    (x0 : Vec Ideal S4x2x128 .f32) (x1 : Vec Ideal S256x512 .f32) (x2 : Vec Ideal S256x512 .f32) (x3 : Vec Ideal S256x1024 .f32) (x4 : Vec Ideal S256x1024 .f32) (x5 : Vec Ideal S4x1x256 .f32) (h : Fin 4) (d : Fin 128) (e : Fin 256) :
    out0_A_7 (F := Ideal) c i arg2 harg2 arg3 harg3 arg4 harg4 arg5 harg5 arg6 harg6 arg7 harg7 arg8 harg8 arg9 harg9 arg10 harg10 x0 x1 x2 x3 x4 x5 (ix5 0 0 h d e)
      = forward (logSigmoid (x0 (ix3 h 0 0))) (fun r => x2 (ix2 r (⟨h.val * 128 + d.val, by omega⟩ : Fin 512)) * keyScale)
          (fun r => x3 (ix2 r (⟨h.val * 256 + e.val, by omega⟩ : Fin 1024))) := by
  unfold out0_A_7
  rw [View.read_writes_junk_eq_canon]
  unfold kernelRun0_A
  dsimp only
  match h with
  | 0 =>
    rw [other, other, other, other, other, other, other, slot]
    · refine (stored_at _ d e).trans ((congrFun (congrArg (fun z => z.1) (loop1 ..)) (ix2 d e)).trans ?_)
      rw [trip1, trip1]
      exact forward_at arg2 harg2 arg4 harg4 arg5 harg5 x0 x2 x3 0 d e (by decide) _ _ _ _ _ _ _ _ _ _ _ rfl rfl rfl
        (by decide) (by decide) (by decide) (by decide)
    all_goals decide
  | 1 =>
    rw [other, other, other, other, other, other, slot]
    · refine (stored_at _ d e).trans ((congrFun (congrArg (fun z => z.2.1) (loop1 ..)) (ix2 d e)).trans ?_)
      rw [trip1, trip1]
      exact forward_at arg2 harg2 arg4 harg4 arg5 harg5 x0 x2 x3 1 d e (by decide) _ _ _ _ _ _ _ _ _ _ _ rfl rfl rfl
        (by decide) (by decide) (by decide) (by decide)
    all_goals decide
  | 2 =>
    rw [other, other, other, other, other, slot]
    · refine (stored_at _ d e).trans ((congrFun (congrArg (fun z => z.2.2.1) (loop1 ..)) (ix2 d e)).trans ?_)
      rw [trip1, trip1]
      exact forward_at arg2 harg2 arg4 harg4 arg5 harg5 x0 x2 x3 2 d e (by decide) _ _ _ _ _ _ _ _ _ _ _ rfl rfl rfl
        (by decide) (by decide) (by decide) (by decide)
    all_goals decide
  | 3 =>
    rw [other, other, other, other, slot]
    · refine (stored_at _ d e).trans ((congrFun (congrArg (fun z => z.2.2.2) (loop1 ..)) (ix2 d e)).trans ?_)
      rw [trip1, trip1]
      exact forward_at arg2 harg2 arg4 harg4 arg5 harg5 x0 x2 x3 3 d e (by decide) _ _ _ _ _ _ _ _ _ _ _ rfl rfl rfl
        (by decide) (by decide) (by decide) (by decide)
    all_goals decide

/-- What a point leaves in its block for the direction read backwards. -/
theorem out_backward (c : Dev nD) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole)
    (x0 : Vec Ideal S4x2x128 .f32) (x1 : Vec Ideal S256x512 .f32) (x2 : Vec Ideal S256x512 .f32) (x3 : Vec Ideal S256x1024 .f32) (x4 : Vec Ideal S256x1024 .f32) (x5 : Vec Ideal S4x1x256 .f32) (h : Fin 4) (d : Fin 128) (e : Fin 256) :
    out0_A_7 (F := Ideal) c i arg2 harg2 arg3 harg3 arg4 harg4 arg5 harg5 arg6 harg6 arg7 harg7 arg8 harg8 arg9 harg9 arg10 harg10 x0 x1 x2 x3 x4 x5 (ix5 0 1 h d e)
      = backward (logSigmoid (x0 (ix3 h 1 0))) (fun r => x2 (ix2 r (⟨h.val * 128 + d.val, by omega⟩ : Fin 512)) * keyScale)
          (fun r => x3 (ix2 r (⟨h.val * 256 + e.val, by omega⟩ : Fin 1024))) := by
  unfold out0_A_7
  rw [View.read_writes_junk_eq_canon]
  unfold kernelRun0_A
  dsimp only
  match h with
  | 0 =>
    rw [other, other, other, slot]
    · refine (stored_at _ d e).trans ((congrFun (congrArg (fun z => z.1) (loop2 ..)) (ix2 d e)).trans ?_)
      rw [trip2, trip2]
      exact backward_at arg2 harg2 arg4 harg4 arg5 harg5 x0 x2 x3 0 d e (by decide) _ _ _ _ _ _ _ _ _ _ _ rfl rfl rfl
        (by decide) (by decide) (by decide) (by decide)
    all_goals decide
  | 1 =>
    rw [other, other, slot]
    · refine (stored_at _ d e).trans ((congrFun (congrArg (fun z => z.2.1) (loop2 ..)) (ix2 d e)).trans ?_)
      rw [trip2, trip2]
      exact backward_at arg2 harg2 arg4 harg4 arg5 harg5 x0 x2 x3 1 d e (by decide) _ _ _ _ _ _ _ _ _ _ _ rfl rfl rfl
        (by decide) (by decide) (by decide) (by decide)
    all_goals decide
  | 2 =>
    rw [other, slot]
    · refine (stored_at _ d e).trans ((congrFun (congrArg (fun z => z.2.2.1) (loop2 ..)) (ix2 d e)).trans ?_)
      rw [trip2, trip2]
      exact backward_at arg2 harg2 arg4 harg4 arg5 harg5 x0 x2 x3 2 d e (by decide) _ _ _ _ _ _ _ _ _ _ _ rfl rfl rfl
        (by decide) (by decide) (by decide) (by decide)
    all_goals decide
  | 3 =>
    rw [slot]
    · refine (stored_at _ d e).trans ((congrFun (congrArg (fun z => z.2.2.2) (loop2 ..)) (ix2 d e)).trans ?_)
      rw [trip2, trip2]
      exact backward_at arg2 harg2 arg4 harg4 arg5 harg5 x0 x2 x3 3 d e (by decide) _ _ _ _ _ _ _ _ _ _ _ rfl rfl rfl
        (by decide) (by decide) (by decide) (by decide)
    all_goals decide

variable (m : (ℓ : Loc nD τ sig) → Buf (Elt Ideal) ℓ)

/-- Where each block of grid point `t` lies: a sequence each, the keys and the values beside each other in the projections. -/
theorem idx : ∀ t : Fin cfg0.N, win0_0.index t = ![0, 0, 0] ∧ win0_2.index t = ![t.val, 7] ∧ win0_3.index t = ![t.val, 4]
    ∧ win0_7.index t = ![t.val, 0, 0, 0, 0] ∧ t.val < 32 :=
  (by decide +kernel : ∀ t : Fin grid0.N, _)

/-- The decays, head by head and repeated along the lanes, are what the kernel finds. -/
theorem V_decay (c : Dev nD) (h : Fin 4) (p : Fin 2) (l : Fin 128) :
    (V m c main_v2 : FVec Ideal S4x2x128 .f32) (ix3 h p l) = m ((c : Thread nD τ).loc main_arg1) (ix2 p h) := by
  refine Eq.trans (congrFun (show StableHlo.after hostOps0 (fun b => m (c, b)) (Proc.devRef .tc main_v2) = _ by after_results) _) ?_
  pointwise []

/-- Every grid point has all the decays before it. -/
theorem iblk0_at (c : Dev nD) (t : Fin cfg0.N) (h : Fin 4) (p : Fin 2) (l : Fin 128) :
    (iblk m c 0 t : FVec Ideal S4x2x128 .f32) (ix3 h p l) = m ((c : Thread nD τ).loc main_arg1) (ix2 p h) := by
  have hi := idx t
  rw [← V_decay m c h p l]
  blk_point [iblk, idx t]

/-- A sequence's keys. -/
theorem iblk2_at (c : Dev nD) (t : Fin cfg0.N) (t' : Fin 32) (ht : t'.val = t.val) (h : Fin 4) (d : Fin 128) (r : Fin 256) :
    (iblk m c 2 t : FVec Ideal S256x512 .f32) (ix2 r (⟨h.val * 128 + d.val, by omega⟩ : Fin 512))
      = m ((c : Thread nD τ).loc main_arg0)
          (ix2 (⟨t'.val * 256 + r.val, by omega⟩ : Fin 16384) (⟨3584 + (h.val * 128 + d.val), by omega⟩ : Fin 6144)) := by
  have hi := idx t
  blk_point [iblk, V, idx t, ht]

/-- A sequence's values. -/
theorem iblk3_at (c : Dev nD) (t : Fin cfg0.N) (t' : Fin 32) (ht : t'.val = t.val) (h : Fin 4) (e : Fin 256) (r : Fin 256) :
    (iblk m c 3 t : FVec Ideal S256x1024 .f32) (ix2 r (⟨h.val * 256 + e.val, by omega⟩ : Fin 1024))
      = m ((c : Thread nD τ).loc main_arg0)
          (ix2 (⟨t'.val * 256 + r.val, by omega⟩ : Fin 16384) (⟨4096 + (h.val * 256 + e.val), by omega⟩ : Fin 6144)) := by
  have hi := idx t
  blk_point [iblk, V, idx t, ht]

/-- What each point leaves in its block is its sequence's part of the reference. -/
theorem out_at (c : Dev nD) (t : Fin cfg0.N) (u : Fin 1) (p : Fin 2) (h : Fin 4) (d : Fin 128) (e : Fin 256) (y : S32x2x4x128x256.Idx)
    (h0 : (y 0).val = t.val) (h1 : (y 1).val = p.val) (h2 : (y 2).val = h.val) (h3 : (y 3).val = d.val) (h4 : (y 4).val = e.val) :
    (outsAt0 m c t).2 (ix5 u p h d e)
      = REF (m ((c : Thread nD τ).loc main_arg0)) (m ((c : Thread nD τ).loc main_arg1)) y := by
  obtain rfl : u = 0 := Subsingleton.elim _ _
  obtain ⟨s, hs⟩ : ∃ s : Fin 32, s.val = t.val := ⟨⟨t.val, (idx t).2.2.2.2⟩, rfl⟩
  have hy : y = ix5 s p h d e := by
    funext z
    match z with
    | ⟨0, _⟩ => exact Fin.ext (h0.trans hs.symm)
    | ⟨1, _⟩ => exact Fin.ext h1
    | ⟨2, _⟩ => exact Fin.ext h2
    | ⟨3, _⟩ => exact Fin.ext h3
    | ⟨4, _⟩ => exact Fin.ext h4
  rw [hy]
  unfold outsAt0
  dsimp only
  match p with
  | 0 =>
    rw [out_forward, REF_forward, iblk0_at]
    exact congrArg₂ (forward _) (funext fun r => congrArg (fun z : EReal => z * keyScale) (iblk2_at m c t s hs h d r))
      (funext fun r => iblk3_at m c t s hs h e r)
  | 1 =>
    rw [out_backward, REF_backward, iblk0_at]
    exact congrArg₂ (backward _) (funext fun r => congrArg (fun z : EReal => z * keyScale) (iblk2_at m c t s hs h d r))
      (funext fun r => iblk3_at m c t s hs h e r)

/-- The states after the run are the reference's. -/
theorem final (c : Dev nD) : (dats m 0 c).arrAt 7 cfg0.N
    = REF (m ((c : Thread nD τ).loc main_arg0)) (m ((c : Thread nD τ).loc main_arg1)) := by
  refine (dats m 0 c).arrAt_eq_of_covers 7 _ (by decide +kernel) fun t _ y => ?_
  blk_simp
  rw [after0_7]
  refine Eq.trans (congrArg _ (eq_ix5 (n0 := 1) (n1 := 2) (n2 := 4) (n3 := 128) (n4 := 256) y))
    (out_at m c t (y 0) (y 1) (y 2) (y 3) (y 4) _ ?_ ?_ ?_ ?_ ?_)
  all_goals blk_simp [idx t]

end Cert.RetStateIdeal.Value

end
-- ==== Proof.RetState.KernelOut.lean ====
/- What the retention of the prompt passes on, against the reference. -/
module

public import proofs.«01_k».proof.Proof.RetStateIdeal.Tiles
public import proofs.«01_k».proof.Proof.RetState.Kernel

@[expose] public section

set_option maxRecDepth 16384

noncomputable section

namespace Cert.RetStateIdeal.Value

open Cert.RetStateIdeal Cert.RetStateIdeal.Gen Cert.RetStateIdeal.Body Idealize.ShloMosaic Idealize.ShloMosaic.TcCoe Idealize.SL.Sem
open Idealize.ShloMosaic.Pipeline (Dat)
open Cert.InEvenRefIdeal.Value (keyScale)
open Cert.RetStateRefIdeal.Value (OUT OUT_at logSigmoid keyAt valAt queryAt gateAt readForward readBackward both gated)

/-- What a point leaves in its block: both readings' sum, normed, scaled and gated. -/
theorem out_mixed (c : Dev nD) (i : grid0.Coords) (arg2 : Memref sig .tc .vmem S4x2x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x1x256 .f32) (harg7 : arg7.IsWhole) (arg8 : Memref sig .tc .vmem S256x1024 .bf16) (harg8 : arg8.IsWhole) (arg9 : Memref sig .tc .vmem S1x2x4x128x256 .f32) (harg9 : arg9.IsWhole) (arg10 : Memref sig .tc .vmem S256x1024 .f32) (harg10 : arg10.IsWhole)
    (x0 : Vec Ideal S4x2x128 .f32) (x1 : Vec Ideal S256x512 .f32) (x2 : Vec Ideal S256x512 .f32) (x3 : Vec Ideal S256x1024 .f32) (x4 : Vec Ideal S256x1024 .f32) (x5 : Vec Ideal S4x1x256 .f32)
    (hx : ∀ n p l, x0 (ix3 n p l) = x0 (ix3 n p 0)) (o : Fin 2) (h : Fin 4) (j : Fin 128) (e : Fin 256) :
    out0_A_6 (F := Ideal) c i arg2 harg2 arg3 harg3 arg4 harg4 arg5 harg5 arg6 harg6 arg7 harg7 arg8 harg8 arg9 harg9 arg10 harg10 x0 x1 x2 x3 x4 x5
        (ix2 (⟨o.val * 128 + j.val, by omega⟩ : Fin 256) (⟨h.val * 256 + e.val, by omega⟩ : Fin 1024))
      = gated (fun e => both (logSigmoid (x0 (ix3 h 0 0))) (logSigmoid (x0 (ix3 h 1 0))) (headOf x1 h) (scaled x2 h) (wideOf x3 h e) o j)
          (x5 (ix3 h 0 e)) (wideOf x4 h e ⟨o.val * 128 + j.val, by omega⟩) e := by
  unfold out0_A_6
  rw [View.read_writes_junk_eq_canon]
  unfold kernelRun0_A
  dsimp only
  refine (result_at (x0 := x0) (x1 := x1) (x2 := x2) (x3 := x3) (x4 := x4) (x5 := x5) (hx := hx) (o := o) (h := h) (j := j) (e := e) (L := _) (hz := fun o h j e =>
    scratch_at (x0 := x0) (x1 := x1) (x2 := x2) (x3 := x3) (hx := hx) (o := o) (h := h) (j := j) (e := e) ..) ..).trans ?_
  exact congrArg (fun f => gated f _ _ _) (funext fun e => add_comm _ _)

variable (m : (ℓ : Loc nD τ sig) → Buf (Elt Ideal) ℓ)

/-- Where the remaining blocks of grid point `t` lie. -/
theorem idx' : ∀ t : Fin cfg0.N, win0_1.index t = ![t.val, 6] ∧ win0_4.index t = ![t.val, 5] ∧ win0_5.index t = ![0, 0, 0]
    ∧ win0_6.index t = ![t.val, 0] ∧ t.val < 32 :=
  (by decide +kernel : ∀ t : Fin grid0.N, _)

/-- The norm's gains, head by head, are what the kernel finds. -/
theorem V_gain (c : Dev nD) (h : Fin 4) (e : Fin 256) :
    (V m c main_v3 : FVec Ideal S4x1x256 .f32) (ix3 h 0 e) = m ((c : Thread nD τ).loc main_arg2) (ix2 h e) := by
  refine Eq.trans (congrFun (show StableHlo.after hostOps0 (fun b => m (c, b)) (Proc.devRef .tc main_v3) = _ by after_results) _) ?_
  pointwise []

/-- Every grid point has all the gains before it. -/
theorem iblk5_at (c : Dev nD) (t : Fin cfg0.N) (h : Fin 4) (e : Fin 256) :
    (iblk m c 5 t : FVec Ideal S4x1x256 .f32) (ix3 h 0 e) = m ((c : Thread nD τ).loc main_arg2) (ix2 h e) := by
  have hi := idx' t
  rw [← V_gain m c h e]
  blk_point [iblk, idx' t]

/-- A sequence's queries. -/
theorem iblk1_at (c : Dev nD) (t : Fin cfg0.N) (t' : Fin 32) (ht : t'.val = t.val) (h : Fin 4) (d : Fin 128) (r : Fin 256) :
    (iblk m c 1 t : FVec Ideal S256x512 .f32) (ix2 r (⟨h.val * 128 + d.val, by omega⟩ : Fin 512))
      = queryAt (m ((c : Thread nD τ).loc main_arg0)) t' h r d := by
  have hi := idx' t
  unfold queryAt
  blk_point [iblk, V, idx' t, ht]

/-- A sequence's gates. -/
theorem iblk4_at (c : Dev nD) (t : Fin cfg0.N) (t' : Fin 32) (ht : t'.val = t.val) (h : Fin 4) (e : Fin 256) (r : Fin 256) :
    (iblk m c 4 t : FVec Ideal S256x1024 .f32) (ix2 r (⟨h.val * 256 + e.val, by omega⟩ : Fin 1024))
      = gateAt (m ((c : Thread nD τ).loc main_arg0)) t' h e r := by
  have hi := idx' t
  unfold gateAt
  blk_point [iblk, V, idx' t, ht]

/-- A tile of what each point leaves is its sequence's part of the reference. -/
theorem mixed_tile (c : Dev nD) (t : Fin cfg0.N) (s : Fin 32) (hs : s.val = t.val) (o : Fin 2) (h : Fin 4) (j : Fin 128) (e : Fin 256) :
    (outsAt0 m c t).1 (ix2 (⟨o.val * 128 + j.val, by omega⟩ : Fin 256) (⟨h.val * 256 + e.val, by omega⟩ : Fin 1024))
      = OUT (m ((c : Thread nD τ).loc main_arg0)) (m ((c : Thread nD τ).loc main_arg1)) (m ((c : Thread nD τ).loc main_arg2))
          (ix2 (⟨s.val * 256 + (o.val * 128 + j.val), by omega⟩ : Fin 8192) (⟨h.val * 256 + e.val, by omega⟩ : Fin 1024)) := by
  unfold outsAt0
  dsimp only
  rw [out_mixed _ _ _ _ _ _ _ _ _ _ _ _ _ _ _ _ _ _ _ _ _ _ _ _ _ _ (fun n p l => (iblk0_at m c t n p l).trans (iblk0_at m c t n p 0).symm),
    OUT_at, iblk0_at, iblk0_at, iblk5_at]
  have hq : headOf (iblk m c 1 t) h = queryAt (m ((c : Thread nD τ).loc main_arg0)) s h :=
    funext fun r => funext fun d => iblk1_at m c t s hs h d r
  have hk : scaled (iblk m c 2 t) h = fun r d => keyAt (m ((c : Thread nD τ).loc main_arg0)) s h d r :=
    funext fun r => funext fun d => congrArg (fun z : EReal => z * keyScale) (iblk2_at m c t s hs h d r)
  have hv : ∀ e, wideOf (iblk m c 3 t) h e = valAt (m ((c : Thread nD τ).loc main_arg0)) s h e :=
    fun e => funext fun r => iblk3_at m c t s hs h e r
  have hg : wideOf (iblk m c 4 t) h e = gateAt (m ((c : Thread nD τ).loc main_arg0)) s h e :=
    funext fun r => iblk4_at m c t s hs h e r
  rw [hq, hk, hg]
  simp only [hv]

/-- What each point leaves in its block is its sequence's part of the reference. -/
theorem mixed_at (c : Dev nD) (t : Fin cfg0.N) (r : Fin 256) (q : Fin 1024) (y : S8192x1024.Idx)
    (h0 : (y 0).val = t.val * 256 + r.val) (h1 : (y 1).val = q.val) :
    (outsAt0 m c t).1 (ix2 r q)
      = OUT (m ((c : Thread nD τ).loc main_arg0)) (m ((c : Thread nD τ).loc main_arg1)) (m ((c : Thread nD τ).loc main_arg2)) y := by
  obtain ⟨s, hs⟩ : ∃ s : Fin 32, s.val = t.val := ⟨⟨t.val, (idx' t).2.2.2.2⟩, rfl⟩
  obtain ⟨o, j, hr⟩ : ∃ (o : Fin 2) (j : Fin 128), r = ⟨o.val * 128 + j.val, by omega⟩ :=
    ⟨⟨r.val / 128, by omega⟩, ⟨r.val % 128, by omega⟩, Fin.ext (show r.val = r.val / 128 * 128 + r.val % 128 by omega)⟩
  obtain ⟨h, e, hq⟩ : ∃ (h : Fin 4) (e : Fin 256), q = ⟨h.val * 256 + e.val, by omega⟩ :=
    ⟨⟨q.val / 256, by omega⟩, ⟨q.val % 256, by omega⟩, Fin.ext (show q.val = q.val / 256 * 256 + q.val % 256 by omega)⟩
  have hr' : r.val = o.val * 128 + j.val := congrArg Fin.val hr
  have hq' : q.val = h.val * 256 + e.val := congrArg Fin.val hq
  have hy : y = ix2 (⟨s.val * 256 + (o.val * 128 + j.val), by omega⟩ : Fin 8192) (⟨h.val * 256 + e.val, by omega⟩ : Fin 1024) := by
    funext z
    match z with
    | ⟨0, _⟩ => exact Fin.ext (h0.trans (show t.val * 256 + r.val = s.val * 256 + (o.val * 128 + j.val) by omega))
    | ⟨1, _⟩ => exact Fin.ext (h1.trans hq')
  rw [hy]
  exact (congrArg₂ (fun a b => (outsAt0 m c t).1 (ix2 a b)) hr hq).trans (mixed_tile m c t s hs o h j e)

/-- What is passed on after the run is the reference's. -/
theorem finalOut (c : Dev nD) : (dats m 0 c).arrAt 6 cfg0.N
    = OUT (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  refine Eq.trans (congrArg _ (eq_ix2 (n0 := 256) (n1 := 1024) y)) (mixed_at m c t (y 0) (y 1) _ ?_ ?_)
  all_goals blk_simp [idx' t]

end Cert.RetStateIdeal.Value

end
-- ==== Proof.RetState.Claim.lean ====
/- The retention of the prompt: kernel and reference end with equal results. -/
module

public import proofs.«01_k».proof.Defs
public import proofs.«01_k».proof.Proof.RetState.KernelOut
public import Idealize.ShloMosaic.Lib.Claim
public import Idealize.ShloMosaic.Lib.Quiescent
public import Idealize.ShloMosaic.Adequacy
public import Idealize.ShloMosaic.Init

@[expose] public section

noncomputable section

namespace Cert.RetStateClaim

open Idealize.ShloMosaic Idealize.SL.Sem

/-- The reference terminates, keeps its arguments and leaves every counter at zero: it declares none. -/
theorem frame_ref : quiescent_RetStateRefIdeal (hRetStateRefIdeal := Cert.RetStateRefIdeal.Gen.facts) := by
  intro m ρ _
  exact (θ_run Cert.RetStateRefIdeal.defs _ _).mono (fun r h => ⟨fun c => ⟨(h c).2.2.1, (h c).2.2.2.1, (h c).2.2.2.2⟩, sem_eq_zero_of_no_sems (by decide) r.2⟩)
    (Cert.RetStateRefIdeal.Value.run_ref m ρ)

/-- From equal arguments the kernel and the reference run and end with the same result and the same states. -/
theorem algebraic : algebraic_RetStateIdeal_RetStateRefIdeal (hRetStateIdeal := Cert.RetStateIdeal.Gen.facts)
    (hRetStateRefIdeal := Cert.RetStateRefIdeal.Gen.facts) := by
  pair_intro
  · run_from Cert.RetStateIdeal.Body.run_main m g
  · run_from Cert.RetStateRefIdeal.Value.run_ref m' g'
    · exact (Cert.RetStateIdeal.Value.finalOut m c).symm
    · exact (Cert.RetStateIdeal.Value.final m c).symm

end Cert.RetStateClaim

end
-- ==== Proof.lean ====
module

public import proofs.«01_k».proof.Defs
public import proofs.«01_k».proof.Proof.Gen.AttnLat.Frame
public import proofs.«01_k».proof.Proof.Gen.AttnLatIdeal.Frame
public import proofs.«01_k».proof.Proof.AttnLat.Claim
public import proofs.«01_k».proof.Proof.Gen.AttnCtx.Frame
public import proofs.«01_k».proof.Proof.Gen.AttnCtxIdeal.Frame
public import proofs.«01_k».proof.Proof.AttnCtx.Claim
public import proofs.«01_k».proof.Proof.Gen.InEven.Frame
public import proofs.«01_k».proof.Proof.Gen.InEvenIdeal.Frame
public import proofs.«01_k».proof.Proof.InEven.Claim
public import proofs.«01_k».proof.Proof.Gen.InOdd.Frame
public import proofs.«01_k».proof.Proof.Gen.InOddIdeal.Frame
public import proofs.«01_k».proof.Proof.InOdd.Claim
public import proofs.«01_k».proof.Proof.Gen.OutProj.Frame
public import proofs.«01_k».proof.Proof.Gen.OutProjIdeal.Frame
public import proofs.«01_k».proof.Proof.OutProj.Claim
public import proofs.«01_k».proof.Proof.Gen.Scores.Frame
public import proofs.«01_k».proof.Proof.Gen.ScoresIdeal.Frame
public import proofs.«01_k».proof.Proof.Scores.Claim
public import proofs.«01_k».proof.Proof.Gen.Ada.Frame
public import proofs.«01_k».proof.Proof.Gen.AdaIdeal.Frame
public import proofs.«01_k».proof.Proof.Ada.Claim
public import proofs.«01_k».proof.Proof.Gen.Sgu.Frame
public import proofs.«01_k».proof.Proof.Gen.SguIdeal.Frame
public import proofs.«01_k».proof.Proof.Sgu.Claim
public import proofs.«01_k».proof.Proof.RetState.Frame
public import proofs.«01_k».proof.Proof.RetStateIdeal.Frame
public import proofs.«01_k».proof.Proof.RetState.Claim
public import proofs.«01_k».proof.Proof.Gen.AttnLatRefIdeal.Run
public import proofs.«01_k».proof.Proof.Gen.AttnCtxRefIdeal.Run
public import proofs.«01_k».proof.Proof.Gen.InEvenRefIdeal.Run
public import proofs.«01_k».proof.Proof.Gen.InOddRefIdeal.Run
public import proofs.«01_k».proof.Proof.Gen.OutProjRefIdeal.Run
public import proofs.«01_k».proof.Proof.Gen.ScoresRefIdeal.Run
public import proofs.«01_k».proof.Proof.Gen.AdaRefIdeal.Run
public import proofs.«01_k».proof.Proof.Gen.SguRefIdeal.Run
public import proofs.«01_k».proof.Proof.Gen.RetStateRefIdeal.Run
public import proofs.«01_k».proof.Proof.Gen.Pre_scores_finite
public import Idealize.ShloMosaic.Adequacy
public import Idealize.ShloMosaic.Init

@[expose] public section

noncomputable section

namespace Cert.Proof

open Idealize.ShloMosaic Idealize.SL.Sem

theorem claim : Cert.Claim :=
  ⟨Cert.AttnLat.Gen.facts,
    Cert.AttnLatIdeal.Gen.facts,
    Cert.AttnLatRefIdeal.Gen.facts,
    Cert.AttnCtx.Gen.facts,
    Cert.AttnCtxIdeal.Gen.facts,
    Cert.AttnCtxRefIdeal.Gen.facts,
    Cert.InEven.Gen.facts,
    Cert.InEvenIdeal.Gen.facts,
    Cert.InEvenRefIdeal.Gen.facts,
    Cert.InOdd.Gen.facts,
    Cert.InOddIdeal.Gen.facts,
    Cert.InOddRefIdeal.Gen.facts,
    Cert.OutProj.Gen.facts,
    Cert.OutProjIdeal.Gen.facts,
    Cert.OutProjRefIdeal.Gen.facts,
    Cert.Scores.Gen.facts,
    Cert.ScoresIdeal.Gen.facts,
    Cert.ScoresRefIdeal.Gen.facts,
    Cert.Ada.Gen.facts,
    Cert.AdaIdeal.Gen.facts,
    Cert.AdaRefIdeal.Gen.facts,
    Cert.Sgu.Gen.facts,
    Cert.SguIdeal.Gen.facts,
    Cert.SguRefIdeal.Gen.facts,
    Cert.RetState.Gen.facts,
    Cert.RetStateIdeal.Gen.facts,
    Cert.RetStateRefIdeal.Gen.facts,
    Cert.Pre_scores_finite.Gen.facts,
    fun m ρ _ => Cert.AttnLat.Gen.frame m ρ,
    fun m ρ _ => Cert.AttnLatIdeal.Gen.frame m ρ,
    Cert.AttnLatClaim.frame_ref,
    fun m ρ _ => Cert.AttnCtx.Gen.frame m ρ,
    fun m ρ _ => Cert.AttnCtxIdeal.Gen.frame m ρ,
    Cert.AttnCtxClaim.frame_ref,
    fun m ρ _ => Cert.InEven.Gen.frame m ρ,
    fun m ρ _ => Cert.InEvenIdeal.Gen.frame m ρ,
    Cert.InEvenClaim.frame_ref,
    fun m ρ _ => Cert.InOdd.Gen.frame m ρ,
    fun m ρ _ => Cert.InOddIdeal.Gen.frame m ρ,
    Cert.InOddClaim.frame_ref,
    fun m ρ _ => Cert.OutProj.Gen.frame m ρ,
    fun m ρ _ => Cert.OutProjIdeal.Gen.frame m ρ,
    Cert.OutProjClaim.frame_ref,
    fun m ρ _ => Cert.Scores.Gen.frame m ρ,
    fun m ρ _ => Cert.ScoresIdeal.Gen.frame m ρ,
    fun m ρ _ => Cert.ScoresIdeal.Gen.frame m ρ,
    Cert.ScoresClaim.frame_ref,
    Cert.ScoresClaim.frame_ref_finite,
    fun m ρ _ => Cert.Ada.Gen.frame m ρ,
    fun m ρ _ => Cert.AdaIdeal.Gen.frame m ρ,
    Cert.AdaClaim.frame_ref,
    fun m ρ _ => Cert.Sgu.Gen.frame m ρ,
    fun m ρ _ => Cert.SguIdeal.Gen.frame m ρ,
    Cert.SguClaim.frame_ref,
    fun m ρ _ => Cert.RetState.Body.frame m ρ,
    fun m ρ _ => Cert.RetStateIdeal.Body.frame m ρ,
    Cert.RetStateClaim.frame_ref,
    trivial,
    Cert.AttnLatClaim.algebraic,
    trivial,
    Cert.AttnCtxClaim.algebraic,
    IdealRules.named_const.statement _ _ _ _ _ rfl,
    Cert.InEvenClaim.algebraic,
    trivial,
    Cert.InOddClaim.algebraic,
    trivial,
    Cert.OutProjClaim.algebraic,
    trivial,
    Cert.ScoresClaim.algebraic,
    trivial,
    Cert.AdaClaim.algebraic,
    trivial,
    Cert.SguClaim.algebraic,
    IdealRules.named_const.statement _ _ _ _ _ rfl,
    Cert.RetStateClaim.algebraic⟩

end Cert.Proof

end
